-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![4096]⟩ ⟨1, ![8192]⟩ (Layout.meshBlock [2, 2, 2] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 2048, 4096]⟩ ⟨3, ![8, 2048, 4096]⟩ (Layout.meshBlock [2, 2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 4096, 2048]⟩ ⟨3, ![8, 4096, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = Layout.blockN ⟨2, ![4096, 2048]⟩ ⟨2, ![8192, 2048]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v99) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S4096x2048 : Shape := ⟨2, ![4096, 2048]⟩
abbrev S4096 : Shape := ⟨1, ![4096]⟩
abbrev S4x2048x4096 : Shape := ⟨3, ![4, 2048, 4096]⟩
abbrev S4x4096x2048 : Shape := ⟨3, ![4, 4096, 2048]⟩
abbrev S1x4096 : Shape := ⟨2, ![1, 4096]⟩
abbrev S8 : Shape := ⟨1, ![8]⟩
abbrev S8x1 : Shape := ⟨2, ![8, 1]⟩
abbrev S8x4096 : Shape := ⟨2, ![8, 4096]⟩
abbrev S_ : Shape := ⟨0, ![]⟩

class Facts : Prop where
  bcast_S4096_S1x4096_1 : S4096.BroadcastsInDim S1x4096 (![1] : Fin 1 → Fin S1x4096.rank)
  bcast_S8_S8x1_0 : S8.BroadcastsInDim S8x1 (![0] : Fin 1 → Fin S8x1.rank)
  bcast_S1x4096_S8x4096_0_1 : S1x4096.BroadcastsInDim S8x4096 (![0, 1] : Fin 2 → Fin S8x4096.rank)
  bcast_S8x1_S8x4096_0_1 : S8x1.BroadcastsInDim S8x4096 (![0, 1] : Fin 2 → Fin S8x4096.rank)
  natLt_1_32 : 1 < 32
  reducesTo_S8x4096_S8_d1 : S8x4096.ReducesTo [1] S8
  h_S_ : 0 < S_.numel
  bcast_S_S8 : S_.BroadcastsInDim S8 (![] : Fin 0 → Fin S8.rank)

variable [Facts]

def fn {F : FTy → Type} [FloatOps F] (main_arg0 : FVec F S4096x2048 .bf16) (main_arg1 : IVec S4096 32) (main_arg2 : FVec F S4x2048x4096 .bf16) (main_arg3 : FVec F S4x4096x2048 .bf16) : IVec S8 1 :=
  let main_v0 : IVec S1x4096 32 := broadcastInDim S1x4096 ![1] bcast_S4096_S1x4096_1 main_arg1
  let main_v1 : IVec S8 32 := iotaInDim S8 32 0
  let main_v2 : IVec S8x1 32 := broadcastInDim S8x1 ![0] bcast_S8_S8x1_0 main_v1
  let main_v3 : IVec S8x4096 32 := broadcastInDim S8x4096 ![0, 1] bcast_S1x4096_S8x4096_0_1 main_v0
  let main_v4 : IVec S8x4096 32 := broadcastInDim S8x4096 ![0, 1] bcast_S8x1_S8x4096_0_1 main_v2
  let main_v5 : IVec S8x4096 1 := cmpi .eq main_v3 main_v4
  let main_v6 : IVec S8x4096 32 := (extui 32 · natLt_1_32) main_v5
  let main_c : IVec S_ 32 := constantI S_ 32 0#32
  let main_v7 : IVec S8 32 := (fun x v => Host.reduce IntOp.addi x v reducesTo_S8x4096_S8_d1 h_S_) main_v6 main_c
  let main_c_0 : IVec S_ 32 := constantI S_ 32 576#32
  let main_v8 : IVec S8 32 := broadcastInDim S8 ![] bcast_S_S8 main_c_0
  let main_v9 : IVec S8 1 := cmpi .sle main_v7 main_v8
  main_v9
-- ==== Pre_fits_ReferenceIdeal.lean ====
abbrev S8192x2048 : Shape := ⟨2, ![8192, 2048]⟩
abbrev S8192 : Shape := ⟨1, ![8192]⟩
abbrev S8x2048x4096 : Shape := ⟨3, ![8, 2048, 4096]⟩
abbrev S8x4096x2048 : Shape := ⟨3, ![8, 4096, 2048]⟩
abbrev S1x8192 : Shape := ⟨2, ![1, 8192]⟩
abbrev S8 : Shape := ⟨1, ![8]⟩
abbrev S8x1 : Shape := ⟨2, ![8, 1]⟩
abbrev S8x8192 : Shape := ⟨2, ![8, 8192]⟩
abbrev S_ : Shape := ⟨0, ![]⟩

class Facts : Prop where
  bcast_S8192_S1x8192_1 : S8192.BroadcastsInDim S1x8192 (![1] : Fin 1 → Fin S1x8192.rank)
  bcast_S8_S8x1_0 : S8.BroadcastsInDim S8x1 (![0] : Fin 1 → Fin S8x1.rank)
  bcast_S1x8192_S8x8192_0_1 : S1x8192.BroadcastsInDim S8x8192 (![0, 1] : Fin 2 → Fin S8x8192.rank)
  bcast_S8x1_S8x8192_0_1 : S8x1.BroadcastsInDim S8x8192 (![0, 1] : Fin 2 → Fin S8x8192.rank)
  natLt_1_32 : 1 < 32
  reducesTo_S8x8192_S8_d1 : S8x8192.ReducesTo [1] S8
  h_S_ : 0 < S_.numel
  bcast_S_S8 : S_.BroadcastsInDim S8 (![] : Fin 0 → Fin S8.rank)

variable [Facts]

def fn {F : FTy → Type} [FloatOps F] (main_arg0 : FVec F S8192x2048 .bf16) (main_arg1 : IVec S8192 32) (main_arg2 : FVec F S8x2048x4096 .bf16) (main_arg3 : FVec F S8x4096x2048 .bf16) : IVec S8 1 :=
  let main_v0 : IVec S1x8192 32 := broadcastInDim S1x8192 ![1] bcast_S8192_S1x8192_1 main_arg1
  let main_v1 : IVec S8 32 := iotaInDim S8 32 0
  let main_v2 : IVec S8x1 32 := broadcastInDim S8x1 ![0] bcast_S8_S8x1_0 main_v1
  let main_v3 : IVec S8x8192 32 := broadcastInDim S8x8192 ![0, 1] bcast_S1x8192_S8x8192_0_1 main_v0
  let main_v4 : IVec S8x8192 32 := broadcastInDim S8x8192 ![0, 1] bcast_S8x1_S8x8192_0_1 main_v2
  let main_v5 : IVec S8x8192 1 := cmpi .eq main_v3 main_v4
  let main_v6 : IVec S8x8192 32 := (extui 32 · natLt_1_32) main_v5
  let main_c : IVec S_ 32 := constantI S_ 32 0#32
  let main_v7 : IVec S8 32 := (fun x v => Host.reduce IntOp.addi x v reducesTo_S8x8192_S8_d1 h_S_) main_v6 main_c
  let main_c_0 : IVec S_ 32 := constantI S_ 32 576#32
  let main_v8 : IVec S8 32 := broadcastInDim S8 ![] bcast_S_S8 main_c_0
  let main_v9 : IVec S8 1 := cmpi .sle main_v7 main_v8
  main_v9
-- ==== Kernel.lean ====
abbrev S4096x2048 : Shape := ⟨2, ![4096, 2048]⟩
abbrev S4096 : Shape := ⟨1, ![4096]⟩
abbrev S4x2048x4096 : Shape := ⟨3, ![4, 2048, 4096]⟩
abbrev S4x4096x2048 : Shape := ⟨3, ![4, 4096, 2048]⟩
abbrev S_ : Shape := ⟨0, ![]⟩
abbrev S32x128 : Shape := ⟨2, ![32, 128]⟩
abbrev S64x128 : Shape := ⟨2, ![64, 128]⟩
abbrev S8192 : Shape := ⟨1, ![8192]⟩
abbrev S1x8192 : Shape := ⟨2, ![1, 8192]⟩
abbrev S9 : Shape := ⟨1, ![9]⟩
abbrev S9x1 : Shape := ⟨2, ![9, 1]⟩
abbrev S9x8192 : Shape := ⟨2, ![9, 8192]⟩
abbrev S5 : Shape := ⟨1, ![5]⟩
abbrev S4 : Shape := ⟨1, ![4]⟩
abbrev S8 : Shape := ⟨1, ![8]⟩
abbrev S4x1152x2048 : Shape := ⟨3, ![4, 1152, 2048]⟩
abbrev S1x1024 : Shape := ⟨2, ![1, 1024]⟩
abbrev S1 : Shape := ⟨1, ![1]⟩
abbrev S1024x2048 : Shape := ⟨2, ![1024, 2048]⟩
abbrev S1x1152x2048 : Shape := ⟨3, ![1, 1152, 2048]⟩
abbrev S4x1024x2048 : Shape := ⟨3, ![4, 1024, 2048]⟩
abbrev S1x1024x2048 : Shape := ⟨3, ![1, 1024, 2048]⟩
abbrev S1024 : Shape := ⟨1, ![1024]⟩
abbrev S1152x1024 : Shape := ⟨2, ![1152, 1024]⟩
abbrev S1152x2048 : Shape := ⟨2, ![1152, 2048]⟩
abbrev S1x2048x512 : Shape := ⟨3, ![1, 2048, 512]⟩
abbrev S1x512x2048 : Shape := ⟨3, ![1, 512, 2048]⟩
abbrev S2048x512 : Shape := ⟨2, ![2048, 512]⟩
abbrev S1152x512 : Shape := ⟨2, ![1152, 512]⟩
abbrev S512x2048 : Shape := ⟨2, ![512, 2048]⟩
abbrev S1024x1 : Shape := ⟨2, ![1024, 1]⟩
abbrev S1024x1152 : Shape := ⟨2, ![1024, 1152]⟩

abbrev nBuf : Space → Nat
  | .hbm => 53
  | .vmem => 28
  | .smem => 3
  | _ => 0

abbrev bufTy : (tb : Table) → Fin (tcTables nBuf tb) → BufTy
  | .hbm, ⟨0, _⟩ => ⟨S4096x2048, .bf16⟩
  | .hbm, ⟨1, _⟩ => ⟨S4096, .i32⟩
  | .hbm, ⟨2, _⟩ => ⟨S4x2048x4096, .bf16⟩
  | .hbm, ⟨3, _⟩ => ⟨S4x4096x2048, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S32x128, .i32⟩
  | .hbm, ⟨11, _⟩ => ⟨S64x128, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S1x8192, .i32⟩
  | .hbm, ⟨21, _⟩ => ⟨S9, .i32⟩
  | .hbm, ⟨22, _⟩ => ⟨S9x1, .i32⟩
  | .hbm, ⟨23, _⟩ => ⟨S9x8192, .i32⟩
  | .hbm, ⟨24, _⟩ => ⟨S9x8192, .i32⟩
  | .hbm, ⟨25, _⟩ => ⟨S9x8192, .i1⟩
  | .hbm, ⟨26, _⟩ => ⟨S9x8192, .i32⟩
  | .hbm, ⟨27, _⟩ => ⟨S_, .i32⟩
  | .hbm, ⟨28, _⟩ => ⟨S9, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x8192, .i32⟩
  | .hbm, ⟨37, _⟩ => ⟨S_, .i32⟩
  | .hbm, ⟨38, _⟩ => ⟨S_, .i32⟩
  | .hbm, ⟨39, _⟩ => ⟨S4, .i32⟩
  | .hbm, ⟨40, _⟩ => ⟨S4, .i32⟩
  | .hbm, ⟨41, _⟩ => ⟨S4, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S4, .i32⟩
  | .hbm, ⟨47, _⟩ => ⟨S4, .i32⟩
  | .hbm, ⟨48, _⟩ => ⟨S4, .i32⟩
  | .hbm, ⟨49, _⟩ => ⟨S4x1152x2048, .bf16⟩
  | .hbm, ⟨50, _⟩ => ⟨S4x1152x2048, .bf16⟩
  | .hbm, ⟨51, _⟩ => ⟨S4096x2048, .bf16⟩
  | .hbm, ⟨52, _⟩ => ⟨S4096x2048, .f32⟩
  | .local _ .vmem, ⟨0, _⟩ => ⟨S32x128, .i32⟩
  | .local _ .vmem, ⟨1, _⟩ => ⟨S64x128, .i32⟩
  | .local _ .vmem, ⟨2, _⟩ => ⟨S1x1024, .i32⟩
  | .local _ .vmem, ⟨3, _⟩ => ⟨S1x1024, .i32⟩
  | .local _ .vmem, ⟨4, _⟩ => ⟨S1024x2048, .bf16⟩
  | .local _ .vmem, ⟨5, _⟩ => ⟨S1024x2048, .bf16⟩
  | .local _ .vmem, ⟨6, _⟩ => ⟨S1x1152x2048, .bf16⟩
  | .local _ .vmem, ⟨7, _⟩ => ⟨S1x1152x2048, .bf16⟩
  | .local _ .vmem, ⟨8, _⟩ => ⟨S4x1152x2048, .bf16⟩
  | .local _ .vmem, ⟨9, _⟩ => ⟨S4x1024x2048, .bf16⟩
  | .local _ .vmem, ⟨10, _⟩ => ⟨S1x1152x2048, .bf16⟩
  | .local _ .vmem, ⟨11, _⟩ => ⟨S1x1152x2048, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x512x2048, .bf16⟩
  | .local _ .vmem, ⟨15, _⟩ => ⟨S1x512x2048, .bf16⟩
  | .local _ .vmem, ⟨16, _⟩ => ⟨S1x1152x2048, .bf16⟩
  | .local _ .vmem, ⟨17, _⟩ => ⟨S1x1152x2048, .bf16⟩
  | .local _ .vmem, ⟨18, _⟩ => ⟨S1152x2048, .f32⟩
  | .local _ .vmem, ⟨19, _⟩ => ⟨S1x1024, .i32⟩
  | .local _ .vmem, ⟨20, _⟩ => ⟨S1x1024, .i32⟩
  | .local _ .vmem, ⟨21, _⟩ => ⟨S1x1152x2048, .bf16⟩
  | .local _ .vmem, ⟨22, _⟩ => ⟨S1x1152x2048, .bf16⟩
  | .local _ .vmem, ⟨23, _⟩ => ⟨S1024x2048, .bf16⟩
  | .local _ .vmem, ⟨24, _⟩ => ⟨S1024x2048, .bf16⟩
  | .local _ .vmem, ⟨25, _⟩ => ⟨S1024x2048, .bf16⟩
  | .local _ .vmem, ⟨26, _⟩ => ⟨S4x1024x2048, .bf16⟩
  | .local _ .vmem, ⟨27, _⟩ => ⟨S4x1024x2048, .bf16⟩
  | .local _ .smem, ⟨0, _⟩ => ⟨S5, .i32⟩
  | .local _ .smem, ⟨1, _⟩ => ⟨S8, .i32⟩
  | .local _ .smem, ⟨2, _⟩ => ⟨S8, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 3 → Bool
  | ⟨0, _⟩ => false
  | ⟨1, _⟩ => false
  | ⟨2, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 3 40 bufScoped semScoped dmaSemScoped tileCredit tileCredit_eq_zero tileCredit_pos).withBarriers [(0, 0), (1, 1), (2, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1_0 : Ref sig .tc := ⟨.hbm, 14, rfl⟩
abbrev main_v8 : Ref sig .tc := ⟨.hbm, 15, rfl⟩
abbrev main_call1_v0 : Ref sig .tc := ⟨.hbm, 16, rfl⟩
abbrev main_call1_v1_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v23 : Ref sig .tc := ⟨.smem, 0, rfl⟩
abbrev main_v34 : Ref sig .tc := ⟨.smem, 1, rfl⟩
abbrev main_v35 : Ref sig .tc := ⟨.smem, 2, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_scratch0 : Ref sig .tc := ⟨.vmem, 8, rfl⟩
abbrev cc1_scratch1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc3_scratch1 : Ref sig .tc := ⟨.vmem, 26, rfl⟩
abbrev cc3_scratch2 : Ref sig .tc := ⟨.vmem, 27, rfl⟩
abbrev cc0_sem0_0 : DmaSem sig := 0
abbrev cc0_sem1_0 : DmaSem sig := 1
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev barrier0 : Sem sig := 0
abbrev barrier1 : Sem sig := 1
abbrev barrier2 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c32_i32 : BitVec 32 := 32#32
  let v17 : BitVec 32 := Scalar.muli v5 c32_i32
  let v20 : Index := Scalar.indexCast v17
  let c0_10 : Index := 0#32
  ![v20.toNat, 0]
def k0_off2 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c32_i32 : BitVec 32 := 32#32
  let v17 : BitVec 32 := Scalar.muli v5 c32_i32
  let c0_i32_15 : BitVec 32 := 0#32
  ![v17.toNat, 0]
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v22 : BitVec 32 := Scalar.muli v2 c4_i32_11
  let v23 : BitVec 32 := Scalar.addi c0_i32_12 v22
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_13 : BitVec 32 := 2#32
  let v24 : BitVec 32 := Scalar.muli v9 c2_i32_13
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v26 : BitVec 32 := Scalar.muli v8 c1_i32_14
  let v27 : BitVec 32 := Scalar.addi v25 v26
  v27.toNat
abbrev stage0_0 : Fin 1 → Memref sig .tc .vmem S32x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![8, 4], ![false, false]⟩

abbrev pre1 : Pipeline.Prefetch sig := ⟨2, ![main_v23.idx, main_v34.idx], fun | 0 => main_v23.names | 1 => main_v34.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond1 (i : grid1.Coords) : BitVec 1 :=
  let arg0 : BitVec 32 := BitVec.ofNat 32 (i 0).val
  let c0_i32 : BitVec 32 := 0#32
  let v10 : BitVec 1 := Scalar.cmpi .eq arg0 c0_i32
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_16 : BitVec 32 := 0#32
  let v14 : BitVec 1 := Scalar.cmpi .ne v13 c0_i32_16
  v14

def k1_dev1 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v63 : BitVec 32 := Scalar.muli v2 c4_i32_61
  let v64 : BitVec 32 := Scalar.addi c0_i32_62 v63
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_63 : BitVec 32 := 2#32
  let v65 : BitVec 32 := Scalar.muli v9 c2_i32_63
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v67 : BitVec 32 := Scalar.muli v8 c1_i32_64
  let v68 : BitVec 32 := Scalar.addi v66 v67
  v68.toNat
def k1_dev2 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v69 : BitVec 32 := Scalar.muli v2 c4_i32_66
  let v70 : BitVec 32 := Scalar.addi c0_i32_67 v69
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_68 : BitVec 32 := 2#32
  let v71 : BitVec 32 := Scalar.muli v9 c2_i32_68
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v73 : BitVec 32 := Scalar.muli v8 c1_i32_69
  let v74 : BitVec 32 := Scalar.addi v72 v73
  v74.toNat
def k1_dev3 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v82 : BitVec 32 := Scalar.muli v2 c4_i32_74
  let v83 : BitVec 32 := Scalar.addi c0_i32_75 v82
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_76 : BitVec 32 := 2#32
  let v84 : BitVec 32 := Scalar.muli v9 c2_i32_76
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v86 : BitVec 32 := Scalar.muli v8 c1_i32_77
  let v87 : BitVec 32 := Scalar.addi v85 v86
  v87.toNat
def k1_dev4 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v95 : BitVec 32 := Scalar.muli v2 c4_i32_81
  let v96 : BitVec 32 := Scalar.addi c0_i32_82 v95
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_83 : BitVec 32 := 2#32
  let v97 : BitVec 32 := Scalar.muli v9 c2_i32_83
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v99 : BitVec 32 := Scalar.muli v8 c1_i32_84
  let v100 : BitVec 32 := Scalar.addi v98 v99
  v100.toNat
def k1_dev5 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v108 : BitVec 32 := Scalar.muli v2 c4_i32_88
  let v109 : BitVec 32 := Scalar.addi c0_i32_89 v108
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_90 : BitVec 32 := 2#32
  let v110 : BitVec 32 := Scalar.muli v9 c2_i32_90
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v112 : BitVec 32 := Scalar.muli v8 c1_i32_91
  let v113 : BitVec 32 := Scalar.addi v111 v112
  v113.toNat
def k1_off2 (i : grid1.Coords) : Fin 1 → Nat :=
  let arg1 : BitVec 32 := BitVec.ofNat 32 (i 1).val
  let v35 : Index := Scalar.indexCast arg1
  ![v35.toNat]
def k1_cond6 (i : grid1.Coords) : BitVec 1 :=
  let arg0 : BitVec 32 := BitVec.ofNat 32 (i 0).val
  let c4_i32_39 : BitVec 32 := 4#32
  let v48 : BitVec 1 := Scalar.cmpi .slt arg0 c4_i32_39
  let v49 : BitVec 32 := Scalar.extui v48
  let c0_i32_40 : BitVec 32 := 0#32
  let v50 : BitVec 1 := Scalar.cmpi .ne v49 c0_i32_40
  v50

def k1_cond7 (i : grid1.Coords) : BitVec 1 :=
  let arg0 : BitVec 32 := BitVec.ofNat 32 (i 0).val
  let c0_i32_62 : BitVec 32 := 0#32
  let v66 : BitVec 1 := Scalar.cmpi .eq arg0 c0_i32_62
  let v67 : BitVec 32 := Scalar.extui v66
  let c0_i32_63 : BitVec 32 := 0#32
  let v68 : BitVec 1 := Scalar.cmpi .ne v67 c0_i32_63
  v68

def k1_off3 (i : grid1.Coords) : Fin 3 → Nat :=
  let arg1 : BitVec 32 := BitVec.ofNat 32 (i 1).val
  let v72 : Index := Scalar.indexCast arg1
  let c0_66 : Index := 0#32
  let c0_67 : Index := 0#32
  ![v72.toNat, 0, 0]
def k1_cond8 (i : grid1.Coords) : BitVec 1 :=
  let arg0 : BitVec 32 := BitVec.ofNat 32 (i 0).val
  let c0_i32_64 : BitVec 32 := 0#32
  let v69 : BitVec 1 := Scalar.cmpi .sgt arg0 c0_i32_64
  let v70 : BitVec 32 := Scalar.extui v69
  let c0_i32_65 : BitVec 32 := 0#32
  let v71 : BitVec 1 := Scalar.cmpi .ne v70 c0_i32_65
  v71

def k1_off4 (i : grid1.Coords) : Fin 3 → Nat :=
  let arg1 : BitVec 32 := BitVec.ofNat 32 (i 1).val
  let v72 : Index := Scalar.indexCast arg1
  let c0_66 : Index := 0#32
  let c0_67 : Index := 0#32
  ![v72.toNat, 0, 0]
def k1_cond9 (i : grid1.Coords) : BitVec 1 :=
  let arg0 : BitVec 32 := BitVec.ofNat 32 (i 0).val
  let c4_i32_41 : BitVec 32 := 4#32
  let v51 : BitVec 1 := Scalar.cmpi .sge arg0 c4_i32_41
  let v52 : BitVec 32 := Scalar.extui v51
  let c0_i32_42 : BitVec 32 := 0#32
  let v53 : BitVec 1 := Scalar.cmpi .ne v52 c0_i32_42
  v53

def k1_off5 (i : grid1.Coords) : Fin 3 → Nat :=
  let arg0 : BitVec 32 := BitVec.ofNat 32 (i 0).val
  let c4_i32_60 : BitVec 32 := 4#32
  let v62 : BitVec 32 := Scalar.subi arg0 c4_i32_60
  let v63 : Index := Scalar.indexCast v62
  let c0_61 : Index := 0#32
  let c0_62 : Index := 0#32
  ![v63.toNat, 0, 0]
def k1_cond10 (i : grid1.Coords) : BitVec 1 :=
  let arg0 : BitVec 32 := BitVec.ofNat 32 (i 0).val
  let c0_i32_63 : BitVec 32 := 0#32
  let v68 : BitVec 1 := Scalar.cmpi .eq arg0 c0_i32_63
  let v69 : BitVec 32 := Scalar.extui v68
  let c0_i32_64 : BitVec 32 := 0#32
  let v70 : BitVec 1 := Scalar.cmpi .ne v69 c0_i32_64
  v70

def k1_off6 (i : grid1.Coords) : Fin 3 → Nat :=
  let arg1 : BitVec 32 := BitVec.ofNat 32 (i 1).val
  let v74 : Index := Scalar.indexCast arg1
  let c0_67 : Index := 0#32
  let c0_68 : Index := 0#32
  ![v74.toNat, 0, 0]
def k1_cond11 (i : grid1.Coords) : BitVec 1 :=
  let arg0 : BitVec 32 := BitVec.ofNat 32 (i 0).val
  let c0_i32_65 : BitVec 32 := 0#32
  let v71 : BitVec 1 := Scalar.cmpi .sgt arg0 c0_i32_65
  let v72 : BitVec 32 := Scalar.extui v71
  let c0_i32_66 : BitVec 32 := 0#32
  let v73 : BitVec 1 := Scalar.cmpi .ne v72 c0_i32_66
  v73

def k1_off7 (i : grid1.Coords) : Fin 3 → Nat :=
  let arg1 : BitVec 32 := BitVec.ofNat 32 (i 1).val
  let v74 : Index := Scalar.indexCast arg1
  let c0_67 : Index := 0#32
  let c0_68 : Index := 0#32
  ![v74.toNat, 0, 0]
def k1_cond12 (i : grid1.Coords) : BitVec 1 :=
  let arg0 : BitVec 32 := BitVec.ofNat 32 (i 0).val
  let c7_i32_43 : BitVec 32 := 7#32
  let v54 : BitVec 1 := Scalar.cmpi .eq arg0 c7_i32_43
  let v55 : BitVec 32 := Scalar.extui v54
  let c0_i32_44 : BitVec 32 := 0#32
  let v56 : BitVec 1 := Scalar.cmpi .ne v55 c0_i32_44
  v56

def k1_off8 (i : grid1.Coords) : Fin 3 → Nat :=
  let arg1 : BitVec 32 := BitVec.ofNat 32 (i 1).val
  let v62 : Index := Scalar.indexCast arg1
  let c0_60 : Index := 0#32
  let c0_61 : Index := 0#32
  ![v62.toNat, 0, 0]
def cc1_transform_0 (k1_off1_inb : ∀ i : grid1.Coords, ∀ a, (k1_off1 i) a + S1.size a ≤ S8.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S8) ![v0.toNat] S1.size (k1_off1_inb i)) numel1_S1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c3_i32 : BitVec 32 := 3#32
  let v1 : BitVec 32 := Scalar.select v0 arg0 c3_i32
  let c0_i32 : BitVec 32 := 0#32
  let c0_i32_0 : BitVec 32 := 0#32
  ![v1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage1_0 : Fin 2 → Memref sig .tc .vmem S1x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1152x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev grid2 : Pipeline.Grid := ⟨2, ![4, 8], ![false, false]⟩

def k2_cond3 (i : grid2.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_13 : BitVec 32 := 0#32
  let v19 : BitVec 1 := Scalar.cmpi .ne v18 c0_i32_13
  v19

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1152x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1152x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![8, 4], ![false, false]⟩

abbrev pre3 : Pipeline.Prefetch sig := ⟨2, ![main_v23.idx, main_v35.idx], fun | 0 => main_v23.names | 1 => main_v35.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def k3_cond1 (i : grid3.Coords) : BitVec 1 :=
  let arg0 : BitVec 32 := BitVec.ofNat 32 (i 0).val
  let c0_i32 : BitVec 32 := 0#32
  let v10 : BitVec 1 := Scalar.cmpi .eq arg0 c0_i32
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

def k3_dev1 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v54 : BitVec 32 := Scalar.muli v2 c4_i32_51
  let v55 : BitVec 32 := Scalar.addi c0_i32_52 v54
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_53 : BitVec 32 := 2#32
  let v56 : BitVec 32 := Scalar.muli v9 c2_i32_53
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v58 : BitVec 32 := Scalar.muli v8 c1_i32_54
  let v59 : BitVec 32 := Scalar.addi v57 v58
  v59.toNat
def k3_off2 (i : grid3.Coords) : Fin 1 → Nat :=
  let arg1 : BitVec 32 := BitVec.ofNat 32 (i 1).val
  let v15 : Index := Scalar.indexCast arg1
  ![v15.toNat]
def k3_off3 (i : grid3.Coords) : Fin 1 → Nat :=
  let arg1 : BitVec 32 := BitVec.ofNat 32 (i 1).val
  let c1_i32_6 : BitVec 32 := 1#32
  let v17 : BitVec 32 := Scalar.addi arg1 c1_i32_6
  let v18 : Index := Scalar.indexCast v17
  ![v18.toNat]
def k3_cond4 (i : grid3.Coords) : BitVec 1 :=
  let arg1 : BitVec 32 := BitVec.ofNat 32 (i 1).val
  let c3_i32 : BitVec 32 := 3#32
  let v45 : BitVec 1 := Scalar.cmpi .eq arg1 c3_i32
  let v46 : BitVec 32 := Scalar.extui v45
  let c0_i32_31 : BitVec 32 := 0#32
  let v47 : BitVec 1 := Scalar.cmpi .ne v46 c0_i32_31
  v47

def k3_cond5 (i : grid3.Coords) : BitVec 1 :=
  let arg0 : BitVec 32 := BitVec.ofNat 32 (i 0).val
  let c0_i32_50 : BitVec 32 := 0#32
  let v53 : BitVec 1 := Scalar.cmpi .eq arg0 c0_i32_50
  let v54 : BitVec 32 := Scalar.extui v53
  let c0_i32_51 : BitVec 32 := 0#32
  let v55 : BitVec 1 := Scalar.cmpi .ne v54 c0_i32_51
  v55

def k3_dev2 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v81 : BitVec 32 := Scalar.muli v2 c4_i32_69
  let v82 : BitVec 32 := Scalar.addi c0_i32_70 v81
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_71 : BitVec 32 := 2#32
  let v83 : BitVec 32 := Scalar.muli v9 c2_i32_71
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v85 : BitVec 32 := Scalar.muli v8 c1_i32_72
  let v86 : BitVec 32 := Scalar.addi v84 v85
  v86.toNat
def k3_cond6 (i : grid3.Coords) : BitVec 1 :=
  let arg0 : BitVec 32 := BitVec.ofNat 32 (i 0).val
  let c1_i32_52 : BitVec 32 := 1#32
  let v56 : BitVec 1 := Scalar.cmpi .eq arg0 c1_i32_52
  let v57 : BitVec 32 := Scalar.extui v56
  let c0_i32_53 : BitVec 32 := 0#32
  let v58 : BitVec 1 := Scalar.cmpi .ne v57 c0_i32_53
  v58

def k3_dev3 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v81 : BitVec 32 := Scalar.muli v2 c4_i32_68
  let v82 : BitVec 32 := Scalar.addi c0_i32_69 v81
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_70 : BitVec 32 := 2#32
  let v83 : BitVec 32 := Scalar.muli v9 c2_i32_70
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v85 : BitVec 32 := Scalar.muli v8 c1_i32_71
  let v86 : BitVec 32 := Scalar.addi v84 v85
  v86.toNat
def k3_cond7 (i : grid3.Coords) : BitVec 1 :=
  let arg0 : BitVec 32 := BitVec.ofNat 32 (i 0).val
  let c2_i32_54 : BitVec 32 := 2#32
  let v59 : BitVec 1 := Scalar.cmpi .eq arg0 c2_i32_54
  let v60 : BitVec 32 := Scalar.extui v59
  let c0_i32_55 : BitVec 32 := 0#32
  let v61 : BitVec 1 := Scalar.cmpi .ne v60 c0_i32_55
  v61

def k3_dev4 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v81 : BitVec 32 := Scalar.muli v2 c4_i32_68
  let v82 : BitVec 32 := Scalar.addi c0_i32_69 v81
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_70 : BitVec 32 := 2#32
  let v83 : BitVec 32 := Scalar.muli v9 c2_i32_70
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v85 : BitVec 32 := Scalar.muli v8 c1_i32_71
  let v86 : BitVec 32 := Scalar.addi v84 v85
  v86.toNat
def k3_cond8 (i : grid3.Coords) : BitVec 1 :=
  let arg0 : BitVec 32 := BitVec.ofNat 32 (i 0).val
  let c3_i32_56 : BitVec 32 := 3#32
  let v62 : BitVec 1 := Scalar.cmpi .eq arg0 c3_i32_56
  let v63 : BitVec 32 := Scalar.extui v62
  let c0_i32_57 : BitVec 32 := 0#32
  let v64 : BitVec 1 := Scalar.cmpi .ne v63 c0_i32_57
  v64

def k3_dev5 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v81 : BitVec 32 := Scalar.muli v2 c4_i32_68
  let v82 : BitVec 32 := Scalar.addi c0_i32_69 v81
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_70 : BitVec 32 := 2#32
  let v83 : BitVec 32 := Scalar.muli v9 c2_i32_70
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v85 : BitVec 32 := Scalar.muli v8 c1_i32_71
  let v86 : BitVec 32 := Scalar.addi v84 v85
  v86.toNat
def k3_cond9 (i : grid3.Coords) : BitVec 1 :=
  let arg0 : BitVec 32 := BitVec.ofNat 32 (i 0).val
  let c4_i32_58 : BitVec 32 := 4#32
  let v65 : BitVec 1 := Scalar.cmpi .eq arg0 c4_i32_58
  let v66 : BitVec 32 := Scalar.extui v65
  let c0_i32_59 : BitVec 32 := 0#32
  let v67 : BitVec 1 := Scalar.cmpi .ne v66 c0_i32_59
  v67

def k3_cond10 (i : grid3.Coords) : BitVec 1 :=
  let arg0 : BitVec 32 := BitVec.ofNat 32 (i 0).val
  let c5_i32 : BitVec 32 := 5#32
  let v68 : BitVec 1 := Scalar.cmpi .eq arg0 c5_i32
  let v69 : BitVec 32 := Scalar.extui v68
  let c0_i32_60 : BitVec 32 := 0#32
  let v70 : BitVec 1 := Scalar.cmpi .ne v69 c0_i32_60
  v70

def k3_cond11 (i : grid3.Coords) : BitVec 1 :=
  let arg0 : BitVec 32 := BitVec.ofNat 32 (i 0).val
  let c6_i32 : BitVec 32 := 6#32
  let v71 : BitVec 1 := Scalar.cmpi .eq arg0 c6_i32
  let v72 : BitVec 32 := Scalar.extui v71
  let c0_i32_61 : BitVec 32 := 0#32
  let v73 : BitVec 1 := Scalar.cmpi .ne v72 c0_i32_61
  v73

def k3_cond12 (i : grid3.Coords) : BitVec 1 :=
  let arg0 : BitVec 32 := BitVec.ofNat 32 (i 0).val
  let c7_i32_62 : BitVec 32 := 7#32
  let v74 : BitVec 1 := Scalar.cmpi .eq arg0 c7_i32_62
  let v75 : BitVec 32 := Scalar.extui v74
  let c0_i32_63 : BitVec 32 := 0#32
  let v76 : BitVec 1 := Scalar.cmpi .ne v75 c0_i32_63
  v76

def cc3_transform_0 (k3_off1_inb : ∀ i : grid3.Coords, ∀ a, (k3_off1 i) a + S1.size a ≤ S8.size a) (numel1_S1 : S1.numel = 1) (pf : pre3.Contents (Elt F)) (i : grid3.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S8) ![v0.toNat] S1.size (k3_off1_inb i)) numel1_S1
  let c0_i32 : BitVec 32 := 0#32
  let c0_i32_0 : BitVec 32 := 0#32
  ![c0_i32.toNat, v1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage3_0 : Fin 2 → Memref sig .tc .vmem S1x1024 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x1152x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== ReferenceIdeal.lean ====
abbrev S8192x2048 : Shape := ⟨2, ![8192, 2048]⟩
abbrev S8192 : Shape := ⟨1, ![8192]⟩
abbrev S8x2048x4096 : Shape := ⟨3, ![8, 2048, 4096]⟩
abbrev S8x4096x2048 : Shape := ⟨3, ![8, 4096, 2048]⟩
abbrev S_ : Shape := ⟨0, ![]⟩
abbrev S1x2048x4096 : Shape := ⟨3, ![1, 2048, 4096]⟩
abbrev S2048x4096 : Shape := ⟨2, ![2048, 4096]⟩
abbrev S8192x4096 : Shape := ⟨2, ![8192, 4096]⟩
abbrev S8192x1 : Shape := ⟨2, ![8192, 1]⟩
abbrev S1x4096x2048 : Shape := ⟨3, ![1, 4096, 2048]⟩
abbrev S4096x2048 : Shape := ⟨2, ![4096, 2048]⟩

abbrev nBuf : Space → Nat
  | .hbm => 129
  | .vmem => 0
  | .smem => 0
  | _ => 0

abbrev hbmTy0_0 (i : Nat) : BufTy := match i % 128 with
  | 0 => ⟨S8192x2048, .bf16⟩
  | 1 => ⟨S8192, .i32⟩
  | 2 => ⟨S8x2048x4096, .bf16⟩
  | 3 => ⟨S8x4096x2048, .bf16⟩
  | 4 => ⟨S8192x2048, .f32⟩
  | 5 => ⟨S8x2048x4096, .f32⟩
  | 6 => ⟨S8x4096x2048, .f32⟩
  | 7 => ⟨S_, .f32⟩
  | 8 => ⟨S8192x2048, .f32⟩
  | 9 => ⟨S1x2048x4096, .f32⟩
  | 10 => ⟨S2048x4096, .f32⟩
  | 11 => ⟨S8192x4096, .f32⟩
  | 12 => ⟨S_, .f32⟩
  | 13 => ⟨S8192x4096, .f32⟩
  | 14 => ⟨S8192x4096, .f32⟩
  | 15 => ⟨S_, .i32⟩
  | 16 => ⟨S8192, .i32⟩
  | 17 => ⟨S8192, .i1⟩
  | 18 => ⟨S8192x1, .i1⟩
  | 19 => ⟨S1x4096x2048, .f32⟩
  | 20 => ⟨S4096x2048, .f32⟩
  | 21 => ⟨S8192x2048, .f32⟩
  | 22 => ⟨S8192x2048, .i1⟩
  | 23 => ⟨S8192x2048, .f32⟩
  | 24 => ⟨S1x2048x4096, .f32⟩
  | 25 => ⟨S2048x4096, .f32⟩
  | 26 => ⟨S8192x4096, .f32⟩
  | 27 => ⟨S_, .f32⟩
  | 28 => ⟨S8192x4096, .f32⟩
  | 29 => ⟨S8192x4096, .f32⟩
  | 30 => ⟨S_, .i32⟩
  | 31 => ⟨S8192, .i32⟩
  | 32 => ⟨S8192, .i1⟩
  | 33 => ⟨S8192x1, .i1⟩
  | 34 => ⟨S1x4096x2048, .f32⟩
  | 35 => ⟨S4096x2048, .f32⟩
  | 36 => ⟨S8192x2048, .f32⟩
  | 37 => ⟨S8192x2048, .i1⟩
  | 38 => ⟨S8192x2048, .f32⟩
  | 39 => ⟨S1x2048x4096, .f32⟩
  | 40 => ⟨S2048x4096, .f32⟩
  | 41 => ⟨S8192x4096, .f32⟩
  | 42 => ⟨S_, .f32⟩
  | 43 => ⟨S8192x4096, .f32⟩
  | 44 => ⟨S8192x4096, .f32⟩
  | 45 => ⟨S_, .i32⟩
  | 46 => ⟨S8192, .i32⟩
  | 47 => ⟨S8192, .i1⟩
  | 48 => ⟨S8192x1, .i1⟩
  | 49 => ⟨S1x4096x2048, .f32⟩
  | 50 => ⟨S4096x2048, .f32⟩
  | 51 => ⟨S8192x2048, .f32⟩
  | 52 => ⟨S8192x2048, .i1⟩
  | 53 => ⟨S8192x2048, .f32⟩
  | 54 => ⟨S1x2048x4096, .f32⟩
  | 55 => ⟨S2048x4096, .f32⟩
  | 56 => ⟨S8192x4096, .f32⟩
  | 57 => ⟨S_, .f32⟩
  | 58 => ⟨S8192x4096, .f32⟩
  | 59 => ⟨S8192x4096, .f32⟩
  | 60 => ⟨S_, .i32⟩
  | 61 => ⟨S8192, .i32⟩
  | 62 => ⟨S8192, .i1⟩
  | 63 => ⟨S8192x1, .i1⟩
  | 64 => ⟨S1x4096x2048, .f32⟩
  | 65 => ⟨S4096x2048, .f32⟩
  | 66 => ⟨S8192x2048, .f32⟩
  | 67 => ⟨S8192x2048, .i1⟩
  | 68 => ⟨S8192x2048, .f32⟩
  | 69 => ⟨S1x2048x4096, .f32⟩
  | 70 => ⟨S2048x4096, .f32⟩
  | 71 => ⟨S8192x4096, .f32⟩
  | 72 => ⟨S_, .f32⟩
  | 73 => ⟨S8192x4096, .f32⟩
  | 74 => ⟨S8192x4096, .f32⟩
  | 75 => ⟨S_, .i32⟩
  | 76 => ⟨S8192, .i32⟩
  | 77 => ⟨S8192, .i1⟩
  | 78 => ⟨S8192x1, .i1⟩
  | 79 => ⟨S1x4096x2048, .f32⟩
  | 80 => ⟨S4096x2048, .f32⟩
  | 81 => ⟨S8192x2048, .f32⟩
  | 82 => ⟨S8192x2048, .i1⟩
  | 83 => ⟨S8192x2048, .f32⟩
  | 84 => ⟨S1x2048x4096, .f32⟩
  | 85 => ⟨S2048x4096, .f32⟩
  | 86 => ⟨S8192x4096, .f32⟩
  | 87 => ⟨S_, .f32⟩
  | 88 => ⟨S8192x4096, .f32⟩
  | 89 => ⟨S8192x4096, .f32⟩
  | 90 => ⟨S_, .i32⟩
  | 91 => ⟨S8192, .i32⟩
  | 92 => ⟨S8192, .i1⟩
  | 93 => ⟨S8192x1, .i1⟩
  | 94 => ⟨S1x4096x2048, .f32⟩
  | 95 => ⟨S4096x2048, .f32⟩
  | 96 => ⟨S8192x2048, .f32⟩
  | 97 => ⟨S8192x2048, .i1⟩
  | 98 => ⟨S8192x2048, .f32⟩
  | 99 => ⟨S1x2048x4096, .f32⟩
  | 100 => ⟨S2048x4096, .f32⟩
  | 101 => ⟨S8192x4096, .f32⟩
  | 102 => ⟨S_, .f32⟩
  | 103 => ⟨S8192x4096, .f32⟩
  | 104 => ⟨S8192x4096, .f32⟩
  | 105 => ⟨S_, .i32⟩
  | 106 => ⟨S8192, .i32⟩
  | 107 => ⟨S8192, .i1⟩
  | 108 => ⟨S8192x1, .i1⟩
  | 109 => ⟨S1x4096x2048, .f32⟩
  | 110 => ⟨S4096x2048, .f32⟩
  | 111 => ⟨S8192x2048, .f32⟩
  | 112 => ⟨S8192x2048, .i1⟩
  | 113 => ⟨S8192x2048, .f32⟩
  | 114 => ⟨S1x2048x4096, .f32⟩
  | 115 => ⟨S2048x4096, .f32⟩
  | 116 => ⟨S8192x4096, .f32⟩
  | 117 => ⟨S_, .f32⟩
  | 118 => ⟨S8192x4096, .f32⟩
  | 119 => ⟨S8192x4096, .f32⟩
  | 120 => ⟨S_, .i32⟩
  | 121 => ⟨S8192, .i32⟩
  | 122 => ⟨S8192, .i1⟩
  | 123 => ⟨S8192x1, .i1⟩
  | 124 => ⟨S1x4096x2048, .f32⟩
  | 125 => ⟨S4096x2048, .f32⟩
  | 126 => ⟨S8192x2048, .f32⟩
  | 127 => ⟨S8192x2048, .i1⟩
  | _ => ⟨S8192x2048, .bf16⟩

abbrev hbmTy0_1 (i : Nat) : BufTy := match i % 128 with
  | 0 => ⟨S8192x2048, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call1_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call2_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call3_v0 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_c_8 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_call4_v0 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_9 : Ref sig .tc := ⟨.hbm, 87, rfl⟩
abbrev main_v67 : Ref sig .tc := ⟨.hbm, 88, rfl⟩
abbrev main_v68 : Ref sig .tc := ⟨.hbm, 89, rfl⟩
abbrev main_c_10 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call5_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_11 : Ref sig .tc := ⟨.hbm, 102, rfl⟩
abbrev main_v79 : Ref sig .tc := ⟨.hbm, 103, rfl⟩
abbrev main_v80 : Ref sig .tc := ⟨.hbm, 104, rfl⟩
abbrev main_c_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_call6_v0 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_13 : Ref sig .tc := ⟨.hbm, 117, rfl⟩
abbrev main_v91 : Ref sig .tc := ⟨.hbm, 118, rfl⟩
abbrev main_v92 : Ref sig .tc := ⟨.hbm, 119, rfl⟩
abbrev main_c_14 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_call7_v0 : Ref sig .tc := ⟨.hbm, 127, rfl⟩
abbrev main_v99 : Ref sig .tc := ⟨.hbm, 128, rfl⟩

abbrev nD : Nat := 1
abbrev τ : Topo := Topo.v7x

variable {F : FTy → Type} [FloatOps F]
-- ==== Proof.Order.lean ====
/-
Sorting the tokens by expert: at which place a token comes, and where each expert's tokens start.
-/
module

public import Idealize.ShloMosaic.Lib.SortFacts
public import Idealize.ShloMosaic.Lib.ValueIdxCore
public import Mathlib.Order.Interval.Finset.Fin

@[expose] public section

set_option maxRecDepth 16384

noncomputable section

namespace Cert.Order

open Idealize.ShloMosaic

/-- A set of positions that holds with a position every earlier one is the positions below its size. -/
theorem mem_lower {n : ℕ} (S : Finset (Fin n)) (h : ∀ i j : Fin n, i ≤ j → j ∈ S → i ∈ S) (i : Fin n) : i ∈ S ↔ i.val < S.card := by
  constructor
  · intro hi
    have : (Finset.Iic i).card ≤ S.card := Finset.card_le_card fun j hj => h j i (Finset.mem_Iic.mp hj) hi
    rw [Fin.card_Iic] at this
    omega
  · intro hi
    by_contra hn
    have : S.card ≤ (Finset.Iio i).card := Finset.card_le_card fun j hj => Finset.mem_Iio.mpr (lt_of_not_ge fun hij => hn (h i j hij hj))
    rw [Fin.card_Iio] at this
    omega

variable (a : Fin 8192 → BitVec 32)

/-- Which token comes at a place once the tokens are sorted by expert. -/
def src (i : Fin 8192) : Fin 8192 := sortedFrom (fun k k' => IntOp.cmpi .slt (a k) (a k') == 1#1) i
/-- A token's place: sorting those numbers again. -/
def pos (t : Fin 8192) : Fin 8192 :=
  sortedFrom (fun k k' => IntOp.cmpi .slt (BitVec.ofNat 32 (src a k).val) (BitVec.ofNat 32 (src a k').val) == 1#1) t
/-- How many tokens go to an expert before the `j`-th. -/
def cnt (j : ℕ) : ℕ := (Finset.univ.filter fun i : Fin 8192 => (a (src a i)).toInt < (j : Int)).card

theorem slt_iff (x y : BitVec 32) : (IntOp.cmpi .slt x y == 1#1) = true ↔ x.toInt < y.toInt := by
  show (BitVec.ofBool (x.slt y) == 1#1) = true ↔ _
  rw [BitVec.slt_eq_decide]
  by_cases h : x.toInt < y.toInt <;> simp [h]

theorem toInt_small (n : ℕ) (h : n < 2 ^ 31) : (BitVec.ofNat 32 n).toInt = (n : Int) := by
  rw [BitVec.toInt_eq_toNat_of_lt (by rw [BitVec.toNat_ofNat, Nat.mod_eq_of_lt (by omega)]; omega), BitVec.toNat_ofNat, Nat.mod_eq_of_lt (by omega)]

/-- Sorted by a number, the numbers ascend. -/
theorem sorted_le (f : Fin 8192 → BitVec 32) (i j : Fin 8192) (h : i < j) :
    (f (sortedFrom (fun k k' => IntOp.cmpi .slt (f k) (f k') == 1#1) i)).toInt ≤ (f (sortedFrom (fun k k' => IntOp.cmpi .slt (f k) (f k') == 1#1) j)).toInt := by
  have := sortedFrom_noInversion (fun k k' => IntOp.cmpi .slt (f k) (f k') == 1#1) (fun k k' => IntOp.cmpi .slt (f k) (f k') == 1#1)
    (fun x y hxy => by rw [← Bool.not_eq_true, slt_iff]; rw [slt_iff] at hxy; omega) (fun _ _ => id)
    (fun x y z hxy hyz => by
      rw [← Bool.not_eq_true, slt_iff] at hxy hyz ⊢; omega) i j h
  rw [← Bool.not_eq_true, slt_iff] at this
  omega

theorem src_inj : Function.Injective (src a) := sortedFrom_injective _
theorem pos_inj : Function.Injective (pos a) := sortedFrom_injective _

/-- At a token's place comes the token. -/
theorem src_pos (t : Fin 8192) : src a (pos a t) = t := by
  have mono : StrictMono fun t => src a (pos a t) := by
    intro i j h
    have h1 := sorted_le (fun k => BitVec.ofNat 32 (src a k).val) i j h
    rw [toInt_small _ (by have := (src a (sortedFrom (fun k k' => IntOp.cmpi .slt (BitVec.ofNat 32 (src a k).val) (BitVec.ofNat 32 (src a k').val) == 1#1) i)).isLt; omega),
      toInt_small _ (by have := (src a (sortedFrom (fun k k' => IntOp.cmpi .slt (BitVec.ofNat 32 (src a k).val) (BitVec.ofNat 32 (src a k').val) == 1#1) j)).isLt; omega)] at h1
    have h2 : src a (pos a i) ≤ src a (pos a j) := Fin.le_def.mpr (by exact_mod_cast h1)
    exact lt_of_le_of_ne h2 fun e => (ne_of_lt h) (pos_inj a (src_inj a e))
  have : (fun t => src a (pos a t)) = id := by
    have hr : Set.range (fun t => src a (pos a t)) = Set.range (id : Fin 8192 → Fin 8192) := by
      rw [Set.range_id, Set.range_eq_univ]
      exact (Finite.injective_iff_surjective).mp mono.injective
    exact StrictMono.range_inj mono strictMono_id |>.mp hr
  exact congrFun this t

/-- A token's place is among the first `cnt j` exactly if it goes to an expert before the `j`-th. -/
theorem pos_lt (t : Fin 8192) (j : ℕ) : (pos a t).val < cnt a j ↔ (a t).toInt < (j : Int) := by
  unfold cnt
  rw [← mem_lower _ (fun i k hik hk => ?_), Finset.mem_filter, src_pos]
  · simp
  · rw [Finset.mem_filter] at hk ⊢
    refine ⟨Finset.mem_univ _, ?_⟩
    obtain rfl | h := eq_or_lt_of_le hik
    · exact hk.2
    · exact lt_of_le_of_lt (sorted_le a i k h) hk.2

theorem cnt_le (j : ℕ) : cnt a j ≤ 8192 := (Finset.card_le_univ _).trans (by simp)

/-- The tokens of one expert, counted. -/
theorem cnt_succ (j : ℕ) : cnt a (j + 1) = cnt a j + (Finset.univ.filter fun t : Fin 8192 => (a t).toInt = (j : Int)).card := by
  have e : (Finset.univ.filter fun t : Fin 8192 => (a t).toInt = (j : Int)).card = (Finset.univ.filter fun i : Fin 8192 => (a (src a i)).toInt = (j : Int)).card := by
    refine (Finset.card_bij (fun i _ => src a i) (fun i hi => ?_) (fun i _ k _ h => src_inj a h) fun t ht => ⟨pos a t, ?_, src_pos a t⟩).symm
    · rw [Finset.mem_filter] at hi ⊢; exact ⟨Finset.mem_univ _, hi.2⟩
    · rw [Finset.mem_filter] at ht ⊢; exact ⟨Finset.mem_univ _, by rw [src_pos]; exact ht.2⟩
  rw [e]
  unfold cnt
  rw [← Finset.card_union_of_disjoint]
  · refine congrArg Finset.card (Finset.ext fun i => ?_)
    rw [Finset.mem_union, Finset.mem_filter, Finset.mem_filter, Finset.mem_filter]
    simp only [Finset.mem_univ, true_and]
    push_cast
    omega
  · rw [Finset.disjoint_filter]
    intro i _ h
    omega

end Cert.Order

end
-- ==== Proof.Ref.lean ====
/-
The reference read at a token and column: the results of the token's expert, or nothing.
-/
module

public import proofs.«01_k».proof.Proof.Gen.ReferenceIdeal.Read
public import Idealize.ShloMosaic.Lib.Pointwise
public import Idealize.ShloMosaic.Lib.KernelVsHost

@[expose] public section

set_option maxRecDepth 16384

noncomputable section

namespace Cert.Values.Reference

open Idealize.ShloMosaic Idealize.ShloMosaic.TcCoe
open Idealize.SL.Sem
open Cert.ReferenceIdeal Cert.ReferenceIdeal.Read Cert.ReferenceIdeal.Gen

variable (x0 : FVec Ideal S8192x2048 .bf16) (x1 : IVec S8192 32)
  (x2 : FVec Ideal S8x2048x4096 .bf16) (x3 : FVec Ideal S8x4096x2048 .bf16)

/-- An expert's two layers of a token. -/
def ffn (e : Fin 8) (t : Fin 8192) (d : Fin 2048) : EReal :=
  ∑ f : Fin 4096, max (∑ d' : Fin 2048, (x0 (ix2 t d') : EReal) * x2 (Idealize.ShloMosaic.ix3 e d' f)) 0 * x3 (Idealize.ShloMosaic.ix3 e f d)

/-- One number or the other, as the token's expert is `e` or not. -/
def pick (a : BitVec 32) (e : ℕ) (v w : EReal) : EReal := Scalar.select (IntOp.cmpi .eq a (BitVec.ofNat 32 e)) v w

/-- The first matrix of an expert, -/
theorem first_at (e : Fin 8) (h2 : S8x2048x4096.Slices ![e.val, 0, 0] S1x2048x4096) (d : Fin 2048) (f : Fin 4096) :
    shapeCast S2048x4096 (extractStridedSlice S1x2048x4096 ![e.val, 0, 0] (extf (F := Ideal) .f32 x2 bitsLt_bf16_f32) h2) shapeCasts_S1x2048x4096_S2048x4096 (ix2 d f) = x2 (Idealize.ShloMosaic.ix3 e d f) := by
  pointwise
/-- its second, -/
theorem second_at (e : Fin 8) (h3 : S8x4096x2048.Slices ![e.val, 0, 0] S1x4096x2048) (f : Fin 4096) (d : Fin 2048) :
    shapeCast S4096x2048 (extractStridedSlice S1x4096x2048 ![e.val, 0, 0] (extf (F := Ideal) .f32 x3 bitsLt_bf16_f32) h3) shapeCasts_S1x4096x2048_S4096x2048 (ix2 f d) = x3 (Idealize.ShloMosaic.ix3 e f d) := by
  pointwise
/-- and its results. -/
theorem ffn_at (e : Fin 8) (a : FVec Ideal S2048x4096 .f32) (b : FVec Ideal S4096x2048 .f32) (ha : ∀ d f, a (ix2 d f) = x2 (Idealize.ShloMosaic.ix3 e d f)) (hb : ∀ f d, b (ix2 f d) = x3 (Idealize.ShloMosaic.ix3 e f d))
    (t : Fin 8192) (d : Fin 2048) :
    Host.dotGeneral dot_S8192x4096_S4096x2048_S8192x2048_1_0_0_1_n_n none
      (maximumf (Host.dotGeneral dot_S8192x2048_S2048x4096_S8192x4096_1_0_0_1_n_n none (extf (F := Ideal) .f32 x0 bitsLt_bf16_f32) a)
        (broadcastInDim S8192x4096 ![] bcast_S_S8192x4096 (constant S_ .f32 0x00000000#32))) b (ix2 t d) = ffn x0 x2 x3 e t d := by
  unfold ffn
  pointwise
  refine Finset.sum_congr rfl fun f _ => ?_
  rw [hb]
  refine congrArg (fun s : EReal => max s 0 * x3 (Idealize.ShloMosaic.ix3 e f d)) (Finset.sum_congr rfl fun d' _ => ?_)
  rw [ha]

theorem is_at (e : ℕ) (t : Fin 8192) (d : Fin 2048) :
    broadcastInDim S8192x2048 ![0, 1] bcast_S8192x1_S8192x2048_0_1 (broadcastInDim S8192x1 ![0] bcast_S8192_S8192x1_0
        (cmpi .eq x1 (broadcastInDim S8192 ![] bcast_S_S8192 (constantI S_ 32 (BitVec.ofNat 32 e))))) (ix2 t d) = IntOp.cmpi .eq (x1 (Idealize.ShloMosaic.ix1 t)) (BitVec.ofNat 32 e) := by
  pointwise

/-- What the reference does for one expert, after what it did for those before. -/
theorem stage (e : Fin 8) (h2 : S8x2048x4096.Slices ![e.val, 0, 0] S1x2048x4096) (h3 : S8x4096x2048.Slices ![e.val, 0, 0] S1x4096x2048)
    (w : FVec Ideal S8192x2048 .f32) (t : Fin 8192) (d : Fin 2048) :
    select (broadcastInDim S8192x2048 ![0, 1] bcast_S8192x1_S8192x2048_0_1 (broadcastInDim S8192x1 ![0] bcast_S8192_S8192x1_0
        (cmpi .eq x1 (broadcastInDim S8192 ![] bcast_S_S8192 (constantI S_ 32 (BitVec.ofNat 32 e.val))))))
      (Host.dotGeneral dot_S8192x4096_S4096x2048_S8192x2048_1_0_0_1_n_n none
        (maximumf (Host.dotGeneral dot_S8192x2048_S2048x4096_S8192x4096_1_0_0_1_n_n none (extf (F := Ideal) .f32 x0 bitsLt_bf16_f32)
            (shapeCast S2048x4096 (extractStridedSlice S1x2048x4096 ![e.val, 0, 0] (extf (F := Ideal) .f32 x2 bitsLt_bf16_f32) h2) shapeCasts_S1x2048x4096_S2048x4096))
          (broadcastInDim S8192x4096 ![] bcast_S_S8192x4096 (constant S_ .f32 0x00000000#32)))
        (shapeCast S4096x2048 (extractStridedSlice S1x4096x2048 ![e.val, 0, 0] (extf (F := Ideal) .f32 x3 bitsLt_bf16_f32) h3) shapeCasts_S1x4096x2048_S4096x2048)) w (ix2 t d)
      = pick (x1 (Idealize.ShloMosaic.ix1 t)) e.val (ffn x0 x2 x3 e t d) (w (ix2 t d)) := by
  refine (congrArg₂ (fun c v => Scalar.select c v (w (ix2 t d))) (is_at x1 e.val t d) (ffn_at x0 x2 x3 e _ _ (first_at x2 e h2) (second_at x3 e h3) t d))

/-- One expert after the other. -/
def nest (t : Fin 8192) (d : Fin 2048) : (n : ℕ) → n ≤ 8 → EReal
  | 0, _ => 0
  | n + 1, h => pick (x1 (Idealize.ShloMosaic.ix1 t)) n (ffn x0 x2 x3 ⟨n, h⟩ t d) (nest t d n (by omega))

/-- The reference's result. -/
theorem whole (t : Fin 8192) (d : Fin 2048) : val_main_v99 (F := Ideal) x0 x1 x2 x3 (ix2 t d) = nest x0 x1 x2 x3 t d 8 le_rfl := by
  have s (n : ℕ) (h : n + 1 ≤ 8) (w : FVec Ideal S8192x2048 .f32) (hw : w (ix2 t d) = nest x0 x1 x2 x3 t d n (by omega)) :=
    fun h2 h3 => (stage x0 x1 x2 x3 ⟨n, h⟩ h2 h3 w t d).trans (congrArg (pick (x1 (Idealize.ShloMosaic.ix1 t)) n (ffn x0 x2 x3 ⟨n, h⟩ t d)) hw)
  have s0 : val_main_v3 (F := Ideal) (ix2 t d) = nest x0 x1 x2 x3 t d 0 (by omega) := by
    unfold nest
    pointwise [val_main_v3, val_main_cst]
  have s1 := s 0 (by omega) (val_main_v3 (F := Ideal)) s0 slices_S8x2048x4096_S1x2048x4096_0_0_0 slices_S8x4096x2048_S1x4096x2048_0_0_0
  have s2 := s 1 (by omega) (val_main_v15 (F := Ideal) x0 x1 x2 x3) s1 slices_S8x2048x4096_S1x2048x4096_1_0_0 slices_S8x4096x2048_S1x4096x2048_1_0_0
  have s3 := s 2 (by omega) (val_main_v27 (F := Ideal) x0 x1 x2 x3) s2 slices_S8x2048x4096_S1x2048x4096_2_0_0 slices_S8x4096x2048_S1x4096x2048_2_0_0
  have s4 := s 3 (by omega) (val_main_v39 (F := Ideal) x0 x1 x2 x3) s3 slices_S8x2048x4096_S1x2048x4096_3_0_0 slices_S8x4096x2048_S1x4096x2048_3_0_0
  have s5 := s 4 (by omega) (val_main_v51 (F := Ideal) x0 x1 x2 x3) s4 slices_S8x2048x4096_S1x2048x4096_4_0_0 slices_S8x4096x2048_S1x4096x2048_4_0_0
  have s6 := s 5 (by omega) (val_main_v63 (F := Ideal) x0 x1 x2 x3) s5 slices_S8x2048x4096_S1x2048x4096_5_0_0 slices_S8x4096x2048_S1x4096x2048_5_0_0
  have s7 := s 6 (by omega) (val_main_v75 (F := Ideal) x0 x1 x2 x3) s6 slices_S8x2048x4096_S1x2048x4096_6_0_0 slices_S8x4096x2048_S1x4096x2048_6_0_0
  exact s 7 (by omega) (val_main_v87 (F := Ideal) x0 x1 x2 x3) s7 slices_S8x2048x4096_S1x2048x4096_7_0_0 slices_S8x4096x2048_S1x4096x2048_7_0_0

end Cert.Values.Reference

end
-- ==== Proof.Slots.lean ====
/-
  The devices, semaphores and buffers of the two exchanges of tokens: the partner of a device; per device and call one barrier
  cell, four send cells and four receive cells; the slots of the buffers that are sent and received.
  The calls are numbered: 0 is the gather, 1 the scatter. The exchange of the assignments has its own cells, in
  `Exchange/Proto`.
-/
module

public import proofs.«01_k».proof.Proof.Gen.KernelIdeal.Regions
public import Idealize.ShloMosaic.Lib.Rounds
public import Idealize.ShloMosaic.Lib.Memref
public import Idealize.ShloMosaic.Lib.VecWindow
public import Idealize.ShloMosaic.Lib.Pipeline.Kit

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- Three resource algebras: the pipelines' own, that of the two exchanges of tokens, and that of the exchange of the assignments. -/
abbrev UU : Type := UR sig nD τ × (UR sig nD τ × UR sig nD τ)

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := (Emb.inl : Emb (UR sig nD τ) (UR sig nD τ × UR sig nD τ)).trans embR
abbrev EX : Emb (UR sig nD τ) (MT nD τ sig Unit (Elt F) ℕ UU ℕ) := (Emb.inr : Emb (UR sig nD τ) (UR sig nD τ × UR sig nD τ)).trans embR

/-! ## Devices and semaphores -/

/-- The device a device exchanges with: the other one along the second mesh axis. -/
noncomputable def pr (c : Dev nD) : Dev nD := ⟨c.val / 4 * 4 + (1 - c.val / 2 % 2) * 2 + c.val % 2, by have h : c.val < 8 := c.isLt; show _ < 8; omega⟩

theorem pr_pr (c : Dev nD) : pr (pr c) = c := by revert c; decide

/-- Going to the partner, as a bijection. -/
noncomputable def swap : Dev nD ≃ Dev nD := ⟨pr, pr, pr_pr, pr_pr⟩

/-- The barrier semaphore of call `a`: 1 for the gather, 2 for the scatter; 0 is the exchange of the assignments'. -/
noncomputable def barS (a : Fin 2) : Sem sig := ⟨a.val + 1, by have := a.isLt; show a.val + 1 < 3; omega⟩
/-- The semaphore of call `a`'s `k`-th send. -/
noncomputable def sendS (a : Fin 2) (k : Fin 4) : DmaSem sig := ⟨10 + 22 * a.val + k.val, by have := a.isLt; have := k.isLt; show _ < 40; omega⟩
/-- The semaphore of call `a`'s `k`-th receive. -/
noncomputable def recvS (a : Fin 2) (k : Fin 4) : DmaSem sig := ⟨14 + 22 * a.val + k.val, by have := a.isLt; have := k.isLt; show _ < 40; omega⟩

noncomputable abbrev barCell (a : Fin 2) (c : Dev nD) : GSem nD τ sig := ((c : Thread nD τ), .reg (barS a))
noncomputable abbrev sendCell (a : Fin 2) (c : Dev nD) (k : Fin 4) : GSem nD τ sig := ((c : Thread nD τ), .dma (sendS a k))
noncomputable abbrev recvCell (a : Fin 2) (c : Dev nD) (k : Fin 4) : GSem nD τ sig := ((c : Thread nD τ), .dma (recvS a k))

/-! ## Slots -/

/-- The box of one slot. -/
noncomputable abbrev box (off : Fin 3 → Nat) (h : ∀ a, off a + S1x1024x2048.size a ≤ S4x1024x2048.size a) : Rect S4x1024x2048 :=
  Rect.unit (s := S4x1024x2048) off S1x1024x2048.size h

/-- One slot of a buffer of four, as a matrix. -/
noncomputable abbrev slotOf (M : Memref sig .tc .vmem S4x1024x2048 .bf16) (off : Fin 3 → Nat)
    (h : ∀ a, off a + S1x1024x2048.size a ≤ S4x1024x2048.size a) : Memref sig .tc .vmem S1024x2048 .bf16 :=
  (M.slice (box off h) (fun _ => rfl)).squeeze S1024x2048 squeezes_S1x1024x2048_S1024x2048

theorem inb (k : Fin 4) : ∀ a, (![k.val, 0, 0] : Fin 3 → Nat) a + S1x1024x2048.size a ≤ S4x1024x2048.size a := by
  revert k; decide

/-- A buffer of a device held at `X`. -/
abbrev has (c : Dev nD) {s : Shape} {e : EltTy} (M : Memref sig .tc .vmem s e) (X : s.Idx → Elt F e) : sProp 𝕄 :=
  owns (c : Thread nD τ) M fullShare X
/-- A buffer of a device held at contents not named. -/
noncomputable def free (c : Dev nD) {s : Shape} {e : EltTy} (M : Memref sig .tc .vmem s e) : sProp 𝕄 := iprop(∃ X : s.Idx → Elt F e, has c M X)

instance free_storable (c : Dev nD) {s : Shape} {e : EltTy} (M : Memref sig .tc .vmem s e) :
    BI.Storable (upEmb : UEmb _ 𝕄) (free c M) := by unfold free; infer_instance

/-- The device owes `O`, whatever it has waited for. -/
def ow (c : Dev nD) (O : CellTallies nD τ sig Unit) : sProp 𝕄 := iprop(∃ W, owes (c : Thread nD τ) O W)

/-- One of each of four. -/
def four (P : Fin 4 → sProp 𝕄) : sProp 𝕄 := iprop(P 0 ∗ P 1 ∗ P 2 ∗ P 3)
theorem four_eq (P : Fin 4 → sProp 𝕄) : bigSep (Finset.univ : Finset (Fin 4)) P = four P := by
  unfold four
  rw [show (Finset.univ : Finset (Fin 4)) = {0, 1, 2, 3} from rfl,
    bigSep_insert (by decide), bigSep_insert (by decide), bigSep_insert (by decide), bigSep_singleton]
  rfl
theorem four_sep (P Q : Fin 4 → sProp 𝕄) : four (fun k => iprop(P k ∗ Q k)) = iprop(four P ∗ four Q) := by
  rw [← four_eq, ← four_eq, ← four_eq, bigSep_sep']
theorem four_mono {P Q : Fin 4 → sProp 𝕄} (h : ∀ k, P k ⊢ Q k) : four P ⊢ four Q := by
  rw [← four_eq, ← four_eq]; exact bigSep_mono fun k _ => h k

/-! ## The buffers that travel -/

/-- Slot `k` of the buffer the scatter's sends read. -/
noncomputable abbrev Scatter.stM (k : Fin 4) : Memref sig .tc .vmem S1024x2048 .bf16 := slotOf (Memref.whole cc3_scratch1) ![k.val, 0, 0] (inb k)
/-- Slot `k` of the buffer the partner's sends land in, in the scatter. -/
noncomputable abbrev Scatter.rvM (k : Fin 4) : Memref sig .tc .vmem S1024x2048 .bf16 := slotOf (Memref.whole cc3_scratch2) ![k.val, 0, 0] (inb k)
/-- Slot `k` of the buffer the partner's sends land in, in the gather. -/
noncomputable abbrev Gather.rvM (k : Fin 4) : Memref sig .tc .vmem S1024x2048 .bf16 := slotOf (Memref.whole cc1_scratch1) ![k.val, 0, 0] (inb k)

theorem Gather.inbX (k : Fin 4) : ∀ a, (![1024 * k.val, 0] : Fin 2 → Nat) a + S1024x2048.size a ≤ S4096x2048.size a := by
  revert k; decide
/-- The `k`-th block of a device's own tokens. -/
noncomputable abbrev Gather.rowBox (k : Fin 4) : Rect S4096x2048 := Rect.unit (s := S4096x2048) ![1024 * k.val, 0] S1024x2048.size (Gather.inbX k)
noncomputable abbrev Gather.srM (k : Fin 4) : Memref sig .tc .hbm S1024x2048 .bf16 := (Memref.whole main_arg0).slice (Gather.rowBox k) (fun _ => rfl)

/-- What one block's transfer counts. -/
noncomputable abbrev N : ℕ := (Scatter.rvM 0).view.dmaCredit
theorem N_pos : 0 < N := View.dmaCredit_pos _ (by decide)
theorem Scatter.N_rv (k : Fin 4) : (Scatter.rvM k).view.dmaCredit = N := by revert k; decide
theorem Scatter.N_st (k : Fin 4) : (Scatter.stM k).view.dmaCredit = N := by revert k; decide
theorem Gather.N_rv (k : Fin 4) : (Gather.rvM k).view.dmaCredit = N := by revert k; decide
theorem Gather.N_sr (k : Fin 4) : (Gather.srM k).view.dmaCredit = N := by revert k; decide

end Cert.KernelIdeal.Talk

end
-- ==== Proof.Proto.lean ====
/-
  The protocol of the two exchanges of tokens: what every semaphore is raised by and what each raise hands over.

  * barrier cell of a device: one unit, by the partner, which hands over its own four receive slots (the device will
    write into them) and that their receive cells are in their first round;
  * send cell `k` of a device: one block's amount, by the device's own transfer, which gives back what it read;
  * receive cell `k` of a device: one block's amount, by the partner's transfer: the receive slot, now at what the
    partner sent.
-/
module

public import proofs.«01_k».proof.Proof.Slots

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- What every device sends as its `k`-th block, in the gather and in the scatter. -/
structure Sent (F : FTy → Type) where
  g : Dev nD → Fin 4 → FVec F S1024x2048 .bf16
  s : Dev nD → Fin 4 → FVec F S1024x2048 .bf16

/-- The share of the tokens the gather's transfers read through; the pipeline holds the other half. -/
abbrev halfR : PosShare TreeShare := fullShare.right
abbrev halfL : PosShare TreeShare := fullShare.left

/-- The receive slot of call `a`. -/
def land (a : Fin 2) (c : Dev nD) (k : Fin 4) : sProp 𝕄 := match a with
  | 0 => free c (Gather.rvM k)
  | 1 => free c (Scatter.rvM k)
/-- One receive slot of a device, ready to be written by the partner. -/
def door (a : Fin 2) (c : Dev nD) (k : Fin 4) : sProp 𝕄 := iprop(land a c k ∗ reached ER (recvCell a c k) 0)
/-- What the barrier's unit hands a device: the partner's four receive slots. -/
def barPay (a : Fin 2) (c : Dev nD) : sProp 𝕄 := bigSep Finset.univ fun k : Fin 4 => door a (pr c) k
/-- What the device's own transfer hands back: what it read. -/
def sendPay (sent : Sent F) (a : Fin 2) (c : Dev nD) (k : Fin 4) : sProp 𝕄 := match a with
  | 0 => owns (c : Thread nD τ) (Gather.srM k) halfR (sent.g c k)
  | 1 => free c (Scatter.stM k)
/-- What the partner's transfer hands over: the receive slot at what the partner sent. -/
def recvPay (sent : Sent F) (a : Fin 2) (c : Dev nD) (k : Fin 4) : sProp 𝕄 := match a with
  | 0 => has c (Gather.rvM k) (sent.g (pr c) k)
  | 1 => has c (Scatter.rvM k) (sent.s (pr c) k)

instance land_storable (a : Fin 2) (c : Dev nD) (k : Fin 4) : BI.Storable (upEmb : UEmb _ 𝕄) (land a c k) := by
  unfold land; match a with
  | 0 => dsimp only; infer_instance
  | 1 => dsimp only; infer_instance
instance door_storable (a : Fin 2) (c : Dev nD) (k : Fin 4) : BI.Storable (upEmb : UEmb _ 𝕄) (door a c k) := by
  unfold door; infer_instance
instance barPay_storable (a : Fin 2) (c : Dev nD) : BI.Storable (upEmb : UEmb _ 𝕄) (barPay a c) := by
  unfold barPay; infer_instance
instance sendPay_storable (sent : Sent F) (a : Fin 2) (c : Dev nD) (k : Fin 4) : BI.Storable (upEmb : UEmb _ 𝕄) (sendPay sent a c k) := by
  unfold sendPay; match a with
  | 0 => dsimp only; infer_instance
  | 1 => dsimp only; infer_instance
instance recvPay_storable (sent : Sent F) (a : Fin 2) (c : Dev nD) (k : Fin 4) : BI.Storable (upEmb : UEmb _ 𝕄) (recvPay sent a c k) := by
  unfold recvPay; match a with
  | 0 => dsimp only; infer_instance
  | 1 => dsimp only; infer_instance

/-- Which call a transfer's semaphore belongs to, -/
def callIx (s : DmaSem sig) : Fin 2 := if s.val < 18 then 0 else 1
/-- (a barrier semaphore likewise,) -/
def barIx (s : Sem sig) : Fin 2 := if s.val = 1 then 0 else 1
/-- which of the four slots it counts, -/
def slotIx (s : DmaSem sig) : Fin 4 := ⟨(if s.val < 18 then s.val - 10 else s.val - 32) % 4, Nat.mod_lt _ (by decide)⟩
/-- and whether it counts a receive. -/
abbrev IsRecv (s : DmaSem sig) : Prop := (14 ≤ s.val ∧ s.val < 18) ∨ 36 ≤ s.val

theorem bar_bar (a : Fin 2) : barIx (barS a) = a := by revert a; decide
theorem call_send (a : Fin 2) (k : Fin 4) : callIx (sendS a k) = a := by revert a k; decide
theorem call_recv (a : Fin 2) (k : Fin 4) : callIx (recvS a k) = a := by revert a k; decide
theorem slot_send (a : Fin 2) (k : Fin 4) : slotIx (sendS a k) = k := by revert a k; decide
theorem slot_recv (a : Fin 2) (k : Fin 4) : slotIx (recvS a k) = k := by revert a k; decide
theorem isRecv_send (a : Fin 2) (k : Fin 4) : ¬ IsRecv (sendS a k) := by revert a k; decide
theorem isRecv_recv (a : Fin 2) (k : Fin 4) : IsRecv (recvS a k) := by revert a k; decide

/-- The cells of the exchanges. -/
abbrev IsTalk (g : GSem nD τ sig) : Prop :=
  g.1.2 = .tc ∧ ((∃ a, g.2 = .reg (barS a)) ∨ (∃ a k, g.2 = .dma (sendS a k)) ∨ ∃ a k, g.2 = .dma (recvS a k))

/-- One raise of every cell of the exchanges, in its first round. -/
def rd (sent : Sent F) : Rounds.Schedule (GSem nD τ sig) Unit 𝕄 where
  duties g r := if r = 0 ∧ IsTalk g then {()} else ∅
  unitless _ := False
  amount g _ _ := match g.2 with
    | .reg _ => 1
    | .dma _ => N
  payload g _ _ := match g.2 with
    | .reg s => barPay (barIx s) g.1.1
    | .dma s => if IsRecv s then recvPay sent (callIx s) g.1.1 (slotIx s) else sendPay sent (callIx s) g.1.1 (slotIx s)
  amount_pos g _ _ _ := by
    cases g.2 with
    | reg _ => exact Nat.one_pos
    | dma _ => exact N_pos

instance payload_storable (sent : Sent F) (g : GSem nD τ sig) (r : ℕ) (d : Unit) :
    BI.Storable (upEmb : UEmb _ 𝕄) ((rd (F := F) sent).payload g r d) := by
  obtain ⟨⟨c, p⟩, s⟩ := g
  cases s with
  | reg s => show BI.Storable upEmb (barPay (barIx s) c); infer_instance
  | dma s =>
    show BI.Storable upEmb (if IsRecv s then recvPay sent (callIx s) c (slotIx s) else sendPay sent (callIx s) c (slotIx s))
    split <;> infer_instance

section Tables

variable (sent : Sent F) (a : Fin 2) (c : Dev nD) (k : Fin 4)

theorem duties_bar : (rd sent).duties (barCell a c) 0 = {()} := by dsimp only [rd]; exact if_pos ⟨rfl, rfl, .inl ⟨a, rfl⟩⟩
theorem duties_send : (rd sent).duties (sendCell a c k) 0 = {()} := by
  dsimp only [rd]; exact if_pos ⟨rfl, rfl, .inr (.inl ⟨a, k, rfl⟩)⟩
theorem duties_recv : (rd sent).duties (recvCell a c k) 0 = {()} := by
  dsimp only [rd]; exact if_pos ⟨rfl, rfl, .inr (.inr ⟨a, k, rfl⟩)⟩
theorem duties_later (g : GSem nD τ sig) : ∀ r, 1 ≤ r → (rd sent).duties g r = ∅ := fun r hr => by
  dsimp only [rd]; exact if_neg (fun h => by omega)

theorem payload_bar (u : Unit) : (rd sent).payload (barCell a c) 0 u = barPay a c := by
  show barPay (barIx (barS a)) c = _
  rw [bar_bar]
theorem payload_send (u : Unit) : (rd sent).payload (sendCell a c k) 0 u = sendPay sent a c k := by
  show (if IsRecv (sendS a k) then recvPay sent (callIx (sendS a k)) c (slotIx (sendS a k)) else sendPay sent (callIx (sendS a k)) c (slotIx (sendS a k))) = _
  rw [if_neg (isRecv_send a k), slot_send, call_send]
theorem payload_recv (u : Unit) : (rd sent).payload (recvCell a c k) 0 u = recvPay sent a c k := by
  show (if IsRecv (recvS a k) then recvPay sent (callIx (recvS a k)) c (slotIx (recvS a k)) else sendPay sent (callIx (recvS a k)) c (slotIx (recvS a k))) = _
  rw [if_pos (isRecv_recv a k), slot_recv, call_recv]

theorem expect_bar : (rd sent).expect (barCell a c) 0 = 1 := by
  unfold Schedule.expect Schedule.amountOf; rw [duties_bar, Finset.sum_singleton]; rfl
theorem expect_send : (rd sent).expect (sendCell a c k) 0 = N := by
  unfold Schedule.expect Schedule.amountOf; rw [duties_send, Finset.sum_singleton]; rfl
theorem expect_recv : (rd sent).expect (recvCell a c k) 0 = N := by
  unfold Schedule.expect Schedule.amountOf; rw [duties_recv, Finset.sum_singleton]; rfl

theorem rest_bar : bigSep ((rd sent).duties (barCell a c) 0 \ ∅) (fun u => (rd sent).payload (barCell a c) 0 u) = barPay a c := by
  rw [Finset.sdiff_empty, duties_bar, bigSep_singleton, payload_bar]
theorem rest_send : bigSep ((rd sent).duties (sendCell a c k) 0 \ ∅) (fun u => (rd sent).payload (sendCell a c k) 0 u) = sendPay sent a c k := by
  rw [Finset.sdiff_empty, duties_send, bigSep_singleton, payload_send]
theorem rest_recv : bigSep ((rd sent).duties (recvCell a c k) 0 \ ∅) (fun u => (rd sent).payload (recvCell a c k) 0 u) = recvPay sent a c k := by
  rw [Finset.sdiff_empty, duties_recv, bigSep_singleton, payload_recv]

/-- A cell whose one round is over gives its counter back, at zero. -/
theorem close (κ : ℕ) (g : GSem nD τ sig) :
    iprop(cellInv ER (rd sent) κ g ∗ atPos ER g (0 + 1) ∅ 0) ⊢ (|={Set.univ}=> semVal g 0 : sProp 𝕄) :=
  Rounds.cell_close ER (rd sent) (Set.mem_univ κ) id (duties_later sent g)

end Tables

/-! ## Levels -/

def L (g : GSem nD τ sig) : Finset Unit := if g.1.2 = .tc then {()} else ∅
/-- The exchange of the assignments' barrier, its receive, the gather's barrier, its receives, the scatter's barrier, its
    receives are waited for in this order; all else owes nothing to anyone. -/
def lv (g : GSem nD τ sig) (_ : Unit) : ℕ := match g.2 with
  | .reg s => 2 * s.val + 1
  | .dma s => if IsRecv s then 2 * (callIx s).val + 4 else if s.val = 3 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (a : Fin 2) (c : Dev nD) : lv (barCell a c) () = 2 * a.val + 3 := show 2 * (a.val + 1) + 1 = _ by omega
theorem lv_send (a : Fin 2) (c : Dev nD) (k : Fin 4) : lv (sendCell a c k) () = 0 := by revert a c k; decide
theorem lv_recv (a : Fin 2) (c : Dev nD) (k : Fin 4) : lv (recvCell a c k) () = 2 * a.val + 4 := by
  show (if IsRecv (recvS a k) then 2 * (callIx (recvS a k)).val + 4 else _) = _
  rw [if_pos (isRecv_recv a k), call_recv]

/-- Everything owed is owed above level `n`. -/
def above (n : ℕ) (O : CellTallies nD τ sig Unit) : Prop := ∀ g u, 0 < O g u → g.1.2 = .tc ∧ n < lv g u

theorem above_zero (n : ℕ) : above n 0 := fun _ _ h => absurd h (Nat.lt_irrefl 0)
theorem above_add {n : ℕ} {O O' : CellTallies nD τ sig Unit} (h : above n O) (h' : above n O') : above n (O + O') := fun g u hg =>
  (Nat.add_pos_iff_pos_or_pos.mp (show 0 < O g u + O' g u from hg)).elim (h g u) (h' g u)
theorem above_at {n : ℕ} (c : Dev nD) (sm : SemLoc sig) (m : ℕ) (h : n < lv ((c : Thread nD τ), sm) ()) :
    above n (tallyAt ((c : Thread nD τ), sm) () m) := fun g u hg => by
  rw [tallyAt_apply] at hg
  split at hg
  · next hh => rw [hh.1]; exact ⟨rfl, h⟩
  · exact absurd hg (Nat.lt_irrefl 0)
theorem above_mono {n n' : ℕ} {O : CellTallies nD τ sig Unit} (h : above n O) (hn : n' ≤ n) : above n' O := fun g u hg =>
  ⟨(h g u hg).1, lt_of_le_of_lt hn (h g u hg).2⟩

/-- A cell may be waited for while everything owed lies above it. -/
theorem may {n : ℕ} {O : CellTallies nD τ sig Unit} (hO : above n O) (c : Dev nD) (sm : SemLoc sig) (h : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact h)
    (fun g u hg => (hO g u hg).2)

/-! ## What a device holds of an exchange from launch -/

/-- The cells the `k`-th transfer touches. -/
def kinv (sent : Sent F) (K : GSem nD τ sig → ℕ) (a : Fin 2) (c : Dev nD) (k : Fin 4) : sProp 𝕄 :=
  iprop(cellInv ER (rd sent) (K (sendCell a c k)) (sendCell a c k) ∗ cellInv ER (rd sent) (K (recvCell a c k)) (recvCell a c k)
    ∗ cellInv ER (rd sent) (K (recvCell a (pr c) k)) (recvCell a (pr c) k))
instance kinv_persistent (sent : Sent F) (K : GSem nD τ sig → ℕ) (a : Fin 2) (c : Dev nD) (k : Fin 4) : BI.Persistent (kinv sent K a c k) := by
  unfold kinv; infer_instance
/-- The barrier cells a device touches. -/
def binv (sent : Sent F) (K : GSem nD τ sig → ℕ) (a : Fin 2) (c : Dev nD) : sProp 𝕄 :=
  iprop(cellInv ER (rd sent) (K (barCell a c)) (barCell a c) ∗ cellInv ER (rd sent) (K (barCell a (pr c))) (barCell a (pr c)))
instance binv_persistent (sent : Sent F) (K : GSem nD τ sig → ℕ) (a : Fin 2) (c : Dev nD) : BI.Persistent (binv sent K a c) := by
  unfold binv; infer_instance
/-- The cells a device touches in call `a`. -/
def cells (sent : Sent F) (K : GSem nD τ sig → ℕ) (a : Fin 2) (c : Dev nD) : sProp 𝕄 :=
  iprop(binv sent K a c ∗ kinv sent K a c 0 ∗ kinv sent K a c 1 ∗ kinv sent K a c 2 ∗ kinv sent K a c 3)
instance cells_persistent (sent : Sent F) (K : GSem nD τ sig → ℕ) (a : Fin 2) (c : Dev nD) : BI.Persistent (cells sent K a c) := by
  unfold cells; infer_instance
/-- All that is known throughout a call. -/
def known (sent : Sent F) (K : GSem nD τ sig → ℕ) (a : Fin 2) (c : Dev nD) : sProp 𝕄 := iprop(levAts L lv ∗ cells sent K a c)
instance known_persistent (sent : Sent F) (K : GSem nD τ sig → ℕ) (a : Fin 2) (c : Dev nD) : BI.Persistent (known sent K a c) := by
  unfold known; infer_instance

/-- What a device holds for its `k`-th transfers. -/
def opening (a : Fin 2) (c : Dev nD) (k : Fin 4) : sProp 𝕄 :=
  iprop(dutyTok ER (sendCell a c k) 0 () ∗ dutyTok ER (recvCell a (pr c) k) 0 () ∗ openTok ER (sendCell a c k) ∗ openTok ER (recvCell a c k)
    ∗ cred (tallyAt (recvCell a c k) () N))
/-- The barrier's share. -/
def barrier (a : Fin 2) (c : Dev nD) : sProp 𝕄 :=
  iprop(atPos ER (barCell a c) 0 ∅ 0 ∗ cred (tallyAt (barCell a c) () 1) ∗ dutyTok ER (barCell a (pr c)) 0 () ∗ reached ER (barCell a (pr c)) 0)
/-- All of it. -/
def gear (sent : Sent F) (a : Fin 2) (c : Dev nD) : sProp 𝕄 := iprop(∃ K, cells sent K a c ∗ barrier a c ∗ four (opening a c))

/-- The partner's `k`-th block not yet waited for. -/
def wanting (a : Fin 2) (c : Dev nD) (k : Fin 4) : sProp 𝕄 :=
  iprop(cred (tallyAt (recvCell a c k) () N) ∗ atPos ER (recvCell a c k) 0 ∅ 0)
/-- The `k`-th send's tokens, not yet used. -/
def unsent (a : Fin 2) (c : Dev nD) (k : Fin 4) : sProp 𝕄 :=
  iprop(atPos ER (sendCell a c k) 0 ∅ 0 ∗ reached ER (sendCell a c k) 0 ∗ dutyTok ER (sendCell a c k) 0 () ∗ dutyTok ER (recvCell a (pr c) k) 0 ())
/-- Its `k`-th transfers, their cells opened. -/
def opened (a : Fin 2) (c : Dev nD) (k : Fin 4) : sProp 𝕄 := iprop(reached ER (recvCell a c k) 0 ∗ unsent a c k ∗ wanting a c k)
/-- The exchange, its cells opened. -/
def ajar (sent : Sent F) (a : Fin 2) (c : Dev nD) : sProp 𝕄 := iprop(∃ K, known sent K a c ∗ barrier a c ∗ four (opened a c))

/-- A call's own semaphores: four for its sends, four for its receives. -/
def osem (a : Fin 2) (x : Fin 2 × Fin 4) : SemLoc sig := if x.1 = 0 then .dma (sendS a x.2) else .dma (recvS a x.2)

theorem ownSems_eq (a : Fin 2) (c : Dev nD) : (Pipeline.ownSems0 (osem a) c : sProp 𝕄)
    = iprop(four (fun k => semVal (sendCell a c k) 0) ∗ four (fun k => semVal (recvCell a c k) 0)) := by
  unfold Pipeline.ownSems0
  rw [bigSep_univ_prod, BI.bigSep_fin_two, ← four_eq, ← four_eq]
  rfl

theorem open_one (sent : Sent F) (K : GSem nD τ sig → ℕ) (a : Fin 2) (c : Dev nD) (k : Fin 4) :
    iprop(kinv sent K a c k ∗ opening a c k ∗ semVal (sendCell a c k) 0 ∗ semVal (recvCell a c k) 0) ⊢ (|={Set.univ}=> opened a c k : sProp 𝕄) := by
  unfold kinv opening
  iintro ⟨⟨#HIs, #HIr, -⟩, ⟨Ht, Ht', Hos, Hor, Hc⟩, Hs0, Hr0⟩
  imod (Rounds.cell_open ER (rd sent) (g := sendCell a c k) (Set.mem_univ (K (sendCell a c k)))) $$ [Hos Hs0] with ⟨Has, #Hrs⟩
  · isplitr; · iexact HIs
    isplitl [Hos] <;> iassumption
  imod (Rounds.cell_open ER (rd sent) (g := recvCell a c k) (Set.mem_univ (K (recvCell a c k)))) $$ [Hor Hr0] with ⟨Har, #Hrr⟩
  · isplitr; · iexact HIr
    isplitl [Hor] <;> iassumption
  imodintro
  unfold opened unsent wanting
  isplitr; · iexact Hrr
  isplitl [Has Ht Ht']
  · isplitl [Has]; · iexact Has
    isplitr; · iexact Hrs
    isplitl [Ht] <;> iassumption
  isplitl [Hc] <;> iassumption

theorem open_all (sent : Sent F) (a : Fin 2) (c : Dev nD) :
    iprop(gear sent a c ∗ Pipeline.ownSems0 (osem a) c ∗ levAts L lv) ⊢ (|={Set.univ}=> ajar sent a c : sProp 𝕄) := by
  rw [ownSems_eq]
  unfold gear ajar
  iintro ⟨⟨%K, #HC, HB, HO⟩, ⟨HS, HR⟩, #Hlev⟩
  unfold cells four
  icases HC with ⟨#Hb, #I0, #I1, #I2, #I3⟩
  icases HO with ⟨O0, O1, O2, O3⟩
  icases HS with ⟨S0, S1, S2, S3⟩
  icases HR with ⟨R0, R1, R2, R3⟩
  imod (open_one sent K a c 0) $$ [O0 S0 R0] with P0
  · isplitr; · iexact I0
    isplitl [O0]; · iexact O0
    isplitl [S0] <;> iassumption
  imod (open_one sent K a c 1) $$ [O1 S1 R1] with P1
  · isplitr; · iexact I1
    isplitl [O1]; · iexact O1
    isplitl [S1] <;> iassumption
  imod (open_one sent K a c 2) $$ [O2 S2 R2] with P2
  · isplitr; · iexact I2
    isplitl [O2]; · iexact O2
    isplitl [S2] <;> iassumption
  imod (open_one sent K a c 3) $$ [O3 S3 R3] with P3
  · isplitr; · iexact I3
    isplitl [O3]; · iexact O3
    isplitl [S3] <;> iassumption
  imodintro
  iexists K
  isplitr
  · unfold known cells
    isplitr; · iexact Hlev
    isplitr; · iexact Hb
    isplitr; · iexact I0
    isplitr; · iexact I1
    isplitr; · iexact I2
    iexact I3
  isplitl [HB]; · iexact HB
  isplitl [P0]; · iexact P0
  isplitl [P1]; · iexact P1
  isplitl [P2]; · iexact P2
  iexact P3

/-! ## The barrier -/

/-- What a device brings to a call's barrier: its share of it, and its own four receive slots. -/
def start (a : Fin 2) (c : Dev nD) : sProp 𝕄 := iprop(barrier a c ∗ bigSep Finset.univ fun k => door a c k)

end Cert.KernelIdeal.Talk

end
-- ==== Proof.Steps.lean ====
/-
  Reading and writing a whole buffer, and one slot of a buffer of four; the signals, sends and waits of the two
  exchanges; and what is owed when.
-/
module

public import proofs.«01_k».proof.Proof.Proto
public import Idealize.ShloMosaic.Lib.Pipeline.Value

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- A run of a piece of the kernel's body on device `c`. -/
abbrev WP (c : Dev nD) {α : Type} (p : Prog (TpuEff nD τ sig (Elt F) Λ₀ .tc) α) (Q : α → sProp 𝕄) : sProp 𝕄 :=
  wp frame (wpE (defs₀ (F := F)) 𝒱₀ c none) Set.univ p Q

/-- Loading all of a buffer yields what it holds. -/
theorem load_all (c : Dev nD) {Q : PUnit → sProp 𝕄} {s : Shape} {e : EltTy} (M : Memref sig .tc .vmem s e) (X : s.Idx → Elt F e) {off : Fin s.rank → Nat}
    {inb : ∀ a, off a + s.size a ≤ s.size a} {hl : M.view.LoadsAt (Rect.unit (s := s) off s.size inb).toLoadRect}
    {k : (s.Idx → Elt F e) → Prog (TpuEff nD τ sig (Elt F) Λ₀ .tc) PUnit} :
    (owns (c : Thread nD τ) M fullShare X : sProp 𝕄)
      ⊢ iprop((owns (c : Thread nD τ) M fullShare X -∗ WP c (k X) Q)
          -∗ WP c (.op (.load M (Rect.unit (s := s) off s.size inb).toLoadRect hl) k) Q) := by
  unfold owns
  iintro ⟨%f, %hf, H⟩ Hk
  iapply (wp_load 𝒱₀ (c : Thread nD τ) none Set.univ (m := M) (S := M.view.set) (q := fullShare) (f := f) (hl := hl)
    (M.view.setOn_subset_set _)) $$ H
  iintro H
  rw [View.readAt_full M.view f inb, hf]
  iapply Hk
  iexists f
  isplitr; · ipureintro; exact hf
  iexact H

/-- Storing all of a buffer leaves what was stored. -/
theorem store_all (c : Dev nD) {Q : PUnit → sProp 𝕄} {s : Shape} {e : EltTy} (M : Memref sig .tc .vmem s e) (X w : s.Idx → Elt F e) {off : Fin s.rank → Nat}
    {inb : ∀ a, off a + s.size a ≤ s.size a} {hx : (M.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ₀ .tc) PUnit} :
    (owns (c : Thread nD τ) M fullShare X : sProp 𝕄)
      ⊢ iprop((owns (c : Thread nD τ) M fullShare w -∗ WP c (k ⟨⟩) Q)
          -∗ WP c (.op (.store M (Rect.unit (s := s) off s.size inb) w Finset.univ hx hm) k) Q) := by
  unfold owns
  iintro ⟨%f, %hf, H⟩ Hk
  iapply (wp_store 𝒱₀ (c : Thread nD τ) none Set.univ (m := M) (S := M.view.set) (f := f) (w := w) (hx := hx) (hm := hm)
    (M.view.set_slice_subset _)) $$ H
  iintro H
  iapply Hk
  iexists _
  isplitr
  swap; · iexact H
  ipureintro
  funext y
  have hy : (Rect.unit (s := s) off s.size inb).emb y = y := funext fun a => Fin.ext (by
    show off a + 1 * (y a).val = (y a).val
    have := inb a; omega)
  have h := View.read_slice_write_emb (v := M.view) (Rect.unit (s := s) off s.size inb) f w (M := Finset.univ) (x := y) (Finset.mem_univ _)
  rw [hy] at h
  exact h

/-- What a slot reads of its buffer's contents: the box's reading, its leading dimension dropped. -/
theorem read_slot (M : Memref sig .tc .vmem S4x1024x2048 .bf16) {off : Fin 3 → Nat}
    {h : ∀ a, off a + S1x1024x2048.size a ≤ S4x1024x2048.size a} (f : M.view.ty.Contents (Elt F)) :
    (slotOf M off h).view.read (Elt F) f
      = shapeCast (s := S1x1024x2048) S1024x2048 ((M.access (box off h)).read (Elt F) f) shapeCasts_S1x1024x2048_S1024x2048 := rfl

/-- Loading one slot yields what it holds, with a leading dimension of one. -/
theorem load_slot (c : Dev nD) {Q : PUnit → sProp 𝕄} (M : Memref sig .tc .vmem S4x1024x2048 .bf16) {off : Fin 3 → Nat}
    {h : ∀ a, off a + S1x1024x2048.size a ≤ S4x1024x2048.size a} (X : FVec F S1024x2048 .bf16)
    {hl : M.view.LoadsAt (box off h).toLoadRect} {k : Vec F S1x1024x2048 .bf16 → Prog (TpuEff nD τ sig (Elt F) Λ₀ .tc) PUnit} :
    (has c (slotOf M off h) X : sProp 𝕄)
      ⊢ iprop((has c (slotOf M off h) X -∗ WP c (k (shapeCast S1x1024x2048 X shapeCasts_S1024x2048_S1x1024x2048)) Q)
          -∗ WP c (.op (.load M (box off h).toLoadRect hl) k) Q) := by
  unfold has owns
  iintro ⟨%f, %hf, H⟩ Hk
  iapply (wp_load_rect 𝒱₀ (c : Thread nD τ) none Set.univ (m := M) (r := box off h) (S := (slotOf M off h).view.set)
    (q := fullShare) (f := f) (hl := hl) (subset_of_eq (View.set_reshape (M.access (box off h)) _).symm)) $$ H
  iintro H
  have e : shapeCast S1x1024x2048 X shapeCasts_S1024x2048_S1x1024x2048 = (M.access (box off h)).read (Elt F) f := by
    rw [← hf, read_slot]
    exact shapeCast_shapeCast (s := S1x1024x2048) (t := S1024x2048) _ _ _
  rw [e]
  iapply Hk
  iexists f
  isplitr; · ipureintro; exact hf
  iexact H

/-- Storing one slot leaves what was stored, its leading dimension dropped. -/
theorem store_slot (c : Dev nD) {Q : PUnit → sProp 𝕄} (M : Memref sig .tc .vmem S4x1024x2048 .bf16) {off : Fin 3 → Nat}
    {h : ∀ a, off a + S1x1024x2048.size a ≤ S4x1024x2048.size a} (X : FVec F S1024x2048 .bf16) (w : FVec F S1x1024x2048 .bf16)
    {hx : (M.access (box off h)).Stores Finset.univ}
    {hm : (Finset.univ : Finset (box off h).shape.Idx) = Finset.univ ∨ ∀ a, (box off h).stride a = 1}
    {k : PUnit → Prog (TpuEff nD τ sig (Elt F) Λ₀ .tc) PUnit} :
    (has c (slotOf M off h) X : sProp 𝕄)
      ⊢ iprop((has c (slotOf M off h) (shapeCast S1024x2048 w shapeCasts_S1x1024x2048_S1024x2048) -∗ WP c (k ⟨⟩) Q)
          -∗ WP c (.op (.store M (box off h) w Finset.univ hx hm) k) Q) := by
  unfold has owns
  iintro ⟨%f, %hf, H⟩ Hk
  iapply (wp_store 𝒱₀ (c : Thread nD τ) none Set.univ (m := M) (r := box off h) (S := (slotOf M off h).view.set) (f := f) (w := w) (hx := hx) (hm := hm)
    (subset_of_eq (View.set_reshape (M.access (box off h)) _).symm)) $$ H
  iintro H
  iapply Hk
  iexists _
  isplitr
  swap; · iexact H
  ipureintro
  rw [read_slot, View.read_write_univ]

/-! ## Signals, sends and waits of the two exchanges of tokens -/

/-- A piece of a kernel's body. -/
abbrev Piece (F : FTy → Type) : Type 1 := Prog (TpuEff nD τ sig (Elt F) Λ₀ .tc) PUnit

/-- Raise a device's barrier and wait for one's own. -/
def meet (dv : Dev nD) (s : Sem sig) (rest : Piece F) : Piece F :=
  Prog.op (.semSignal ((dv, .tc) : Thread nD τ) s ((1#32 : BitVec 32).toInt)) fun _ =>
  Prog.op (.semWait s ((1#32 : BitVec 32).toInt)) fun _ => rest

/-- The barrier: hand the partner one's own receive slots, get the partner's. -/
theorem meet_run (sent : Sent F) (K : GSem nD τ sig → ℕ) (a : Fin 2) (c : Dev nD) (R : CellTallies nD τ sig Unit) (hR : above (2 * a.val + 3) R)
    (Q : PUnit → sProp 𝕄) {dv : Dev nD} (hd : dv = pr c) {s : Sem sig} (hs : s = barS a) {rest : Piece F} :
    iprop(known sent K a c ∗ start a c ∗ ow c (R + tallyAt (barCell a (pr c)) () 1)
        ∗ ((four (door a (pr c)) ∗ semVal (barCell a c) 0 ∗ ow c R) -∗ WP c rest Q))
      ⊢ WP c (meet dv s rest) Q := by
  subst hd hs
  unfold meet known cells binv start barrier ow
  iintro ⟨⟨#Hlv, ⟨#HI, #HIp⟩, -⟩, ⟨⟨Hat, Hc, Ht, #Hr⟩, Hd⟩, ⟨%W, HO⟩, Hk⟩
  iapply (Rounds.wp_signal 𝒱₀ ER (rd sent) (c : Thread nD τ) none (dst := (pr c : Thread nD τ)) (sem := barS a) (r := 0) (d := ()) (κ := K (barCell a (pr c)))
    (by rw [duties_bar]; exact Finset.mem_singleton_self _) rfl () R rfl) $$ [HO Ht Hd]
  · isplitr; · iexact HIp
    isplitl [HO]; · iexact HO
    isplitl [Ht]; · iexact Ht
    isplitl [Hd]
    · rw [payload_bar]
      unfold barPay; rw [pr_pr]; iexact Hd
    iexact Hr
  iintro HO
  ihave #Hmay := (may hR c (.reg (barS a)) (le_of_eq (lv_bar a c))) $$ Hlv
  iapply (Rounds.wp_wait_rest_token 𝒱₀ ER (rd sent) (c : Thread nD τ) none (κ := K (barCell a c))
    (wpE_semWait_eq 𝒱₀ (c : Thread nD τ) none Set.univ) (Set.mem_univ _) () (O := R) (W := W) (R := 0) (m := 0) (T := ∅)
    ((Nat.zero_add _).trans (expect_bar sent a c).symm)) $$ [Hc HO Hat]
  · isplitr; · iexact HI
    isplitl [Hc]; · iexact Hc
    isplitl [HO]; · iexact HO
    isplitr; · iexact Hmay
    iexact Hat
  iintro ⟨HO, Hat, -, Hpay⟩
  ihave Hp := (Entails.of_eq (rest_bar sent a c)) $$ Hpay
  iapply fupd_wp
  imod (close sent (K (barCell a c)) (barCell a c)) $$ [Hat] with Hv
  · isplitr; · iexact HI
    iexact Hat
  imodintro
  iapply Hk
  isplitl [Hp]
  · unfold barPay
    ihave Hp := (Entails.of_eq (four_eq _)) $$ Hp
    iexact Hp
  isplitl [Hv]; · iexact Hv
  iexists _; iexact HO

/-- The `k`-th send issued, not yet waited for. -/
def flying (a : Fin 2) (c : Dev nD) (k : Fin 4) : sProp 𝕄 :=
  iprop(cred (tallyAt (sendCell a c k) () N) ∗ atPos ER (sendCell a c k) 0 ∅ 0)

/-- Issuing the `k`-th transfer: the partner's slot and what is read go with it. -/
theorem send_run (sent : Sent F) (K : GSem nD τ sig → ℕ) (a : Fin 2) (c : Dev nD) (k : Fin 4) (R : CellTallies nD τ sig Unit)
    (Q : PUnit → sProp 𝕄) {sp : Space} {src : Memref sig .tc sp S1024x2048 .bf16} {dst : Memref sig .tc .vmem S1024x2048 .bf16}
    {q : PosShare TreeShare} {X : FVec F S1024x2048 .bf16}
    (hland : (land a (pr c) k : sProp 𝕄) = free (pr c) dst) (hN : dst.view.dmaCredit = N)
    (hsend : (owns (c : Thread nD τ) src q X : sProp 𝕄) ⊢ sendPay sent a c k)
    (hrecv : (has (pr c) dst X : sProp 𝕄) ⊢ recvPay sent a (pr c) k)
    {dv : Dev nD} (hd : dv = pr c) {sS rS : DmaSem sig} (hS : sS = sendS a k) (hR : rS = recvS a k)
    {hw1 : src.view.WordExact} {hw2 : dst.view.WordExact} {hx} {rest : Piece F} :
    iprop(kinv sent K a c k ∗ unsent a c k ∗ owns (c : Thread nD τ) src q X ∗ door a (pr c) k ∗ ow c (R + tallyAt (recvCell a (pr c) k) () N)
        ∗ ((flying a c k ∗ ow c R) -∗ WP c rest Q))
      ⊢ WP c (Prog.op (.enqueueDma src (.remote (Dev.tc dv) dst (.dma sS)) (.dma rS) hw1 hw2 hx) fun _ => rest) Q := by
  subst hd hS hR
  unfold kinv unsent door ow
  rw [hland]
  unfold free
  iintro ⟨⟨#HIs, -, #HIr⟩, ⟨Hat, #Hrs, Hts, Htr⟩, Hsrc, ⟨⟨%Z, Hrv⟩, #Hrr⟩, ⟨%W, HO⟩, Hk⟩
  unfold has owns
  icases Hsrc with ⟨%fs, %hfs, Hst⟩
  icases Hrv with ⟨%fd, %hfd, Hrv⟩
  iapply (Rounds.wp_send_pointsTo 𝒱₀ ER (rd sent) (c : Thread nD τ) none (c' := (pr c : Thread nD τ)) (src := src) (dst := dst)
    (sS := .dma (sendS a k)) (sem := .dma (recvS a k)) (q := q) (fs := fs) (fd := fd) (κ₁ := K (sendCell a c k)) (κ₂ := K (recvCell a (pr c) k))
    (r₁ := 0) (r₂ := 0) (d₁ := ()) (d₂ := ())
    (by rw [duties_send]; exact Finset.mem_singleton_self _) (by rw [duties_recv]; exact Finset.mem_singleton_self _)
    () () N hN rfl rfl R rfl (W := W)
    (by rw [payload_send]; refine BIBase.Entails.trans ?_ hsend; unfold owns; iintro H; iexists fs; isplitr; · ipureintro; exact hfs
        iexact H)
    (by rw [payload_recv]; refine BIBase.Entails.trans ?_ hrecv; unfold has owns; iintro H; iexists _; isplitr
        swap; · iexact H
        ipureintro; rw [View.read_write_univ, hfs])) $$ [Hst Hrv HO Hts Htr]
  · isplitr; · iexact HIs
    isplitr; · iexact HIr
    isplitl [Hst]; · iexact Hst
    isplitl [Hrv]; · iexact Hrv
    isplitl [HO]; · iexact HO
    isplitl [Hts]; · iexact Hts
    isplitr; · iexact Hrs
    isplitl [Htr]; · iexact Htr
    iexact Hrr
  iintro ⟨Hc, HO⟩
  iapply Hk
  isplitl [Hc Hat]
  · unfold flying; isplitl [Hc] <;> iassumption
  iexists W; iexact HO

/-- Waiting for the partner's `k`-th block. -/
theorem recv_run (sent : Sent F) (K : GSem nD τ sig → ℕ) (a : Fin 2) (c : Dev nD) (k : Fin 4) (O : CellTallies nD τ sig Unit) (hO : above (2 * a.val + 4) O)
    (Q : PUnit → sProp 𝕄) {sp sp' : Space} {src : Memref sig .tc sp S1024x2048 .bf16} {dst : Memref sig .tc sp' S1024x2048 .bf16}
    (hN : dst.view.dmaCredit = N) {rS : DmaSem sig} (hR : rS = recvS a k)
    {hw1 : src.view.WordExact} {hw2 : dst.view.WordExact} {rest : Piece F} :
    iprop(levAts L lv ∗ kinv sent K a c k ∗ wanting a c k ∗ ow c O ∗ ((recvPay sent a c k ∗ semVal (recvCell a c k) 0 ∗ ow c O) -∗ WP c rest Q))
      ⊢ WP c (Prog.op (.waitDma2 rS src dst hw1 hw2) fun _ => rest) Q := by
  subst hR
  unfold kinv wanting ow
  iintro ⟨#Hlv, ⟨-, #HIr, -⟩, ⟨Hc, Hat⟩, ⟨%W, HO⟩, Hk⟩
  ihave #Hmay := (may hO c (.dma (recvS a k)) (le_of_eq (lv_recv a c k))) $$ Hlv
  iapply (Rounds.wp_wait_rest_token 𝒱₀ ER (rd sent) (c : Thread nD τ) none (κ := K (recvCell a c k))
    (wpE_waitDma2_eq 𝒱₀ (c : Thread nD τ) none Set.univ) (Set.mem_univ _) () (O := O) (W := W) (R := 0) (m := 0) (T := ∅)
    ((Nat.zero_add _).trans (hN.trans (expect_recv sent a c k).symm))) $$ [Hc HO Hat]
  · isplitr; · iexact HIr
    isplitl [Hc]; · rw [hN]; iexact Hc
    isplitl [HO]; · iexact HO
    isplitr; · iexact Hmay
    iexact Hat
  iintro ⟨HO, Hat, -, Hpay⟩
  ihave Hrv := (Entails.of_eq (rest_recv sent a c k)) $$ Hpay
  iapply fupd_wp
  imod (close sent (K (recvCell a c k)) (recvCell a c k)) $$ [Hat] with Hv
  · isplitr; · iexact HIr
    iexact Hat
  imodintro
  iapply Hk
  isplitl [Hrv]; · iexact Hrv
  isplitl [Hv]; · iexact Hv
  iexists _; iexact HO

/-- Waiting for the device's own `k`-th send gives back what it read. -/
theorem sent_run (sent : Sent F) (K : GSem nD τ sig → ℕ) (a : Fin 2) (c : Dev nD) (k : Fin 4) (O : CellTallies nD τ sig Unit) (hO : above 0 O)
    (Q : PUnit → sProp 𝕄) {sp sp' : Space} {src : Memref sig .tc sp S1024x2048 .bf16} {dst : Memref sig .tc sp' S1024x2048 .bf16}
    (hN : dst.view.dmaCredit = N) {sS : DmaSem sig} (hS : sS = sendS a k)
    {hw1 : src.view.WordExact} {hw2 : dst.view.WordExact} {rest : Piece F} :
    iprop(levAts L lv ∗ kinv sent K a c k ∗ flying a c k ∗ ow c O ∗ ((sendPay sent a c k ∗ semVal (sendCell a c k) 0 ∗ ow c O) -∗ WP c rest Q))
      ⊢ WP c (Prog.op (.waitDma2 sS src dst hw1 hw2) fun _ => rest) Q := by
  subst hS
  unfold kinv flying ow
  iintro ⟨#Hlv, ⟨#HIs, -, -⟩, ⟨Hc, Hat⟩, ⟨%W, HO⟩, Hk⟩
  ihave #Hmay := (may hO c (.dma (sendS a k)) (le_of_eq (lv_send a c k))) $$ Hlv
  iapply (Rounds.wp_wait_rest_token 𝒱₀ ER (rd sent) (c : Thread nD τ) none (κ := K (sendCell a c k))
    (wpE_waitDma2_eq 𝒱₀ (c : Thread nD τ) none Set.univ) (Set.mem_univ _) () (O := O) (W := W) (R := 0) (m := 0) (T := ∅)
    ((Nat.zero_add _).trans (hN.trans (expect_send sent a c k).symm))) $$ [Hc HO Hat]
  · isplitr; · iexact HIs
    isplitl [Hc]; · rw [hN]; iexact Hc
    isplitl [HO]; · iexact HO
    isplitr; · iexact Hmay
    iexact Hat
  iintro ⟨HO, Hat, -, Hpay⟩
  ihave Hst := (Entails.of_eq (rest_send sent a c k)) $$ Hpay
  iapply fupd_wp
  imod (close sent (K (sendCell a c k)) (sendCell a c k)) $$ [Hat] with Hv
  · isplitr; · iexact HIs
    iexact Hat
  imodintro
  iapply Hk
  isplitl [Hst]; · iexact Hst
  isplitl [Hv]; · iexact Hv
  iexists _; iexact HO

/-! ## Debts -/

/-- What the scatter still owes for its `k`-th transfer before point `t`: that transfer is issued at point `4 k + 3`. -/
def o (c : Dev nD) (t : ℕ) (k : Fin 4) : CellTallies nD τ sig Unit :=
  if t ≤ 4 * k.val + 3 then tallyAt (recvCell 1 (pr c) k) () N else 0
/-- What it owes before point `t` for all four. -/
def os (c : Dev nD) (t : ℕ) : CellTallies nD τ sig Unit := o c t 0 + o c t 1 + o c t 2 + o c t 3
/-- What a device owes before the scatter: also the partner's barrier unit. -/
def O₁ (c : Dev nD) : CellTallies nD τ sig Unit := os c 0 + tallyAt (barCell 1 (pr c)) () 1
/-- What the gather owes for its transfers, on top of what the scatter will. -/
def og (c : Dev nD) : CellTallies nD τ sig Unit :=
  O₁ c + tallyAt (recvCell 0 (pr c) 3) () N + tallyAt (recvCell 0 (pr c) 2) () N + tallyAt (recvCell 0 (pr c) 1) () N + tallyAt (recvCell 0 (pr c) 0) () N
/-- What a device owes before the gather. -/
def O₀ (c : Dev nD) : CellTallies nD τ sig Unit := og c + tallyAt (barCell 0 (pr c)) () 1

theorem above_recv {n : ℕ} (a : Fin 2) (c : Dev nD) (k : Fin 4) (h : n < 2 * a.val + 4) : above n (tallyAt (recvCell a c k) () N) :=
  above_at c (.dma (recvS a k)) N (by rw [lv_recv]; exact h)
theorem above_bar {n : ℕ} (a : Fin 2) (c : Dev nD) (h : n < 2 * a.val + 3) : above n (tallyAt (barCell a c) () 1) :=
  above_at c (.reg (barS a)) 1 (by rw [lv_bar]; exact h)
theorem above_o (c : Dev nD) (t : ℕ) (k : Fin 4) : above 5 (o c t k) := by
  unfold o; split
  · exact above_recv 1 _ k (by decide)
  · exact above_zero 5
theorem above_os (c : Dev nD) (t : ℕ) : above 5 (os c t) :=
  above_add (above_add (above_add (above_o c t 0) (above_o c t 1)) (above_o c t 2)) (above_o c t 3)
theorem above_O₁ (c : Dev nD) : above 4 (O₁ c) := above_add (above_mono (above_os c 0) (by decide)) (above_bar 1 _ (by decide))
theorem above_og (c : Dev nD) : above 3 (og c) :=
  above_add (above_add (above_add (above_add (above_mono (above_O₁ c) (by decide)) (above_recv 0 _ 3 (by decide))) (above_recv 0 _ 2 (by decide)))
    (above_recv 0 _ 1 (by decide))) (above_recv 0 _ 0 (by decide))
theorem above_O₀ (c : Dev nD) : above 2 (O₀ c) := above_add (above_mono (above_og c) (by decide)) (above_bar 0 _ (by decide))

end Cert.KernelIdeal.Talk

end
-- ==== Proof.Tables.lean ====
/-
  What the host hands the calls on each device: the order in which the token blocks are taken.
-/
module

public import proofs.«01_k».proof.Proof.Slots
public import Idealize.ShloMosaic.Lib.StableHlo.ReadAt
public import proofs.«01_k».proof.Proof.Gen.KernelIdeal.Regions

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-- A device's place on the axis along which devices exchange. -/
def yOf (c : Dev nD) : ℕ := c.val / 2 % 2
theorem y_lt (c : Dev nD) : yOf c < 2 := Nat.mod_lt _ (by decide)

/-- The token block the gather takes at turn `j`: first the device's own four, then the four of the partner. -/
def ordG (c : Dev nD) (j : ℕ) : ℕ := if j < 4 then yOf c * 4 + j else (1 - yOf c) * 4 + (j - 4)
/-- The token block the scatter takes at turn `j`: first the four of the partner, then the device's own four. -/
def ordS (c : Dev nD) (j : ℕ) : ℕ := if j < 4 then (1 - yOf c) * 4 + j else yOf c * 4 + (j - 4)
theorem ordG_lt (c : Dev nD) {j : ℕ} (h : j < 8) : ordG c j < 8 := by
  have := y_lt c; unfold ordG; split <;> omega
theorem ordS_lt (c : Dev nD) {j : ℕ} (h : j < 8) : ordS c j < 8 := by
  have := y_lt c; unfold ordS; split <;> omega

/-- The device's place as the host works it out of the device's number. -/
theorem word_y : ∀ c : Dev nD, Host.remui (Host.divui (constantI S_ 32 c.word) (constantI S_ 32 2#32)) (constantI S_ 32 2#32) Idealize.ShloMosaic.ix0
    = BitVec.ofNat 32 (yOf c) := by
  decide +kernel

/-! ## The exchange of the assignments -/

/-- A device's own part of the assignments, as the first call takes it. -/
def X (c : Dev nD) : IVec S32x128 32 := V1 m c main_v5
/-- Of a device and its partner the one at place `h`. -/
def devAt (c : Dev nD) (h : ℕ) : Dev nD := if h = yOf c then c else pr c
/-- Both parts, one below the other: the part of the device at place 0 first. -/
def stack (x : Dev nD → IVec S32x128 32) (c : Dev nD) : IVec S64x128 32 := fun i =>
  x (devAt c ((i 0).val / 32)) (Idealize.ShloMosaic.ix2 (⟨(i 0).val % 32, Nat.mod_lt _ (by decide)⟩ : Fin 32) (i 1))
/-- What the exchange leaves in its result. -/
def outE (c : Dev nD) : Buf (Elt F) ((c : Thread nD τ).loc main_v6) := stack (X m) c
/-- The same as the unknowns of the program's state. -/
def oE : Outs (F := F) := fun _ r c => Function.update (V1 m c) main_v6 (outE m c) (Proc.devRef .tc r)
theorem oE_at (n : ℕ) (c : Dev nD) : oE m n main_v6 c = outE m c := by unfold oE; exact Function.update_self ..

/-- The device's place, as the host has it when it orders the blocks. -/
theorem place_at (c : Dev nD) (j : S_.Idx) : (V6 m (oE m) c main_v4 : (⟨S_, .i32⟩ : BufTy).Contents (Elt F)) j = BitVec.ofNat 32 (yOf c) := by
  rw [V6_of m (oE m) c main_v4 (by decide), V5_of m (oE m) c main_v4 (by decide), V4_of m (oE m) c main_v4 (by decide), V3_of m (oE m) c main_v4 (by decide),
    V2_of m (oE m) c main_v4 (by decide)]
  unfold V1
  after_reads_at
  rw [← word_y c]
  exact congrArg _ (funext fun a => a.elim0)

theorem theirs_word : ∀ (y : Fin 2) (j : Fin 4), IntOp.addi (IntOp.muli (IntOp.subi (1#32) (BitVec.ofNat 32 y.val)) 4#32) (BitVec.ofNat 32 j.val)
    = BitVec.ofNat 32 ((1 - y.val) * 4 + j.val) := by decide +kernel
theorem mine_word : ∀ (y : Fin 2) (j : Fin 4), IntOp.addi (IntOp.muli (BitVec.ofNat 32 y.val) 4#32) (BitVec.ofNat 32 j.val)
    = BitVec.ofNat 32 (y.val * 4 + j.val) := by decide +kernel

theorem ordG_eq (c : Dev nD) (j : S8.Idx) : (V7 m (oE m) c main_v34 : (⟨S8, .i32⟩ : BufTy).Contents (Elt F)) j = BitVec.ofNat 32 (ordG c (j 0).val) := by
  have h8 : (j 0).val < 8 := (j 0).isLt
  have hy := place_at m c
  unfold V7
  revert hy
  generalize V6 m (oE m) c = V
  intro hy
  after_reads_at
  unfold ordG
  by_cases h : (j 0).val < 4
  · rw [dif_pos h, if_pos h]
    rw [hy]; exact mine_word ⟨yOf c, y_lt c⟩ ⟨(j 0).val, h⟩
  · rw [dif_neg h, if_neg h]
    rw [hy]; exact theirs_word ⟨yOf c, y_lt c⟩ ⟨(j 0).val - 4, by omega⟩

theorem ordS_eq (c : Dev nD) (j : S8.Idx) : (V7 m (oE m) c main_v35 : (⟨S8, .i32⟩ : BufTy).Contents (Elt F)) j = BitVec.ofNat 32 (ordS c (j 0).val) := by
  have h8 : (j 0).val < 8 := (j 0).isLt
  have hy := place_at m c
  unfold V7
  revert hy
  generalize V6 m (oE m) c = V
  intro hy
  after_reads_at
  unfold ordS
  by_cases h : (j 0).val < 4
  · rw [dif_pos h, if_pos h]
    rw [hy]; exact theirs_word ⟨yOf c, y_lt c⟩ ⟨(j 0).val, h⟩
  · rw [dif_neg h, if_neg h]
    rw [hy]; exact mine_word ⟨yOf c, y_lt c⟩ ⟨(j 0).val - 4, by omega⟩

/-- The gather's two tables on a device, -/
def tblG (c : Dev nD) : pre1.Contents (Elt F) := fun
  | 0 => V7 m (oE m) c main_v23
  | 1 => V7 m (oE m) c main_v34
  | ⟨_ + 2, h⟩ => absurd h (Nat.not_lt.2 (Nat.le_add_left _ _))
/-- and the scatter's. -/
def tblS (c : Dev nD) : pre3.Contents (Elt F) := fun
  | 0 => V7 m (oE m) c main_v23
  | 1 => V7 m (oE m) c main_v35
  | ⟨_ + 2, h⟩ => absurd h (Nat.not_lt.2 (Nat.le_add_left _ _))

theorem word_ix : ∀ n : Fin 8, (Scalar.indexCast (BitVec.ofNat 32 n.val) : Index).toNat + 1 * 0 = n.val := by decide +kernel

/-- The token block of a point of the gather, -/
theorem blockG_at (c : Dev nD) (i : grid1.Coords) : cc1_transform_0 k1_off1_inb numel1_S1 (tblG m c) i = ![0, ordG c (i 0).val] := by
  have h8 : (i 0).val < 8 := (i 0).isLt
  unfold cc1_transform_0
  have e : ∀ (n : Fin 8) (h : ∀ a, (![(Scalar.indexCast (BitVec.ofNat 32 n.val) : Index).toNat] : Fin 1 → ℕ) a + S1.size a ≤ S8.size a),
      (tblG m c).at 1 (Rect.unit (s := S8) ![(Scalar.indexCast (BitVec.ofNat 32 n.val) : Index).toNat] S1.size h) numel1_S1 = BitVec.ofNat 32 (ordG c n.val) :=
    fun n h => (ordG_eq m c _).trans (congrArg (fun x => BitVec.ofNat 32 (ordG c x)) (word_ix n))
  have e2 : ∀ n : ℕ, n < 8 → (BitVec.ofNat 32 (ordG c n)).toNat = ordG c n := fun n hn => by
    have := ordG_lt c hn
    rw [BitVec.toNat_ofNat]; exact Nat.mod_eq_of_lt (by omega)
  exact congrArg (fun x : ℕ => ![0, x]) ((congrArg BitVec.toNat (e ⟨(i 0).val, h8⟩ _)).trans (e2 _ h8))
/-- and of the scatter. -/
theorem blockS_at (c : Dev nD) (i : grid3.Coords) : cc3_transform_0 k3_off1_inb numel1_S1 (tblS m c) i = ![0, ordS c (i 0).val] := by
  have h8 : (i 0).val < 8 := (i 0).isLt
  unfold cc3_transform_0
  have e : ∀ (n : Fin 8) (h : ∀ a, (![(Scalar.indexCast (BitVec.ofNat 32 n.val) : Index).toNat] : Fin 1 → ℕ) a + S1.size a ≤ S8.size a),
      (tblS m c).at 1 (Rect.unit (s := S8) ![(Scalar.indexCast (BitVec.ofNat 32 n.val) : Index).toNat] S1.size h) numel1_S1 = BitVec.ofNat 32 (ordS c n.val) :=
    fun n h => (ordS_eq m c _).trans (congrArg (fun x => BitVec.ofNat 32 (ordS c x)) (word_ix n))
  have e2 : ∀ n : ℕ, n < 8 → (BitVec.ofNat 32 (ordS c n)).toNat = ordS c n := fun n hn => by
    have := ordS_lt c hn
    rw [BitVec.toNat_ofNat]; exact Nat.mod_eq_of_lt (by omega)
  exact congrArg (fun x : ℕ => ![0, x]) ((congrArg BitVec.toNat (e ⟨(i 0).val, h8⟩ _)).trans (e2 _ h8))

theorem tblG_ok (c : Dev nD) : ok1 (tblG m c) := by
  intro i
  have h8 : (i 0).val < 8 := (i 0).isLt
  refine ⟨fun a => ?_, .inl rfl⟩
  rw [blockG_at]
  have := ordG_lt c h8
  match a with
  | 0 => exact (by decide : (0 + 1) * 1 ≤ 1)
  | 1 => show (ordG c (i 0).val + 1) * 1024 ≤ 8192; omega
theorem tblS_ok (c : Dev nD) : ok3 (tblS m c) := by
  intro i
  have h8 : (i 0).val < 8 := (i 0).isLt
  refine ⟨fun a => ?_, .inl rfl⟩
  rw [blockS_at]
  have := ordS_lt c h8
  match a with
  | 0 => exact (by decide : (0 + 1) * 1 ≤ 1)
  | 1 => show (ordS c (i 0).val + 1) * 1024 ≤ 8192; omega

/-- The calls' tables on each device. -/
def adm (c : Dev nD) : (p : Fin 4) → (pcfgs (F := F) p).Adm := fun
  | 0 => cfg0.toPCfg_adm
  | 1 => ⟨tblG m c, tblG_ok m c⟩
  | 2 => cfg2.toPCfg_adm
  | 3 => ⟨tblS m c, tblS_ok m c⟩
  | ⟨_ + 4, h⟩ => absurd h (Nat.not_lt.2 (Nat.le_add_left _ _))

end Cert.KernelIdeal.Talk

end
-- ==== Proof.Owed.lean ====
/-
What a device owes, as the pipeline states it.
-/
module

public import proofs.«01_k».proof.Proof.Steps
public import proofs.«01_k».proof.Proof.Tables
public import Idealize.ShloMosaic.Lib.Pipeline.DatRel
public import Idealize.ShloMosaic.Lib.Pipeline.FrameBody
public import Idealize.ShloMosaic.Lib.Pipeline.Regions
public import Idealize.ShloMosaic.Lib.Pipeline.Kit

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F]

local notation "𝕄" => MT nD τ sig Unit (Elt F) ℕ UU ℕ

variable (m : (ℓ : Loc nD τ sig) → Buf (Elt F) ℓ)

/-- What every buffer holds when the gather begins. -/
@[irreducible] def In (c : Dev nD) : Valuation τ sig (Elt F) := V7 m (oE m) c
theorem In_eq (c : Dev nD) : In m c = V7 m (oE m) c := by unfold In; rfl

/-- What is owed, whatever has been waited for. -/
theorem owesAt_intro {cfg : Pipeline.Cfg sig Λ₀} {c : Dev nD} (D : Dat τ (Elt F) Unit ℕ UU ℕ cfg c) (t : Fin (cfg.N + 1)) (O : CellTallies nD τ sig Unit)
    (h : D.owed t = O) (hr : D.recorded t = Set.univ) : ow c O ⊢ (D.owesAt () t : sProp 𝕄) := by
  unfold ow
  show _ ⊢ Pipeline.owesWithin c (D.owed t) _
  rw [h]
  unfold Pipeline.owesWithin Dat.bound
  rw [hr]
  iintro ⟨%W, HO⟩
  iexists W
  isplitr
  · ipureintro; exact fun x _ => .inl trivial
  iexact HO

theorem owesAt_elim {cfg : Pipeline.Cfg sig Λ₀} {c : Dev nD} (D : Dat τ (Elt F) Unit ℕ UU ℕ cfg c) (t : Fin (cfg.N + 1)) (O : CellTallies nD τ sig Unit)
    (h : D.owed t = O) : (D.owesAt () t : sProp 𝕄) ⊢ ow c O := by
  unfold ow
  show Pipeline.owesWithin c (D.owed t) _ ⊢ _
  rw [h]
  unfold Pipeline.owesWithin
  iintro ⟨%W, -, HO⟩
  iexists W; iexact HO

/-- What an input window's buffer holds before a point, when no block is cut and the body leaves it in place. -/
theorem before_read {cfg : Pipeline.Cfg sig Λ₀} {c : Dev nD} (D : Dat τ (Elt F) Unit ℕ UU ℕ cfg c) (w : Fin cfg.W) (hw : (cfg.win w).isOut = false)
    (hlive : ∀ i, cfg.idle w i = false) (hn : ∀ i a, (cfg.win w).clip i a = none)
    (hkeep : ∀ t, (cfg.win w).cut (cfg.grid.coords t) (D.after w t) = D.blockOf w t) (t : Fin cfg.N) (d) : D.before w t d = D.after w t := by
  refine (D.before_in_eq_fetched w hw hlive (fun t t' _ => funext fun a => (hn _ a).trans (hn _ a).symm) hkeep t d).trans ?_
  unfold Pipeline.Dat.fetched
  rw [← hkeep t]
  exact (Pipeline.fill_of_clip_none w _ (hn _) d (D.after w t) _).trans ((cfg.win w).fill_cut _ _)

end Cert.KernelIdeal.Talk

end
-- ==== Proof.Gather.Whole.lean ====
/-
  The gather's body at one grid point, in pieces.
-/
module

public import proofs.«01_k».proof.Proof.Steps
public import proofs.«01_k».proof.Proof.Gen.KernelIdeal.Skeleton

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Talk
open Cert.KernelIdeal.Gen

variable {F : FTy → Type} [FloatOps F]

local notation "𝕄" => MT nD τ sig Unit (Elt F) ℕ UU ℕ

variable {α β : Type}

/-- A piece of the kernel's body with any result. -/
abbrev Part (F : FTy → Type) (α : Type) : Type 1 := Prog (TpuEff nD τ sig (Elt F) Λ₀ .tc) α

/-! ## The buffers -/

/-- A device's own tokens. -/
abbrev xM : Memref sig .tc .hbm S4096x2048 .bf16 := Memref.whole main_arg0
/-- The accumulators of the four experts. -/
abbrev acW : Memref sig .tc .vmem S4x1152x2048 .bf16 := Memref.whole cc1_scratch0
/-- The buffer the partner's blocks land in. -/
abbrev s1 : Memref sig .tc .vmem S4x1024x2048 .bf16 := Memref.whole cc1_scratch1

/-- A block of the tokens. -/
abbrev rows (off : Fin 2 → Nat) (h : ∀ a, off a + S1024x2048.size a ≤ S4096x2048.size a) : Memref sig .tc .hbm S1024x2048 .bf16 :=
  xM.slice (Rect.unit (s := S4096x2048) off S1024x2048.size h) (fun _ => rfl)
/-- The box of one expert's accumulator. -/
abbrev boxA (off : Fin 3 → Nat) (h : ∀ a, off a + S1x1152x2048.size a ≤ S4x1152x2048.size a) : Rect S4x1152x2048 :=
  Rect.unit (s := S4x1152x2048) off S1x1152x2048.size h
/-- All of one expert's buffer. -/
abbrev allE : Rect S1x1152x2048 := Rect.unit (s := S1x1152x2048) ![0, 0, 0] S1x1152x2048.size inb_S1x1152x2048_S1x1152x2048_0_0_0

/-! ## The pieces -/

/-- Send one block of the tokens. -/
def sendG (dv : Dev nD) (offX : Fin 2 → Nat) (hX : ∀ a, offX a + S1024x2048.size a ≤ S4096x2048.size a) (off : Fin 3 → Nat)
    (h3 : ∀ a, off a + S1x1024x2048.size a ≤ S4x1024x2048.size a) (sS rS : DmaSem sig)
    (hw1 : (rows offX hX).view.WordExact) (hw2 : (slotOf s1 off h3).view.WordExact) (rest : Part F α) : Part F α :=
  Prog.op (.enqueueDma (rows offX hX) (.remote (Dev.tc dv) (slotOf s1 off h3) (.dma sS)) (.dma rS) hw1 hw2 ⟨⟨rfl, Or.inl rfl⟩, trivial⟩) fun _ => rest

/-- Wait for one of the partner's blocks. -/
def recvG (b : BitVec 1) (offX : Fin 2 → Nat) (hX : ∀ a, offX a + S1024x2048.size a ≤ S4096x2048.size a) (off : Fin 3 → Nat)
    (h3 : ∀ a, off a + S1x1024x2048.size a ≤ S4x1024x2048.size a) (rS : DmaSem sig)
    (hw1 : (rows offX hX).view.WordExact) (hw2 : (slotOf s1 off h3).view.WordExact) (rest : Part F α) : Part F α :=
  if b = 1#1 then Prog.op (.waitDma2 rS (rows offX hX) (slotOf s1 off h3) hw1 hw2) fun _ => rest else rest

/-- Wait for one of the device's own sends. -/
def waitG (offX : Fin 2 → Nat) (hX : ∀ a, offX a + S1024x2048.size a ≤ S4096x2048.size a) (off : Fin 3 → Nat)
    (h3 : ∀ a, off a + S1x1024x2048.size a ≤ S4x1024x2048.size a) (sS : DmaSem sig)
    (hw1 : (rows offX hX).view.WordExact) (hw2 : (slotOf s1 off h3).view.WordExact) (rest : Part F α) : Part F α :=
  Prog.op (.waitDma2 sS (slotOf s1 off h3) (rows offX hX) hw2 hw1) fun _ => rest

/-- Fill an accumulator. -/
def putG (b : BitVec 1) (off : Fin 3 → Nat) (hi : b = 1#1 → ∀ a, off a + S1x1152x2048.size a ≤ S4x1152x2048.size a)
    (hst : (h : b = 1#1) → (acW.access (boxA off (hi h))).Stores Finset.univ) (w : FVec F S1x1152x2048 .bf16) (rest : Part F α) : Part F α :=
  if h : b = 1#1 then
    Prog.op (.load acW (boxA off (hi h)).toLoadRect (View.loadsAt_vmem h_S1x1152x2048)) fun _ =>
    Prog.op (.store acW (boxA off (hi h)) w Finset.univ (hst h) (.inl rfl)) fun _ => rest
  else rest

/-- Add to an accumulator. -/
def addG (b : BitVec 1) (off : Fin 3 → Nat) (hi : b = 1#1 → ∀ a, off a + S1x1152x2048.size a ≤ S4x1152x2048.size a)
    (hst : (h : b = 1#1) → (acW.access (boxA off (hi h))).Stores Finset.univ) (w : Vec F S1x1152x2048 .bf16 → FVec F S1x1152x2048 .bf16)
    (rest : Part F α) : Part F α :=
  if h : b = 1#1 then
    Prog.op (.load acW (boxA off (hi h)).toLoadRect (View.loadsAt_vmem h_S1x1152x2048)) fun v =>
    Prog.op (.load acW (boxA off (hi h)).toLoadRect (View.loadsAt_vmem h_S1x1152x2048)) fun _ =>
    Prog.op (.store acW (boxA off (hi h)) (w v) Finset.univ (hst h) (.inl rfl)) fun _ => rest
  else rest

/-- A point over the device's own tokens. -/
def mineG (i : grid1.Coords) (M1 : Memref sig .tc .vmem S1024x2048 .bf16) (lo : Elt F .i32) (rk : Vec F S1x1024 .i32) (rest : Part F α) : Part F α :=
  if h6 : k1_cond6 i = 1#1 then
    Prog.op (.load M1 (Rect.unit (s := S1024x2048) ![0, 0] S1024x2048.size inb_S1024x2048_S1024x2048_0_0).toLoadRect (View.loadsAt_vmem h_S1024x2048)) fun xb =>
    putG (k1_cond7 i) (k1_off3 i) (k1_off3_inb i h6)
      (fun h => View.stores_vmem h_S1x1152x2048 ((Memref.isWhole_whole cc1_scratch0).storeExact_slice rfl _ (k1_off3_packedbf16 i h6 h)) (fun _ => rfl))
      (k1_pay4 lo rk xb) <|
    addG (k1_cond8 i) (k1_off4 i) (k1_off4_inb i h6)
      (fun h => View.stores_vmem h_S1x1152x2048 ((Memref.isWhole_whole cc1_scratch0).storeExact_slice rfl _ (k1_off4_packedbf16 i h6 h)) (fun _ => rfl))
      (k1_pay5 lo rk xb) rest
  else rest

/-- A point over the partner's tokens. -/
def theirsG (i : grid1.Coords) (lo : Elt F .i32) (rk : Vec F S1x1024 .i32) (rest : Part F α) : Part F α :=
  if h9 : k1_cond9 i = 1#1 then
    Prog.op (.load s1 (box (k1_off5 i) (k1_off5_inb i h9)).toLoadRect (View.loadsAt_vmem h_S1x1024x2048)) fun xb =>
    putG (k1_cond10 i) (k1_off6 i) (k1_off6_inb i h9)
      (fun h => View.stores_vmem h_S1x1152x2048 ((Memref.isWhole_whole cc1_scratch0).storeExact_slice rfl _ (k1_off6_packedbf16 i h9 h)) (fun _ => rfl))
      (k1_pay7 lo rk xb) <|
    addG (k1_cond11 i) (k1_off7 i) (k1_off7_inb i h9)
      (fun h => View.stores_vmem h_S1x1152x2048 ((Memref.isWhole_whole cc1_scratch0).storeExact_slice rfl _ (k1_off7_packedbf16 i h9 h)) (fun _ => rfl))
      (k1_pay8 lo rk xb) rest
  else rest

/-- The last block writes its expert's sum out. -/
def outG (i : grid1.Coords) (M2 : Memref sig .tc .vmem S1x1152x2048 .bf16) (h2 : M2.IsWhole) (rest : Part F α) : Part F α :=
  if h : k1_cond12 i = 1#1 then
    Prog.op (.load acW (boxA (k1_off8 i) (k1_off8_inb i h)).toLoadRect (View.loadsAt_vmem h_S1x1152x2048)) fun v =>
    Prog.op (.load M2 allE.toLoadRect (View.loadsAt_vmem h_S1x1152x2048)) fun _ =>
    Prog.op (.store M2 allE (k1_pay1 v) Finset.univ (View.stores_vmem h_S1x1152x2048 (h2.storeExact_slice rfl _ packedbf16_S1x1152x2048_S1x1152x2048_0_0_0) (fun _ => rfl)) (.inl rfl)) fun _ => rest
  else rest

/-- Whether a point is expert 0's of block `n`. -/
abbrev at4 (i : grid1.Coords) (n : BitVec 32) : BitVec 1 :=
  Scalar.cmpi .ne (Scalar.extui (Scalar.andi (Scalar.cmpi .eq (BitVec.ofNat 32 (i 0).val) n) (Scalar.cmpi .eq (BitVec.ofNat 32 (i 1).val) 0#32))) 0#32
/-- Whether a point is the last expert's of the last block. -/
abbrev lastW (i : grid1.Coords) : BitVec 1 :=
  Scalar.cmpi .ne (Scalar.extui (Scalar.andi (Scalar.cmpi .eq (BitVec.ofNat 32 (i 0).val) 7#32) (Scalar.cmpi .eq (BitVec.ofNat 32 (i 1).val) 3#32))) 0#32

/-- The four sends. -/
def sendsG (i : grid1.Coords) (d : Dev nD) (h : k1_cond1 i = 1#1) (rest : Part F α) : Part F α :=
  sendG (⟨k1_dev2 d, k1_dev2_lt i d h⟩ : Dev nD) ![0, 0] inb_S4096x2048_S1024x2048_0_0 ![0, 0, 0] inb_S4x1024x2048_S1x1024x2048_0_0_0
    ((cc1_scratch2.slice (Rect.unit (s := S4) ![0] S1.size inb_S4_S1_0)).squeeze S_ squeezes_S1_S_).sem
    ((cc1_scratch3.slice (Rect.unit (s := S4) ![0] S1.size inb_S4_S1_0)).squeeze S_ squeezes_S1_S_).sem
    ((Memref.isWhole_whole main_arg0).wordExact_slice rfl _ wordsbf16_S4096x2048_S1024x2048_0_0)
    (((Memref.isWhole_whole cc1_scratch1).wordExact_slice rfl _ wordsbf16_S4x1024x2048_S1x1024x2048_0_0_0).reshape _ _) <|
  sendG (⟨k1_dev3 d, k1_dev3_lt i d h⟩ : Dev nD) ![1024, 0] inb_S4096x2048_S1024x2048_1024_0 ![1, 0, 0] inb_S4x1024x2048_S1x1024x2048_1_0_0
    ((cc1_scratch2.slice (Rect.unit (s := S4) ![1] S1.size inb_S4_S1_1)).squeeze S_ squeezes_S1_S_).sem
    ((cc1_scratch3.slice (Rect.unit (s := S4) ![1] S1.size inb_S4_S1_1)).squeeze S_ squeezes_S1_S_).sem
    ((Memref.isWhole_whole main_arg0).wordExact_slice rfl _ wordsbf16_S4096x2048_S1024x2048_1024_0)
    (((Memref.isWhole_whole cc1_scratch1).wordExact_slice rfl _ wordsbf16_S4x1024x2048_S1x1024x2048_1_0_0).reshape _ _) <|
  sendG (⟨k1_dev4 d, k1_dev4_lt i d h⟩ : Dev nD) ![2048, 0] inb_S4096x2048_S1024x2048_2048_0 ![2, 0, 0] inb_S4x1024x2048_S1x1024x2048_2_0_0
    ((cc1_scratch2.slice (Rect.unit (s := S4) ![2] S1.size inb_S4_S1_2)).squeeze S_ squeezes_S1_S_).sem
    ((cc1_scratch3.slice (Rect.unit (s := S4) ![2] S1.size inb_S4_S1_2)).squeeze S_ squeezes_S1_S_).sem
    ((Memref.isWhole_whole main_arg0).wordExact_slice rfl _ wordsbf16_S4096x2048_S1024x2048_2048_0)
    (((Memref.isWhole_whole cc1_scratch1).wordExact_slice rfl _ wordsbf16_S4x1024x2048_S1x1024x2048_2_0_0).reshape _ _) <|
  sendG (⟨k1_dev5 d, k1_dev5_lt i d h⟩ : Dev nD) ![3072, 0] inb_S4096x2048_S1024x2048_3072_0 ![3, 0, 0] inb_S4x1024x2048_S1x1024x2048_3_0_0
    ((cc1_scratch2.slice (Rect.unit (s := S4) ![3] S1.size inb_S4_S1_3)).squeeze S_ squeezes_S1_S_).sem
    ((cc1_scratch3.slice (Rect.unit (s := S4) ![3] S1.size inb_S4_S1_3)).squeeze S_ squeezes_S1_S_).sem
    ((Memref.isWhole_whole main_arg0).wordExact_slice rfl _ wordsbf16_S4096x2048_S1024x2048_3072_0)
    (((Memref.isWhole_whole cc1_scratch1).wordExact_slice rfl _ wordsbf16_S4x1024x2048_S1x1024x2048_3_0_0).reshape _ _) <|
  rest

/-- The first point: the barrier and the sends. -/
def startG (i : grid1.Coords) (d : Dev nD) (rest : Piece F) : Piece F :=
  if h : k1_cond1 i = 1#1 then meet ⟨k1_dev1 d, k1_dev1_lt i d h⟩ barrier1 (sendsG i d h rest) else rest

/-- The waits for the partner's later three blocks. -/
def recvsG (i : grid1.Coords) (b : BitVec 1) (rest : Part F α) : Part F α :=
  recvG b ![1024, 0] inb_S4096x2048_S1024x2048_1024_0 ![1, 0, 0] inb_S4x1024x2048_S1x1024x2048_1_0_0
    ((cc1_scratch3.slice (Rect.unit (s := S4) ![1] S1.size inb_S4_S1_1)).squeeze S_ squeezes_S1_S_).sem
    ((Memref.isWhole_whole main_arg0).wordExact_slice rfl _ wordsbf16_S4096x2048_S1024x2048_1024_0)
    (((Memref.isWhole_whole cc1_scratch1).wordExact_slice rfl _ wordsbf16_S4x1024x2048_S1x1024x2048_1_0_0).reshape _ _) <|
  recvG (at4 i 6#32) ![2048, 0] inb_S4096x2048_S1024x2048_2048_0 ![2, 0, 0] inb_S4x1024x2048_S1x1024x2048_2_0_0
    ((cc1_scratch3.slice (Rect.unit (s := S4) ![2] S1.size inb_S4_S1_2)).squeeze S_ squeezes_S1_S_).sem
    ((Memref.isWhole_whole main_arg0).wordExact_slice rfl _ wordsbf16_S4096x2048_S1024x2048_2048_0)
    (((Memref.isWhole_whole cc1_scratch1).wordExact_slice rfl _ wordsbf16_S4x1024x2048_S1x1024x2048_2_0_0).reshape _ _) <|
  recvG (at4 i 7#32) ![3072, 0] inb_S4096x2048_S1024x2048_3072_0 ![3, 0, 0] inb_S4x1024x2048_S1x1024x2048_3_0_0
    ((cc1_scratch3.slice (Rect.unit (s := S4) ![3] S1.size inb_S4_S1_3)).squeeze S_ squeezes_S1_S_).sem
    ((Memref.isWhole_whole main_arg0).wordExact_slice rfl _ wordsbf16_S4096x2048_S1024x2048_3072_0)
    (((Memref.isWhole_whole cc1_scratch1).wordExact_slice rfl _ wordsbf16_S4x1024x2048_S1x1024x2048_3_0_0).reshape _ _) <|
  rest

/-- The wait for the partner's first block. -/
def recv0G (i : grid1.Coords) (rest : Part F α) : Part F α :=
  recvG (at4 i 4#32) ![0, 0] inb_S4096x2048_S1024x2048_0_0 ![0, 0, 0] inb_S4x1024x2048_S1x1024x2048_0_0_0
    ((cc1_scratch3.slice (Rect.unit (s := S4) ![0] S1.size inb_S4_S1_0)).squeeze S_ squeezes_S1_S_).sem
    ((Memref.isWhole_whole main_arg0).wordExact_slice rfl _ wordsbf16_S4096x2048_S1024x2048_0_0)
    (((Memref.isWhole_whole cc1_scratch1).wordExact_slice rfl _ wordsbf16_S4x1024x2048_S1x1024x2048_0_0_0).reshape _ _) <|
  rest

/-- The waits for the device's own sends. -/
def waitsG (rest : Part F α) : Part F α :=
  waitG ![0, 0] inb_S4096x2048_S1024x2048_0_0 ![0, 0, 0] inb_S4x1024x2048_S1x1024x2048_0_0_0
    ((cc1_scratch2.slice (Rect.unit (s := S4) ![0] S1.size inb_S4_S1_0)).squeeze S_ squeezes_S1_S_).sem
    ((Memref.isWhole_whole main_arg0).wordExact_slice rfl _ wordsbf16_S4096x2048_S1024x2048_0_0)
    (((Memref.isWhole_whole cc1_scratch1).wordExact_slice rfl _ wordsbf16_S4x1024x2048_S1x1024x2048_0_0_0).reshape _ _) <|
  waitG ![1024, 0] inb_S4096x2048_S1024x2048_1024_0 ![1, 0, 0] inb_S4x1024x2048_S1x1024x2048_1_0_0
    ((cc1_scratch2.slice (Rect.unit (s := S4) ![1] S1.size inb_S4_S1_1)).squeeze S_ squeezes_S1_S_).sem
    ((Memref.isWhole_whole main_arg0).wordExact_slice rfl _ wordsbf16_S4096x2048_S1024x2048_1024_0)
    (((Memref.isWhole_whole cc1_scratch1).wordExact_slice rfl _ wordsbf16_S4x1024x2048_S1x1024x2048_1_0_0).reshape _ _) <|
  waitG ![2048, 0] inb_S4096x2048_S1024x2048_2048_0 ![2, 0, 0] inb_S4x1024x2048_S1x1024x2048_2_0_0
    ((cc1_scratch2.slice (Rect.unit (s := S4) ![2] S1.size inb_S4_S1_2)).squeeze S_ squeezes_S1_S_).sem
    ((Memref.isWhole_whole main_arg0).wordExact_slice rfl _ wordsbf16_S4096x2048_S1024x2048_2048_0)
    (((Memref.isWhole_whole cc1_scratch1).wordExact_slice rfl _ wordsbf16_S4x1024x2048_S1x1024x2048_2_0_0).reshape _ _) <|
  waitG ![3072, 0] inb_S4096x2048_S1024x2048_3072_0 ![3, 0, 0] inb_S4x1024x2048_S1x1024x2048_3_0_0
    ((cc1_scratch2.slice (Rect.unit (s := S4) ![3] S1.size inb_S4_S1_3)).squeeze S_ squeezes_S1_S_).sem
    ((Memref.isWhole_whole main_arg0).wordExact_slice rfl _ wordsbf16_S4096x2048_S1024x2048_3072_0)
    (((Memref.isWhole_whole cc1_scratch1).wordExact_slice rfl _ wordsbf16_S4x1024x2048_S1x1024x2048_3_0_0).reshape _ _) <|
  rest

/-- The place of a point's expert in the table of starts. -/
abbrev loR (i : grid1.Coords) : Rect S5 := Rect.unit (s := S5) (k1_off2 i) S1.size (k1_off2_inb i)
/-- The one place of a rectangle of one element. -/
abbrev only (r : Rect S5) (h : r.shape.numel = 1) : r.shape.Idx := Shape.Idx.first (h.symm ▸ Nat.one_pos)

/-- What follows the products. -/
def tailG (i : grid1.Coords) (M2 : Memref sig .tc .vmem S1x1152x2048 .bf16) (h2 : M2.IsWhole) : Piece F :=
  outG i M2 h2 (if lastW i = 1#1 then waitsG (Prog.ret ⟨⟩) else Prog.ret ⟨⟩)

/-- The whole body. -/
def bodyG (i : grid1.Coords) (M0 : Memref sig .tc .vmem S1x1024 .i32) (M1 : Memref sig .tc .vmem S1024x2048 .bf16)
    (M2 : Memref sig .tc .vmem S1x1152x2048 .bf16) (h2 : M2.IsWhole) : Piece F :=
  Prog.op .deviceId fun d =>
  startG i d <| recv0G i <| recvsG i (at4 i 5#32) <|
  smemLoadElt (Memref.whole main_v23) (loR i) (View.loads_smem_one rfl numel1_S1) (only (loR i) numel1_S1) fun lo : Elt F .i32 =>
  Prog.op (.load M0 (Rect.unit (s := S1x1024) ![0, 0] S1x1024.size inb_S1x1024_S1x1024_0_0).toLoadRect (View.loadsAt_vmem h_S1x1024)) fun rk =>
  mineG i M1 lo rk <| theirsG i lo rk <| tailG i M2 h2

/-! ## The printed body is these pieces -/

/-- What the first part hands on. -/
abbrev H1 : Type := Σ' (_ : BitVec 32) (_ : BitVec 32) (_ : BitVec 32) (_ : BitVec 32) (_ : BitVec 32), BitVec 32
abbrev H2 : Type := Σ' (_ : BitVec 32), BitVec 32

theorem bind_dite {b : Prop} [Decidable b] (p : b → Part F α) (q : ¬ b → Part F α) (k : α → Part F β) :
    Prog.bind (dite b p q) k = dite b (fun h => (p h).bind k) (fun h => (q h).bind k) := by split <;> rfl
theorem bind_ite {b : Prop} [Decidable b] (p q : Part F α) (k : α → Part F β) :
    Prog.bind (if b then p else q) k = if b then p.bind k else q.bind k := by split <;> rfl

theorem recvG_bind (b offX hX off h3 rS hw1 hw2) (rest : Part F α) (k : α → Part F β) :
    (recvG b offX hX off h3 rS hw1 hw2 rest).bind k = recvG b offX hX off h3 rS hw1 hw2 (rest.bind k) := by unfold recvG; rw [bind_ite]; rfl
theorem putG_bind (b off hi hst) (w : FVec F S1x1152x2048 .bf16) (rest : Part F α) (k : α → Part F β) :
    (putG b off hi hst w rest).bind k = putG b off hi hst w (rest.bind k) := by unfold putG; rw [bind_dite]; rfl
theorem addG_bind (b off hi hst) (w : Vec F S1x1152x2048 .bf16 → FVec F S1x1152x2048 .bf16) (rest : Part F α) (k : α → Part F β) :
    (addG b off hi hst w rest).bind k = addG b off hi hst w (rest.bind k) := by unfold addG; rw [bind_dite]; rfl
theorem recv0G_bind (i) (rest : Part F α) (k : α → Part F β) : (recv0G i rest).bind k = recv0G i (rest.bind k) := by unfold recv0G; rw [recvG_bind]
theorem recvsG_bind (i b) (rest : Part F α) (k : α → Part F β) : (recvsG i b rest).bind k = recvsG i b (rest.bind k) := by
  unfold recvsG; rw [recvG_bind, recvG_bind, recvG_bind]
theorem mineG_bind (i M1 lo) (rk : Vec F S1x1024 .i32) (rest : Part F α) (k : α → Part F β) : (mineG i M1 lo rk rest).bind k = mineG i M1 lo rk (rest.bind k) := by
  unfold mineG; rw [bind_dite]
  refine dite_congr rfl (fun h => ?_) fun _ => rfl
  show Prog.op _ _ = Prog.op _ _
  congr 1; funext xb
  exact (putG_bind ..).trans (congrArg _ (addG_bind ..))
theorem theirsG_bind (i lo) (rk : Vec F S1x1024 .i32) (rest : Part F α) (k : α → Part F β) : (theirsG i lo rk rest).bind k = theirsG i lo rk (rest.bind k) := by
  unfold theirsG; rw [bind_dite]
  refine dite_congr rfl (fun h => ?_) fun _ => rfl
  show Prog.op _ _ = Prog.op _ _
  congr 1; funext xb
  exact (putG_bind ..).trans (congrArg _ (addG_bind ..))

set_option maxRecDepth 65536 in
/-- The third part. -/
theorem third_eq (i : grid1.Coords) (M0 : Memref sig .tc .vmem S1x1024 .i32) (h0 : M0.IsWhole) (M1 : Memref sig .tc .vmem S1024x2048 .bf16)
    (h1 : M1.IsWhole) (M2 : Memref sig .tc .vmem S1x1152x2048 .bf16) (h2 : M2.IsWhole) (v2 v8 v9 : BitVec 32) (k : H2 → Piece F) :
    (k1_part3 (F := F) i (Memref.whole main_v23) (Memref.isWhole_whole _) (Memref.whole main_v34) (Memref.isWhole_whole _) M0 h0 xM (Memref.isWhole_whole _) M1 h1 (Memref.whole main_v6) (Memref.isWhole_whole _) M2 h2
      acW (Memref.isWhole_whole _) s1 (Memref.isWhole_whole _) cc1_scratch2 cc1_scratch3 (BitVec.ofNat 32 (i 0).val) (BitVec.ofNat 32 (i 1).val) v2 v8 v9
        (Scalar.extui (Scalar.andi (Scalar.cmpi .eq (BitVec.ofNat 32 (i 0).val) 5#32) (Scalar.cmpi .eq (BitVec.ofNat 32 (i 1).val) 0#32)))).bind k
      = recvsG i (at4 i 5#32) (
          Prog.bind (smemLoad (Memref.whole main_v23) (Rect.unit (s := S5) (k1_off2 i) S1.size (k1_off2_inb i)) numel1_S1 rfl) fun lo : Elt F .i32 =>
          Prog.op (.load M0 (Rect.unit (s := S1x1024) ![0, 0] S1x1024.size inb_S1x1024_S1x1024_0_0).toLoadRect (View.loadsAt_vmem h_S1x1024)) fun rk =>
          mineG i M1 lo rk (theirsG i lo rk (k ⟨Scalar.extui (Scalar.cmpi .eq (BitVec.ofNat 32 (i 0).val) 7#32), 0#32⟩))) := by
  rw [k1_part3_eq_skeleton]
  have e : k1_part3_skel (F := F) i (Memref.whole main_v23) (Memref.isWhole_whole _) (Memref.whole main_v34) (Memref.isWhole_whole _) M0 h0 xM (Memref.isWhole_whole _) M1 h1 (Memref.whole main_v6) (Memref.isWhole_whole _) M2 h2
      acW (Memref.isWhole_whole _) s1 (Memref.isWhole_whole _) cc1_scratch2 cc1_scratch3 (BitVec.ofNat 32 (i 0).val) (BitVec.ofNat 32 (i 1).val) v2 v8 v9
        (Scalar.extui (Scalar.andi (Scalar.cmpi .eq (BitVec.ofNat 32 (i 0).val) 5#32) (Scalar.cmpi .eq (BitVec.ofNat 32 (i 1).val) 0#32)))
      = recvsG i (at4 i 5#32) (
          Prog.bind (smemLoad (Memref.whole main_v23) (Rect.unit (s := S5) (k1_off2 i) S1.size (k1_off2_inb i)) numel1_S1 rfl) fun lo : Elt F .i32 =>
          Prog.op (.load M0 (Rect.unit (s := S1x1024) ![0, 0] S1x1024.size inb_S1x1024_S1x1024_0_0).toLoadRect (View.loadsAt_vmem h_S1x1024)) fun rk =>
          mineG i M1 lo rk (theirsG i lo rk (Prog.ret (⟨Scalar.extui (Scalar.cmpi .eq (BitVec.ofNat 32 (i 0).val) 7#32), 0#32⟩ : H2)))) := rfl
  rw [e, recvsG_bind]
  refine congrArg _ ?_
  show Prog.op _ _ = Prog.op _ _
  congr 1; funext lo
  show Prog.op _ _ = Prog.op _ _
  congr 1; funext rk
  rw [mineG_bind, theirsG_bind]
  rfl

set_option maxRecDepth 65536 in
/-- The first two parts. -/
theorem second_eq (i : grid1.Coords) (M0 : Memref sig .tc .vmem S1x1024 .i32) (h0 : M0.IsWhole) (M1 : Memref sig .tc .vmem S1024x2048 .bf16)
    (h1 : M1.IsWhole) (M2 : Memref sig .tc .vmem S1x1152x2048 .bf16) (h2 : M2.IsWhole) (k : H1 → Piece F) :
    (k1_part2 (F := F) i (Memref.whole main_v23) (Memref.isWhole_whole _) (Memref.whole main_v34) (Memref.isWhole_whole _) M0 h0 xM (Memref.isWhole_whole _) M1 h1 (Memref.whole main_v6) (Memref.isWhole_whole _) M2 h2
      acW (Memref.isWhole_whole _) s1 (Memref.isWhole_whole _) cc1_scratch2 cc1_scratch3).bind k
      = Prog.op .deviceId fun d => startG i d <| recv0G i <|
          k ⟨BitVec.ofNat 32 (i 0).val, BitVec.ofNat 32 (i 1).val, Scalar.remsi (Scalar.divsi (Dev.word d) 4#32) 2#32,
          Scalar.remsi (Scalar.divsi (Dev.word d) 1#32) 2#32, Scalar.subi 1#32 (Scalar.remsi (Scalar.divsi (Dev.word d) 2#32) 2#32),
          Scalar.extui (Scalar.andi (Scalar.cmpi .eq (BitVec.ofNat 32 (i 0).val) 5#32) (Scalar.cmpi .eq (BitVec.ofNat 32 (i 1).val) 0#32))⟩ := by
  rw [k1_part2_eq_skeleton]
  unfold k1_part2_skel
  rw [k1_part1_eq_skeleton]
  unfold startG
  by_cases h : k1_cond1 i = 1#1
  · by_cases h' : at4 i 4#32 = 1#1
    · simp only [dif_pos h, dif_pos h', recv0G, recvG, if_pos h']; rfl
    · simp only [dif_pos h, dif_neg h', recv0G, recvG, if_neg h']; rfl
  · by_cases h' : at4 i 4#32 = 1#1
    · simp only [dif_neg h, dif_pos h', recv0G, recvG, if_pos h']; rfl
    · simp only [dif_neg h, dif_neg h', recv0G, recvG, if_neg h']; rfl

set_option maxRecDepth 65536 in
/-- The kernel's body is that. -/
theorem body_eq (i : grid1.Coords) (M0 : Memref sig .tc .vmem S1x1024 .i32) (h0 : M0.IsWhole) (M1 : Memref sig .tc .vmem S1024x2048 .bf16)
    (h1 : M1.IsWhole) (M2 : Memref sig .tc .vmem S1x1152x2048 .bf16) (h2 : M2.IsWhole) :
    cc1__gather_body (F := F) i (Memref.whole main_v23) (Memref.isWhole_whole _) (Memref.whole main_v34) (Memref.isWhole_whole _) M0 h0 xM (Memref.isWhole_whole _) M1 h1 (Memref.whole main_v6) (Memref.isWhole_whole _) M2 h2
      acW (Memref.isWhole_whole _) s1 (Memref.isWhole_whole _) cc1_scratch2 cc1_scratch3
      = bodyG i M0 M1 M2 h2 := by
  rw [cc1__gather_body_eq_skeleton]
  unfold cc1__gather_body_skel
  refine (second_eq i M0 h0 M1 h1 M2 h2 _).trans ?_
  unfold bodyG
  congr 1; funext d
  refine congrArg (startG i d) (congrArg (recv0G i) ?_)
  refine (third_eq i M0 h0 M1 h1 M2 h2 _ _ _ _).trans ?_
  rfl

end Cert.KernelIdeal.Gather

end
-- ==== Proof.Gather.Parts.lean ====
/-
  When each condition of the gather's body holds, the state between two points, and what the parts of the body do to it.
-/
module

public import proofs.«01_k».proof.Proof.Gather.Whole

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Talk
open Cert.KernelIdeal.Talk.Gather
open Cert.KernelIdeal.Gen

variable {F : FTy → Type} [FloatOps F]

local notation "𝕄" => MT nD τ sig Unit (Elt F) ℕ UU ℕ

/-! ## The conditions, as conditions on the point's number -/

theorem cond1 : ∀ t : Fin grid1.N, k1_cond1 (grid1.coords t) = 1#1 ↔ t.val = 0 := by decide +kernel
theorem cond6 : ∀ t : Fin grid1.N, k1_cond6 (grid1.coords t) = 1#1 ↔ t.val < 16 := by decide +kernel
theorem cond7 : ∀ t : Fin grid1.N, k1_cond7 (grid1.coords t) = 1#1 ↔ t.val < 4 := by decide +kernel
theorem cond8 : ∀ t : Fin grid1.N, k1_cond8 (grid1.coords t) = 1#1 ↔ 4 ≤ t.val := by decide +kernel
theorem cond9 : ∀ t : Fin grid1.N, k1_cond9 (grid1.coords t) = 1#1 ↔ 16 ≤ t.val := by decide +kernel
theorem cond10 : ∀ t : Fin grid1.N, k1_cond10 (grid1.coords t) = 1#1 ↔ t.val < 4 := by decide +kernel
theorem cond11 : ∀ t : Fin grid1.N, k1_cond11 (grid1.coords t) = 1#1 ↔ 4 ≤ t.val := by decide +kernel
theorem cond12 : ∀ t : Fin grid1.N, k1_cond12 (grid1.coords t) = 1#1 ↔ 28 ≤ t.val := by decide +kernel
theorem arr0 : ∀ t : Fin grid1.N, at4 (grid1.coords t) 4#32 = 1#1 ↔ t.val = 16 + 4 * (0 : Fin 4).val := by decide +kernel
theorem arr1 : ∀ t : Fin grid1.N, at4 (grid1.coords t) 5#32 = 1#1 ↔ t.val = 16 + 4 * (1 : Fin 4).val := by decide +kernel
theorem arr2 : ∀ t : Fin grid1.N, at4 (grid1.coords t) 6#32 = 1#1 ↔ t.val = 16 + 4 * (2 : Fin 4).val := by decide +kernel
theorem arr3 : ∀ t : Fin grid1.N, at4 (grid1.coords t) 7#32 = 1#1 ↔ t.val = 16 + 4 * (3 : Fin 4).val := by decide +kernel
theorem last_iff : ∀ t : Fin grid1.N, lastW (grid1.coords t) = 1#1 ↔ t.val = 31 := by decide +kernel
theorem dev1 (d : Dev nD) (h : k1_dev1 d < nD) : (⟨k1_dev1 d, h⟩ : Dev nD) = pr d := Fin.ext (by revert d; decide +kernel)
theorem dev2 (d : Dev nD) (h : k1_dev2 d < nD) : (⟨k1_dev2 d, h⟩ : Dev nD) = pr d := Fin.ext (by revert d; decide +kernel)
theorem dev3 (d : Dev nD) (h : k1_dev3 d < nD) : (⟨k1_dev3 d, h⟩ : Dev nD) = pr d := Fin.ext (by revert d; decide +kernel)
theorem dev4 (d : Dev nD) (h : k1_dev4 d < nD) : (⟨k1_dev4 d, h⟩ : Dev nD) = pr d := Fin.ext (by revert d; decide +kernel)
theorem dev5 (d : Dev nD) (h : k1_dev5 d < nD) : (⟨k1_dev5 d, h⟩ : Dev nD) = pr d := Fin.ext (by revert d; decide +kernel)
theorem off3 : ∀ t : Fin grid1.N, k1_off3 (grid1.coords t) = ![t.val % 4, 0, 0] := by decide +kernel
theorem off4 : ∀ t : Fin grid1.N, k1_off4 (grid1.coords t) = ![t.val % 4, 0, 0] := by decide +kernel
theorem off7 : ∀ t : Fin grid1.N, k1_off7 (grid1.coords t) = ![t.val % 4, 0, 0] := by decide +kernel
theorem off8 : ∀ t : Fin grid1.N, k1_off8 (grid1.coords t) = ![t.val % 4, 0, 0] := by decide +kernel
theorem off5 : ∀ t : Fin grid1.N, 16 ≤ t.val → k1_off5 (grid1.coords t) = ![t.val / 4 - 4, 0, 0] := by decide +kernel

theorem sem_send (k : Fin 4) (off : Fin 1 → Nat) (h : off = ![k.val]) (h' : ∀ a, off a + S1.size a ≤ S4.size a) :
    ((cc1_scratch2.slice (Rect.unit (s := S4) off S1.size h')).squeeze S_ squeezes_S1_S_).sem = sendS 0 k := by subst h; revert k; decide
theorem sem_recv (k : Fin 4) (off : Fin 1 → Nat) (h : off = ![k.val]) (h' : ∀ a, off a + S1.size a ≤ S4.size a) :
    ((cc1_scratch3.slice (Rect.unit (s := S4) off S1.size h')).squeeze S_ squeezes_S1_S_).sem = recvS 0 k := by subst h; revert k; decide

/-! ## The accumulators -/

theorem inbA (k : Fin 4) : ∀ a, (![k.val, 0, 0] : Fin 3 → Nat) a + S1x1152x2048.size a ≤ S4x1152x2048.size a := by
  revert k; decide
/-- One expert's accumulator. -/
abbrev acM (k : Fin 4) : Memref sig .tc .vmem S1x1152x2048 .bf16 := acW.slice (boxA ![k.val, 0, 0] (inbA k)) (fun _ => rfl)

/-- Reading an accumulator. -/
theorem load_acc (c : Dev nD) (k : Fin 4) {Q : PUnit → sProp 𝕄} (V : FVec F S1x1152x2048 .bf16) {off : Fin 3 → Nat} (ho : off = ![k.val, 0, 0])
    {h : ∀ a, off a + S1x1152x2048.size a ≤ S4x1152x2048.size a} {hl : acW.view.LoadsAt (boxA off h).toLoadRect}
    {kk : Vec F S1x1152x2048 .bf16 → Piece F} :
    (has c (acM k) V : sProp 𝕄) ⊢ iprop((has c (acM k) V -∗ WP c (kk V) Q) -∗ WP c (.op (.load acW (boxA off h).toLoadRect hl) kk) Q) := by
  subst ho
  unfold has owns
  iintro ⟨%f, %hf, H⟩ Hk
  iapply (wp_load_rect 𝒱₀ (c : Thread nD τ) none Set.univ (m := acW) (r := boxA ![k.val, 0, 0] h) (S := (acM k).view.set)
    (q := fullShare) (f := f) (hl := hl) (le_refl _)) $$ H
  iintro H
  rw [show (acW.access (boxA ![k.val, 0, 0] h)).read (Elt F) f = V from hf]
  iapply Hk
  iexists f
  isplitr; · ipureintro; exact hf
  iexact H

/-- Writing an accumulator. -/
theorem store_acc (c : Dev nD) (k : Fin 4) {Q : PUnit → sProp 𝕄} (V w : FVec F S1x1152x2048 .bf16) {off : Fin 3 → Nat} (ho : off = ![k.val, 0, 0])
    {h : ∀ a, off a + S1x1152x2048.size a ≤ S4x1152x2048.size a} {hx : (acW.access (boxA off h)).Stores Finset.univ}
    {hm : (Finset.univ : Finset (boxA off h).shape.Idx) = Finset.univ ∨ ∀ a, (boxA off h).stride a = 1} {kk : PUnit → Piece F} :
    (has c (acM k) V : sProp 𝕄) ⊢ iprop((has c (acM k) w -∗ WP c (kk ⟨⟩) Q) -∗ WP c (.op (.store acW (boxA off h) w Finset.univ hx hm) kk) Q) := by
  subst ho
  unfold has owns
  iintro ⟨%f, %hf, H⟩ Hk
  iapply (wp_store 𝒱₀ (c : Thread nD τ) none Set.univ (m := acW) (r := boxA ![k.val, 0, 0] h) (S := (acM k).view.set) (f := f) (w := w) (hx := hx) (hm := hm)
    (le_refl _)) $$ H
  iintro H
  iapply Hk
  iexists _
  isplitr
  swap; · iexact H
  ipureintro
  exact View.read_write_univ (v := (acM k).view) f w

/-- Filling an accumulator, where the condition holds. -/
theorem putG_run (c : Dev nD) (k : Fin 4) (Q : PUnit → sProp 𝕄) (V w : FVec F S1x1152x2048 .bf16) {b : BitVec 1} {p : Prop} [Decidable p] (hb : b = 1#1 ↔ p)
    {off : Fin 3 → Nat} (ho : p → off = ![k.val, 0, 0]) {hi hst} {rest : Piece F} :
    iprop(has c (acM k) V ∗ (has c (acM k) (if p then w else V) -∗ WP c rest Q)) ⊢ WP c (putG b off hi hst w rest) Q := by
  unfold putG
  by_cases h : p
  · rw [dif_pos (hb.mpr h), if_pos h]
    iintro ⟨H, Hk⟩
    iapply (load_acc c k V (ho h)) $$ H
    iintro H
    iapply (store_acc c k V w (ho h)) $$ H
    iexact Hk
  · rw [dif_neg (fun h' => h (hb.mp h')), if_neg h]
    iintro ⟨H, Hk⟩
    iapply Hk; iexact H

/-- Adding to an accumulator, where the condition holds. -/
theorem addG_run (c : Dev nD) (k : Fin 4) (Q : PUnit → sProp 𝕄) (V : FVec F S1x1152x2048 .bf16) (w : Vec F S1x1152x2048 .bf16 → FVec F S1x1152x2048 .bf16)
    {b : BitVec 1} {p : Prop} [Decidable p] (hb : b = 1#1 ↔ p)
    {off : Fin 3 → Nat} (ho : p → off = ![k.val, 0, 0]) {hi hst} {rest : Piece F} :
    iprop(has c (acM k) V ∗ (has c (acM k) (if p then w V else V) -∗ WP c rest Q)) ⊢ WP c (addG b off hi hst w rest) Q := by
  unfold addG
  by_cases h : p
  · rw [dif_pos (hb.mpr h), if_pos h]
    iintro ⟨H, Hk⟩
    iapply (load_acc c k V (ho h)) $$ H
    iintro H
    iapply (load_acc c k V (ho h)) $$ H
    iintro H
    iapply (store_acc c k V (w V) (ho h)) $$ H
    iexact Hk
  · rw [dif_neg (fun h' => h (hb.mp h')), if_neg h]
    iintro ⟨H, Hk⟩
    iapply Hk; iexact H

/-! ## The state -/

/-- One of four, and how to put it back. -/
theorem four_focus {P P' : Fin 4 → sProp 𝕄} (e : Fin 4) (h : ∀ k, k ≠ e → P k ⊢ P' k) : four P ⊢ iprop(P e ∗ (P' e -∗ four P')) := by
  have split : ∀ R : Fin 4 → sProp 𝕄, four R = iprop(R e ∗ bigSep (Finset.univ.erase e) R) := fun R => by
    rw [← four_eq, BI.bigSep_erase (Finset.mem_univ e)]; rfl
  rw [split P, split P']
  iintro ⟨He, Hr⟩
  isplitl [He]; · iexact He
  iintro He
  isplitl [He]; · iexact He
  iapply (show bigSep (Finset.univ.erase e) P ⊢ bigSep (Finset.univ.erase e) P' from bigSep_mono fun k hk => h k (Finset.ne_of_mem_erase hk)) $$ Hr

/-- What point `t` makes of the accumulator it finds. -/
structure Step (F : FTy → Type) where
  put : ℕ → FVec F S1x1152x2048 .bf16
  add : ℕ → FVec F S1x1152x2048 .bf16 → FVec F S1x1152x2048 .bf16
/-- The accumulator of expert `e` after its block `i`. -/
def acc (p : Step F) (e : ℕ) : ℕ → FVec F S1x1152x2048 .bf16
  | 0 => p.put e
  | i + 1 => p.add (4 * (i + 1) + e) (acc p e i)
/-- The accumulator after point `t`, of that point's expert. -/
abbrev accT (p : Step F) (t : ℕ) : FVec F S1x1152x2048 .bf16 := acc p (t % 4) (t / 4)

/-- An expert's accumulator before point `t`. -/
def accSt (p : Step F) (c : Dev nD) (t : ℕ) (k : Fin 4) : sProp 𝕄 :=
  iprop(∃ V, has c (acM k) V ∗ ⌜∀ i, 4 * i + k.val < t → t ≤ 4 * (i + 1) + k.val → V = acc p k.val i⌝)
/-- The `k`-th send before point `t`. -/
def out (sent : Sent F) (c : Dev nD) (t : ℕ) (k : Fin 4) : sProp 𝕄 :=
  if t = 0 then iprop(unsent 0 c k ∗ sendPay sent 0 c k) else if t < 32 then flying 0 c k else iprop(sendPay sent 0 c k ∗ semVal (sendCell 0 c k) 0)
/-- The partner's `k`-th block before point `t`. -/
def inc (sent : Sent F) (c : Dev nD) (t : ℕ) (k : Fin 4) : sProp 𝕄 :=
  if t ≤ 16 + 4 * k.val then wanting 0 c k else iprop(recvPay sent 0 c k ∗ semVal (recvCell 0 c k) 0)
/-- The barrier before point `t`. -/
def gate (c : Dev nD) (t : ℕ) : sProp 𝕄 := if t = 0 then start 0 c else semVal (barCell 0 c) 0
/-- What is owed before point `t`. -/
def owed (c : Dev nD) (t : ℕ) : CellTallies nD τ sig Unit := if t = 0 then O₀ c else O₁ c

/-! ## The parts of the body -/

/-- The first point's barrier and sends. -/
theorem startG_run (sent : Sent F) (K : GSem nD τ sig → ℕ) (c : Dev nD) (t : Fin grid1.N) (Q : PUnit → sProp 𝕄) {rest : Piece F} :
    iprop(known sent K 0 c ∗ gate c t.val ∗ four (out sent c t.val) ∗ ow c (owed c t.val)
        ∗ ((semVal (barCell 0 c) 0 ∗ four (if t.val = 0 then flying 0 c else out sent c t.val) ∗ ow c (O₁ c)) -∗ WP c rest Q))
      ⊢ WP c (startG (grid1.coords t) c rest) Q := by
  unfold startG
  by_cases h : t.val = 0
  swap
  · rw [dif_neg (fun h' => h ((cond1 t).mp h')), show gate (F := F) c t.val = semVal (barCell 0 c) 0 from if_neg h, if_neg h, show owed c t.val = O₁ c from if_neg h]
    iintro ⟨-, Hg, Ho, HO, Hk⟩
    iapply Hk
    isplitl [Hg]; · iexact Hg
    isplitl [Ho] <;> iassumption
  rw [dif_pos ((cond1 t).mpr h), if_pos h, show gate (F := F) c t.val = start 0 c from if_pos h,
    show owed c t.val = og c + tallyAt (barCell 0 (pr c)) () 1 from if_pos h, show four (out sent c t.val) = four (out sent c 0) from congrArg (fun n => four (out sent c n)) h]
  iintro ⟨#HI, Hg, Ho, HO, Hk⟩
  iapply (meet_run sent K 0 c (og c) (above_og c) Q (dev1 c _) rfl)
  isplitr; · iexact HI
  isplitl [Hg]; · iexact Hg
  isplitl [HO]; · iexact HO
  iintro ⟨Hd, Hv, HO⟩
  unfold known cells four out
  icases HI with ⟨-, -, #I0, #I1, #I2, #I3⟩
  icases Hd with ⟨D0, D1, D2, D3⟩
  simp only [if_true]
  icases Ho with ⟨⟨U0, P0⟩, ⟨U1, P1⟩, ⟨U2, P2⟩, ⟨U3, P3⟩⟩
  unfold sendsG sendG og
  iapply (send_run sent K 0 c 0 (O₁ c + tallyAt (recvCell 0 (pr c) 3) () N + tallyAt (recvCell 0 (pr c) 2) () N + tallyAt (recvCell 0 (pr c) 1) () N) Q (src := srM 0) (dst := rvM 0) rfl (N_rv 0) (.of_eq rfl) (.of_eq (by rw [show recvPay sent 0 (pr c) 0 = has (pr c) (rvM 0) (sent.g (pr (pr c)) 0) from rfl, pr_pr])) (dev2 c _) (sem_send 0 _ rfl _) (sem_recv 0 _ rfl _))
  isplitr; · iexact I0
  isplitl [U0]; · iexact U0
  isplitl [P0]; · iapply (show sendPay sent 0 c 0 ⊢ owns (c : Thread nD τ) (srM 0) halfR (sent.g c 0) from .of_eq rfl) $$ P0
  isplitl [D0]; · iexact D0
  isplitl [HO]; · iexact HO
  iintro ⟨S0, HO⟩
  iapply (send_run sent K 0 c 1 (O₁ c + tallyAt (recvCell 0 (pr c) 3) () N + tallyAt (recvCell 0 (pr c) 2) () N) Q (src := srM 1) (dst := rvM 1) rfl (N_rv 1) (.of_eq rfl) (.of_eq (by rw [show recvPay sent 0 (pr c) 1 = has (pr c) (rvM 1) (sent.g (pr (pr c)) 1) from rfl, pr_pr])) (dev3 c _) (sem_send 1 _ rfl _) (sem_recv 1 _ rfl _))
  isplitr; · iexact I1
  isplitl [U1]; · iexact U1
  isplitl [P1]; · iapply (show sendPay sent 0 c 1 ⊢ owns (c : Thread nD τ) (srM 1) halfR (sent.g c 1) from .of_eq rfl) $$ P1
  isplitl [D1]; · iexact D1
  isplitl [HO]; · iexact HO
  iintro ⟨S1, HO⟩
  iapply (send_run sent K 0 c 2 (O₁ c + tallyAt (recvCell 0 (pr c) 3) () N) Q (src := srM 2) (dst := rvM 2) rfl (N_rv 2) (.of_eq rfl) (.of_eq (by rw [show recvPay sent 0 (pr c) 2 = has (pr c) (rvM 2) (sent.g (pr (pr c)) 2) from rfl, pr_pr])) (dev4 c _) (sem_send 2 _ rfl _) (sem_recv 2 _ rfl _))
  isplitr; · iexact I2
  isplitl [U2]; · iexact U2
  isplitl [P2]; · iapply (show sendPay sent 0 c 2 ⊢ owns (c : Thread nD τ) (srM 2) halfR (sent.g c 2) from .of_eq rfl) $$ P2
  isplitl [D2]; · iexact D2
  isplitl [HO]; · iexact HO
  iintro ⟨S2, HO⟩
  iapply (send_run sent K 0 c 3 (O₁ c) Q (src := srM 3) (dst := rvM 3) rfl (N_rv 3) (.of_eq rfl) (.of_eq (by rw [show recvPay sent 0 (pr c) 3 = has (pr c) (rvM 3) (sent.g (pr (pr c)) 3) from rfl, pr_pr])) (dev5 c _) (sem_send 3 _ rfl _) (sem_recv 3 _ rfl _))
  isplitr; · iexact I3
  isplitl [U3]; · iexact U3
  isplitl [P3]; · iapply (show sendPay sent 0 c 3 ⊢ owns (c : Thread nD τ) (srM 3) halfR (sent.g c 3) from .of_eq rfl) $$ P3
  isplitl [D3]; · iexact D3
  isplitl [HO]; · iexact HO
  iintro ⟨S3, HO⟩
  iapply Hk
  isplitl [Hv]; · iexact Hv
  isplitl [S0 S1 S2 S3]
  · isplitl [S0]; · iexact S0
    isplitl [S1]; · iexact S1
    isplitl [S2] <;> iassumption
  iexact HO

/-- Waiting for one of the partner's blocks. -/
theorem recvG_run (sent : Sent F) (K : GSem nD τ sig → ℕ) (c : Dev nD) (k : Fin 4) (t : ℕ) (Q : PUnit → sProp 𝕄) {b : BitVec 1}
    (hb : b = 1#1 ↔ t = 16 + 4 * k.val) {offX hX off h3 rS hw1 hw2} (hN : (slotOf s1 off h3).view.dmaCredit = N) (hR : rS = recvS 0 k) {rest : Piece F} :
    iprop(levAts L lv ∗ kinv sent K 0 c k ∗ inc sent c t k ∗ ow c (O₁ c) ∗ ((inc sent c (t + 1) k ∗ ow c (O₁ c)) -∗ WP c rest Q))
      ⊢ WP c (recvG b offX hX off h3 rS hw1 hw2 rest) Q := by
  unfold recvG inc
  by_cases h : t = 16 + 4 * k.val
  · rw [if_pos (hb.mpr h), if_pos (le_of_eq h), if_neg (by omega)]
    iintro ⟨Hl, Hi, Hw, HO, Hk⟩
    iapply (recv_run sent K 0 c k (O₁ c) (above_O₁ c) Q hN hR)
    isplitl [Hl]; · iexact Hl
    isplitl [Hi]; · iexact Hi
    isplitl [Hw]; · iexact Hw
    isplitl [HO]; · iexact HO
    iintro ⟨Hp, Hv, HO⟩
    iapply Hk
    isplitl [Hp Hv]; · isplitl [Hp] <;> iassumption
    iexact HO
  · rw [if_neg (fun h' => h (hb.mp h'))]
    have e : (t ≤ 16 + 4 * k.val) = (t + 1 ≤ 16 + 4 * k.val) := propext (by omega)
    simp only [e]
    iintro ⟨-, -, Hw, HO, Hk⟩
    iapply Hk
    isplitl [Hw] <;> iassumption

/-- All four of them. -/
theorem recvs_run (sent : Sent F) (K : GSem nD τ sig → ℕ) (c : Dev nD) (t : Fin grid1.N) (Q : PUnit → sProp 𝕄) {rest : Piece F} :
    iprop(known sent K 0 c ∗ four (inc sent c t.val) ∗ ow c (O₁ c) ∗ ((four (inc sent c (t.val + 1)) ∗ ow c (O₁ c)) -∗ WP c rest Q))
      ⊢ WP c (recv0G (grid1.coords t) (recvsG (grid1.coords t) (at4 (grid1.coords t) 5#32) rest)) Q := by
  unfold known cells four recv0G recvsG
  iintro ⟨⟨#Hl, -, #I0, #I1, #I2, #I3⟩, ⟨S0, S1, S2, S3⟩, HO, Hk⟩
  iapply (recvG_run sent K c 0 t.val Q (arr0 t) (N_rv 0) (sem_recv 0 _ rfl _))
  isplitr; · iexact Hl
  isplitr; · iexact I0
  isplitl [S0]; · iexact S0
  isplitl [HO]; · iexact HO
  iintro ⟨S0, HO⟩
  iapply (recvG_run sent K c 1 t.val Q (arr1 t) (N_rv 1) (sem_recv 1 _ rfl _))
  isplitr; · iexact Hl
  isplitr; · iexact I1
  isplitl [S1]; · iexact S1
  isplitl [HO]; · iexact HO
  iintro ⟨S1, HO⟩
  iapply (recvG_run sent K c 2 t.val Q (arr2 t) (N_rv 2) (sem_recv 2 _ rfl _))
  isplitr; · iexact Hl
  isplitr; · iexact I2
  isplitl [S2]; · iexact S2
  isplitl [HO]; · iexact HO
  iintro ⟨S2, HO⟩
  iapply (recvG_run sent K c 3 t.val Q (arr3 t) (N_rv 3) (sem_recv 3 _ rfl _))
  isplitr; · iexact Hl
  isplitr; · iexact I3
  isplitl [S3]; · iexact S3
  isplitl [HO]; · iexact HO
  iintro ⟨S3, HO⟩
  iapply Hk
  isplitl [S0 S1 S2 S3]
  · isplitl [S0]; · iexact S0
    isplitl [S1]; · iexact S1
    isplitl [S2] <;> iassumption
  iexact HO

/-- The waits for the sends. -/
theorem waitsG_run (sent : Sent F) (K : GSem nD τ sig → ℕ) (c : Dev nD) (Q : PUnit → sProp 𝕄) {rest : Piece F} :
    iprop(known sent K 0 c ∗ four (flying 0 c) ∗ ow c (O₁ c)
        ∗ ((four (fun k => iprop(sendPay sent 0 c k ∗ semVal (sendCell 0 c k) 0)) ∗ ow c (O₁ c)) -∗ WP c rest Q))
      ⊢ WP c (waitsG rest) Q := by
  unfold known cells four waitsG waitG
  iintro ⟨⟨#Hl, -, #I0, #I1, #I2, #I3⟩, ⟨S0, S1, S2, S3⟩, HO, Hk⟩
  iapply (sent_run sent K 0 c 0 (O₁ c) (above_mono (above_O₁ c) (by decide)) Q (N_sr 0) (sem_send 0 _ rfl _))
  isplitr; · iexact Hl
  isplitr; · iexact I0
  isplitl [S0]; · iexact S0
  isplitl [HO]; · iexact HO
  iintro ⟨P0, V0, HO⟩
  iapply (sent_run sent K 0 c 1 (O₁ c) (above_mono (above_O₁ c) (by decide)) Q (N_sr 1) (sem_send 1 _ rfl _))
  isplitr; · iexact Hl
  isplitr; · iexact I1
  isplitl [S1]; · iexact S1
  isplitl [HO]; · iexact HO
  iintro ⟨P1, V1, HO⟩
  iapply (sent_run sent K 0 c 2 (O₁ c) (above_mono (above_O₁ c) (by decide)) Q (N_sr 2) (sem_send 2 _ rfl _))
  isplitr; · iexact Hl
  isplitr; · iexact I2
  isplitl [S2]; · iexact S2
  isplitl [HO]; · iexact HO
  iintro ⟨P2, V2, HO⟩
  iapply (sent_run sent K 0 c 3 (O₁ c) (above_mono (above_O₁ c) (by decide)) Q (N_sr 3) (sem_send 3 _ rfl _))
  isplitr; · iexact Hl
  isplitr; · iexact I3
  isplitl [S3]; · iexact S3
  isplitl [HO]; · iexact HO
  iintro ⟨P3, V3, HO⟩
  iapply Hk
  isplitl [P0 P1 P2 P3 V0 V1 V2 V3]
  · isplitl [P0 V0]; · isplitl [P0] <;> iassumption
    isplitl [P1 V1]; · isplitl [P1] <;> iassumption
    isplitl [P2 V2]; · isplitl [P2] <;> iassumption
    isplitl [P3] <;> iassumption
  iexact HO

end Cert.KernelIdeal.Gather

end
-- ==== Proof.Gather.Point.lean ====
/-
  What the gather's body does at one grid point.
-/
module

public import proofs.«01_k».proof.Proof.Gather.Parts

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Talk
open Cert.KernelIdeal.Talk.Gather
open Cert.KernelIdeal.Gen

variable {F : FTy → Type} [FloatOps F]

local notation "𝕄" => MT nD τ sig Unit (Elt F) ℕ UU ℕ

/-- Reading a receive slot. -/
theorem load_rv (c : Dev nD) (k : Fin 4) {Q : PUnit → sProp 𝕄} (X : FVec F S1024x2048 .bf16) {off : Fin 3 → Nat} (ho : off = ![k.val, 0, 0])
    {h : ∀ a, off a + S1x1024x2048.size a ≤ S4x1024x2048.size a} {hl : s1.view.LoadsAt (box off h).toLoadRect}
    {kk : Vec F S1x1024x2048 .bf16 → Piece F} :
    (has c (rvM k) X : sProp 𝕄)
      ⊢ iprop((has c (rvM k) X -∗ WP c (kk (shapeCast S1x1024x2048 X shapeCasts_S1024x2048_S1x1024x2048)) Q)
          -∗ WP c (.op (.load s1 (box off h).toLoadRect hl) kk) Q) := by
  subst ho
  exact load_slot c s1 X

/-- What a point's expert's start, ranks and tokens make of an accumulator; the tokens are the device's own for four blocks,
    then what arrived. -/
def stepOf (lo : ℕ → Elt F .i32) (rk : ℕ → Vec F S1x1024 .i32) (xb : ℕ → Vec F S1024x2048 .bf16) (got : Fin 4 → FVec F S1024x2048 .bf16) : Step F where
  put t := k1_pay4 (lo t) (rk t) (xb t)
  add t v := if t < 16 then k1_pay5 (lo t) (rk t) (xb t) v
    else k1_pay8 (lo t) (rk t) (shapeCast S1x1024x2048 (got ⟨(t / 4 - 4) % 4, Nat.mod_lt _ (by decide)⟩) shapeCasts_S1024x2048_S1x1024x2048) v

theorem accT_add (p : Step F) (t : ℕ) (h : 4 ≤ t) : accT p t = p.add t (acc p (t % 4) (t / 4 - 1)) := by
  obtain ⟨q, hq⟩ : ∃ q, t / 4 = q + 1 := ⟨t / 4 - 1, by omega⟩
  unfold accT
  rw [hq, Nat.add_sub_cancel]
  show p.add (4 * (q + 1) + t % 4) _ = _
  rw [show 4 * (q + 1) + t % 4 = t by omega]

/-- The expert of a point. -/
def ex (t : ℕ) : Fin 4 := ⟨t % 4, Nat.mod_lt _ (by decide)⟩

section

variable (sent : Sent F) (K : GSem nD τ sig → ℕ) (c : Dev nD) (t : Fin grid1.N)
variable (lo : ℕ → Elt F .i32) (rk : ℕ → Vec F S1x1024 .i32) (xb : ℕ → Vec F S1024x2048 .bf16)

abbrev stp : Step F := stepOf lo rk xb (sent.g (pr c))

/-- The products of a point. -/
theorem prods_run (Q : PUnit → sProp 𝕄) (M1 : Memref sig .tc .vmem S1024x2048 .bf16) (V : FVec F S1x1152x2048 .bf16)
    (hV : 4 ≤ t.val → V = acc (stp sent c lo rk xb) (t.val % 4) (t.val / 4 - 1)) {rest : Piece F} :
    iprop(has c M1 (xb t.val) ∗ has c (acM (ex t.val)) V ∗ four (inc sent c (t.val + 1))
        ∗ ((has c M1 (xb t.val) ∗ has c (acM (ex t.val)) (accT (stp sent c lo rk xb) t.val) ∗ four (inc sent c (t.val + 1))) -∗ WP c rest Q))
      ⊢ WP c (mineG (grid1.coords t) M1 (lo t.val) (rk t.val) (theirsG (grid1.coords t) (lo t.val) (rk t.val) rest)) Q := by
  have ht : t.val < 32 := lt_of_lt_of_eq t.isLt N_1
  unfold mineG theirsG
  by_cases h : t.val < 16
  · have e : accT (stp sent c lo rk xb) t.val = if 4 ≤ t.val then k1_pay5 (lo t.val) (rk t.val) (xb t.val) V else k1_pay4 (lo t.val) (rk t.val) (xb t.val) := by
      by_cases h4 : 4 ≤ t.val
      · rw [if_pos h4, hV h4, accT_add _ _ h4]; exact if_pos h
      · unfold accT; rw [if_neg h4, show t.val / 4 = 0 by omega, show t.val % 4 = t.val by omega]; rfl
    rw [dif_pos ((cond6 t).mpr h), dif_neg (fun h' => absurd ((cond9 t).mp h') (by omega)), e]
    iintro ⟨H1, Ha, Hi, Hk⟩
    iapply (load_all c M1 (xb t.val)) $$ H1
    iintro H1
    iapply (putG_run c (ex t.val) Q V _ (cond7 t) (fun _ => off3 t))
    isplitl [Ha]; · iexact Ha
    iintro Ha
    iapply (addG_run c (ex t.val) Q _ _ (cond8 t) (fun _ => off4 t))
    isplitl [Ha]; · iexact Ha
    iintro Ha
    iapply Hk
    isplitl [H1]; · iexact H1
    isplitl [Ha]
    · by_cases h4 : 4 ≤ t.val
      · rw [if_pos h4, if_neg (by omega : ¬ t.val < 4)] <;> try rw [if_pos h4]
        iexact Ha
      · rw [if_neg h4, if_pos (by omega : t.val < 4)] <;> try rw [if_neg h4]
        iexact Ha
    iexact Hi
  · have e : accT (stp sent c lo rk xb) t.val = k1_pay8 (lo t.val) (rk t.val)
        (shapeCast S1x1024x2048 (sent.g (pr c) ⟨(t.val / 4 - 4) % 4, Nat.mod_lt _ (by decide)⟩) shapeCasts_S1024x2048_S1x1024x2048) V := by
      rw [hV (by omega), accT_add _ _ (by omega)]; exact if_neg h
    rw [dif_neg (fun h' => h ((cond6 t).mp h')), dif_pos ((cond9 t).mpr (by omega)), e]
    iintro ⟨H1, Ha, Hi, Hk⟩
    ihave Hi := (four_focus (P := inc sent c (t.val + 1)) (P' := inc sent c (t.val + 1)) ⟨(t.val / 4 - 4) % 4, Nat.mod_lt _ (by decide)⟩ fun _ _ => BIBase.Entails.rfl) $$ Hi
    have ei : inc sent c (t.val + 1) ⟨(t.val / 4 - 4) % 4, Nat.mod_lt _ (by decide)⟩
        = iprop(has c (rvM ⟨(t.val / 4 - 4) % 4, Nat.mod_lt _ (by decide)⟩) (sent.g (pr c) ⟨(t.val / 4 - 4) % 4, Nat.mod_lt _ (by decide)⟩)
            ∗ semVal (recvCell 0 c ⟨(t.val / 4 - 4) % 4, Nat.mod_lt _ (by decide)⟩) 0) := if_neg (by show ¬ _ ≤ 16 + 4 * ((t.val / 4 - 4) % 4); omega)
    rw [ei]
    icases Hi with ⟨⟨Hr, Hv⟩, Hi⟩
    iapply (load_rv c ⟨(t.val / 4 - 4) % 4, Nat.mod_lt _ (by decide)⟩ _ ((off5 t (by omega)).trans (by show ![t.val / 4 - 4, 0, 0] = ![(t.val / 4 - 4) % 4, 0, 0]; rw [Nat.mod_eq_of_lt (by omega)]))) $$ Hr
    iintro Hr
    unfold putG
    rw [dif_neg (fun h' => absurd ((cond10 t).mp h') (by omega))]
    iapply (addG_run c (ex t.val) Q _ _ (cond11 t) (fun _ => off7 t))
    isplitl [Ha]; · iexact Ha
    iintro Ha
    rw [if_pos (by omega : 4 ≤ t.val)]
    iapply Hk
    isplitl [H1]; · iexact H1
    isplitl [Ha]; · iexact Ha
    iapply Hi
    isplitl [Hr] <;> iassumption

/-- What follows the products. -/
theorem tailG_run (Q : PUnit → sProp 𝕄) (M2 : Memref sig .tc .vmem S1x1152x2048 .bf16) (h2 : M2.IsWhole) (V Y : FVec F S1x1152x2048 .bf16) :
    iprop(known sent K 0 c ∗ has c (acM (ex t.val)) V ∗ has c M2 Y ∗ four (if t.val = 0 then flying 0 c else out sent c t.val) ∗ ow c (O₁ c)
        ∗ ((has c (acM (ex t.val)) V ∗ has c M2 (if 28 ≤ t.val then k1_pay1 V else Y) ∗ four (out sent c (t.val + 1)) ∗ ow c (O₁ c)) -∗ Q ⟨⟩))
      ⊢ WP c (tailG (grid1.coords t) M2 h2) Q := by
  have ht : t.val < 32 := lt_of_lt_of_eq t.isLt N_1
  have ef : (if t.val = 0 then flying 0 c else out sent c t.val) = flying (F := F) 0 c := by
    split
    · rfl
    · next h => exact funext fun k => (if_neg h).trans (if_pos ht)
  have hw : iprop(known sent K 0 c ∗ four (flying 0 c) ∗ ow c (O₁ c) ∗ ((four (out sent c (t.val + 1)) ∗ ow c (O₁ c)) -∗ Q ⟨⟩))
      ⊢ WP c (if lastW (grid1.coords t) = 1#1 then waitsG (Prog.ret ⟨⟩) else Prog.ret ⟨⟩) Q := by
    by_cases h : t.val = 31
    · rw [if_pos ((last_iff t).mpr h), show out sent c (t.val + 1) = fun k => iprop(sendPay sent 0 c k ∗ semVal (sendCell 0 c k) 0) from
        funext fun k => (if_neg (Nat.succ_ne_zero _)).trans (if_neg (by omega))]
      iintro ⟨HI, Hf, HO, Hk⟩
      iapply (waitsG_run sent K c Q)
      isplitl [HI]; · iexact HI
      isplitl [Hf]; · iexact Hf
      isplitl [HO]; · iexact HO
      iintro H
      unfold WP
      rw [wp_ret]
      imodintro
      iapply Hk
      iexact H
    · rw [if_neg (fun h' => h ((last_iff t).mp h')), show out sent c (t.val + 1) = flying 0 c from funext fun k => (if_neg (Nat.succ_ne_zero _)).trans (if_pos (by omega))]
      unfold WP
      rw [wp_ret]
      iintro ⟨-, Hf, HO, Hk⟩
      imodintro
      iapply Hk
      isplitl [Hf] <;> iassumption
  rw [ef]
  unfold tailG outG
  by_cases h : 28 ≤ t.val
  · rw [dif_pos ((cond12 t).mpr h), if_pos h]
    iintro ⟨HI, Ha, H2, Hf, HO, Hk⟩
    iapply (load_acc c (ex t.val) V (off8 t)) $$ Ha
    iintro Ha
    iapply (load_all c M2 Y) $$ H2
    iintro H2
    iapply (store_all c M2 Y _) $$ H2
    iintro H2
    iapply hw
    isplitl [HI]; · iexact HI
    isplitl [Hf]; · iexact Hf
    isplitl [HO]; · iexact HO
    iintro ⟨Ho, HO⟩
    iapply Hk
    isplitl [Ha]; · iexact Ha
    isplitl [H2]; · iexact H2
    isplitl [Ho] <;> iassumption
  · rw [dif_neg (fun h' => h ((cond12 t).mp h')), if_neg h]
    iintro ⟨HI, Ha, H2, Hf, HO, Hk⟩
    iapply hw
    isplitl [HI]; · iexact HI
    isplitl [Hf]; · iexact Hf
    isplitl [HO]; · iexact HO
    iintro ⟨Ho, HO⟩
    iapply Hk
    isplitl [Ha]; · iexact Ha
    isplitl [H2]; · iexact H2
    isplitl [Ho] <;> iassumption

/-- The experts other than the point's keep their accumulators. -/
theorem accSt_still (p : Step F) (c : Dev nD) (t : ℕ) (k : Fin 4) (h : k ≠ ex t) : accSt p c t k ⊢ accSt p c (t + 1) k := by
  have hk : k.val ≠ t % 4 := fun e => h (Fin.ext e)
  have := k.isLt
  unfold accSt
  iintro ⟨%V, H, %hV⟩
  iexists V
  isplitl [H]; · iexact H
  ipureintro
  intro i h1 h2
  exact hV i (by omega) (by omega)

/-- The tables held are the table of starts and the table of blocks. -/
theorem pref_eq (c : Dev nD) (pf : pre1.Contents (Elt F)) :
    (Pipeline.prefHeld pre1 c (fun _ => fullShare) pf : sProp 𝕄)
      = iprop((((Memref.whole main_v23).view.loc (c : Thread nD τ)) ↦{fullShare} pf 0) ∗ (((c : Thread nD τ).loc (pre1.ref 1)) ↦{fullShare} pf 1)) := by
  unfold Pipeline.prefHeld
  exact BI.bigSep_fin_two _

/-- The start of a point's expert. -/
abbrev startAt (pf : pre1.Contents (Elt F)) (i : grid1.Coords) : Elt F .i32 :=
  ((Memref.whole main_v23).access (loR i)).read (Elt F) (pf 0) (only (loR i) numel1_S1)

/-- What a point finds and leaves. -/
def held (pf : pre1.Contents (Elt F)) (n : ℕ) : sProp 𝕄 :=
  iprop(Pipeline.prefHeld pre1 c (fun _ => fullShare) pf ∗ four (accSt (stp sent c lo rk xb) c n) ∗ gate c n ∗ four (out sent c n) ∗ four (inc sent c n))

/-- The whole point. -/
theorem bodyG_run (Q : PUnit → sProp 𝕄) (pf : pre1.Contents (Elt F)) (M0 : Memref sig .tc .vmem S1x1024 .i32) (M1 : Memref sig .tc .vmem S1024x2048 .bf16)
    (M2 : Memref sig .tc .vmem S1x1152x2048 .bf16) (h2 : M2.IsWhole) (Y : FVec F S1x1152x2048 .bf16) (hlo : lo t.val = startAt pf (grid1.coords t)) :
    iprop(known sent K 0 c ∗ held sent c lo rk xb pf t.val ∗ ow c (owed c t.val)
        ∗ owns (c : Thread nD τ) M0 fullShare (rk t.val) ∗ has c M1 (xb t.val) ∗ has c M2 Y
        ∗ ((held sent c lo rk xb pf (t.val + 1) ∗ ow c (O₁ c) ∗ owns (c : Thread nD τ) M0 fullShare (rk t.val) ∗ has c M1 (xb t.val)
              ∗ has c M2 (if 28 ≤ t.val then k1_pay1 (accT (stp sent c lo rk xb) t.val) else Y)) -∗ Q ⟨⟩))
      ⊢ WP c (bodyG (grid1.coords t) M0 M1 M2 h2) Q := by
  have ht : t.val < 32 := lt_of_lt_of_eq t.isLt N_1
  unfold bodyG held
  rw [pref_eq]
  simp only [wp_deviceId]
  iintro ⟨#HI, ⟨⟨Hp0, Hp1⟩, Ha, Hg, Ho, Hi⟩, HO, H0, H1, H2, Hk⟩
  iapply (startG_run sent K c t Q)
  isplitr; · iexact HI
  isplitl [Hg]; · iexact Hg
  isplitl [Ho]; · iexact Ho
  isplitl [HO]; · iexact HO
  iintro ⟨Hg, Ho, HO⟩
  iapply (recvs_run sent K c t Q)
  isplitr; · iexact HI
  isplitl [Hi]; · iexact Hi
  isplitl [HO]; · iexact HO
  iintro ⟨Hi, HO⟩
  iapply (wp_smemLoadElt 𝒱₀ (c : Thread nD τ) none Set.univ (m := Memref.whole main_v23) (r := loR (grid1.coords t)) (S := Finset.univ) (q := fullShare)
    (f := pf 0) (Finset.subset_univ _)) $$ Hp0
  iintro Hp0
  iapply (load_all c M0 (rk t.val)) $$ H0
  iintro H0
  have hlo' : ((Memref.whole main_v23).access (loR (grid1.coords t))).read (Elt F) (pf 0) (only (loR (grid1.coords t)) numel1_S1) = lo t.val := hlo.symm
  rw [hlo']
  ihave Ha := (four_focus (P' := accSt (stp sent c lo rk xb) c (t.val + 1)) (ex t.val) fun k h => accSt_still (stp sent c lo rk xb) c t.val k h) $$ Ha
  icases Ha with ⟨Ha, Hback⟩
  ihave Ha := (show accSt (stp sent c lo rk xb) c t.val (ex t.val) ⊢ iprop(∃ V, has c (acM (ex t.val)) V
    ∗ ⌜∀ i, 4 * i + t.val % 4 < t.val → t.val ≤ 4 * (i + 1) + t.val % 4 → V = acc (stp sent c lo rk xb) (t.val % 4) i⌝) from .of_eq rfl) $$ Ha
  icases Ha with ⟨%V, Ha, %hV⟩
  iapply (prods_run sent c t lo rk xb Q M1 V (fun h => hV _ (by omega) (by omega)))
  isplitl [H1]; · iexact H1
  isplitl [Ha]; · iexact Ha
  isplitl [Hi]; · iexact Hi
  iintro ⟨H1, Ha, Hi⟩
  iapply (tailG_run sent K c t Q M2 h2 (accT (stp sent c lo rk xb) t.val) Y)
  isplitr; · iexact HI
  isplitl [Ha]; · iexact Ha
  isplitl [H2]; · iexact H2
  isplitl [Ho]; · iexact Ho
  isplitl [HO]; · iexact HO
  iintro ⟨Ha, H2, Ho, HO⟩
  iapply Hk
  isplitl [Hp0 Hp1 Ha Hback Hg Ho Hi]
  · isplitl [Hp0 Hp1]; · isplitl [Hp0] <;> iassumption
    isplitl [Ha Hback]
    · iapply Hback
      unfold accSt
      iexists (accT (stp sent c lo rk xb) t.val)
      isplitl [Ha]; · iexact Ha
      ipureintro
      intro i h1 h2
      have h1' : 4 * i + t.val % 4 < t.val + 1 := h1
      have h2' : t.val + 1 ≤ 4 * (i + 1) + t.val % 4 := h2
      show acc _ (t.val % 4) (t.val / 4) = acc _ (t.val % 4) i
      rw [show i = t.val / 4 by omega]
    isplitl [Hg]; · rw [show gate (F := F) c (t.val + 1) = semVal (barCell 0 c) 0 from if_neg (Nat.succ_ne_zero _)]; iexact Hg
    isplitl [Ho] <;> iassumption
  isplitl [HO]; · iexact HO
  isplitl [H0]; · iexact H0
  isplitl [H1] <;> iassumption

end

end Cert.KernelIdeal.Gather

end
-- ==== Proof.Gather.Data.lean ====
/-
The gather's pipeline on each device: what every window's buffer holds at every point, and the body's obligation.
-/
module

public import proofs.«01_k».proof.Proof.Owed
public import proofs.«01_k».proof.Proof.Gather.Point

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Talk
open Cert.KernelIdeal.Talk.Gather
open Cert.KernelIdeal.Gen

variable {F : FTy → Type} [FloatOps F]

local notation "𝕄" => MT nD τ sig Unit (Elt F) ℕ UU ℕ

variable (m : (ℓ : Loc nD τ sig) → Buf (Elt F) ℓ) (s : Dev nD → Fin 4 → FVec F S1024x2048 .bf16)

/-- The pipeline as device `c` runs it. -/
abbrev cfgAt (c : Dev nD) : Pipeline.Cfg sig Λ₀ := Pipeline.pinD (pcfgs (F := F)) (adm m) c 1

/-- A number as a grid point. -/
def pt (n : ℕ) : Fin grid1.N := ⟨n % 32, lt_of_lt_of_eq (Nat.mod_lt _ (by decide)) N_1.symm⟩
theorem pt_val (t : Fin grid1.N) : pt t.val = t := Fin.ext (Nat.mod_eq_of_lt (lt_of_lt_of_eq t.isLt N_1))

/-- The ranks a point reads, -/
def rkAt (c : Dev nD) (t : Fin grid1.N) : Vec F S1x1024 .i32 := (((cfgAt m c).win 0).blk t).view.read (Elt F) (In m c main_v24)
/-- the device's own tokens it reads, -/
def xbAt (c : Dev nD) (t : Fin grid1.N) : Vec F S1024x2048 .bf16 := (((cfgAt m c).win 1).blk t).view.read (Elt F) (In m c main_arg0)
/-- and its expert's start. -/
def loAt (c : Dev nD) (t : Fin grid1.N) : Elt F .i32 := startAt (tblG m c) (grid1.coords t)
/-- What a device sends its partner: its tokens, a quarter at a time. -/
def mine (c : Dev nD) (k : Fin 4) : FVec F S1024x2048 .bf16 := (srM k).view.read (Elt F) (In m c main_arg0)

/-- What travels in both exchanges, the second's given. -/
abbrev sentW : Sent F := ⟨mine m, s⟩

/-- What a point makes of its expert's accumulator. -/
abbrev stepAt (c : Dev nD) : Step F := stepOf (fun n => loAt m c (pt n)) (fun n => rkAt m c (pt n)) (fun n => xbAt m c (pt n)) (mine m (pr c))

/-- The invariant before point `t`. -/
def inv (c : Dev nD) (t : ℕ) : sProp 𝕄 :=
  iprop(∃ K, known (sentW m s) K 0 c
    ∗ held (sentW m s) c (fun n => loAt m c (pt n)) (fun n => rkAt m c (pt n)) (fun n => xbAt m c (pt n)) (tblG m c) t)

/-- The scoped buffers the call does not use. -/
def side (c : Dev nD) : sProp 𝕄 := Pipeline.scopedRestBut spec1 c [cc1_scratch0, cc1_scratch1]

/-- The pipeline's data. -/
def dat (c : Dev nD) : Dat τ (Elt F) Unit ℕ UU ℕ (cfgAt m c) c where
  A := fun
    | 0 => In m c main_v24
    | 1 => In m c main_arg0
    | 2 => In m c main_v36
    | ⟨_ + 3, h⟩ => absurd h (Nat.not_lt.2 (Nat.le_add_left _ _))
  after := fun
    | 0 => fun t => rkAt m c t
    | 1 => fun t => xbAt m c t
    | 2 => fun t => k1_pay1 (accT (stepAt m c) t.val)
    | ⟨_ + 3, h⟩ => absurd h (Nat.not_lt.2 (Nat.le_add_left _ _))
  Φ t := iprop(inv m s c t.val ∗ side c)
  q := fun
    | 0 => fullShare
    | 1 => halfL
    | 2 => fullShare
    | ⟨_ + 3, h⟩ => absurd h (Nat.not_lt.2 (Nat.le_add_left _ _))
  owed t := owed c t.val

/-- The result's window is written before it is sent back only at the last block of tokens: of the others nothing is said. -/
abbrev fgt : Fin 3 → Bool := fun | 0 => false | 1 => false | 2 => true | ⟨_ + 3, h⟩ => absurd h (Nat.not_lt.2 (Nat.le_add_left _ _))
/-- What is said of the result's window after a point. -/
abbrev Rl (c : Dev nD) : (w : Fin (cfgAt m c).W) → Fin (cfgAt m c).N → (((cfgAt m c).win w).block.Idx → Elt F ((cfgAt m c).win w).elt) → Prop := fun
  | 0 => fun _ _ => True
  | 1 => fun _ _ => True
  | 2 => fun t X => 28 ≤ t.val → X = k1_pay1 (accT (stepAt m c) t.val)
  | ⟨_ + 3, h⟩ => absurd h (Nat.not_lt.2 (Nat.le_add_left _ _))
/-- The same data, of the result's window only so much. -/
abbrev rdat (c : Dev nD) : Pipeline.RDat τ (Elt F) Unit ℕ UU ℕ (cfgAt m c) c := (dat m s c).toRRel fgt (Rl m c)

theorem before0 (c : Dev nD) (t : Fin grid1.N) (d) : (dat m s c).before 0 t d = rkAt m c t :=
  before_read (dat m s c) 0 rfl (fun _ => rfl) (fun _ _ => rfl) (fun _ => rfl) t d
theorem before1 (c : Dev nD) (t : Fin grid1.N) (d) : (dat m s c).before 1 t d = xbAt m c t :=
  before_read (dat m s c) 1 rfl (fun _ => rfl) (fun _ _ => rfl) (fun _ => rfl) t d

theorem owed_succ (c : Dev nD) (t : ℕ) : owed c (t + 1) = O₁ c := if_neg (Nat.succ_ne_zero t)

set_option backward.isDefEq.respectTransparency.types false in
/-- The body meets its obligation at every point. -/
theorem body (c : Dev nD) : Pipeline.BodyObligationRel (dat m s c) defs₀ 𝒱₀ () Set.univ fgt (Rl m c) := by
  intro t
  rw [bigSep_W1, bigSep_W1]
  dsimp only
  simp only [show ∀ i, (pcfgs (F := F) 1).idle (adm m c 1).1 0 i = false from fun _ => rfl, show ∀ i, (pcfgs (F := F) 1).idle (adm m c 1).1 1 i = false from fun _ => rfl,
    show (pcfgs (F := F) 1).loose 0 = false from rfl, show (pcfgs (F := F) 1).loose 1 = false from rfl]
  rw [show (dat m s c).Φ t.castSucc = iprop(inv m s c t.val ∗ side c) from rfl, show (dat m s c).Φ t.succ = iprop(inv m s c (t.val + 1) ∗ side c) from rfl]
  have hb : defs₀ (F := F) .tc (cfgAt m c).body ((cfgAt m c).bodyArgs t ((cfgAt m c).slots t))
      = bodyG (grid1.coords t) (spec1_0.stage ((cfgAt m c).slots t 0)) (spec1_1.stage ((cfgAt m c).slots t 1)) (spec1_2.stage ((cfgAt m c).slots t 2))
          (hstage1_2 (((cfgAt m c).slots t 2).cast nbuf1_2)) :=
    body_eq _ _ _ _ _ _ _
  rw [hb]
  unfold inv
  iintro ⟨⟨⟨%K, #HI, Hh⟩, Hside⟩, HO, ⟨%d0, H0⟩, ⟨%d1, H1⟩, ⟨%Y, -, H2⟩⟩
  ihave HO := (owesAt_elim (dat m s c) t.castSucc _ rfl) $$ HO
  ihave H0 := (Entails.of_eq (congrArg (fun X => (owns (c : Thread nD τ) (spec1_0.stage ((cfgAt m c).slots t 0)) fullShare X : sProp 𝕄))
    ((before0 m s c t d0).trans (congrArg (rkAt m c) (pt_val t).symm)))) $$ H0
  ihave H1 := (Entails.of_eq (congrArg (fun X => (owns (c : Thread nD τ) (spec1_1.stage ((cfgAt m c).slots t 1)) fullShare X : sProp 𝕄))
    ((before1 m s c t d1).trans (congrArg (xbAt m c) (pt_val t).symm)))) $$ H1
  iapply (bodyG_run (sentW m s) K c t (fun n => loAt m c (pt n)) (fun n => rkAt m c (pt n)) (fun n => xbAt m c (pt n)) _ (tblG m c) _ _ _ _
    Y (congrArg (loAt m c) (pt_val t)))
  isplitr; · iexact HI
  isplitl [Hh]; · iexact Hh
  isplitl [HO]; · iexact HO
  isplitl [H0]; · iexact H0
  isplitl [H1]; · iexact H1
  isplitl [H2]; · iexact H2
  iintro ⟨Hh, HO, H0, H1, H2⟩
  isplitl [Hh Hside]
  · isplitl [Hh]
    · iexists K
      isplitr; · iexact HI
      iexact Hh
    iexact Hside
  isplitl [HO]
  · iapply (owesAt_intro (dat m s c) t.succ _ (owed_succ c t.val) rfl); iexact HO
  isplitl [H0]
  · ihave H := (Entails.of_eq (congrArg (fun X => (owns (c : Thread nD τ) (spec1_0.stage ((cfgAt m c).slots t 0)) fullShare X : sProp 𝕄))
      (congrArg (rkAt m c) (pt_val t)))) $$ H0
    iexact H
  isplitl [H1]
  · ihave H := (Entails.of_eq (congrArg (fun X => (owns (c : Thread nD τ) (spec1_1.stage ((cfgAt m c).slots t 1)) fullShare X : sProp 𝕄))
      (congrArg (xbAt m c) (pt_val t)))) $$ H1
    iexact H
  iexists (if 28 ≤ t.val then k1_pay1 (accT (stepAt m c) t.val) else Y)
  isplitr
  · ipureintro; exact fun h => if_pos h
  iexact H2

end Cert.KernelIdeal.Gather

end
-- ==== Proof.Gather.Final.lean ====
/-
What the gather leaves in its result: the accumulators at the last block of tokens.
-/
module

public import proofs.«01_k».proof.Proof.Gather.Data
public import Idealize.ShloMosaic.Lib.Pipeline.ArrRel
public import Idealize.ShloMosaic.Lib.Pipeline.ValueKit

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Talk
open Cert.KernelIdeal.Talk.Gather
open Cert.KernelIdeal.Gen

variable {F : FTy → Type} [FloatOps F]

local notation "𝕄" => MT nD τ sig Unit (Elt F) ℕ UU ℕ

variable (m : (ℓ : Loc nD τ sig) → Buf (Elt F) ℓ) (s : Dev nD → Fin 4 → FVec F S1024x2048 .bf16)

/-- The rows an expert is left with. -/
def rowsG (c : Dev nD) (e : Fin 4) : FVec F S1x1152x2048 .bf16 := k1_pay1 (accT (stepAt m c) (28 + e.val))
/-- All of them. -/
def fG (c : Dev nD) : Buf (Elt F) ((c : Thread nD τ).loc main_v36) := fun i : S4x1152x2048.Idx => rowsG m c (i 0) (Idealize.ShloMosaic.ix3 0 (i 1) (i 2))

theorem flush_eq : ∀ t : Fin grid1.N, (t.val + 1 = grid1.N || decide (∃ h : t.val + 1 < grid1.N, cc1_transform_4 (grid1.coords ⟨t.val + 1, h⟩) ≠ cc1_transform_4 (grid1.coords t))) = true := by
  decide +kernel
theorem which : ∀ t : Fin grid1.N, cc1_transform_4 (grid1.coords t) = ![t.val % 4, 0, 0] := by decide +kernel

theorem emb_at (c : Dev nD) (t : Fin grid1.N) (i : S4x1152x2048.Idx) (hi : (i 0).val = t.val % 4) :
    (((cfgAt m c).win 2).blk t).view.emb (Idealize.ShloMosaic.ix3 0 (i 1) (i 2)) = i := by
  funext a
  apply Fin.ext
  refine (Pipeline.Window.rect_emb_val (w := (cfgAt m c).win 2) t (Idealize.ShloMosaic.ix3 0 (i 1) (i 2)) a rfl).trans ?_
  rw [show ((cfgAt m c).win 2).index t = ![t.val % 4, 0, 0] from which t]
  match a with
  | ⟨0, _⟩ => exact (Nat.mul_one _).trans hi.symm
  | ⟨1, _⟩ => exact (Nat.zero_mul 1152).symm ▸ Nat.zero_add _
  | ⟨2, _⟩ => exact (Nat.zero_mul 2048).symm ▸ Nat.zero_add _

theorem first_row (n : ℕ) (y : S1x1152x2048.Idx) : n % 4 * 1 + (y 0).val = n % 4 := by
  have : (y 0).val < 1 := (y 0).isLt
  omega

/-- The blocks already written at the last block of tokens are final. -/
theorem settled (c : Dev nD) : ∀ n ≤ 32, ∀ G, (rdat m s c).ArrAt 2 n G → ∀ i : S4x1152x2048.Idx, 28 + (i 0).val < n → G i = fG (F := F) m c i := by
  intro n
  induction n with
  | zero => intro _ G _ i h; omega
  | succ n ih =>
    intro hn G hG i hi
    have hN : n < grid1.N := lt_of_lt_of_eq hn N_1.symm
    have hA := (rdat m s c).ArrAt_succ 2 ⟨n, hN⟩
    have hf : ((cfgAt m c).win 2).flush ⟨n, hN⟩ = true := flush_eq ⟨n, hN⟩
    rw [if_pos hf] at hA
    have hG' : (rdat m s c).ArrStep 2 ⟨n, hN⟩ ((rdat m s c).ArrAt 2 n) G := hA ▸ hG
    obtain ⟨G₀, X, hG₀, hX, rfl⟩ := hG'
    have hX' : 28 ≤ n → X = k1_pay1 (accT (stepAt m c) n) := (dat m s c).toRRel_leaves (w := 2) rfl hX
    have hidx : ((cfgAt m c).win 2).index ⟨n, hN⟩ = ![n % 4, 0, 0] := which ⟨n, hN⟩
    by_cases hm : (i 0).val = n % 4
    · have e := emb_at m c ⟨n, hN⟩ i hm
      refine (congrArg _ e.symm).trans ((View.write_emb_of_mem (v := (((cfgAt m c).win 2).blk ⟨n, hN⟩).view) _ _ (Finset.mem_univ _)).trans ?_)
      show X (Idealize.ShloMosaic.ix3 0 (i 1) (i 2)) = k1_pay1 (accT (stepAt m c) (28 + (i 0).val)) (Idealize.ShloMosaic.ix3 0 (i 1) (i 2))
      have hn28 : n = 28 + (i 0).val := by have : (i 0).val < 4 := (i 0).isLt; omega
      rw [hX' (by omega), ← hn28]
    · refine (View.write_of_not_mem (v := (((cfgAt m c).win 2).blk ⟨n, hN⟩).view) _ _ _ fun h => hm ?_).trans (ih (by omega) _ hG₀ i (by have : (i 0).val < 4 := (i 0).isLt; omega))
      obtain ⟨y, hy⟩ := View.exists_emb_of_mem_set _ h
      rw [← hy]
      refine (Pipeline.Window.rect_emb_val (w := (cfgAt m c).win 2) ⟨n, hN⟩ y (⟨0, by decide⟩ : Fin 3) rfl).trans ?_
      rw [hidx]
      exact first_row n y

/-- So the result of the whole pipeline is. -/
theorem final (c : Dev nD) (G) (h : (rdat m s c).ArrAt 2 grid1.N G) : G = fG (F := F) m c :=
  funext fun (i : S4x1152x2048.Idx) => settled m s c 32 le_rfl G (N_1 ▸ h) i (by have : (i 0).val < 4 := (i 0).isLt; omega)

end Cert.KernelIdeal.Gather

end
-- ==== Proof.Scatter.Pieces.lean ====
/-
  The pieces the kernel's body is made of, each followed by the rest of the body `rest`, and what each does: issuing the
  `k`-th transfer, receiving the partner's `k`-th block and writing a block of the result, waiting for the sends.
-/
module

public import proofs.«01_k».proof.Proof.Steps
public import proofs.«01_k».proof.Proof.Gen.KernelIdeal.Skeleton

@[expose] public section

set_option maxRecDepth 16384

noncomputable section

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Talk
open Cert.KernelIdeal.Talk.Scatter
open Cert.KernelIdeal.Gen

variable {F : FTy → Type} [FloatOps F]

local notation "𝕄" => MT nD τ sig Unit (Elt F) ℕ UU ℕ

/-- The accumulator. -/
abbrev acM : Memref sig .tc .vmem S1024x2048 .bf16 := Memref.whole cc3_scratch0
abbrev s1 : Memref sig .tc .vmem S4x1024x2048 .bf16 := Memref.whole cc3_scratch1
abbrev s2 : Memref sig .tc .vmem S4x1024x2048 .bf16 := Memref.whole cc3_scratch2
/-- All of a matrix. -/
abbrev allR : Rect S1024x2048 := Rect.unit (s := S1024x2048) ![0, 0] S1024x2048.size inb_S1024x2048_S1024x2048_0_0

/-- Copy the accumulator into a sending slot and send it. -/
def sendIf (b : BitVec 1) (dv : b = 1#1 → Dev nD) (off : Fin 3 → Nat)
    (h3 : ∀ a, off a + S1x1024x2048.size a ≤ S4x1024x2048.size a) (sS rS : DmaSem sig)
    (pay : Vec F S1024x2048 .bf16 → FVec F S1x1024x2048 .bf16)
    (hst : (s1.access (box off h3)).Stores Finset.univ)
    (hw1 : (slotOf s1 off h3).view.WordExact) (hw2 : (slotOf s2 off h3).view.WordExact) (rest : Piece F) : Piece F :=
  if h : b = 1#1 then
    Prog.op (.load acM allR.toLoadRect (View.loadsAt_vmem h_S1024x2048)) fun v =>
    Prog.op (.load s1 (box off h3).toLoadRect (View.loadsAt_vmem h_S1x1024x2048)) fun _ =>
    Prog.op (.store s1 (box off h3) (pay v) Finset.univ hst (.inl rfl)) fun _ =>
    Prog.op (.enqueueDma (slotOf s1 off h3) (.remote (Dev.tc (dv h)) (slotOf s2 off h3) (.dma sS))
      (.dma rS) hw1 hw2 ⟨⟨rfl, Or.inl rfl⟩, trivial⟩) fun _ => rest
  else rest

/-- Wait for the partner's block, add it to the accumulator and write the sum out. -/
def recvIf (b : BitVec 1) (out : Memref sig .tc .vmem S1024x2048 .bf16) (off : Fin 3 → Nat)
    (h3 : ∀ a, off a + S1x1024x2048.size a ≤ S4x1024x2048.size a) (rS : DmaSem sig)
    (pay : Vec F S1024x2048 .bf16 → Vec F S1x1024x2048 .bf16 → FVec F S1024x2048 .bf16)
    (hst : (out.access allR).Stores Finset.univ)
    (hw1 : (slotOf s1 off h3).view.WordExact) (hw2 : (slotOf s2 off h3).view.WordExact) (rest : Piece F) : Piece F :=
  if b = 1#1 then
    Prog.op (.waitDma2 rS (slotOf s1 off h3) (slotOf s2 off h3) hw1 hw2) fun _ =>
    Prog.op (.load acM allR.toLoadRect (View.loadsAt_vmem h_S1024x2048)) fun v =>
    Prog.op (.load s2 (box off h3).toLoadRect (View.loadsAt_vmem h_S1x1024x2048)) fun w =>
    Prog.op (.load out allR.toLoadRect (View.loadsAt_vmem h_S1024x2048)) fun _ =>
    Prog.op (.store out allR (pay v w) Finset.univ hst (.inl rfl)) fun _ => rest
  else rest

/-- Wait for one of the device's own sends. -/
def waitSend (off : Fin 3 → Nat) (h3 : ∀ a, off a + S1x1024x2048.size a ≤ S4x1024x2048.size a) (sS : DmaSem sig)
    (hw1 : (slotOf s1 off h3).view.WordExact) (hw2 : (slotOf s2 off h3).view.WordExact) (rest : Piece F) : Piece F :=
  Prog.op (.waitDma2 sS (slotOf s2 off h3) (slotOf s1 off h3) hw2 hw1) fun _ => rest

theorem sem_send (k : Fin 4) (off : Fin 1 → Nat) (h : off = ![k.val]) (h' : ∀ a, off a + S1.size a ≤ S4.size a) :
    ((cc3_scratch3.slice (Rect.unit (s := S4) off S1.size h')).squeeze S_ squeezes_S1_S_).sem = sendS 1 k := by subst h; revert k; decide
theorem sem_recv (k : Fin 4) (off : Fin 1 → Nat) (h : off = ![k.val]) (h' : ∀ a, off a + S1.size a ≤ S4.size a) :
    ((cc3_scratch4.slice (Rect.unit (s := S4) off S1.size h')).squeeze S_ squeezes_S1_S_).sem = recvS 1 k := by subst h; revert k; decide

/-! ## The state between points -/

/-- The `k`-th transfer not yet issued, the partner's receive slot not yet at hand. -/
def ready (c : Dev nD) (k : Fin 4) : sProp 𝕄 := iprop(free c (stM k) ∗ unsent 1 c k)
/-- Waited for. -/
def drained (c : Dev nD) (k : Fin 4) : sProp 𝕄 := iprop(free c (stM k) ∗ semVal (sendCell 1 c k) 0)
/-- The `k`-th send before point `t`, -/
def out (c : Dev nD) (t : ℕ) (k : Fin 4) : sProp 𝕄 :=
  if t ≤ 4 * k.val + 3 then iprop(ready c k ∗ door 1 (pr c) k) else if t < 32 then flying 1 c k else drained c k
/-- and within point `t`, its own turn over and the last waits not yet made. -/
def mid (c : Dev nD) (t : ℕ) (k : Fin 4) : sProp 𝕄 :=
  if t + 1 ≤ 4 * k.val + 3 then iprop(ready c k ∗ door 1 (pr c) k) else flying 1 c k

/-- The partner's `k`-th block received. -/
def got (c : Dev nD) (k : Fin 4) : sProp 𝕄 := iprop(free c (rvM k) ∗ semVal (recvCell 1 c k) 0)
/-- The `k`-th receive before point `t`. -/
def inc (c : Dev nD) (t : ℕ) (k : Fin 4) : sProp 𝕄 := if t ≤ 16 + 4 * k.val + 3 then wanting 1 c k else got c k

/-- The `k`-th piece of a point that sends: at its own turn the transfer is issued, otherwise nothing happens. -/
theorem sendIf_run (sent : Sent F) (K : GSem nD τ sig → ℕ) (c : Dev nD) (k : Fin 4) (t : ℕ) (ht : t < 32) (Q : PUnit → sProp 𝕄)
    {b : BitVec 1} (hb : b = 1#1 ↔ t = 4 * k.val + 3) {dv : b = 1#1 → Dev nD} (hd : ∀ h, dv h = pr c) {off : Fin 3 → Nat}
    (hoff : off = ![k.val, 0, 0]) {h3 : ∀ a, off a + S1x1024x2048.size a ≤ S4x1024x2048.size a} {sS rS : DmaSem sig}
    (hS : sS = sendS 1 k) (hR : rS = recvS 1 k) {pay : Vec F S1024x2048 .bf16 → FVec F S1x1024x2048 .bf16}
    (hpay : ∀ v, pay v = shapeCast S1x1024x2048 v shapeCasts_S1024x2048_S1x1024x2048)
    {hst : (s1.access (box off h3)).Stores Finset.univ}
    {hw1 : (slotOf s1 off h3).view.WordExact} {hw2 : (slotOf s2 off h3).view.WordExact} {rest : Piece F}
    (X : FVec F S1024x2048 .bf16) (hX : t = 4 * k.val + 3 → X = sent.s c k) (R : CellTallies nD τ sig Unit) :
    iprop(kinv sent K 1 c k ∗ out c t k ∗ has c acM X ∗ ow c (R + o c t k)
        ∗ ((mid c t k ∗ has c acM X ∗ ow c (R + o c (t + 1) k)) -∗ WP c rest Q))
      ⊢ WP c (sendIf b dv off h3 sS rS pay hst hw1 hw2 rest) Q := by
  subst hoff hS hR
  obtain rfl : dv = fun _ => pr c := funext hd
  by_cases h : b = 1#1
  · have e := hb.mp h
    have hX := hX e
    subst hX
    unfold sendIf
    rw [dif_pos h]
    rw [show out (F := F) c t k = iprop(ready c k ∗ door 1 (pr c) k) from if_pos (by omega),
      show mid (F := F) c t k = flying 1 c k from if_neg (by omega),
      show o c t k = tallyAt (recvCell 1 (pr c) k) () N from if_pos (by omega), show o c (t + 1) k = 0 from if_neg (by omega)]
    unfold ready free
    iintro ⟨#HI, ⟨⟨⟨%Y, Hst⟩, Hu⟩, Hd⟩, Hac, HO, Hk⟩
    iapply (load_all c acM (sent.s c k)) $$ Hac
    iintro Hac
    iapply (load_slot c s1 Y) $$ Hst
    iintro Hst
    iapply (store_slot c s1 Y) $$ Hst
    rw [hpay, show shapeCast S1024x2048 (shapeCast S1x1024x2048 (sent.s c k) shapeCasts_S1024x2048_S1x1024x2048)
      shapeCasts_S1x1024x2048_S1024x2048 = sent.s c k from shapeCast_shapeCast _ _ _]
    iintro Hst
    iapply (send_run sent K 1 c k R Q (src := stM k) (dst := rvM k) (q := fullShare) (X := sent.s c k) rfl (N_rv k)
      (show _ ⊢ free c (stM k) by unfold free; iintro H; iexists (sent.s c k); iexact H)
      (show _ ⊢ has (pr c) (rvM k) (sent.s (pr (pr c)) k) by rw [pr_pr]) rfl rfl rfl)
    isplitr; · iexact HI
    isplitl [Hu]; · iexact Hu
    isplitl [Hst]; · iexact Hst
    isplitl [Hd]; · iexact Hd
    isplitl [HO]; · iexact HO
    iintro ⟨Hf, HO⟩
    iapply Hk
    isplitl [Hf]; · iexact Hf
    isplitl [Hac]; · iexact Hac
    rw [add_zero]; iexact HO
  · have e : t ≠ 4 * k.val + 3 := fun e => h (hb.mpr e)
    unfold sendIf
    rw [dif_neg h]
    have e1 : out (F := F) c t k = mid c t k := by
      unfold out mid; by_cases h' : t ≤ 4 * k.val + 3
      · rw [if_pos h', if_pos (by omega)]
      · rw [if_neg h', if_neg (by omega : ¬ t + 1 ≤ 4 * k.val + 3), if_pos ht]
    have e2 : o c (t + 1) k = o c t k := by
      unfold o; by_cases h' : t ≤ 4 * k.val + 3
      · rw [if_pos h', if_pos (by omega)]
      · rw [if_neg h', if_neg (by omega)]
    rw [e1, e2]
    iintro ⟨-, Hm, Ha, HO, Hk⟩
    iapply Hk
    isplitl [Hm]; · iexact Hm
    isplitl [Ha] <;> iassumption

/-- The `k`-th piece of a point that receives. -/
theorem recvIf_run (sent : Sent F) (K : GSem nD τ sig → ℕ) (c : Dev nD) (k : Fin 4) (t : ℕ) (Q : PUnit → sProp 𝕄)
    {b : BitVec 1} (hb : b = 1#1 ↔ t = 16 + 4 * k.val + 3) (M : Memref sig .tc .vmem S1024x2048 .bf16) {off : Fin 3 → Nat}
    (hoff : off = ![k.val, 0, 0]) {h3 : ∀ a, off a + S1x1024x2048.size a ≤ S4x1024x2048.size a} {rS : DmaSem sig}
    (hR : rS = recvS 1 k)
    {pay : Vec F S1024x2048 .bf16 → Vec F S1x1024x2048 .bf16 → FVec F S1024x2048 .bf16}
    (hpay : ∀ v w, pay v w = addf v (shapeCast S1024x2048 w shapeCasts_S1x1024x2048_S1024x2048))
    {hst : (M.access allR).Stores Finset.univ}
    {hw1 : (slotOf s1 off h3).view.WordExact} {hw2 : (slotOf s2 off h3).view.WordExact} {rest : Piece F}
    (X Y : FVec F S1024x2048 .bf16) (O : CellTallies nD τ sig Unit) (hO : t = 16 + 4 * k.val + 3 → O = 0) :
    iprop(levAts L lv ∗ kinv sent K 1 c k ∗ inc c t k ∗ has c acM X ∗ has c M Y ∗ ow c O
        ∗ ((inc c (t + 1) k ∗ has c acM X
              ∗ has c M (if t = 16 + 4 * k.val + 3 then addf X (sent.s (pr c) k) else Y) ∗ ow c O) -∗ WP c rest Q))
      ⊢ WP c (recvIf b M off h3 rS pay hst hw1 hw2 rest) Q := by
  subst hoff hR
  by_cases h : b = 1#1
  · have e := hb.mp h
    have hO := hO e
    subst hO
    unfold recvIf
    rw [if_pos h, if_pos e]
    rw [show inc (F := F) c t k = wanting 1 c k from if_pos (by omega), show inc (F := F) c (t + 1) k = got c k from if_neg (by omega)]
    iintro ⟨#Hl, #HI, Hw, Hac, HM, HO, Hk⟩
    iapply (recv_run sent K 1 c k 0 (above_zero _) Q (N_rv k) rfl)
    isplitr; · iexact Hl
    isplitr; · iexact HI
    isplitl [Hw]; · iexact Hw
    isplitl [HO]; · iexact HO
    iintro ⟨Hrv, Hv, HO⟩
    ihave Hrv := (show recvPay sent 1 c k ⊢ has c (rvM k) (sent.s (pr c) k) from .of_eq rfl) $$ Hrv
    iapply (load_all c acM X) $$ Hac
    iintro Hac
    iapply (load_slot c s2 (sent.s (pr c) k)) $$ Hrv
    iintro Hrv
    iapply (load_all c M Y) $$ HM
    iintro HM
    iapply (store_all c M Y _) $$ HM
    iintro HM
    rw [hpay, show shapeCast S1024x2048 (shapeCast S1x1024x2048 (sent.s (pr c) k) shapeCasts_S1024x2048_S1x1024x2048)
      shapeCasts_S1x1024x2048_S1024x2048 = sent.s (pr c) k from shapeCast_shapeCast _ _ _]
    iapply Hk
    isplitl [Hrv Hv]
    · unfold got free
      isplitl [Hrv]; · iexists _; iexact Hrv
      iexact Hv
    isplitl [Hac]; · iexact Hac
    isplitl [HM]; · iexact HM
    iexact HO
  · have e : t ≠ 16 + 4 * k.val + 3 := fun e => h (hb.mpr e)
    unfold recvIf
    rw [if_neg h, if_neg e]
    have e1 : inc (F := F) c (t + 1) k = inc c t k := by
      unfold inc; by_cases h' : t ≤ 16 + 4 * k.val + 3
      · rw [if_pos h', if_pos (by omega)]
      · rw [if_neg h', if_neg (by omega)]
    rw [e1]
    iintro ⟨-, -, Hm, Ha, HM, HO, Hk⟩
    iapply Hk
    isplitl [Hm]; · iexact Hm
    isplitl [Ha]; · iexact Ha
    isplitl [HM] <;> iassumption

/-- The wait for the `k`-th send gives the sending slot back. -/
theorem waitSend_run (sent : Sent F) (K : GSem nD τ sig → ℕ) (c : Dev nD) (k : Fin 4) (Q : PUnit → sProp 𝕄) {off : Fin 3 → Nat}
    (hoff : off = ![k.val, 0, 0]) {h3 : ∀ a, off a + S1x1024x2048.size a ≤ S4x1024x2048.size a} {sS : DmaSem sig}
    (hS : sS = sendS 1 k)
    {hw1 : (slotOf s1 off h3).view.WordExact} {hw2 : (slotOf s2 off h3).view.WordExact} {rest : Piece F} :
    iprop(levAts L lv ∗ kinv sent K 1 c k ∗ flying 1 c k ∗ ow c 0 ∗ ((drained c k ∗ ow c 0) -∗ WP c rest Q))
      ⊢ WP c (waitSend off h3 sS hw1 hw2 rest) Q := by
  subst hoff hS
  unfold waitSend
  iintro ⟨#Hl, #HI, Hf, HO, Hk⟩
  iapply (sent_run sent K 1 c k 0 (above_zero _) Q (N_st k) rfl)
  isplitr; · iexact Hl
  isplitr; · iexact HI
  isplitl [Hf]; · iexact Hf
  isplitl [HO]; · iexact HO
  iintro ⟨Hst, Hv, HO⟩
  ihave Hst := (show sendPay sent 1 c k ⊢ free c (stM k) from .of_eq rfl) $$ Hst
  iapply Hk
  isplitl [Hst Hv]
  · unfold drained
    isplitl [Hst]; · iexact Hst
    iexact Hv
  iexact HO

end Cert.KernelIdeal.Scatter

end
-- ==== Proof.Scatter.Whole.lean ====
/-
  The kernel's body at a grid point, put together from its pieces.
-/
module

public import proofs.«01_k».proof.Proof.Scatter.Pieces

@[expose] public section

set_option maxRecDepth 16384

noncomputable section

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Talk
open Cert.KernelIdeal.Talk.Scatter
open Cert.KernelIdeal.Gen

variable {F : FTy → Type} [FloatOps F]

local notation "𝕄" => MT nD τ sig Unit (Elt F) ℕ UU ℕ

/-- The barrier at the first point. -/
def barIf (b : BitVec 1) (dv : b = 1#1 → Dev nD) (rest : Piece F) : Piece F :=
  if h : b = 1#1 then
    Prog.op (.semSignal ((dv h, .tc) : Thread nD τ) (barS 1) ((1#32 : BitVec 32).toInt)) fun _ =>
    Prog.op (.semWait (barS 1) ((1#32 : BitVec 32).toInt)) fun _ => rest
  else rest

/-- The first expert of a block fills the accumulator, the others are added to it. -/
def accIf (b b' : BitVec 1) (v : FVec F S1024x2048 .bf16) (hst : (acM.access allR).Stores Finset.univ) (rest : Piece F) : Piece F :=
  let more : Piece F :=
    if b' = 1#1 then
      Prog.op (.load acM allR.toLoadRect (View.loadsAt_vmem h_S1024x2048)) fun w =>
      Prog.op (.load acM allR.toLoadRect (View.loadsAt_vmem h_S1024x2048)) fun _ =>
      Prog.op (.store acM allR (k3_pay3 v w) Finset.univ hst (.inl rfl)) fun _ => rest
    else rest
  if b = 1#1 then
    Prog.op (.load acM allR.toLoadRect (View.loadsAt_vmem h_S1024x2048)) fun _ =>
    Prog.op (.store acM allR (k3_pay2 v) Finset.univ hst (.inl rfl)) fun _ => more
  else more

/-- The four sending pieces. -/
def sends (i : grid3.Coords) (d : Dev nD) (h4 : k3_cond4 i = 1#1) (rest : Piece F) : Piece F :=
  sendIf (k3_cond5 i) (fun h => ⟨k3_dev2 d, k3_dev2_lt i d h4 h⟩) ![0, 0, 0] inb_S4x1024x2048_S1x1024x2048_0_0_0
    ((cc3_scratch3.slice (Rect.unit (s := S4) ![0] S1.size inb_S4_S1_0)).squeeze S_ squeezes_S1_S_).sem
    ((cc3_scratch4.slice (Rect.unit (s := S4) ![0] S1.size inb_S4_S1_0)).squeeze S_ squeezes_S1_S_).sem k3_pay4
    (View.stores_vmem h_S1x1024x2048 ((Memref.isWhole_whole cc3_scratch1).storeExact_slice rfl _ packedbf16_S4x1024x2048_S1x1024x2048_0_0_0) (fun _ => rfl))
    (((Memref.isWhole_whole cc3_scratch1).wordExact_slice rfl _ wordsbf16_S4x1024x2048_S1x1024x2048_0_0_0).reshape _ _)
    (((Memref.isWhole_whole cc3_scratch2).wordExact_slice rfl _ wordsbf16_S4x1024x2048_S1x1024x2048_0_0_0).reshape _ _) <|
  sendIf (k3_cond6 i) (fun h => ⟨k3_dev3 d, k3_dev3_lt i d h4 h⟩) ![1, 0, 0] inb_S4x1024x2048_S1x1024x2048_1_0_0
    ((cc3_scratch3.slice (Rect.unit (s := S4) ![1] S1.size inb_S4_S1_1)).squeeze S_ squeezes_S1_S_).sem
    ((cc3_scratch4.slice (Rect.unit (s := S4) ![1] S1.size inb_S4_S1_1)).squeeze S_ squeezes_S1_S_).sem k3_pay5
    (View.stores_vmem h_S1x1024x2048 ((Memref.isWhole_whole cc3_scratch1).storeExact_slice rfl _ packedbf16_S4x1024x2048_S1x1024x2048_1_0_0) (fun _ => rfl))
    (((Memref.isWhole_whole cc3_scratch1).wordExact_slice rfl _ wordsbf16_S4x1024x2048_S1x1024x2048_1_0_0).reshape _ _)
    (((Memref.isWhole_whole cc3_scratch2).wordExact_slice rfl _ wordsbf16_S4x1024x2048_S1x1024x2048_1_0_0).reshape _ _) <|
  sendIf (k3_cond7 i) (fun h => ⟨k3_dev4 d, k3_dev4_lt i d h4 h⟩) ![2, 0, 0] inb_S4x1024x2048_S1x1024x2048_2_0_0
    ((cc3_scratch3.slice (Rect.unit (s := S4) ![2] S1.size inb_S4_S1_2)).squeeze S_ squeezes_S1_S_).sem
    ((cc3_scratch4.slice (Rect.unit (s := S4) ![2] S1.size inb_S4_S1_2)).squeeze S_ squeezes_S1_S_).sem k3_pay6
    (View.stores_vmem h_S1x1024x2048 ((Memref.isWhole_whole cc3_scratch1).storeExact_slice rfl _ packedbf16_S4x1024x2048_S1x1024x2048_2_0_0) (fun _ => rfl))
    (((Memref.isWhole_whole cc3_scratch1).wordExact_slice rfl _ wordsbf16_S4x1024x2048_S1x1024x2048_2_0_0).reshape _ _)
    (((Memref.isWhole_whole cc3_scratch2).wordExact_slice rfl _ wordsbf16_S4x1024x2048_S1x1024x2048_2_0_0).reshape _ _) <|
  sendIf (k3_cond8 i) (fun h => ⟨k3_dev5 d, k3_dev5_lt i d h4 h⟩) ![3, 0, 0] inb_S4x1024x2048_S1x1024x2048_3_0_0
    ((cc3_scratch3.slice (Rect.unit (s := S4) ![3] S1.size inb_S4_S1_3)).squeeze S_ squeezes_S1_S_).sem
    ((cc3_scratch4.slice (Rect.unit (s := S4) ![3] S1.size inb_S4_S1_3)).squeeze S_ squeezes_S1_S_).sem k3_pay7
    (View.stores_vmem h_S1x1024x2048 ((Memref.isWhole_whole cc3_scratch1).storeExact_slice rfl _ packedbf16_S4x1024x2048_S1x1024x2048_3_0_0) (fun _ => rfl))
    (((Memref.isWhole_whole cc3_scratch1).wordExact_slice rfl _ wordsbf16_S4x1024x2048_S1x1024x2048_3_0_0).reshape _ _)
    (((Memref.isWhole_whole cc3_scratch2).wordExact_slice rfl _ wordsbf16_S4x1024x2048_S1x1024x2048_3_0_0).reshape _ _) <|
  rest

/-- The four receiving pieces. -/
def recvs (i : grid3.Coords) (M : Memref sig .tc .vmem S1024x2048 .bf16) (hM : M.IsWhole) (rest : Piece F) : Piece F :=
  recvIf (k3_cond9 i) M ![0, 0, 0] inb_S4x1024x2048_S1x1024x2048_0_0_0
    ((cc3_scratch4.slice (Rect.unit (s := S4) ![0] S1.size inb_S4_S1_0)).squeeze S_ squeezes_S1_S_).sem k3_pay8
    (View.stores_vmem h_S1024x2048 (hM.storeExact_slice rfl _ packedbf16_S1024x2048_S1024x2048_0_0) (fun _ => rfl))
    (((Memref.isWhole_whole cc3_scratch1).wordExact_slice rfl _ wordsbf16_S4x1024x2048_S1x1024x2048_0_0_0).reshape _ _)
    (((Memref.isWhole_whole cc3_scratch2).wordExact_slice rfl _ wordsbf16_S4x1024x2048_S1x1024x2048_0_0_0).reshape _ _) <|
  recvIf (k3_cond10 i) M ![1, 0, 0] inb_S4x1024x2048_S1x1024x2048_1_0_0
    ((cc3_scratch4.slice (Rect.unit (s := S4) ![1] S1.size inb_S4_S1_1)).squeeze S_ squeezes_S1_S_).sem k3_pay9
    (View.stores_vmem h_S1024x2048 (hM.storeExact_slice rfl _ packedbf16_S1024x2048_S1024x2048_0_0) (fun _ => rfl))
    (((Memref.isWhole_whole cc3_scratch1).wordExact_slice rfl _ wordsbf16_S4x1024x2048_S1x1024x2048_1_0_0).reshape _ _)
    (((Memref.isWhole_whole cc3_scratch2).wordExact_slice rfl _ wordsbf16_S4x1024x2048_S1x1024x2048_1_0_0).reshape _ _) <|
  recvIf (k3_cond11 i) M ![2, 0, 0] inb_S4x1024x2048_S1x1024x2048_2_0_0
    ((cc3_scratch4.slice (Rect.unit (s := S4) ![2] S1.size inb_S4_S1_2)).squeeze S_ squeezes_S1_S_).sem k3_pay10
    (View.stores_vmem h_S1024x2048 (hM.storeExact_slice rfl _ packedbf16_S1024x2048_S1024x2048_0_0) (fun _ => rfl))
    (((Memref.isWhole_whole cc3_scratch1).wordExact_slice rfl _ wordsbf16_S4x1024x2048_S1x1024x2048_2_0_0).reshape _ _)
    (((Memref.isWhole_whole cc3_scratch2).wordExact_slice rfl _ wordsbf16_S4x1024x2048_S1x1024x2048_2_0_0).reshape _ _) <|
  recvIf (k3_cond12 i) M ![3, 0, 0] inb_S4x1024x2048_S1x1024x2048_3_0_0
    ((cc3_scratch4.slice (Rect.unit (s := S4) ![3] S1.size inb_S4_S1_3)).squeeze S_ squeezes_S1_S_).sem k3_pay11
    (View.stores_vmem h_S1024x2048 (hM.storeExact_slice rfl _ packedbf16_S1024x2048_S1024x2048_0_0) (fun _ => rfl))
    (((Memref.isWhole_whole cc3_scratch1).wordExact_slice rfl _ wordsbf16_S4x1024x2048_S1x1024x2048_3_0_0).reshape _ _)
    (((Memref.isWhole_whole cc3_scratch2).wordExact_slice rfl _ wordsbf16_S4x1024x2048_S1x1024x2048_3_0_0).reshape _ _) <|
  rest

/-- The waits for the device's own sends. -/
def waits (rest : Piece F) : Piece F :=
  waitSend ![0, 0, 0] inb_S4x1024x2048_S1x1024x2048_0_0_0
    ((cc3_scratch3.slice (Rect.unit (s := S4) ![0] S1.size inb_S4_S1_0)).squeeze S_ squeezes_S1_S_).sem
    (((Memref.isWhole_whole cc3_scratch1).wordExact_slice rfl _ wordsbf16_S4x1024x2048_S1x1024x2048_0_0_0).reshape _ _)
    (((Memref.isWhole_whole cc3_scratch2).wordExact_slice rfl _ wordsbf16_S4x1024x2048_S1x1024x2048_0_0_0).reshape _ _) <|
  waitSend ![1, 0, 0] inb_S4x1024x2048_S1x1024x2048_1_0_0
    ((cc3_scratch3.slice (Rect.unit (s := S4) ![1] S1.size inb_S4_S1_1)).squeeze S_ squeezes_S1_S_).sem
    (((Memref.isWhole_whole cc3_scratch1).wordExact_slice rfl _ wordsbf16_S4x1024x2048_S1x1024x2048_1_0_0).reshape _ _)
    (((Memref.isWhole_whole cc3_scratch2).wordExact_slice rfl _ wordsbf16_S4x1024x2048_S1x1024x2048_1_0_0).reshape _ _) <|
  waitSend ![2, 0, 0] inb_S4x1024x2048_S1x1024x2048_2_0_0
    ((cc3_scratch3.slice (Rect.unit (s := S4) ![2] S1.size inb_S4_S1_2)).squeeze S_ squeezes_S1_S_).sem
    (((Memref.isWhole_whole cc3_scratch1).wordExact_slice rfl _ wordsbf16_S4x1024x2048_S1x1024x2048_2_0_0).reshape _ _)
    (((Memref.isWhole_whole cc3_scratch2).wordExact_slice rfl _ wordsbf16_S4x1024x2048_S1x1024x2048_2_0_0).reshape _ _) <|
  waitSend ![3, 0, 0] inb_S4x1024x2048_S1x1024x2048_3_0_0
    ((cc3_scratch3.slice (Rect.unit (s := S4) ![3] S1.size inb_S4_S1_3)).squeeze S_ squeezes_S1_S_).sem
    (((Memref.isWhole_whole cc3_scratch1).wordExact_slice rfl _ wordsbf16_S4x1024x2048_S1x1024x2048_3_0_0).reshape _ _)
    (((Memref.isWhole_whole cc3_scratch2).wordExact_slice rfl _ wordsbf16_S4x1024x2048_S1x1024x2048_3_0_0).reshape _ _) <|
  rest

/-- Whether a point is the last expert of the last block. -/
abbrev lastW (i : grid3.Coords) : BitVec 1 :=
  Scalar.cmpi .ne (Scalar.extui (Scalar.andi (Scalar.cmpi .eq (BitVec.ofNat 32 (i 0).val) 7#32) (Scalar.cmpi .eq (BitVec.ofNat 32 (i 1).val) 3#32))) 0#32
/-- Whether a point is the first expert of a block, -/
abbrev firstW (i : grid3.Coords) : BitVec 1 := Scalar.cmpi .ne (Scalar.extui (Scalar.cmpi .eq (BitVec.ofNat 32 (i 1).val) 0#32)) 0#32
/-- and whether it is not. -/
abbrev laterW (i : grid3.Coords) : BitVec 1 := Scalar.cmpi .ne (Scalar.extui (Scalar.cmpi .sgt (BitVec.ofNat 32 (i 1).val) 0#32)) 0#32

/-- What follows the block's exchange. -/
def lastPart (i : grid3.Coords) : Piece F := if lastW i = 1#1 then waits (Prog.ret ⟨⟩) else Prog.ret ⟨⟩
/-- The exchange, at the last expert of a block. -/
def swapPart (i : grid3.Coords) (d : Dev nD) (M : Memref sig .tc .vmem S1024x2048 .bf16) (hM : M.IsWhole) : Piece F :=
  if h4 : k3_cond4 i = 1#1 then sends i d h4 (recvs i M hM (lastPart i)) else lastPart i
/-- All that follows the product. -/
def tailPart (i : grid3.Coords) (d : Dev nD) (M : Memref sig .tc .vmem S1024x2048 .bf16) (hM : M.IsWhole) (v : FVec F S1024x2048 .bf16) : Piece F :=
  accIf (firstW i) (laterW i) v
    (View.stores_vmem h_S1024x2048 ((Memref.isWhole_whole cc3_scratch0).storeExact_slice rfl _ packedbf16_S1024x2048_S1024x2048_0_0) (fun _ => rfl))
    (swapPart i d M hM)
/-- Where the bounds of a point's expert are read in the table of starts. -/
abbrev loR (i : grid3.Coords) : Rect S5 := Rect.unit (s := S5) (k3_off2 i) S1.size (k3_off2_inb i)
abbrev hiR (i : grid3.Coords) : Rect S5 := Rect.unit (s := S5) (k3_off3 i) S1.size (k3_off3_inb i)
/-- The one place of a rectangle of one element. -/
abbrev only (r : Rect S5) (h : r.shape.numel = 1) : r.shape.Idx := Shape.Idx.first (h.symm ▸ Nat.one_pos)

/-- The whole body. -/
def bodyP (i : grid3.Coords) (M0 : Memref sig .tc .vmem S1x1024 .i32) (M1 : Memref sig .tc .vmem S1x1152x2048 .bf16)
    (M2 : Memref sig .tc .vmem S1024x2048 .bf16) (h2 : M2.IsWhole) : Piece F :=
  Prog.op .deviceId fun d =>
  barIf (k3_cond1 i) (fun h => ⟨k3_dev1 d, k3_dev1_lt i d h⟩) <|
  smemLoadElt (Memref.whole main_v23) (loR i) (View.loads_smem_one rfl numel1_S1) (only (loR i) numel1_S1) fun lo : Elt F .i32 =>
  smemLoadElt (Memref.whole main_v23) (hiR i) (View.loads_smem_one rfl numel1_S1) (only (hiR i) numel1_S1) fun hi : Elt F .i32 =>
  Prog.op (.load M0 (Rect.unit (s := S1x1024) ![0, 0] S1x1024.size inb_S1x1024_S1x1024_0_0).toLoadRect (View.loadsAt_vmem h_S1x1024)) fun rk =>
  Prog.op (.load M1 (Rect.unit (s := S1x1152x2048) ![0, 0, 0] S1x1152x2048.size inb_S1x1152x2048_S1x1152x2048_0_0_0).toLoadRect
    (View.loadsAt_vmem h_S1x1152x2048)) fun og =>
  tailPart i d M2 h2 (k3_pay1 lo hi rk og)

/-- What the first half hands to the second. -/
abbrev Half (F : FTy → Type) : Type :=
  Σ' (_ : BitVec 32) (_ : BitVec 32) (_ : Dev nD) (_ : BitVec 32) (_ : BitVec 32) (_ : BitVec 32), FVec F S1024x2048 .bf16

set_option maxRecDepth 65536 in
/-- The second half. -/
theorem second_eq (i : grid3.Coords) (M0 : Memref sig .tc .vmem S1x1024 .i32) (h0 : M0.IsWhole) (M1 : Memref sig .tc .vmem S1x1152x2048 .bf16)
    (h1 : M1.IsWhole) (M2 : Memref sig .tc .vmem S1024x2048 .bf16) (h2 : M2.IsWhole) :
    k3_part2 (F := F) i (Memref.whole main_v23) (Memref.isWhole_whole _) (Memref.whole main_v35) (Memref.isWhole_whole _) M0 h0 M1 h1 M2 h2
      acM (Memref.isWhole_whole _) s1 (Memref.isWhole_whole _) s2 (Memref.isWhole_whole _) cc3_scratch3 cc3_scratch4
      = (k3_part1 (F := F) i (Memref.whole main_v23) (Memref.isWhole_whole _) (Memref.whole main_v35) (Memref.isWhole_whole _) M0 h0 M1 h1 M2 h2
          acM (Memref.isWhole_whole _) s1 (Memref.isWhole_whole _) s2 (Memref.isWhole_whole _) cc3_scratch3 cc3_scratch4).bind
          fun x : Half F => accIf (Scalar.cmpi .ne (Scalar.extui (Scalar.cmpi .eq x.2.1 0#32)) 0#32)
            (Scalar.cmpi .ne (Scalar.extui (Scalar.cmpi .sgt x.2.1 0#32)) 0#32) x.2.2.2.2.2.2
            (View.stores_vmem h_S1024x2048 ((Memref.isWhole_whole cc3_scratch0).storeExact_slice rfl _ packedbf16_S1024x2048_S1024x2048_0_0) (fun _ => rfl))
            (let last : Piece F :=
              if Scalar.cmpi .ne (Scalar.extui (Scalar.andi (Scalar.cmpi .eq x.1 7#32) (Scalar.cmpi .eq x.2.1 3#32))) 0#32 = 1#1 then waits (Prog.ret ⟨⟩)
              else Prog.ret ⟨⟩
             if h4 : k3_cond4 i = 1#1 then sends i x.2.2.1 h4 (recvs i M2 h2 last) else last) := by
  rw [k3_part2_eq_skeleton]
  rfl

set_option maxRecDepth 65536 in
/-- The first half, followed by anything. -/
theorem first_eq (i : grid3.Coords) (M0 : Memref sig .tc .vmem S1x1024 .i32) (h0 : M0.IsWhole) (M1 : Memref sig .tc .vmem S1x1152x2048 .bf16)
    (h1 : M1.IsWhole) (M2 : Memref sig .tc .vmem S1024x2048 .bf16) (h2 : M2.IsWhole) (k : Half F → Piece F) :
    (k3_part1 (F := F) i (Memref.whole main_v23) (Memref.isWhole_whole _) (Memref.whole main_v35) (Memref.isWhole_whole _) M0 h0 M1 h1 M2 h2
          acM (Memref.isWhole_whole _) s1 (Memref.isWhole_whole _) s2 (Memref.isWhole_whole _) cc3_scratch3 cc3_scratch4).bind k
      = Prog.op .deviceId fun d =>
        barIf (k3_cond1 i) (fun h => ⟨k3_dev1 d, k3_dev1_lt i d h⟩) <|
        Prog.bind (smemLoad (Memref.whole main_v23) (Rect.unit (s := S5) (k3_off2 i) S1.size (k3_off2_inb i)) numel1_S1 rfl) fun lo : Elt F .i32 =>
        Prog.bind (smemLoad (Memref.whole main_v23) (Rect.unit (s := S5) (k3_off3 i) S1.size (k3_off3_inb i)) numel1_S1 rfl) fun hi : Elt F .i32 =>
        Prog.op (.load M0 (Rect.unit (s := S1x1024) ![0, 0] S1x1024.size inb_S1x1024_S1x1024_0_0).toLoadRect (View.loadsAt_vmem h_S1x1024)) fun rk =>
        Prog.op (.load M1 (Rect.unit (s := S1x1152x2048) ![0, 0, 0] S1x1152x2048.size inb_S1x1152x2048_S1x1152x2048_0_0_0).toLoadRect
          (View.loadsAt_vmem h_S1x1152x2048)) fun og =>
        k ⟨BitVec.ofNat 32 (i 0).val, BitVec.ofNat 32 (i 1).val, d, Scalar.remsi (Scalar.divsi (Dev.word d) 4#32) 2#32,
          Scalar.remsi (Scalar.divsi (Dev.word d) 1#32) 2#32, Scalar.subi 1#32 (Scalar.remsi (Scalar.divsi (Dev.word d) 2#32) 2#32),
          k3_pay1 lo hi rk og⟩ := by
  rw [k3_part1_eq_skeleton]
  unfold k3_part1_skel barIf
  by_cases h : k3_cond1 i = 1#1
  · simp only [dif_pos h]; rfl
  · simp only [dif_neg h]; rfl

/-- The kernel's body is that. -/
theorem body_eq (i : grid3.Coords) (M0 : Memref sig .tc .vmem S1x1024 .i32) (h0 : M0.IsWhole) (M1 : Memref sig .tc .vmem S1x1152x2048 .bf16)
    (h1 : M1.IsWhole) (M2 : Memref sig .tc .vmem S1024x2048 .bf16) (h2 : M2.IsWhole) :
    cc3__scatter_body (F := F) i (Memref.whole main_v23) (Memref.isWhole_whole _) (Memref.whole main_v35) (Memref.isWhole_whole _) M0 h0 M1 h1 M2 h2
      acM (Memref.isWhole_whole _) s1 (Memref.isWhole_whole _) s2 (Memref.isWhole_whole _) cc3_scratch3 cc3_scratch4
      = bodyP i M0 M1 M2 h2 := by
  rw [cc3__scatter_body_eq_skeleton]
  unfold cc3__scatter_body_skel
  refine (bind_pure (m := Prog (TpuEff nD τ sig (Elt F) Λ₀ .tc)) _).trans ?_
  rw [second_eq, first_eq]
  rfl

end Cert.KernelIdeal.Scatter

end
-- ==== Proof.Scatter.Parts.lean ====
/-
  One grid point: when each condition of the kernel's body holds, and what the body does from the state before a point to
  the state after it.
-/
module

public import proofs.«01_k».proof.Proof.Scatter.Whole

@[expose] public section

set_option maxRecDepth 16384

noncomputable section

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Talk
open Cert.KernelIdeal.Talk.Scatter
open Cert.KernelIdeal.Gen

variable {F : FTy → Type} [FloatOps F]

local notation "𝕄" => MT nD τ sig Unit (Elt F) ℕ UU ℕ

/-! ## The conditions, as conditions on the point's number -/

theorem cond1 : ∀ t : Fin grid3.N, k3_cond1 (grid3.coords t) = 1#1 ↔ t.val = 0 := by decide +kernel
theorem cond4 : ∀ t : Fin grid3.N, k3_cond4 (grid3.coords t) = 1#1 ↔ t.val % 4 = 3 := by decide +kernel
theorem cond5 : ∀ t : Fin grid3.N, k3_cond5 (grid3.coords t) = 1#1 ↔ t.val / 4 = 0 := by decide +kernel
theorem cond6 : ∀ t : Fin grid3.N, k3_cond6 (grid3.coords t) = 1#1 ↔ t.val / 4 = 1 := by decide +kernel
theorem cond7 : ∀ t : Fin grid3.N, k3_cond7 (grid3.coords t) = 1#1 ↔ t.val / 4 = 2 := by decide +kernel
theorem cond8 : ∀ t : Fin grid3.N, k3_cond8 (grid3.coords t) = 1#1 ↔ t.val / 4 = 3 := by decide +kernel
theorem cond9 : ∀ t : Fin grid3.N, k3_cond9 (grid3.coords t) = 1#1 ↔ t.val / 4 = 4 := by decide +kernel
theorem cond10 : ∀ t : Fin grid3.N, k3_cond10 (grid3.coords t) = 1#1 ↔ t.val / 4 = 5 := by decide +kernel
theorem cond11 : ∀ t : Fin grid3.N, k3_cond11 (grid3.coords t) = 1#1 ↔ t.val / 4 = 6 := by decide +kernel
theorem cond12 : ∀ t : Fin grid3.N, k3_cond12 (grid3.coords t) = 1#1 ↔ t.val / 4 = 7 := by decide +kernel
theorem first_iff : ∀ t : Fin grid3.N, firstW (grid3.coords t) = 1#1 ↔ t.val % 4 = 0 := by decide +kernel
theorem later_iff : ∀ t : Fin grid3.N, laterW (grid3.coords t) = 1#1 ↔ t.val % 4 ≠ 0 := by decide +kernel
theorem last_iff : ∀ t : Fin grid3.N, lastW (grid3.coords t) = 1#1 ↔ t.val = 31 := by decide +kernel
theorem dev1 (d : Dev nD) (h : k3_dev1 d < nD) : (⟨k3_dev1 d, h⟩ : Dev nD) = pr d := Fin.ext (by revert d; decide +kernel)
theorem dev2 (d : Dev nD) (h : k3_dev2 d < nD) : (⟨k3_dev2 d, h⟩ : Dev nD) = pr d := Fin.ext (by revert d; decide +kernel)
theorem dev3 (d : Dev nD) (h : k3_dev3 d < nD) : (⟨k3_dev3 d, h⟩ : Dev nD) = pr d := Fin.ext (by revert d; decide +kernel)
theorem dev4 (d : Dev nD) (h : k3_dev4 d < nD) : (⟨k3_dev4 d, h⟩ : Dev nD) = pr d := Fin.ext (by revert d; decide +kernel)
theorem dev5 (d : Dev nD) (h : k3_dev5 d < nD) : (⟨k3_dev5 d, h⟩ : Dev nD) = pr d := Fin.ext (by revert d; decide +kernel)

/-! ## The state -/

/-- The accumulator after point `t`: the sum of the products of its block's experts so far. -/
def acc (p : ℕ → FVec F S1024x2048 .bf16) : ℕ → FVec F S1024x2048 .bf16
  | 0 => k3_pay2 (p 0)
  | t + 1 => if (t + 1) % 4 = 0 then k3_pay2 (p (t + 1)) else k3_pay3 (p (t + 1)) (acc p t)

/-- Before the first point: the barrier ahead, its own receive slots still in the device's hands. -/
def begin (c : Dev nD) : sProp 𝕄 := iprop(start 1 c ∗ four (ready c))

/-- What the device holds of the exchange once the barrier is behind it. -/
def run (c : Dev nD) (t : ℕ) : sProp 𝕄 := iprop(four (out c t) ∗ four (inc c t) ∗ semVal (barCell 1 c) 0)
/-- What it holds before point `t`. -/
def st (c : Dev nD) (t : ℕ) : sProp 𝕄 := if t = 0 then iprop(begin c ∗ four (inc c 0)) else run c t
/-- What it owes before point `t`. -/
def owed (c : Dev nD) (t : ℕ) : CellTallies nD τ sig Unit := if t = 0 then O₁ c else os c t
/-- The accumulator before point `t`. -/
def accSt (p : ℕ → FVec F S1024x2048 .bf16) (c : Dev nD) (t : ℕ) : sProp 𝕄 :=
  iprop(∃ V, has c acM V ∗ ⌜t % 4 ≠ 0 → V = acc p (t - 1)⌝)

/-- What point `t` leaves in the result's staging buffer, from `Y`. -/
def outAt (sent : Sent F) (c : Dev nD) (X Y : FVec F S1024x2048 .bf16) (t : ℕ) : FVec F S1024x2048 .bf16 :=
  if t = 31 then addf X (sent.s (pr c) 3) else if t = 27 then addf X (sent.s (pr c) 2) else if t = 23 then addf X (sent.s (pr c) 1)
    else if t = 19 then addf X (sent.s (pr c) 0) else Y

/-! ## The parts of the body -/

/-- The barrier: hand the partner one's own receive slots, get the partner's. -/
theorem barIf_run (sent : Sent F) (K : GSem nD τ sig → ℕ) (c : Dev nD) (Q : PUnit → sProp 𝕄) {b : BitVec 1} (hb : b = 1#1)
    {dv : b = 1#1 → Dev nD} (hd : ∀ h, dv h = pr c) {rest : Piece F} :
    iprop(known sent K 1 c ∗ begin c ∗ ow c (O₁ c)
        ∗ ((four (out c 0) ∗ semVal (barCell 1 c) 0 ∗ ow c (os c 0)) -∗ WP c rest Q))
      ⊢ WP c (barIf b dv rest) Q := by
  obtain rfl : dv = fun _ => pr c := funext hd
  unfold barIf
  rw [dif_pos hb]
  unfold begin
  iintro ⟨#HI, ⟨Hs, Hr⟩, HO, Hk⟩
  iapply (meet_run sent K 1 c (os c 0) (above_os c 0) Q rfl rfl)
  isplitr; · iexact HI
  isplitl [Hs]; · iexact Hs
  isplitl [HO]; · iexact HO
  iintro ⟨Hd, Hv, HO⟩
  iapply Hk
  isplitl [Hr Hd]
  · rw [show out (F := F) c 0 = fun k => iprop(ready c k ∗ door 1 (pr c) k) from funext fun k => if_pos (Nat.zero_le _), four_sep]
    isplitl [Hr] <;> iassumption
  isplitl [Hv] <;> iassumption

/-- The accumulator's step. -/
theorem accIf_run (p : ℕ → FVec F S1024x2048 .bf16) (c : Dev nD) (t : ℕ) (Q : PUnit → sProp 𝕄) {b b' : BitVec 1}
    (hb : b = 1#1 ↔ t % 4 = 0) (hb' : b' = 1#1 ↔ t % 4 ≠ 0) {hst : (acM.access allR).Stores Finset.univ} {rest : Piece F} :
    iprop(accSt p c t ∗ (has c acM (acc p t) -∗ WP c rest Q)) ⊢ WP c (accIf b b' (p t) hst rest) Q := by
  unfold accSt accIf has
  iintro ⟨⟨%V, Hac, %hV⟩, Hk⟩
  by_cases h : t % 4 = 0
  · have e : acc p t = k3_pay2 (p t) := by
      cases t with
      | zero => rfl
      | succ t => unfold acc; exact if_pos h
    rw [if_pos (hb.mpr h)]
    rw [if_neg (fun h' => (hb'.mp h') h), e]
    iapply (load_all c acM V) $$ Hac
    iintro Hac
    iapply (store_all c acM V _) $$ Hac
    iintro Hac
    iapply Hk
    iexact Hac
  · have e : acc p t = k3_pay3 (p t) (acc p (t - 1)) := by
      cases t with
      | zero => exact absurd rfl h
      | succ t => conv_lhs => unfold acc
                  exact if_neg h
    rw [if_neg (fun h' => h (hb.mp h'))]
    rw [if_pos (hb'.mpr h), e, ← hV h]
    iapply (load_all c acM V) $$ Hac
    iintro Hac
    iapply (load_all c acM V) $$ Hac
    iintro Hac
    iapply (store_all c acM V _) $$ Hac
    iintro Hac
    iapply Hk
    iexact Hac

/-- The four sending pieces. -/
theorem sends_run (sent : Sent F) (K : GSem nD τ sig → ℕ) (c : Dev nD) (t : Fin grid3.N) (h3 : t.val % 4 = 3) (Q : PUnit → sProp 𝕄)
    {h4 : k3_cond4 (grid3.coords t) = 1#1} {rest : Piece F} (X : FVec F S1024x2048 .bf16)
    (hX : ∀ k : Fin 4, t.val = 4 * k.val + 3 → X = sent.s c k) :
    iprop(known sent K 1 c ∗ four (out c t.val) ∗ has c acM X ∗ ow c (os c t.val)
        ∗ ((four (mid c t.val) ∗ has c acM X ∗ ow c (os c (t.val + 1))) -∗ WP c rest Q))
      ⊢ WP c (sends (grid3.coords t) c h4 rest) Q := by
  have ht : t.val < 32 := by exact lt_of_lt_of_eq t.isLt N_3
  unfold known cells four sends
  iintro ⟨⟨-, -, #I0, #I1, #I2, #I3⟩, ⟨S0, S1, S2, S3⟩, Ha, HO, Hk⟩
  iapply (sendIf_run sent K c 0 t.val ht Q ((cond5 t).trans (by show _ ↔ t.val = 4 * 0 + 3; omega)) (fun h => dev2 c _) rfl
    (sem_send 0 _ rfl _) (sem_recv 0 _ rfl _) (fun _ => rfl) X (hX 0) (o c t.val 1 + o c t.val 2 + o c t.val 3))
  isplitr; · iexact I0
  isplitl [S0]; · iexact S0
  isplitl [Ha]; · iexact Ha
  isplitl [HO]; · iapply (Entails.of_eq (congrArg (ow (F := F) c) (show os c t.val = (o c t.val 1 + o c t.val 2 + o c t.val 3) + o c t.val 0 from (show o c t.val 0 + o c t.val 1 + o c t.val 2 + o c t.val 3 = _ from by ac_rfl)))) $$ HO
  iintro ⟨S0, Ha, HO⟩
  ihave HO := (Entails.of_eq (congrArg (ow (F := F) c) (show (o c t.val 1 + o c t.val 2 + o c t.val 3) + o c (t.val + 1) 0 = o c (t.val + 1) 0 + o c t.val 1 + o c t.val 2 + o c t.val 3 from by ac_rfl))) $$ HO
  iapply (sendIf_run sent K c 1 t.val ht Q ((cond6 t).trans (by show _ ↔ t.val = 4 * 1 + 3; omega)) (fun h => dev3 c _) rfl
    (sem_send 1 _ rfl _) (sem_recv 1 _ rfl _) (fun _ => rfl) X (hX 1) (o c (t.val + 1) 0 + o c t.val 2 + o c t.val 3))
  isplitr; · iexact I1
  isplitl [S1]; · iexact S1
  isplitl [Ha]; · iexact Ha
  isplitl [HO]; · iapply (Entails.of_eq (congrArg (ow (F := F) c) (show o c (t.val + 1) 0 + o c t.val 1 + o c t.val 2 + o c t.val 3 = (o c (t.val + 1) 0 + o c t.val 2 + o c t.val 3) + o c t.val 1 from by ac_rfl))) $$ HO
  iintro ⟨S1, Ha, HO⟩
  ihave HO := (Entails.of_eq (congrArg (ow (F := F) c) (show (o c (t.val + 1) 0 + o c t.val 2 + o c t.val 3) + o c (t.val + 1) 1 = o c (t.val + 1) 0 + o c (t.val + 1) 1 + o c t.val 2 + o c t.val 3 from by ac_rfl))) $$ HO
  iapply (sendIf_run sent K c 2 t.val ht Q ((cond7 t).trans (by show _ ↔ t.val = 4 * 2 + 3; omega)) (fun h => dev4 c _) rfl
    (sem_send 2 _ rfl _) (sem_recv 2 _ rfl _) (fun _ => rfl) X (hX 2) (o c (t.val + 1) 0 + o c (t.val + 1) 1 + o c t.val 3))
  isplitr; · iexact I2
  isplitl [S2]; · iexact S2
  isplitl [Ha]; · iexact Ha
  isplitl [HO]; · iapply (Entails.of_eq (congrArg (ow (F := F) c) (show o c (t.val + 1) 0 + o c (t.val + 1) 1 + o c t.val 2 + o c t.val 3 = (o c (t.val + 1) 0 + o c (t.val + 1) 1 + o c t.val 3) + o c t.val 2 from by ac_rfl))) $$ HO
  iintro ⟨S2, Ha, HO⟩
  ihave HO := (Entails.of_eq (congrArg (ow (F := F) c) (show (o c (t.val + 1) 0 + o c (t.val + 1) 1 + o c t.val 3) + o c (t.val + 1) 2 = o c (t.val + 1) 0 + o c (t.val + 1) 1 + o c (t.val + 1) 2 + o c t.val 3 from by ac_rfl))) $$ HO
  iapply (sendIf_run sent K c 3 t.val ht Q ((cond8 t).trans (by show _ ↔ t.val = 4 * 3 + 3; omega)) (fun h => dev5 c _) rfl
    (sem_send 3 _ rfl _) (sem_recv 3 _ rfl _) (fun _ => rfl) X (hX 3) (o c (t.val + 1) 0 + o c (t.val + 1) 1 + o c (t.val + 1) 2))
  isplitr; · iexact I3
  isplitl [S3]; · iexact S3
  isplitl [Ha]; · iexact Ha
  isplitl [HO]; · iapply (Entails.of_eq (congrArg (ow (F := F) c) (show o c (t.val + 1) 0 + o c (t.val + 1) 1 + o c (t.val + 1) 2 + o c t.val 3 = (o c (t.val + 1) 0 + o c (t.val + 1) 1 + o c (t.val + 1) 2) + o c t.val 3 from by ac_rfl))) $$ HO
  iintro ⟨S3, Ha, HO⟩
  ihave HO := (Entails.of_eq (congrArg (ow (F := F) c) (show (o c (t.val + 1) 0 + o c (t.val + 1) 1 + o c (t.val + 1) 2) + o c (t.val + 1) 3 = o c (t.val + 1) 0 + o c (t.val + 1) 1 + o c (t.val + 1) 2 + o c (t.val + 1) 3 from by ac_rfl))) $$ HO
  iapply Hk
  isplitl [S0 S1 S2 S3]
  · isplitl [S0]; · iexact S0
    isplitl [S1]; · iexact S1
    isplitl [S2] <;> iassumption
  isplitl [Ha]; · iexact Ha
  iexact HO

/-- The four receiving pieces. -/
theorem recvs_run (sent : Sent F) (K : GSem nD τ sig → ℕ) (c : Dev nD) (t : Fin grid3.N) (h3 : t.val % 4 = 3) (Q : PUnit → sProp 𝕄)
    (M : Memref sig .tc .vmem S1024x2048 .bf16) (hM : M.IsWhole) {rest : Piece F} (X Y : FVec F S1024x2048 .bf16) :
    iprop(known sent K 1 c ∗ four (inc c t.val) ∗ has c acM X ∗ has c M Y ∗ ow c (os c (t.val + 1))
        ∗ ((four (inc c (t.val + 1)) ∗ has c acM X ∗ has c M (outAt sent c X Y t.val) ∗ ow c (os c (t.val + 1))) -∗ WP c rest Q))
      ⊢ WP c (recvs (grid3.coords t) M hM rest) Q := by
  have ho : ∀ k : Fin 4, t.val = 16 + 4 * k.val + 3 → os c (t.val + 1) = 0 := fun k e => by
    unfold os o
    rw [if_neg (by show ¬ _ ≤ 4 * 0 + 3; omega), if_neg (by show ¬ _ ≤ 4 * 1 + 3; omega), if_neg (by show ¬ _ ≤ 4 * 2 + 3; omega),
      if_neg (by show ¬ _ ≤ 4 * 3 + 3; omega)]
    simp only [add_zero]
  unfold known cells four recvs outAt
  iintro ⟨⟨#Hl, -, #I0, #I1, #I2, #I3⟩, ⟨S0, S1, S2, S3⟩, Ha, HM, HO, Hk⟩
  iapply (recvIf_run sent K c 0 t.val Q ((cond9 t).trans (by show _ ↔ t.val = 16 + 4 * 0 + 3; omega)) M rfl
    (sem_recv 0 _ rfl _) (fun _ _ => rfl) X _ _ (ho 0))
  isplitr; · iexact Hl
  isplitr; · iexact I0
  isplitl [S0]; · iexact S0
  isplitl [Ha]; · iexact Ha
  isplitl [HM]; · iexact HM
  isplitl [HO]; · iexact HO
  iintro ⟨S0, Ha, HM, HO⟩
  iapply (recvIf_run sent K c 1 t.val Q ((cond10 t).trans (by show _ ↔ t.val = 16 + 4 * 1 + 3; omega)) M rfl
    (sem_recv 1 _ rfl _) (fun _ _ => rfl) X _ _ (ho 1))
  isplitr; · iexact Hl
  isplitr; · iexact I1
  isplitl [S1]; · iexact S1
  isplitl [Ha]; · iexact Ha
  isplitl [HM]; · iexact HM
  isplitl [HO]; · iexact HO
  iintro ⟨S1, Ha, HM, HO⟩
  iapply (recvIf_run sent K c 2 t.val Q ((cond11 t).trans (by show _ ↔ t.val = 16 + 4 * 2 + 3; omega)) M rfl
    (sem_recv 2 _ rfl _) (fun _ _ => rfl) X _ _ (ho 2))
  isplitr; · iexact Hl
  isplitr; · iexact I2
  isplitl [S2]; · iexact S2
  isplitl [Ha]; · iexact Ha
  isplitl [HM]; · iexact HM
  isplitl [HO]; · iexact HO
  iintro ⟨S2, Ha, HM, HO⟩
  iapply (recvIf_run sent K c 3 t.val Q ((cond12 t).trans (by show _ ↔ t.val = 16 + 4 * 3 + 3; omega)) M rfl
    (sem_recv 3 _ rfl _) (fun _ _ => rfl) X _ _ (ho 3))
  isplitr; · iexact Hl
  isplitr; · iexact I3
  isplitl [S3]; · iexact S3
  isplitl [Ha]; · iexact Ha
  isplitl [HM]; · iexact HM
  isplitl [HO]; · iexact HO
  iintro ⟨S3, Ha, HM, HO⟩
  iapply Hk
  isplitl [S0 S1 S2 S3]
  · isplitl [S0]; · iexact S0
    isplitl [S1]; · iexact S1
    isplitl [S2] <;> iassumption
  isplitl [Ha]; · iexact Ha
  isplitl [HM]; · iexact HM
  iexact HO

/-- The waits for the sends. -/
theorem waits_run (sent : Sent F) (K : GSem nD τ sig → ℕ) (c : Dev nD) (Q : PUnit → sProp 𝕄) {rest : Piece F} :
    iprop(known sent K 1 c ∗ four (flying 1 c) ∗ ow c 0 ∗ ((four (drained c) ∗ ow c 0) -∗ WP c rest Q))
      ⊢ WP c (waits rest) Q := by
  unfold known cells four waits
  iintro ⟨⟨#Hl, -, #I0, #I1, #I2, #I3⟩, ⟨S0, S1, S2, S3⟩, HO, Hk⟩
  iapply (waitSend_run sent K c 0 Q rfl (sem_send 0 _ rfl _))
  isplitr; · iexact Hl
  isplitr; · iexact I0
  isplitl [S0]; · iexact S0
  isplitl [HO]; · iexact HO
  iintro ⟨S0, HO⟩
  iapply (waitSend_run sent K c 1 Q rfl (sem_send 1 _ rfl _))
  isplitr; · iexact Hl
  isplitr; · iexact I1
  isplitl [S1]; · iexact S1
  isplitl [HO]; · iexact HO
  iintro ⟨S1, HO⟩
  iapply (waitSend_run sent K c 2 Q rfl (sem_send 2 _ rfl _))
  isplitr; · iexact Hl
  isplitr; · iexact I2
  isplitl [S2]; · iexact S2
  isplitl [HO]; · iexact HO
  iintro ⟨S2, HO⟩
  iapply (waitSend_run sent K c 3 Q rfl (sem_send 3 _ rfl _))
  isplitr; · iexact Hl
  isplitr; · iexact I3
  isplitl [S3]; · iexact S3
  isplitl [HO]; · iexact HO
  iintro ⟨S3, HO⟩
  iapply Hk
  isplitl [S0 S1 S2 S3]
  · isplitl [S0]; · iexact S0
    isplitl [S1]; · iexact S1
    isplitl [S2] <;> iassumption
  iexact HO

end Cert.KernelIdeal.Scatter

end
-- ==== Proof.Moe.Data.lean ====
/-
The experts' pipeline on each device: what every window's buffer holds at every point, and the body's obligation.
-/
module

public import proofs.«01_k».proof.Proof.Owed
public import Idealize.ShloMosaic.Lib.Pipeline.TableIdle
public import proofs.«01_k».proof.Proof.Gen.KernelIdeal.Points
public import proofs.«01_k».proof.Proof.Gen.KernelIdeal.Skeleton

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Talk
open Cert.KernelIdeal.Gen

variable {F : FTy → Type} [FloatOps F]

local notation "𝕄" => MT nD τ sig Unit (Elt F) ℕ UU ℕ

variable (m : (ℓ : Loc nD τ sig) → Buf (Elt F) ℓ) (xg : (c : Dev nD) → Buf (Elt F) ((c : Thread nD τ).loc main_v36))

/-- The pipeline as device `c` runs it. -/
abbrev cfgAt (c : Dev nD) : Pipeline.Cfg sig Λ₀ := Pipeline.pinD (pcfgs (F := F)) (adm m) c 2

/-- A number as a grid point. -/
def pt (n : ℕ) : Fin grid2.N := ⟨n % 32, lt_of_lt_of_eq (Nat.mod_lt _ (by decide)) N_2.symm⟩
theorem pt_val (t : Fin grid2.N) : pt t.val = t := Fin.ext (Nat.mod_eq_of_lt (lt_of_lt_of_eq t.isLt N_2))

/-- The gathered rows of a point's expert, -/
def xgAt (c : Dev nD) (t : Fin grid2.N) : Vec F S1x1152x2048 .bf16 := (((cfgAt m c).win 0).blk t).view.read (Elt F) (xg c)
/-- the tile of its first matrix, -/
def w1At (c : Dev nD) (t : Fin grid2.N) : Vec F S1x2048x512 .bf16 := (((cfgAt m c).win 1).blk t).view.read (Elt F) (In m c main_arg2)
/-- and of its second. -/
def w2At (c : Dev nD) (t : Fin grid2.N) : Vec F S1x512x2048 .bf16 := (((cfgAt m c).win 2).blk t).view.read (Elt F) (In m c main_arg3)

/-- What a point makes of the accumulator: an expert's first tile fills it, the others are added to it. -/
def stepV (t : ℕ) (x : Vec F S1x1152x2048 .bf16) (a : Vec F S1x2048x512 .bf16) (b : Vec F S1x512x2048 .bf16) (V : FVec F S1152x2048 .f32) : FVec F S1152x2048 .f32 :=
  if t % 8 = 0 then k2_pay2 x a b else k2_pay3 x a b V

/-- The accumulator after each point. -/
def accM (c : Dev nD) : ℕ → FVec F S1152x2048 .f32
  | 0 => k2_pay2 (xgAt m xg c (pt 0)) (w1At m c (pt 0)) (w2At m c (pt 0))
  | t + 1 => stepV (t + 1) (xgAt m xg c (pt (t + 1))) (w1At m c (pt (t + 1))) (w2At m c (pt (t + 1))) (accM c t)

/-- The accumulator's buffer. -/
abbrev scM : Memref sig .tc .vmem S1152x2048 .f32 := Memref.whole cc2_scratch0

/-- The accumulator before a point. -/
def accSt (c : Dev nD) (t : ℕ) : sProp 𝕄 := iprop(∃ V : FVec F S1152x2048 .f32, has c scM V ∗ ⌜t % 8 ≠ 0 → V = accM m xg c (t - 1)⌝)

/-- The scoped buffers the call does not use. -/
def side (c : Dev nD) : sProp 𝕄 := Pipeline.scopedRestBut spec2 c [cc2_scratch0]

/-- The pipeline's data. -/
def dat (c : Dev nD) : Dat τ (Elt F) Unit ℕ UU ℕ (cfgAt m c) c where
  A := fun
    | 0 => xg c
    | 1 => In m c main_arg2
    | 2 => In m c main_arg3
    | 3 => In m c main_v37
    | ⟨_ + 4, h⟩ => absurd h (Nat.not_lt.2 (Nat.le_add_left _ _))
  after := fun
    | 0 => fun t => xgAt m xg c t
    | 1 => fun t => w1At m c t
    | 2 => fun t => w2At m c t
    | 3 => fun t => k2_pay4 (accM m xg c t.val)
    | ⟨_ + 4, h⟩ => absurd h (Nat.not_lt.2 (Nat.le_add_left _ _))
  Φ t := iprop(accSt m xg c t.val ∗ side c)
  q _ := fullShare
  owed _ := O₁ c

theorem cond_first : ∀ t : Fin grid2.N, (Scalar.cmpi .ne (Scalar.extui (Scalar.cmpi .eq (BitVec.ofNat 32 ((grid2.coords t) 1).val) 0#32) : BitVec 32) 0#32 = 1#1) ↔ t.val % 8 = 0 := by decide +kernel
theorem cond_later : ∀ t : Fin grid2.N, (Scalar.cmpi .ne (Scalar.extui (Scalar.cmpi .sgt (BitVec.ofNat 32 ((grid2.coords t) 1).val) 0#32) : BitVec 32) 0#32 = 1#1) ↔ t.val % 8 ≠ 0 := by decide +kernel
theorem cond_last : ∀ t : Fin grid2.N, k2_cond3 (grid2.coords t) = 1#1 ↔ t.val % 8 = 7 := by decide +kernel
theorem idle_iff : ∀ t : Fin grid2.N, idle2 3 (grid2.coords t) = decide (t.val % 8 ≠ 7) := by decide +kernel
theorem moves_iff : ∀ t : Fin grid2.N, ((t.val + 1 = grid2.N) || decide (∃ h : t.val + 1 < grid2.N, cc2_transform_3 (grid2.coords ⟨t.val + 1, h⟩) ≠ cc2_transform_3 (grid2.coords t)))
    = decide (t.val % 8 = 7) := by decide +kernel
theorem flush_eq (c : Dev nD) (t : Fin grid2.N) : ((cfgAt m c).win 3).flush t = decide (t.val % 8 = 7) := moves_iff t

/-- What the body does at one point. -/
theorem moe_run (c : Dev nD) (t : Fin grid2.N) (Q : PUnit → sProp 𝕄) (M0 : Memref sig .tc .vmem S1x1152x2048 .bf16) (h0 : M0.IsWhole)
    (M1 : Memref sig .tc .vmem S1x2048x512 .bf16) (h1 : M1.IsWhole) (M2 : Memref sig .tc .vmem S1x512x2048 .bf16) (h2 : M2.IsWhole)
    (M3 : Memref sig .tc .vmem S1x1152x2048 .bf16) (h3 : M3.IsWhole) (X0 : Vec F S1x1152x2048 .bf16) (X1 : Vec F S1x2048x512 .bf16)
    (X2 : Vec F S1x512x2048 .bf16) (V : FVec F S1152x2048 .f32) (Y : FVec F S1x1152x2048 .bf16) :
    iprop(owns (c : Thread nD τ) M0 fullShare X0 ∗ owns (c : Thread nD τ) M1 fullShare X1 ∗ owns (c : Thread nD τ) M2 fullShare X2
        ∗ owns (c : Thread nD τ) M3 fullShare Y ∗ owns (c : Thread nD τ) scM fullShare V
        ∗ ((owns (c : Thread nD τ) M0 fullShare X0 ∗ owns (c : Thread nD τ) M1 fullShare X1 ∗ owns (c : Thread nD τ) M2 fullShare X2
          ∗ owns (c : Thread nD τ) M3 fullShare (if t.val % 8 = 7 then k2_pay4 (stepV t.val X0 X1 X2 V) else Y)
          ∗ owns (c : Thread nD τ) scM fullShare (stepV t.val X0 X1 X2 V)) -∗ Q ⟨⟩))
      ⊢ WP c (cc2__moe_body (grid2.coords t) M0 h0 M1 h1 M2 h2 M3 h3 scM (Memref.isWhole_whole _)) Q := by
  rw [cc2__moe_body_eq_skeleton]
  unfold cc2__moe_body_skel
  iintro ⟨H0, H1, H2, H3, Hac, Hk⟩
  by_cases hf : t.val % 8 = 0
  · have hl : t.val % 8 ≠ 7 := by omega
    have hs : stepV t.val X0 X1 X2 V = k2_pay2 X0 X1 X2 := if_pos hf
    simp only [dif_pos ((cond_first t).mpr hf), dif_neg (fun h => (cond_later t).mp h hf), dif_neg (fun h => hl ((cond_last t).mp h)), Prog.lift, Prog.bind_op, Prog.bind_ret, hs, if_neg hl]
    iapply (load_all c M0 X0) $$ H0
    iintro H0
    iapply (load_all c M1 X1) $$ H1
    iintro H1
    iapply (load_all c M2 X2) $$ H2
    iintro H2
    iapply (load_all c scM V) $$ Hac
    iintro Hac
    iapply (store_all c scM V _) $$ Hac
    iintro Hac
    unfold WP
    rw [show (pure PUnit.unit : Prog (TpuEff nD τ sig (Elt F) Λ₀ .tc) PUnit) = Prog.ret ⟨⟩ from rfl, wp_ret]
    imodintro
    iapply Hk
    isplitl [H0]; · iexact H0
    isplitl [H1]; · iexact H1
    isplitl [H2]; · iexact H2
    isplitl [H3]; · iexact H3
    iexact Hac
  · have hs : stepV t.val X0 X1 X2 V = k2_pay3 X0 X1 X2 V := if_neg hf
    by_cases hl : t.val % 8 = 7
    · simp only [dif_neg (fun h => hf ((cond_first t).mp h)), dif_pos ((cond_later t).mpr hf), dif_pos ((cond_last t).mpr hl), Prog.lift, Prog.bind_op, Prog.bind_ret, hs, if_pos hl]
      iapply (load_all c M0 X0) $$ H0
      iintro H0
      iapply (load_all c M1 X1) $$ H1
      iintro H1
      iapply (load_all c M2 X2) $$ H2
      iintro H2
      iapply (load_all c scM V) $$ Hac
      iintro Hac
      iapply (load_all c scM V) $$ Hac
      iintro Hac
      iapply (store_all c scM V _) $$ Hac
      iintro Hac
      iapply (load_all c scM _) $$ Hac
      iintro Hac
      iapply (load_all c M3 Y) $$ H3
      iintro H3
      iapply (store_all c M3 Y _) $$ H3
      iintro H3
      unfold WP
      rw [show (pure PUnit.unit : Prog (TpuEff nD τ sig (Elt F) Λ₀ .tc) PUnit) = Prog.ret ⟨⟩ from rfl, wp_ret]
      imodintro
      iapply Hk
      isplitl [H0]; · iexact H0
      isplitl [H1]; · iexact H1
      isplitl [H2]; · iexact H2
      isplitl [H3]; · iexact H3
      iexact Hac
    · simp only [dif_neg (fun h => hf ((cond_first t).mp h)), dif_pos ((cond_later t).mpr hf), dif_neg (fun h => hl ((cond_last t).mp h)), Prog.lift, Prog.bind_op, Prog.bind_ret, hs, if_neg hl]
      iapply (load_all c M0 X0) $$ H0
      iintro H0
      iapply (load_all c M1 X1) $$ H1
      iintro H1
      iapply (load_all c M2 X2) $$ H2
      iintro H2
      iapply (load_all c scM V) $$ Hac
      iintro Hac
      iapply (load_all c scM V) $$ Hac
      iintro Hac
      iapply (store_all c scM V _) $$ Hac
      iintro Hac
      unfold WP
      rw [show (pure PUnit.unit : Prog (TpuEff nD τ sig (Elt F) Λ₀ .tc) PUnit) = Prog.ret ⟨⟩ from rfl, wp_ret]
      imodintro
      iapply Hk
      isplitl [H0]; · iexact H0
      isplitl [H1]; · iexact H1
      isplitl [H2]; · iexact H2
      isplitl [H3]; · iexact H3
      iexact Hac

theorem before0 (c : Dev nD) (t : Fin grid2.N) (d) : (dat m xg c).before 0 t d = xgAt m xg c t :=
  before_read (dat m xg c) 0 rfl (fun _ => rfl) (fun _ _ => rfl) (fun _ => rfl) t d
theorem before1 (c : Dev nD) (t : Fin grid2.N) (d) : (dat m xg c).before 1 t d = w1At m c t :=
  before_read (dat m xg c) 1 rfl (fun _ => rfl) (fun _ _ => rfl) (fun _ => rfl) t d
theorem before2 (c : Dev nD) (t : Fin grid2.N) (d) : (dat m xg c).before 2 t d = w2At m c t :=
  before_read (dat m xg c) 2 rfl (fun _ => rfl) (fun _ _ => rfl) (fun _ => rfl) t d

/-- A point's step from what the accumulator held before it is what it holds after it. -/
theorem step_acc (c : Dev nD) (t : Fin grid2.N) (V : FVec F S1152x2048 .f32) (hV : t.val % 8 ≠ 0 → V = accM m xg c (t.val - 1)) :
    stepV t.val (xgAt m xg c t) (w1At m c t) (w2At m c t) V = accM m xg c t.val := by
  have key : ∀ n : ℕ, (n % 8 ≠ 0 → V = accM m xg c (n - 1)) → stepV n (xgAt m xg c (pt n)) (w1At m c (pt n)) (w2At m c (pt n)) V = accM m xg c n := by
    intro n hn
    cases n with
    | zero => exact if_pos rfl
    | succ n =>
      show _ = stepV (n + 1) _ _ _ _
      unfold stepV
      by_cases h : (n + 1) % 8 = 0
      · rw [if_pos h, if_pos h]
      · rw [if_neg h, if_neg h, hn h]; rfl
  have := key t.val hV
  rwa [pt_val] at this

/-- What the body leaves in the fourth window's buffer, as the obligation writes it. -/
theorem fourth (c : Dev nD) (t : Fin grid2.N) (d) (M : Memref sig .tc .vmem S1x1152x2048 .bf16) :
    (owns (c : Thread nD τ) M fullShare (if t.val % 8 = 7 then k2_pay4 (accM m xg c t.val) else (dat m xg c).before 3 t d) : sProp 𝕄)
      ⊢ (match idle2 3 (grid2.coords t) with
        | true => match ((cfgAt m c).win 3).flush t with
          | false => iprop(∃ d, owns (c : Thread nD τ) M fullShare ((dat m xg c).before 3 t d))
          | true => owns (c : Thread nD τ) M fullShare ((dat m xg c).after 3 t)
        | false => owns (c : Thread nD τ) M fullShare ((dat m xg c).after 3 t) : sProp 𝕄) := by
  by_cases h : t.val % 8 = 7
  · refine (Entails.of_eq (congrArg (fun X => (owns (c : Thread nD τ) M fullShare X : sProp 𝕄)) (if_pos h))).trans ?_
    rw [idle_iff, flush_eq, decide_eq_false (by omega)]
    exact .rfl
  · refine (Entails.of_eq (congrArg (fun X => (owns (c : Thread nD τ) M fullShare X : sProp 𝕄)) (if_neg h))).trans ?_
    rw [idle_iff, flush_eq, decide_eq_true h, decide_eq_false h]
    dsimp only
    iintro H; iexists d; iexact H

set_option backward.isDefEq.respectTransparency.types false in
/-- The body meets its obligation at every point. -/
theorem body (c : Dev nD) : Pipeline.BodyObligation (dat m xg c) defs₀ 𝒱₀ () Set.univ := by
  intro t
  rw [bigSep_W2, bigSep_W2]
  dsimp only
  simp only [show ∀ i, (pcfgs (F := F) 2).idle (adm m c 2).1 0 i = false from fun _ => rfl, show ∀ i, (pcfgs (F := F) 2).idle (adm m c 2).1 1 i = false from fun _ => rfl,
    show ∀ i, (pcfgs (F := F) 2).idle (adm m c 2).1 2 i = false from fun _ => rfl, show ∀ i, (pcfgs (F := F) 2).idle (adm m c 2).1 3 i = idle2 3 i from fun _ => rfl]
  rw [show (dat m xg c).Φ t.castSucc = iprop(accSt m xg c t.val ∗ side c) from rfl, show (dat m xg c).Φ t.succ = iprop(accSt m xg c (t.val + 1) ∗ side c) from rfl]
  have hb : defs₀ (F := F) .tc (cfgAt m c).body ((cfgAt m c).bodyArgs t ((cfgAt m c).slots t)) = bodyAt2 t := rfl
  rw [hb]
  unfold accSt has
  iintro ⟨⟨⟨%V, Hac, %hV⟩, Hside⟩, HO, ⟨%d0, H0⟩, ⟨%d1, H1⟩, ⟨%d2, H2⟩, ⟨%d3, H3⟩⟩
  ihave HO := (owesAt_elim (dat m xg c) t.castSucc _ rfl) $$ HO
  ihave H0 := (Entails.of_eq (congrArg (fun X => (owns (c : Thread nD τ) (st2_0 t) fullShare X : sProp 𝕄)) (before0 m xg c t d0))) $$ H0
  ihave H1 := (Entails.of_eq (congrArg (fun X => (owns (c : Thread nD τ) (st2_1 t) fullShare X : sProp 𝕄)) (before1 m xg c t d1))) $$ H1
  ihave H2 := (Entails.of_eq (congrArg (fun X => (owns (c : Thread nD τ) (st2_2 t) fullShare X : sProp 𝕄)) (before2 m xg c t d2))) $$ H2
  iapply (moe_run c t _ _ _ _ _ _ _ _ _ (xgAt m xg c t) (w1At m c t) (w2At m c t) V ((dat m xg c).before 3 t d3))
  rw [step_acc m xg c t V hV]
  isplitl [H0]; · iexact H0
  isplitl [H1]; · iexact H1
  isplitl [H2]; · iexact H2
  isplitl [H3]; · iexact H3
  isplitl [Hac]; · iexact Hac
  iintro ⟨H0, H1, H2, H3, Hac⟩
  isplitl [Hac Hside]
  · isplitl [Hac]
    · iexists _
      isplitl [Hac]; · iexact Hac
      ipureintro; intro _; rfl
    iexact Hside
  isplitl [HO]
  · iapply (owesAt_intro (dat m xg c) t.succ _ rfl rfl); iexact HO
  isplitl [H0]; · iexact H0
  isplitl [H1]; · iexact H1
  isplitl [H2]; · iexact H2
  ihave H := (fourth m xg c t d3 (st2_3 t)) $$ H3
  iexact H

end Cert.KernelIdeal.Moe

end
-- ==== Proof.Math.lean ====
/-
The bodies' products over the extended reals, read at one entry.
-/
module

public import proofs.«01_k».proof.Proof.Gather.Point
public import proofs.«01_k».proof.Proof.Scatter.Parts
public import proofs.«01_k».proof.Proof.Moe.Data
public import Idealize.ShloMosaic.Lib.Pointwise
public import Idealize.ShloMosaic.Lib.KernelVsHost
public import Idealize.ShloMosaic.Lib.Pipeline.Value

@[expose] public section

set_option maxRecDepth 16384

noncomputable section

namespace Cert.Values.Core

open Idealize.ShloMosaic Idealize.ShloMosaic.TcCoe
open Idealize.SL.Sem
open Cert.KernelIdeal hiding ix1 ix3
open Cert.KernelIdeal.Gen

/-- Whether a token of rank `rk` sits at place `k` of the segment that starts at `lo` and ends before `hi`: one or zero. -/
def hit (rk lo hi : BitVec 32) (k : ℕ) : EReal :=
  (((IntOp.andi (IntOp.cmpi .eq (IntOp.addi (BitVec.ofNat 32 k) lo) rk) (IntOp.cmpi .slt rk hi)).toNat : ℝ) : EReal)
/-- Whether a token of rank `rk` sits `k` places after `lo`: one or zero. -/
def at_ (rk lo : BitVec 32) (k : ℕ) : EReal := (((IntOp.cmpi .eq (IntOp.addi (BitVec.ofNat 32 k) lo) rk).toNat : ℝ) : EReal)
/-- One expert's share of a token's entry: the entry of its results at the token's place in its segment, or nothing. -/
def share (rk lo hi : BitVec 32) (col : Fin 1152 → EReal) : EReal := ∑ k : Fin 1152, hit rk lo hi k.val * col k

/-- A point of the scatter. -/
theorem scatter_apply (lo hi : BitVec 32) (rk : Vec Ideal S1x1024 .i32) (og : Vec Ideal S1x1152x2048 .bf16) (r : Fin 1024) (d : Fin 2048) :
    k3_pay1 (F := Ideal) lo hi rk og (ix2 r d) = share (rk (ix2 0 r)) lo hi fun k => og (Idealize.ShloMosaic.ix3 0 k d) := by
  unfold k3_pay1
  dsimp only
  rw [sitofp_extui_eq_uitofp]
  pointwise
  exact Finset.sum_congr rfl fun k _ => rfl

/-- A point's rows of the gather, of the device's own tokens -/
theorem gather_own (lo : BitVec 32) (rk : Vec Ideal S1x1024 .i32) (x : Vec Ideal S1024x2048 .bf16) (k : Fin 1152) (d : Fin 2048) :
    k1_pay3 (F := Ideal) lo rk x (ix2 k d) = ∑ j : Fin 1024, at_ (rk (ix2 0 j)) lo k.val * x (ix2 j d) := by
  unfold k1_pay3 k1_pay2
  dsimp only
  rw [sitofp_extui_eq_uitofp]
  pointwise
  exact Finset.sum_congr rfl fun j _ => rfl
/-- and of the partner's. -/
theorem gather_got (lo : BitVec 32) (rk : Vec Ideal S1x1024 .i32) (x : Vec Ideal S1x1024x2048 .bf16) (k : Fin 1152) (d : Fin 2048) :
    k1_pay6 (F := Ideal) lo rk x (ix2 k d) = ∑ j : Fin 1024, at_ (rk (ix2 0 j)) lo k.val * x (Idealize.ShloMosaic.ix3 0 j d) := by
  unfold k1_pay6 k1_pay2
  dsimp only
  rw [sitofp_extui_eq_uitofp]
  pointwise
  exact Finset.sum_congr rfl fun j _ => rfl

/-- A tile of an expert's two layers. -/
theorem moe_apply (x : Vec Ideal S1x1152x2048 .bf16) (a : Vec Ideal S1x2048x512 .bf16) (b : Vec Ideal S1x512x2048 .bf16) (k : Fin 1152) (d : Fin 2048) :
    k2_pay1 (F := Ideal) x a b (ix2 k d) = ∑ f : Fin 512, max (∑ d' : Fin 2048, x (Idealize.ShloMosaic.ix3 0 k d') * a (Idealize.ShloMosaic.ix3 0 d' f)) 0 * b (Idealize.ShloMosaic.ix3 0 f d) := by
  unfold k2_pay1
  pointwise

/-- The sum of a block's four products. -/
theorem acc_four (p : ℕ → FVec Ideal S1024x2048 .bf16) (n : ℕ) (i : S1024x2048.Idx) :
    Cert.KernelIdeal.Scatter.acc p (4 * n + 3) i = ∑ e : Fin 4, p (4 * n + e.val) i := by
  have z : Cert.KernelIdeal.Scatter.acc p (4 * n) = p (4 * n) := by
    obtain _ | n := n
    · exact shapeCast_self _ _
    · show (if (4 * n + 3 + 1) % 4 = 0 then _ else _) = _
      rw [if_pos (by omega)]; exact shapeCast_self _ _
  have s : ∀ j, (j + 1) % 4 ≠ 0 → Cert.KernelIdeal.Scatter.acc p (j + 1) i = Cert.KernelIdeal.Scatter.acc p j i + p (j + 1) i := fun j hj => by
    show (if (j + 1) % 4 = 0 then k3_pay2 (p (j + 1)) else k3_pay3 (p (j + 1)) (Cert.KernelIdeal.Scatter.acc p j)) i = _
    rw [if_neg hj]
    exact congrFun (shapeCast_self (addf (Cert.KernelIdeal.Scatter.acc p j) (p (j + 1))) _) i
  rw [s (4 * n + 2) (by omega), s (4 * n + 1) (by omega), s (4 * n) (by omega), z, Fin.sum_univ_four]
  rfl

/-- A sum over all rows, block by block. -/
theorem sum_blocks (n k : ℕ) (f : ℕ → EReal) : ∑ t : Fin (n * k), f t.val = ∑ b : Fin n, ∑ j : Fin k, f (b.val * k + j.val) := by
  rw [← Fintype.sum_prod_type', ← finProdFinEquiv.sum_comp]
  refine Finset.sum_congr rfl fun p _ => congrArg f ?_
  show p.2.val + k * p.1.val = _
  rw [Nat.mul_comm, Nat.add_comm]

end Cert.Values.Core

end
-- ==== Proof.Holds.lean ====
/-
What the devices hold when the gather begins, in terms of whole arrays.
-/
module

public import proofs.«01_k».proof.Proof.Owed
public import proofs.«01_k».proof.Proof.Math

@[expose] public section

set_option maxRecDepth 16384

noncomputable section

namespace Cert.Values.Core

open Idealize.ShloMosaic Idealize.ShloMosaic.TcCoe
open Idealize.SL.Sem
open Cert.KernelIdeal hiding ix1 ix3
open Cert.KernelIdeal.Talk
open Cert.KernelIdeal.Gen

/-- Devices holding the tokens' ranks `rk` and the experts' starts `st`, and their parts of the tokens `x` and the matrices `w1`, `w2`. -/
structure Holds (m : (ℓ : Loc nD τ sig) → Buf (Elt Ideal) ℓ) (rk st : ℕ → BitVec 32) (x : ℕ → Fin 2048 → EReal) (w1 : ℕ → Fin 2048 → ℕ → EReal)
    (w2 : ℕ → ℕ → Fin 2048 → EReal) (c : Dev nD) : Prop where
  rk : ∀ t : Fin 8192, (In m c main_v24 : (⟨S1x8192, .i32⟩ : BufTy).Contents (Elt Ideal)) (ix2 0 t) = rk t.val
  st : ∀ j : Fin 5, (In m c main_v23 : (⟨S5, .i32⟩ : BufTy).Contents (Elt Ideal)) (Idealize.ShloMosaic.ix1 j) = st (4 * yOf c + j.val)
  x : ∀ (r : Fin 4096) (d : Fin 2048), (In m c main_arg0 : (⟨S4096x2048, .bf16⟩ : BufTy).Contents (Elt Ideal)) (ix2 r d) = x (yOf c * 4096 + r.val) d
  w1 : ∀ (e : Fin 4) (d : Fin 2048) (f : Fin 4096), (In m c main_arg2 : (⟨S4x2048x4096, .bf16⟩ : BufTy).Contents (Elt Ideal)) (Idealize.ShloMosaic.ix3 e d f) = w1 (4 * yOf c + e.val) d f.val
  w2 : ∀ (e : Fin 4) (f : Fin 4096) (d : Fin 2048), (In m c main_arg3 : (⟨S4x4096x2048, .bf16⟩ : BufTy).Contents (Elt Ideal)) (Idealize.ShloMosaic.ix3 e f d) = w2 (4 * yOf c + e.val) f.val d

end Cert.Values.Core

end
-- ==== Proof.Scatter.Point.lean ====
/-
  What the kernel's body does at one grid point.
-/
module

public import proofs.«01_k».proof.Proof.Scatter.Parts

@[expose] public section

set_option maxRecDepth 16384

noncomputable section

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Talk
open Cert.KernelIdeal.Talk.Scatter
open Cert.KernelIdeal.Gen

variable {F : FTy → Type} [FloatOps F]

local notation "𝕄" => MT nD τ sig Unit (Elt F) ℕ UU ℕ

/-- The product of a point: the rows of the point's expert put where the ranks of the block's tokens say. -/
def partOf (pf : pre3.Contents (Elt F)) (i : grid3.Coords) (rk : Vec F S1x1024 .i32) (og : Vec F S1x1152x2048 .bf16) : FVec F S1024x2048 .bf16 :=
  k3_pay1 (((Memref.whole main_v23).access (loR i)).read (Elt F) (pf 0) (only (loR i) numel1_S1))
    (((Memref.whole main_v23).access (hiR i)).read (Elt F) (pf 0) (only (hiR i) numel1_S1)) rk og

/-- Away from a block's last expert nothing of the exchange changes. -/
theorem still (sent : Sent F) (c : Dev nD) (X Y : FVec F S1024x2048 .bf16) (t : ℕ) (ht : t < 32) (h : t % 4 ≠ 3) :
    out (F := F) c t = mid c t ∧ inc (F := F) c t = inc c (t + 1) ∧ os c t = os c (t + 1) ∧ outAt sent c X Y t = Y := by
  refine ⟨funext fun k => ?_, funext fun k => ?_, ?_, ?_⟩
  · unfold out mid
    by_cases h' : t ≤ 4 * k.val + 3
    · rw [if_pos h', if_pos (by omega)]
    · rw [if_neg h', if_neg (by omega : ¬ t + 1 ≤ 4 * k.val + 3), if_pos ht]
  · unfold inc
    by_cases h' : t ≤ 16 + 4 * k.val + 3
    · rw [if_pos h', if_pos (by omega)]
    · rw [if_neg h', if_neg (by omega)]
  · have e : ∀ k : Fin 4, o c t k = o c (t + 1) k := fun k => by
      unfold o
      by_cases h' : t ≤ 4 * k.val + 3
      · rw [if_pos h', if_pos (by omega)]
      · rw [if_neg h', if_neg (by omega)]
    unfold os; rw [e, e, e, e]
  · unfold outAt; rw [if_neg (by omega), if_neg (by omega), if_neg (by omega), if_neg (by omega)]

/-- The end of a point. -/
theorem lastPart_run (sent : Sent F) (K : GSem nD τ sig → ℕ) (c : Dev nD) (t : Fin grid3.N) (Q : PUnit → sProp 𝕄) :
    iprop(known sent K 1 c ∗ four (mid c t.val) ∗ ow c (os c (t.val + 1)) ∗ ((four (out c (t.val + 1)) ∗ ow c (os c (t.val + 1))) -∗ Q ⟨⟩))
      ⊢ WP c (lastPart (grid3.coords t)) Q := by
  have ht : t.val < 32 := lt_of_lt_of_eq t.isLt N_3
  unfold lastPart
  by_cases h : t.val = 31
  · rw [if_pos ((last_iff t).mpr h), h]
    have e1 : mid (F := F) c 31 = flying 1 c := funext fun k => if_neg (by have := k.isLt; omega)
    have e2 : os c (31 + 1) = 0 := by
      unfold os o
      rw [if_neg (by decide), if_neg (by decide), if_neg (by decide), if_neg (by decide)]
      simp only [add_zero]
    have e3 : out (F := F) c (31 + 1) = drained c := funext fun k => by
      unfold out; rw [if_neg (by have := k.isLt; omega), if_neg (by decide)]
    rw [e1, e2, e3]
    iintro ⟨#HI, Hm, HO, Hk⟩
    iapply (waits_run sent K c Q)
    isplitr; · iexact HI
    isplitl [Hm]; · iexact Hm
    isplitl [HO]; · iexact HO
    iintro H
    unfold WP
    rw [wp_ret]
    imodintro
    iapply Hk
    iexact H
  · rw [if_neg (fun h' => h ((last_iff t).mp h'))]
    have e1 : mid (F := F) c t.val = out c (t.val + 1) := funext fun k => by
      unfold mid out
      by_cases h' : t.val + 1 ≤ 4 * k.val + 3
      · rw [if_pos h', if_pos h']
      · rw [if_neg h', if_neg h', if_pos (by omega)]
    unfold WP
    rw [e1, wp_ret]
    iintro ⟨-, Hm, HO, Hk⟩
    imodintro
    iapply Hk
    isplitl [Hm] <;> iassumption

/-- The exchange at a point, and the end of the point. -/
theorem swapPart_run (sent : Sent F) (K : GSem nD τ sig → ℕ) (c : Dev nD) (t : Fin grid3.N) (Q : PUnit → sProp 𝕄)
    (M : Memref sig .tc .vmem S1024x2048 .bf16) (hM : M.IsWhole) (X Y : FVec F S1024x2048 .bf16)
    (hX : ∀ k : Fin 4, t.val = 4 * k.val + 3 → X = sent.s c k) :
    iprop(known sent K 1 c ∗ four (out c t.val) ∗ four (inc c t.val) ∗ has c acM X ∗ has c M Y ∗ ow c (os c t.val)
        ∗ ((four (out c (t.val + 1)) ∗ four (inc c (t.val + 1)) ∗ has c acM X ∗ has c M (outAt sent c X Y t.val) ∗ ow c (os c (t.val + 1))) -∗ Q ⟨⟩))
      ⊢ WP c (swapPart (grid3.coords t) c M hM) Q := by
  have ht : t.val < 32 := lt_of_lt_of_eq t.isLt N_3
  unfold swapPart
  by_cases h : t.val % 4 = 3
  · rw [dif_pos ((cond4 t).mpr h)]
    iintro ⟨#HI, Ho, Hi, Ha, HM, HO, Hk⟩
    iapply (sends_run sent K c t h Q X hX)
    isplitr; · iexact HI
    isplitl [Ho]; · iexact Ho
    isplitl [Ha]; · iexact Ha
    isplitl [HO]; · iexact HO
    iintro ⟨Ho, Ha, HO⟩
    iapply (recvs_run sent K c t h Q M hM X Y)
    isplitr; · iexact HI
    isplitl [Hi]; · iexact Hi
    isplitl [Ha]; · iexact Ha
    isplitl [HM]; · iexact HM
    isplitl [HO]; · iexact HO
    iintro ⟨Hi, Ha, HM, HO⟩
    iapply (lastPart_run sent K c t Q)
    isplitr; · iexact HI
    isplitl [Ho]; · iexact Ho
    isplitl [HO]; · iexact HO
    iintro ⟨Ho, HO⟩
    iapply Hk
    isplitl [Ho]; · iexact Ho
    isplitl [Hi]; · iexact Hi
    isplitl [Ha]; · iexact Ha
    isplitl [HM]; · iexact HM
    iexact HO
  · rw [dif_neg (fun h' => h ((cond4 t).mp h'))]
    obtain ⟨e1, e2, e3, e4⟩ := still sent c X Y t.val ht h
    rw [e1, e2, e3, e4]
    iintro ⟨#HI, Ho, Hi, Ha, HM, HO, Hk⟩
    iapply (lastPart_run sent K c t Q)
    isplitr; · iexact HI
    isplitl [Ho]; · iexact Ho
    isplitl [HO]; · iexact HO
    iintro ⟨Ho, HO⟩
    iapply Hk
    isplitl [Ho]; · iexact Ho
    isplitl [Hi]; · iexact Hi
    isplitl [Ha]; · iexact Ha
    isplitl [HM]; · iexact HM
    iexact HO

/-- The barrier at the first point, nothing at the others. -/
theorem barStep_run (sent : Sent F) (K : GSem nD τ sig → ℕ) (c : Dev nD) (t : Fin grid3.N) (Q : PUnit → sProp 𝕄) {rest : Piece F}
    {dv : k3_cond1 (grid3.coords t) = 1#1 → Dev nD} (hd : ∀ h, dv h = pr c) :
    iprop(known sent K 1 c ∗ st c t.val ∗ ow c (owed c t.val) ∗ ((run c t.val ∗ ow c (os c t.val)) -∗ WP c rest Q))
      ⊢ WP c (barIf (k3_cond1 (grid3.coords t)) dv rest) Q := by
  by_cases h : t.val = 0
  · rw [h, show st (F := F) c 0 = iprop(begin c ∗ four (inc c 0)) from rfl, show owed c 0 = O₁ c from rfl]
    unfold run
    iintro ⟨#HI, ⟨Hs, Hi⟩, HO, Hk⟩
    iapply (barIf_run sent K c Q ((cond1 t).mpr h) hd)
    isplitr; · iexact HI
    isplitl [Hs]; · iexact Hs
    isplitl [HO]; · iexact HO
    iintro ⟨Ho, Hv, HO⟩
    iapply Hk
    isplitl [Ho Hi Hv]
    · isplitl [Ho]; · iexact Ho
      isplitl [Hi] <;> iassumption
    iexact HO
  · rw [show st (F := F) c t.val = run c t.val from if_neg h, show owed c t.val = os c t.val from if_neg h]
    unfold barIf
    rw [dif_neg (fun h' => h ((cond1 t).mp h'))]
    iintro ⟨-, Hr, HO, Hk⟩
    iapply Hk
    isplitl [Hr] <;> iassumption

/-- The tables held are the table of starts and the table of blocks. -/
theorem pref_eq (c : Dev nD) (pf : pre3.Contents (Elt F)) :
    (Pipeline.prefHeld pre3 c (fun _ => fullShare) pf : sProp 𝕄)
      = iprop((((Memref.whole main_v23).view.loc (c : Thread nD τ)) ↦{fullShare} pf 0) ∗ (((c : Thread nD τ).loc (pre3.ref 1)) ↦{fullShare} pf 1)) := by
  unfold Pipeline.prefHeld
  exact BI.bigSep_fin_two _

/-- The whole point. -/
theorem bodyP_run (sent : Sent F) (K : GSem nD τ sig → ℕ) (c : Dev nD) (t : Fin grid3.N) (Q : PUnit → sProp 𝕄) (pf : pre3.Contents (Elt F))
    (p : ℕ → FVec F S1024x2048 .bf16) (M0 : Memref sig .tc .vmem S1x1024 .i32) (M1 : Memref sig .tc .vmem S1x1152x2048 .bf16)
    (M2 : Memref sig .tc .vmem S1024x2048 .bf16) (h2 : M2.IsWhole) (rk : Vec F S1x1024 .i32) (og : Vec F S1x1152x2048 .bf16)
    (Y : FVec F S1024x2048 .bf16) (hp : p t.val = partOf pf (grid3.coords t) rk og)
    (hX : ∀ k : Fin 4, t.val = 4 * k.val + 3 → acc p t.val = sent.s c k) :
    iprop(known sent K 1 c ∗ Pipeline.prefHeld pre3 c (fun _ => fullShare) pf ∗ accSt p c t.val ∗ st c t.val ∗ ow c (owed c t.val)
        ∗ owns (c : Thread nD τ) M0 fullShare rk ∗ owns (c : Thread nD τ) M1 fullShare og ∗ has c M2 Y
        ∗ ((Pipeline.prefHeld pre3 c (fun _ => fullShare) pf ∗ accSt p c (t.val + 1) ∗ run c (t.val + 1) ∗ ow c (os c (t.val + 1))
              ∗ owns (c : Thread nD τ) M0 fullShare rk ∗ owns (c : Thread nD τ) M1 fullShare og
              ∗ has c M2 (outAt sent c (acc p t.val) Y t.val)) -∗ Q ⟨⟩))
      ⊢ WP c (bodyP (grid3.coords t) M0 M1 M2 h2) Q := by
  unfold bodyP
  rw [pref_eq]
  simp only [wp_deviceId]
  iintro ⟨#HI, ⟨Hp0, Hp1⟩, Hac, Hs, HO, H0, H1, H2, Hk⟩
  iapply (barStep_run sent K c t Q (fun h => dev1 c _))
  isplitr; · iexact HI
  isplitl [Hs]; · iexact Hs
  isplitl [HO]; · iexact HO
  iintro ⟨Hr, HO⟩
  iapply (wp_smemLoadElt 𝒱₀ (c : Thread nD τ) none Set.univ (m := Memref.whole main_v23) (r := loR (grid3.coords t)) (S := Finset.univ) (q := fullShare)
    (f := pf 0) (Finset.subset_univ _)) $$ Hp0
  iintro Hp0
  iapply (wp_smemLoadElt 𝒱₀ (c : Thread nD τ) none Set.univ (m := Memref.whole main_v23) (r := hiR (grid3.coords t)) (S := Finset.univ) (q := fullShare)
    (f := pf 0) (Finset.subset_univ _)) $$ Hp0
  iintro Hp0
  iapply (load_all c M0 rk) $$ H0
  iintro H0
  iapply (load_all c M1 og) $$ H1
  iintro H1
  unfold tailPart
  have hp' : k3_pay1 (((Memref.whole main_v23).access (loR (grid3.coords t))).read (Elt F) (pf 0) (only (loR (grid3.coords t)) numel1_S1))
    (((Memref.whole main_v23).access (hiR (grid3.coords t))).read (Elt F) (pf 0) (only (hiR (grid3.coords t)) numel1_S1)) rk og = p t.val := hp.symm
  rw [hp']
  iapply (accIf_run p c t.val Q (first_iff t) (later_iff t))
  isplitl [Hac]; · iexact Hac
  iintro Hac
  unfold run
  icases Hr with ⟨Ho, Hi, Hv⟩
  iapply (swapPart_run sent K c t Q M2 h2 (acc p t.val) Y hX)
  isplitr; · iexact HI
  isplitl [Ho]; · iexact Ho
  isplitl [Hi]; · iexact Hi
  isplitl [Hac]; · iexact Hac
  isplitl [H2]; · iexact H2
  isplitl [HO]; · iexact HO
  iintro ⟨Ho, Hi, Hac, H2, HO⟩
  iapply Hk
  isplitl [Hp0 Hp1]; · isplitl [Hp0] <;> iassumption
  isplitl [Hac]
  · unfold accSt
    iexists (acc p t.val)
    isplitl [Hac]; · iexact Hac
    ipureintro; intro _; rfl
  isplitl [Ho Hi Hv]
  · isplitl [Ho]; · iexact Ho
    isplitl [Hi] <;> iassumption
  isplitl [HO]; · iexact HO
  isplitl [H0]; · iexact H0
  isplitl [H1]; · iexact H1
  iexact H2

end Cert.KernelIdeal.Scatter

end
-- ==== Proof.Scatter.Data.lean ====
/-
  The pipeline's data on each device — what every window's buffer holds at every point — and the body's obligation.
-/
module

public import proofs.«01_k».proof.Proof.Owed
public import proofs.«01_k».proof.Proof.Gather.Data
public import proofs.«01_k».proof.Proof.Scatter.Point

@[expose] public section

set_option maxRecDepth 16384

noncomputable section

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Talk
open Cert.KernelIdeal.Talk.Scatter
open Idealize.ShloMosaic.Pipeline (Dat)
open Cert.KernelIdeal.Gen

variable {F : FTy → Type} [FloatOps F]
variable (m : (ℓ : Loc nD τ sig) → Buf (Elt F) ℓ) (og : (c : Dev nD) → Buf (Elt F) ((c : Thread nD τ).loc main_v37))

local notation "𝕄" => MT nD τ sig Unit (Elt F) ℕ UU ℕ

/-- The pipeline as device `c` runs it. -/
abbrev cfgAt (c : Dev nD) : Pipeline.Cfg sig Λ₀ := Pipeline.pinD (pcfgs (F := F)) (adm m) c 3

/-- The ranks a point reads. -/
def rkAt (c : Dev nD) (t : Fin grid3.N) : Vec F S1x1024 .i32 := (((cfgAt m c).win 0).blk t).view.read (Elt F) (In m c main_v24)
/-- The expert's rows a point reads. -/
def ogAt (c : Dev nD) (t : Fin grid3.N) : Vec F S1x1152x2048 .bf16 := (((cfgAt m c).win 1).blk t).view.read (Elt F) (og c)

/-- A number as a grid point. -/
def pt (n : ℕ) : Fin grid3.N := ⟨n % 32, lt_of_lt_of_eq (Nat.mod_lt _ (by decide)) N_3.symm⟩
theorem pt_val (t : Fin grid3.N) : pt t.val = t := Fin.ext (Nat.mod_eq_of_lt (lt_of_lt_of_eq t.isLt N_3))

/-- The products of the points. -/
def part (c : Dev nD) (n : ℕ) : FVec F S1024x2048 .bf16 := partOf (tblS m c) (grid3.coords (pt n)) (rkAt m c (pt n)) (ogAt m og c (pt n))
/-- What a device sends: its experts' share of each of the peer's four token blocks. -/
def sS (c : Dev nD) (k : Fin 4) : FVec F S1024x2048 .bf16 := acc (part m og c) (4 * k.val + 3)
/-- What travels in both exchanges. -/
abbrev sent : Sent F := Gather.sentW m (sS m og)

theorem part_at (c : Dev nD) (t : Fin grid3.N) : part m og c t.val = partOf (tblS m c) (grid3.coords t) (rkAt m c t) (ogAt m og c t) := by
  unfold part; rw [pt_val]

/-- The invariant before point `t`. -/
def inv (c : Dev nD) (t : ℕ) : sProp 𝕄 :=
  iprop(∃ K, known (sent m og) K 1 c ∗ Pipeline.prefHeld pre3 c (fun _ => fullShare) (tblS m c) ∗ accSt (part m og c) c t ∗ st c t)

/-- The scoped buffers the call does not use. -/
def side (c : Dev nD) : sProp 𝕄 := Pipeline.scopedRestBut spec3 c [cc3_scratch0, cc3_scratch1, cc3_scratch2]

/-- The pipeline's data. -/
def dat (c : Dev nD) : Dat τ (Elt F) Unit ℕ UU ℕ (cfgAt m c) c where
  A := fun
    | 0 => In m c main_v24
    | 1 => og c
    | 2 => In m c main_v38
    | ⟨_ + 3, h⟩ => absurd h (Nat.not_lt.2 (Nat.le_add_left _ _))
  after := fun
    | 0 => fun t => rkAt m c t
    | 1 => fun t => ogAt m og c t
    | 2 => fun t => outAt (sent m og) c (acc (part m og c) t.val) (acc (part m og c) t.val) t.val
    | ⟨_ + 3, h⟩ => absurd h (Nat.not_lt.2 (Nat.le_add_left _ _))
  Φ t := iprop(inv m og c t.val ∗ side c)
  q _ := fullShare
  owed t := owed c t.val

theorem idle_iff : ∀ t : Fin grid3.N, idle3 2 (grid3.coords t) = decide (t.val % 4 ≠ 3 ∨ t.val < 16) := by decide +kernel
theorem moves_iff : ∀ t : Fin grid3.N, (t.val + 1 = grid3.N || decide (∃ h : t.val + 1 < grid3.N, cc3_transform_2 (grid3.coords ⟨t.val + 1, h⟩) ≠ cc3_transform_2 (grid3.coords t)))
    = decide (t.val % 4 = 3 ∧ 16 ≤ t.val) := by decide +kernel

theorem flush_eq (c : Dev nD) (t : Fin grid3.N) : ((cfgAt m c).win 2).flush t = decide (t.val % 4 = 3 ∧ 16 ≤ t.val) :=
  (moves_iff t)

theorem before0 (c : Dev nD) (t : Fin grid3.N) (d) : (dat m og c).before 0 t d = rkAt m c t :=
  before_read (dat m og c) 0 rfl (fun _ => rfl) (fun _ _ => rfl) (fun _ => rfl) t d
theorem before1 (c : Dev nD) (t : Fin grid3.N) (d) : (dat m og c).before 1 t d = ogAt m og c t :=
  before_read (dat m og c) 1 rfl (fun _ => rfl) (fun _ _ => rfl) (fun _ => rfl) t d

/-- What the sums of the first four blocks are is what is sent. -/
theorem acc_sent (c : Dev nD) (t : Fin grid3.N) (k : Fin 4) (h : t.val = 4 * k.val + 3) : acc (part m og c) t.val = (sent m og).s c k := by
  show _ = sS m og c k
  unfold sS; rw [h]

/-- The third window's buffer after a point at which it isn't idle doesn't depend on what it held. -/
theorem outAt_live (s : Sent F) (c : Dev nD) (X Y Y' : FVec F S1024x2048 .bf16) (t : ℕ) (ht : t < 32) (h : t % 4 = 3) (h' : 16 ≤ t) :
    outAt s c X Y t = outAt s c X Y' t := by
  unfold outAt
  by_cases h1 : t = 31; · rw [if_pos h1, if_pos h1]
  by_cases h2 : t = 27; · rw [if_neg h1, if_neg h1, if_pos h2, if_pos h2]
  by_cases h3 : t = 23; · rw [if_neg h1, if_neg h1, if_neg h2, if_neg h2, if_pos h3, if_pos h3]
  by_cases h4 : t = 19; · rw [if_neg h1, if_neg h1, if_neg h2, if_neg h2, if_neg h3, if_neg h3, if_pos h4, if_pos h4]
  omega
theorem outAt_idle (s : Sent F) (c : Dev nD) (X Y : FVec F S1024x2048 .bf16) (t : ℕ) (h : t % 4 ≠ 3 ∨ t < 16) : outAt s c X Y t = Y := by
  unfold outAt; rw [if_neg (by omega), if_neg (by omega), if_neg (by omega), if_neg (by omega)]

theorem st_succ (c : Dev nD) (t : ℕ) : st (F := F) c (t + 1) = run c (t + 1) := if_neg (Nat.succ_ne_zero t)
theorem owed_succ (c : Dev nD) (t : ℕ) : Scatter.owed c (t + 1) = os c (t + 1) := if_neg (Nat.succ_ne_zero t)

/-- What the body leaves in the third window's buffer, as the obligation writes it. -/
theorem third (c : Dev nD) (t : Fin grid3.N) (d) (M : Memref sig .tc .vmem S1024x2048 .bf16) :
    (has c M (outAt (sent m og) c (acc (part m og c) t.val) ((dat m og c).before 2 t d) t.val) : sProp 𝕄)
      ⊢ (match idle3 2 (grid3.coords t) with
        | true => match ((cfgAt m c).win 2).flush t with
          | false => iprop(∃ d, owns (c : Thread nD τ) M fullShare ((dat m og c).before 2 t d))
          | true => owns (c : Thread nD τ) M fullShare ((dat m og c).after 2 t)
        | false => owns (c : Thread nD τ) M fullShare ((dat m og c).after 2 t) : sProp 𝕄) := by
  have ht : t.val < 32 := lt_of_lt_of_eq t.isLt N_3
  rw [idle_iff, flush_eq]
  by_cases h : t.val % 4 ≠ 3 ∨ t.val < 16
  · refine (Entails.of_eq (congrArg (fun X => (has c M X : sProp 𝕄)) (outAt_idle (sent m og) c (acc (part m og c) t.val) ((dat m og c).before 2 t d) t.val h))).trans ?_
    rw [decide_eq_true h, decide_eq_false (by omega)]
    dsimp only
    iintro H; iexists d; iexact H
  · refine (Entails.of_eq (congrArg (fun X => (has c M X : sProp 𝕄)) (outAt_live (sent m og) c (acc (part m og c) t.val) ((dat m og c).before 2 t d)
      (acc (part m og c) t.val) t.val ht (by omega) (by omega)))).trans ?_
    rw [decide_eq_false h]
    exact .rfl

set_option backward.isDefEq.respectTransparency.types false in
/-- The body meets its obligation at every point. -/
theorem body (c : Dev nD) : Pipeline.BodyObligation (dat m og c) defs₀ 𝒱₀ () Set.univ := by
  intro t
  rw [bigSep_W3, bigSep_W3]
  dsimp only
  simp only [show ∀ i, (pcfgs (F := F) 3).idle (adm m c 3).1 0 i = false from fun _ => rfl, show ∀ i, (pcfgs (F := F) 3).idle (adm m c 3).1 1 i = false from fun _ => rfl,
    show ∀ i, (pcfgs (F := F) 3).idle (adm m c 3).1 2 i = idle3 2 i from fun _ => rfl]
  rw [show (dat m og c).Φ t.castSucc = iprop(inv m og c t.val ∗ side c) from rfl, show (dat m og c).Φ t.succ = iprop(inv m og c (t.val + 1) ∗ side c) from rfl]
  have hb : defs₀ (F := F) .tc (cfgAt m c).body ((cfgAt m c).bodyArgs t ((cfgAt m c).slots t))
      = bodyP (grid3.coords t) (spec3_0.stage ((cfgAt m c).slots t 0)) (spec3_1.stage ((cfgAt m c).slots t 1)) (spec3_2.stage ((cfgAt m c).slots t 2))
          (hstage3_2 (((cfgAt m c).slots t 2).cast nbuf3_2)) :=
    body_eq _ _ _ _ _ _ _
  rw [hb]
  unfold inv
  iintro ⟨⟨⟨%K, #HI, Hp, Ha, Hs⟩, Hside⟩, HO, ⟨%d0, H0⟩, ⟨%d1, H1⟩, ⟨%d2, H2⟩⟩
  ihave HO := (owesAt_elim (dat m og c) t.castSucc _ rfl) $$ HO
  ihave H0 := (Entails.of_eq (congrArg (fun X => (owns (c : Thread nD τ) (spec3_0.stage ((cfgAt m c).slots t 0)) fullShare X : sProp 𝕄)) (before0 m og c t d0))) $$ H0
  ihave H1 := (Entails.of_eq (congrArg (fun X => (owns (c : Thread nD τ) (spec3_1.stage ((cfgAt m c).slots t 1)) fullShare X : sProp 𝕄)) (before1 m og c t d1))) $$ H1
  iapply (bodyP_run (sent m og) K c t _ (tblS m c) (part m og c) _ _ _ _ (rkAt m c t) (ogAt m og c t) ((dat m og c).before 2 t d2) (part_at m og c t) (acc_sent m og c t))
  isplitr; · iexact HI
  isplitl [Hp]; · iexact Hp
  isplitl [Ha]; · iexact Ha
  isplitl [Hs]; · iexact Hs
  isplitl [HO]; · iexact HO
  isplitl [H0]; · iexact H0
  isplitl [H1]; · iexact H1
  isplitl [H2]; · iexact H2
  iintro ⟨Hp, Ha, Hr, HO, H0, H1, H2⟩
  isplitl [Hp Ha Hr Hside]
  · isplitl [Hp Ha Hr]
    · iexists K
      isplitr; · iexact HI
      isplitl [Hp]; · iexact Hp
      isplitl [Ha]; · iexact Ha
      rw [st_succ]; iexact Hr
    iexact Hside
  isplitl [HO]
  · iapply (owesAt_intro (dat m og c) t.succ _ (owed_succ c t.val) rfl); iexact HO
  isplitl [H0]; · iexact H0
  isplitl [H1]; · iexact H1
  ihave H := (third m og c t d2 (spec3_2.stage ((cfgAt m c).slots t 2))) $$ H2
  iexact H

end Cert.KernelIdeal.Scatter

end
-- ==== Proof.Scatter.Value.lean ====
/-
The scatter's result on each device, read at a token and column.
-/
module

public import proofs.«01_k».proof.Proof.Scatter.Data
public import proofs.«01_k».proof.Proof.Holds
public import Idealize.ShloMosaic.Lib.Pipeline.ValueKit

@[expose] public section

set_option maxRecDepth 16384

noncomputable section

namespace Cert.Values.Scatter

open Idealize.ShloMosaic Idealize.ShloMosaic.TcCoe
open Idealize.SL.Sem
open Cert.KernelIdeal hiding ix1 ix3
open Cert.KernelIdeal.Talk
open Cert.KernelIdeal.Talk.Scatter
open Cert.KernelIdeal.Scatter
open Cert.Values.Core
open Cert.KernelIdeal.Gen

variable (m : (ℓ : Loc nD τ sig) → Buf (Elt Ideal) ℓ) (og : (c : Dev nD) → Buf (Elt Ideal) ((c : Thread nD τ).loc main_v37))

/-- A row's number within its block of 1024. -/
def within (R : ℕ) : Fin 1024 := ⟨R % 1024, Nat.mod_lt _ (by decide)⟩
/-- One of four blocks. -/
def quarter (R : ℕ) : Fin 4 := ⟨R / 1024 % 4, Nat.mod_lt _ (by decide)⟩

/-- The result of a device: row `R` is in block `R / 1024`, summed at point `16 + 4 * (R / 1024) + 3`. -/
def whole (c : Dev nD) : Buf (Elt Ideal) ((c : Thread nD τ).loc main_v38) := fun (i : S4096x2048.Idx) =>
  addf (acc (part m og c) (4 * (4 + (quarter (i 0).val).val) + 3)) (sS m og (pr c) (quarter (i 0).val)) (ix2 (within (i 0).val) (i 1))

theorem out_index : ∀ t : Fin grid3.N, t.val % 4 = 3 → 16 ≤ t.val → cc3_transform_2 (grid3.coords t) = ![t.val / 4 - 4, 0] := by decide +kernel

theorem outAt_flush (s : Talk.Sent Ideal) (c : Dev nD) (X Y : FVec Ideal S1024x2048 .bf16) (t : ℕ) (ht : t < 32) (h : t % 4 = 3) (h' : 16 ≤ t) :
    outAt s c X Y t = addf X (s.s (pr c) ⟨t / 4 - 4, by omega⟩) := by
  obtain rfl | rfl | rfl | rfl : t = 19 ∨ t = 23 ∨ t = 27 ∨ t = 31 := by omega
  all_goals rfl

theorem co_val : ∀ t : Fin grid3.N, ((grid3.coords t) 0).val = t.val / 4 ∧ ((grid3.coords t) 1).val = t.val % 4 := by decide +kernel

/-- The block of the ranks a point reads. -/
theorem in0 (c : Dev nD) (t : Fin grid3.N) : ((cfgAt m c).win 0).index t = ![0, ordS c (t.val / 4)] :=
  (blockS_at m c (grid3.coords t)).trans (congrArg (fun x => ![0, ordS c x]) (co_val t).1)
/-- The expert a point reads. -/
theorem in1_raw : ∀ t : Fin grid3.N, cc3_transform_1 (grid3.coords t) = ![t.val % 4, 0, 0] := by decide +kernel
theorem in1 (c : Dev nD) (t : Fin grid3.N) : ((cfgAt m c).win 1).index t = ![t.val % 4, 0, 0] := in1_raw t
theorem in2 (c : Dev nD) (t : Fin grid3.N) (h : t.val % 4 = 3) (h' : 16 ≤ t.val) : ((cfgAt m c).win 2).index t = ![t.val / 4 - 4, 0] := out_index t h h'

theorem emb2 (c : Dev nD) (t : Fin grid3.N) (h : t.val % 4 = 3) (h' : 16 ≤ t.val) (r : Fin 1024) (d : Fin 2048) (i : S4096x2048.Idx)
    (hi : (i 0).val = (t.val / 4 - 4) * 1024 + r.val) (hd : i 1 = d) :
    (((cfgAt m c).win 2).blk t).view.emb (ix2 r d) = i := by
  funext a
  apply Fin.ext
  refine (Pipeline.Window.rect_emb_val (w := (cfgAt m c).win 2) t (ix2 r d) a rfl).trans ?_
  rw [in2 m c t h h']
  match a with
  | ⟨0, _⟩ => exact hi.symm
  | ⟨1, _⟩ => rw [← hd]; exact (Nat.zero_mul _).symm ▸ Nat.zero_add _

theorem final_eq (c : Dev nD) : (dat m og c).arrAt 2 grid3.N = whole m og c := by
  refine (dat m og c).arrAt_eq_of_cover 2 _ (fun t hf => ?_) fun (i : S4096x2048.Idx) => ?_
  · rw [flush_eq, decide_eq_true_eq] at hf
    have ht : t.val < 32 := lt_of_lt_of_eq t.isLt N_3
    funext y
    blk_simp
    revert y
    show ∀ y : S1024x2048.Idx, outAt (sent m og) c (acc (part m og c) t.val) (acc (part m og c) t.val) t.val y = whole m og c ((((cfgAt m c).win 2).blk t).view.emb y)
    intro y
    obtain ⟨r, d, rfl⟩ : ∃ (r : Fin 1024) (d : Fin 2048), y = ix2 r d := ⟨y 0, y 1, funext fun a => by match a with | ⟨0, _⟩ => rfl | ⟨1, _⟩ => rfl⟩
    refine Eq.trans ?_ (congrArg (whole m og c) (emb2 m c t hf.1 hf.2 r d (ix2 ⟨(t.val / 4 - 4) * 1024 + r.val, by have := r.isLt; omega⟩ d) rfl rfl)).symm
    rw [outAt_flush (sent m og) c _ _ t.val ht hf.1 hf.2]
    unfold whole
    have q : quarter ((t.val / 4 - 4) * 1024 + r.val) = ⟨t.val / 4 - 4, by omega⟩ := Fin.ext (by show ((t.val / 4 - 4) * 1024 + r.val) / 1024 % 4 = t.val / 4 - 4; have := r.isLt; omega)
    have w : within ((t.val / 4 - 4) * 1024 + r.val) = r := Fin.ext (by show ((t.val / 4 - 4) * 1024 + r.val) % 1024 = r.val; have := r.isLt; omega)
    show _ = addf (acc (part m og c) (4 * (4 + (quarter ((t.val / 4 - 4) * 1024 + r.val)).val) + 3)) (sS m og (pr c) (quarter ((t.val / 4 - 4) * 1024 + r.val))) (ix2 (within ((t.val / 4 - 4) * 1024 + r.val)) d)
    rw [q, w]
    have e : 4 * (4 + (t.val / 4 - 4)) + 3 = t.val := by omega
    show _ = addf (acc (part m og c) (4 * (4 + (t.val / 4 - 4)) + 3)) _ _
    rw [e]
  · have hR : (i 0).val < 4096 := (i 0).isLt
    have hn : 4 * ((i 0).val / 1024 + 4) + 3 < 32 := by omega
    refine ⟨⟨4 * ((i 0).val / 1024 + 4) + 3, lt_of_lt_of_eq hn N_3.symm⟩, ?_, ?_⟩
    · rw [flush_eq, decide_eq_true_eq]
      show (4 * ((i 0).val / 1024 + 4) + 3) % 4 = 3 ∧ 16 ≤ 4 * ((i 0).val / 1024 + 4) + 3
      omega
    · have e := emb2 m c ⟨4 * ((i 0).val / 1024 + 4) + 3, lt_of_lt_of_eq hn N_3.symm⟩ (by show (4 * ((i 0).val / 1024 + 4) + 3) % 4 = 3; omega)
        (by show 16 ≤ 4 * ((i 0).val / 1024 + 4) + 3; omega) (within (i 0).val) (i 1) i
        (by show (i 0).val = ((4 * ((i 0).val / 1024 + 4) + 3) / 4 - 4) * 1024 + (i 0).val % 1024; omega) rfl
      have h := (((cfgAt m c).win 2).blk ⟨4 * ((i 0).val / 1024 + 4) + 3, lt_of_lt_of_eq hn N_3.symm⟩).view.emb_mem_set (ix2 (within (i 0).val) (i 1))
      exact (congrArg (· ∈ (((cfgAt m c).win 2).blk ⟨4 * ((i 0).val / 1024 + 4) + 3, lt_of_lt_of_eq hn N_3.symm⟩).view.set) e).mp h

theorem pt_div (tb : Fin 8) (e : Fin 4) : (pt (4 * tb.val + e.val)).val / 4 = tb.val ∧ (pt (4 * tb.val + e.val)).val % 4 = e.val := by
  have := tb.isLt; have := e.isLt
  unfold pt; dsimp only; omega

theorem rk_at (c : Dev nD) (tb : Fin 8) (e : Fin 4) (r : Fin 1024) :
    rkAt m c (pt (4 * tb.val + e.val)) (ix2 0 r) = (In m c main_v24 : (⟨S1x8192, .i32⟩ : BufTy).Contents (Elt Ideal))
      (ix2 0 ⟨ordS c tb.val * 1024 + r.val, by have := ordS_lt c tb.isLt; omega⟩) := by
  refine congrArg (In m c main_v24) (funext fun a => Fin.ext ((Pipeline.Window.rect_emb_val (w := (cfgAt m c).win 0) (pt (4 * tb.val + e.val)) (ix2 0 r) a rfl).trans ?_))
  rw [in0 m c, (pt_div tb e).1]
  match a with
  | ⟨0, _⟩ => rfl
  | ⟨1, _⟩ => rfl

theorem og_at (c : Dev nD) (tb : Fin 8) (e : Fin 4) (k : Fin 1152) (d : Fin 2048) :
    ogAt m og c (pt (4 * tb.val + e.val)) (Idealize.ShloMosaic.ix3 0 k d) = (og c : (⟨S4x1152x2048, .bf16⟩ : BufTy).Contents (Elt Ideal)) (Idealize.ShloMosaic.ix3 e k d) := by
  refine congrArg (og c) (funext fun a => Fin.ext ((Pipeline.Window.rect_emb_val (w := (cfgAt m c).win 1) (pt (4 * tb.val + e.val)) (Idealize.ShloMosaic.ix3 0 k d) a rfl).trans ?_))
  rw [in1 m c, (pt_div tb e).2]
  match a with
  | ⟨0, _⟩ => exact Nat.mul_one _
  | ⟨1, _⟩ => exact (Nat.zero_mul 1152).symm ▸ Nat.zero_add _
  | ⟨2, _⟩ => exact (Nat.zero_mul 2048).symm ▸ Nat.zero_add _

theorem off2 : ∀ t : Fin grid3.N, k3_off2 (grid3.coords t) 0 + 1 * 0 = t.val % 4 := by decide +kernel
theorem off3 : ∀ t : Fin grid3.N, k3_off3 (grid3.coords t) 0 + 1 * 0 = t.val % 4 + 1 := by decide +kernel

/-- The segment's bounds a point reads. -/
theorem lo_at (c : Dev nD) (tb : Fin 8) (e : Fin 4) :
    ((Memref.whole main_v23).access (loR (grid3.coords (pt (4 * tb.val + e.val))))).read (Elt Ideal) (tblS m c 0) (only (loR (grid3.coords (pt (4 * tb.val + e.val)))) numel1_S1)
      = (In m c main_v23 : (⟨S5, .i32⟩ : BufTy).Contents (Elt Ideal)) (Idealize.ShloMosaic.ix1 ⟨e.val, by have := e.isLt; omega⟩) := by
  rw [In_eq]
  refine congrArg (V7 m (oE m) c main_v23) (funext fun a => Fin.ext ?_)
  match a with
  | ⟨0, _⟩ => exact (off2 _).trans (pt_div tb e).2
theorem hi_at (c : Dev nD) (tb : Fin 8) (e : Fin 4) :
    ((Memref.whole main_v23).access (hiR (grid3.coords (pt (4 * tb.val + e.val))))).read (Elt Ideal) (tblS m c 0) (only (hiR (grid3.coords (pt (4 * tb.val + e.val)))) numel1_S1)
      = (In m c main_v23 : (⟨S5, .i32⟩ : BufTy).Contents (Elt Ideal)) (Idealize.ShloMosaic.ix1 ⟨e.val + 1, by have := e.isLt; omega⟩) := by
  rw [In_eq]
  refine congrArg (V7 m (oE m) c main_v23) (funext fun a => Fin.ext ?_)
  match a with
  | ⟨0, _⟩ => exact (off3 _).trans (congrArg (· + 1) (pt_div tb e).2)

variable {m og} {rk st : ℕ → BitVec 32} {x : ℕ → Fin 2048 → EReal} {w1 : ℕ → Fin 2048 → ℕ → EReal} {w2 : ℕ → ℕ → Fin 2048 → EReal}
variable {OG : ℕ → Fin 1152 → Fin 2048 → EReal}

/-- Expert `e`'s share of a token's entry. -/
def of (rk st : ℕ → BitVec 32) (OG : ℕ → Fin 1152 → Fin 2048 → EReal) (t : ℕ) (d : Fin 2048) (e : ℕ) : EReal :=
  share (rk t) (st e) (st (e + 1)) fun k => OG e k d

theorem acc_val (c : Dev nD) (H : Holds m rk st x w1 w2 c)
    (hog : ∀ (e : Fin 4) (k : Fin 1152) (d : Fin 2048), (og c : (⟨S4x1152x2048, .bf16⟩ : BufTy).Contents (Elt Ideal)) (Idealize.ShloMosaic.ix3 e k d) = OG (4 * yOf c + e.val) k d)
    (tb : Fin 8) (r : Fin 1024) (d : Fin 2048) :
    acc (part m og c) (4 * tb.val + 3) (ix2 r d) = ∑ e : Fin 4, of rk st OG (ordS c tb.val * 1024 + r.val) d (4 * yOf c + e.val) := by
  rw [acc_four]
  refine Finset.sum_congr rfl fun e _ => ?_
  unfold part partOf of
  rw [scatter_apply, lo_at, hi_at, rk_at, H.rk, H.st, H.st]
  exact congrArg (share _ _ _) (funext fun k => (og_at m og c tb e k d).trans (hog e k d))

theorem y_pr : ∀ c : Dev nD, yOf (pr c) = 1 - yOf c := by decide +kernel

/-- Both halves of the experts are all of them. -/
theorem halves (f : ℕ → EReal) (y : ℕ) (hy : y < 2) :
    (∑ e : Fin 4, f (4 * y + e.val)) + ∑ e : Fin 4, f (4 * (1 - y) + e.val) = ∑ e : Fin 8, f e.val := by
  obtain rfl | rfl : y = 0 ∨ y = 1 := by omega
  · rw [Fin.sum_univ_eight, Fin.sum_univ_four, Fin.sum_univ_four]
    exact (by ac_rfl : f 0 + f 1 + f 2 + f 3 + (f 4 + f 5 + f 6 + f 7) = f 0 + f 1 + f 2 + f 3 + f 4 + f 5 + f 6 + f 7)
  · rw [Fin.sum_univ_eight, Fin.sum_univ_four, Fin.sum_univ_four]
    exact (by ac_rfl : f 4 + f 5 + f 6 + f 7 + (f 0 + f 1 + f 2 + f 3) = f 0 + f 1 + f 2 + f 3 + f 4 + f 5 + f 6 + f 7)

theorem whole_val (H : ∀ c, Holds m rk st x w1 w2 c)
    (hog : ∀ (c : Dev nD) (e : Fin 4) (k : Fin 1152) (d : Fin 2048), (og c : (⟨S4x1152x2048, .bf16⟩ : BufTy).Contents (Elt Ideal)) (Idealize.ShloMosaic.ix3 e k d) = OG (4 * yOf c + e.val) k d)
    (c : Dev nD) (R : Fin 4096) (d : Fin 2048) : (whole m og c : (⟨S4096x2048, .bf16⟩ : BufTy).Contents (Elt Ideal)) (ix2 R d) = ∑ e : Fin 8, of rk st OG (yOf c * 4096 + R.val) d e.val := by
  have hR := R.isLt
  have hq : (quarter R.val).val = R.val / 1024 := Nat.mod_eq_of_lt (by omega)
  have hy := y_lt c
  have t1 : ordS c (4 + (quarter R.val).val) * 1024 + (within R.val).val = yOf c * 4096 + R.val := by
    show ordS c (4 + (quarter R.val).val) * 1024 + R.val % 1024 = _
    unfold ordS; rw [if_neg (by omega), hq]; omega
  have t2 : ordS (pr c) (quarter R.val).val * 1024 + (within R.val).val = yOf c * 4096 + R.val := by
    show ordS (pr c) (quarter R.val).val * 1024 + R.val % 1024 = _
    unfold ordS; rw [if_pos (by omega), hq, y_pr]; omega
  have a := acc_val c (H c) (hog c) ⟨4 + (quarter R.val).val, by omega⟩ (within R.val) d
  have b := acc_val (pr c) (H (pr c)) (hog (pr c)) ⟨(quarter R.val).val, by omega⟩ (within R.val) d
  dsimp only at a b
  rw [t1] at a
  rw [t2] at b
  refine (congrArg₂ (· + ·) a b).trans ?_
  rw [y_pr]
  exact halves (of rk st OG (yOf c * 4096 + R.val) d) (yOf c) hy

end Cert.Values.Scatter

end
-- ==== Proof.Gather.Value.lean ====
/-
The gather's result on each device, read at one entry.
-/
module

public import proofs.«01_k».proof.Proof.Gather.Final
public import proofs.«01_k».proof.Proof.Holds
public import proofs.«01_k».proof.Proof.Scatter.Value
public import Idealize.ShloMosaic.Lib.Pipeline.ValueKit

@[expose] public section

set_option maxRecDepth 16384

noncomputable section

namespace Cert.Values.Gather

open Idealize.ShloMosaic Idealize.ShloMosaic.TcCoe
open Idealize.SL.Sem
open Cert.KernelIdeal hiding ix1 ix3
open Cert.KernelIdeal.Talk
open Cert.KernelIdeal.Talk.Gather
open Cert.KernelIdeal.Gather
open Cert.Values.Core
open Cert.KernelIdeal.Gen

variable (m : (ℓ : Loc nD τ sig) → Buf (Elt Ideal) ℓ)

theorem co_val : ∀ t : Fin grid1.N, ((grid1.coords t) 0).val = t.val / 4 ∧ ((grid1.coords t) 1).val = t.val % 4 := by decide +kernel
theorem in0 (c : Dev nD) (t : Fin grid1.N) : ((cfgAt m c).win 0).index t = ![0, ordG c (t.val / 4)] :=
  (blockG_at m c (grid1.coords t)).trans (congrArg (fun x => ![0, ordG c x]) (co_val t).1)
theorem in1_raw : ∀ t : Fin grid1.N, t.val < 16 → cc1_transform_2 (grid1.coords t) = ![t.val / 4, 0] := by decide +kernel
theorem in1 (c : Dev nD) (t : Fin grid1.N) (h : t.val < 16) : ((cfgAt m c).win 1).index t = ![t.val / 4, 0] := in1_raw t h

theorem pt_div (tb : Fin 8) (e : Fin 4) : (pt (4 * tb.val + e.val)).val = 4 * tb.val + e.val ∧ (pt (4 * tb.val + e.val)).val / 4 = tb.val ∧ (pt (4 * tb.val + e.val)).val % 4 = e.val := by
  have := tb.isLt; have := e.isLt
  unfold pt; dsimp only; omega

theorem rk_at (c : Dev nD) (tb : Fin 8) (e : Fin 4) (r : Fin 1024) :
    rkAt m c (pt (4 * tb.val + e.val)) (ix2 0 r) = (In m c main_v24 : (⟨S1x8192, .i32⟩ : BufTy).Contents (Elt Ideal))
      (ix2 0 ⟨ordG c tb.val * 1024 + r.val, by have := ordG_lt c tb.isLt; omega⟩) := by
  refine congrArg (In m c main_v24) (funext fun a => Fin.ext ((Pipeline.Window.rect_emb_val (w := (cfgAt m c).win 0) (pt (4 * tb.val + e.val)) (ix2 0 r) a rfl).trans ?_))
  rw [in0 m c, (pt_div tb e).2.1]
  match a with
  | ⟨0, _⟩ => rfl
  | ⟨1, _⟩ => rfl

theorem xb_at (c : Dev nD) (tb : Fin 8) (h : tb.val < 4) (e : Fin 4) (r : Fin 1024) (d : Fin 2048) :
    xbAt m c (pt (4 * tb.val + e.val)) (ix2 r d) = (In m c main_arg0 : (⟨S4096x2048, .bf16⟩ : BufTy).Contents (Elt Ideal)) (ix2 ⟨tb.val * 1024 + r.val, by have := r.isLt; omega⟩ d) := by
  refine congrArg (In m c main_arg0) (funext fun a => Fin.ext ((Pipeline.Window.rect_emb_val (w := (cfgAt m c).win 1) (pt (4 * tb.val + e.val)) (ix2 r d) a rfl).trans ?_))
  have := e.isLt
  rw [in1 m c _ (by rw [(pt_div tb e).1]; omega), (pt_div tb e).2.1]
  match a with
  | ⟨0, _⟩ => show tb.val * 1024 + r.val = tb.val * 1024 + r.val; rfl
  | ⟨1, _⟩ => show 0 * 2048 + d.val = d.val; omega

theorem mine_at (c : Dev nD) (k : Fin 4) (r : Fin 1024) (d : Fin 2048) :
    mine m c k (ix2 r d) = (In m c main_arg0 : (⟨S4096x2048, .bf16⟩ : BufTy).Contents (Elt Ideal)) (ix2 ⟨k.val * 1024 + r.val, by have := r.isLt; have := k.isLt; omega⟩ d) := by
  refine congrArg (In m c main_arg0) (funext fun a => Fin.ext ?_)
  match k, a with
  | 0, ⟨0, _⟩ => show 0 + 1 * r.val = 0 * 1024 + r.val; omega
  | 1, ⟨0, _⟩ => show 1024 + 1 * r.val = 1 * 1024 + r.val; omega
  | 2, ⟨0, _⟩ => show 2048 + 1 * r.val = 2 * 1024 + r.val; omega
  | 3, ⟨0, _⟩ => show 3072 + 1 * r.val = 3 * 1024 + r.val; omega
  | 0, ⟨1, _⟩ => show 0 + 1 * d.val = d.val; omega
  | 1, ⟨1, _⟩ => show 0 + 1 * d.val = d.val; omega
  | 2, ⟨1, _⟩ => show 0 + 1 * d.val = d.val; omega
  | 3, ⟨1, _⟩ => show 0 + 1 * d.val = d.val; omega

theorem off2 : ∀ t : Fin grid1.N, k1_off2 (grid1.coords t) 0 + 1 * 0 = t.val % 4 := by decide +kernel
theorem lo_at (c : Dev nD) (tb : Fin 8) (e : Fin 4) :
    loAt m c (pt (4 * tb.val + e.val)) = (In m c main_v23 : (⟨S5, .i32⟩ : BufTy).Contents (Elt Ideal)) (Idealize.ShloMosaic.ix1 ⟨e.val, by have := e.isLt; omega⟩) := by
  rw [In_eq]
  refine congrArg (V7 m (oE m) c main_v23) (funext fun a => Fin.ext ?_)
  match a with
  | ⟨0, _⟩ => exact (off2 _).trans (pt_div tb e).2.2

variable {m} {rk st : ℕ → BitVec 32} {x : ℕ → Fin 2048 → EReal} {w1 : ℕ → Fin 2048 → ℕ → EReal} {w2 : ℕ → ℕ → Fin 2048 → EReal}

/-- What the tokens of a block put into place `k` of an expert's rows. -/
def piece (rk st : ℕ → BitVec 32) (x : ℕ → Fin 2048 → EReal) (e : ℕ) (k : Fin 1152) (d : Fin 2048) (b : ℕ) : EReal :=
  ∑ j : Fin 1024, at_ (rk (b * 1024 + j.val)) (st e) k.val * x (b * 1024 + j.val) d
/-- What all tokens put there. -/
def row (rk st : ℕ → BitVec 32) (x : ℕ → Fin 2048 → EReal) (e : ℕ) (k : Fin 1152) (d : Fin 2048) : EReal :=
  ∑ t : Fin 8192, at_ (rk t.val) (st e) k.val * x t.val d

theorem row_eq (e : ℕ) (k : Fin 1152) (d : Fin 2048) : row rk st x e k d = ∑ b : Fin 8, piece rk st x e k d b.val :=
  sum_blocks 8 1024 fun t => at_ (rk t) (st e) k.val * x t d

/-- A point on the device's own tokens, -/
theorem own_val (c : Dev nD) (H : Holds m rk st x w1 w2 c) (tb : Fin 8) (h : tb.val < 4) (e : Fin 4) (k : Fin 1152) (d : Fin 2048) :
    k1_pay3 (F := Ideal) (loAt m c (pt (4 * tb.val + e.val))) (rkAt m c (pt (4 * tb.val + e.val))) (xbAt m c (pt (4 * tb.val + e.val))) (ix2 k d)
      = piece rk st x (4 * yOf c + e.val) k d (ordG c tb.val) := by
  rw [gather_own]
  refine Finset.sum_congr rfl fun j _ => ?_
  rw [rk_at, lo_at, xb_at m c tb h, H.rk, H.st, H.x]
  refine congrArg (fun n => (at_ (rk (ordG c tb.val * 1024 + j.val)) (st (4 * yOf c + e.val)) k.val * x n d : EReal)) ?_
  show yOf c * 4096 + (tb.val * 1024 + j.val) = ordG c tb.val * 1024 + j.val
  unfold ordG; rw [if_pos h]; omega
/-- and on the partner's. -/
theorem got_val (c : Dev nD) (H : ∀ c, Holds m rk st x w1 w2 c) (tb : Fin 8) (h : 4 ≤ tb.val) (e : Fin 4) (k : Fin 1152) (d : Fin 2048) :
    k1_pay6 (F := Ideal) (loAt m c (pt (4 * tb.val + e.val))) (rkAt m c (pt (4 * tb.val + e.val)))
        (shapeCast S1x1024x2048 (mine m (pr c) ⟨((4 * tb.val + e.val) / 4 - 4) % 4, Nat.mod_lt _ (by decide)⟩) shapeCasts_S1024x2048_S1x1024x2048) (ix2 k d)
      = piece rk st x (4 * yOf c + e.val) k d (ordG c tb.val) := by
  rw [gather_got]
  refine Finset.sum_congr rfl fun j _ => ?_
  have s : shapeCast S1x1024x2048 (mine m (pr c) ⟨((4 * tb.val + e.val) / 4 - 4) % 4, Nat.mod_lt _ (by decide)⟩) shapeCasts_S1024x2048_S1x1024x2048 (Idealize.ShloMosaic.ix3 0 j d)
      = mine m (pr c) ⟨((4 * tb.val + e.val) / 4 - 4) % 4, Nat.mod_lt _ (by decide)⟩ (ix2 j d) := by pointwise
  rw [s, rk_at, lo_at, mine_at, (H c).rk, (H c).st, (H (pr c)).x, Scatter.y_pr]
  refine congrArg (fun n => (at_ (rk (ordG c tb.val * 1024 + j.val)) (st (4 * yOf c + e.val)) k.val * x n d : EReal)) ?_
  have := tb.isLt; have := e.isLt
  show (1 - yOf c) * 4096 + (((4 * tb.val + e.val) / 4 - 4) % 4 * 1024 + j.val) = ordG c tb.val * 1024 + j.val
  unfold ordG; rw [if_neg (by omega)]; omega

theorem put_at (lo : BitVec 32) (rk : Vec Ideal S1x1024 .i32) (x : Vec Ideal S1024x2048 .bf16) (k : Fin 1152) (d : Fin 2048) :
    k1_pay4 (F := Ideal) lo rk x (Idealize.ShloMosaic.ix3 0 k d) = k1_pay3 (F := Ideal) lo rk x (ix2 k d) := by
  unfold k1_pay4
  generalize k1_pay3 (F := Ideal) lo rk x = z
  pointwise
theorem add_own_at (lo : BitVec 32) (rk : Vec Ideal S1x1024 .i32) (x : Vec Ideal S1024x2048 .bf16) (v : Vec Ideal S1x1152x2048 .bf16) (k : Fin 1152) (d : Fin 2048) :
    k1_pay5 (F := Ideal) lo rk x v (Idealize.ShloMosaic.ix3 0 k d) = v (Idealize.ShloMosaic.ix3 0 k d) + k1_pay3 (F := Ideal) lo rk x (ix2 k d) := by
  unfold k1_pay5
  generalize k1_pay3 (F := Ideal) lo rk x = z
  pointwise
theorem add_got_at (lo : BitVec 32) (rk : Vec Ideal S1x1024 .i32) (x : Vec Ideal S1x1024x2048 .bf16) (v : Vec Ideal S1x1152x2048 .bf16) (k : Fin 1152) (d : Fin 2048) :
    k1_pay8 (F := Ideal) lo rk x v (Idealize.ShloMosaic.ix3 0 k d) = v (Idealize.ShloMosaic.ix3 0 k d) + k1_pay6 (F := Ideal) lo rk x (ix2 k d) := by
  unfold k1_pay8
  generalize k1_pay6 (F := Ideal) lo rk x = z
  pointwise
theorem out_at (v : Vec Ideal S1x1152x2048 .bf16) (k : Fin 1152) (d : Fin 2048) : k1_pay1 (F := Ideal) v (Idealize.ShloMosaic.ix3 0 k d) = v (Idealize.ShloMosaic.ix3 0 k d) := by
  unfold k1_pay1
  pointwise

theorem acc_first (c : Dev nD) (H : ∀ c, Holds m rk st x w1 w2 c) (e : Fin 4) (k : Fin 1152) (d : Fin 2048) :
    acc (stepAt m c) e.val 0 (Idealize.ShloMosaic.ix3 0 k d) = piece rk st x (4 * yOf c + e.val) k d (ordG c 0) := by
  show k1_pay4 _ _ _ _ = _
  rw [put_at]
  have h := own_val c (H c) 0 (by decide) e k d
  rw [show 4 * (0 : Fin 8).val + e.val = e.val from Nat.zero_add _] at h
  exact h
theorem acc_next (c : Dev nD) (H : ∀ c, Holds m rk st x w1 w2 c) (i : Fin 7) (e : Fin 4) (k : Fin 1152) (d : Fin 2048) :
    acc (stepAt m c) e.val (i.val + 1) (Idealize.ShloMosaic.ix3 0 k d) = acc (stepAt m c) e.val i.val (Idealize.ShloMosaic.ix3 0 k d) + piece rk st x (4 * yOf c + e.val) k d (ordG c (i.val + 1)) := by
  have := i.isLt; have := e.isLt
  show (if 4 * (i.val + 1) + e.val < 16 then k1_pay5 _ _ _ _ else k1_pay8 _ _ _ _) _ = _
  by_cases h : i.val + 1 < 4
  · rw [if_pos (by omega), add_own_at]
    exact congrArg (_ + ·) (own_val c (H c) ⟨i.val + 1, by omega⟩ h e k d)
  · rw [if_neg (by omega), add_got_at]
    exact congrArg (_ + ·) (got_val c H ⟨i.val + 1, by omega⟩ (by show 4 ≤ i.val + 1; omega) e k d)

/-- The device's rows of its experts. -/
theorem whole_val (H : ∀ c, Holds m rk st x w1 w2 c) (c : Dev nD) (e : Fin 4) (k : Fin 1152) (d : Fin 2048) :
    (fG m c : (⟨S4x1152x2048, .bf16⟩ : BufTy).Contents (Elt Ideal)) (Idealize.ShloMosaic.ix3 e k d) = row rk st x (4 * yOf c + e.val) k d := by
  have he := e.isLt
  show k1_pay1 (acc (stepAt m c) ((28 + e.val) % 4) ((28 + e.val) / 4)) (Idealize.ShloMosaic.ix3 0 k d) = _
  rw [show (28 + e.val) % 4 = e.val by omega, show (28 + e.val) / 4 = 7 by omega, out_at, row_eq]
  have a1 := acc_next c H 0 e k d
  have a2 := acc_next c H 1 e k d
  have a3 := acc_next c H 2 e k d
  have a4 := acc_next c H 3 e k d
  have a5 := acc_next c H 4 e k d
  have a6 := acc_next c H 5 e k d
  have a7 := acc_next c H 6 e k d
  refine a7.trans ?_
  refine (congrArg (· + _) (a6.trans (congrArg (· + _) (a5.trans (congrArg (· + _) (a4.trans (congrArg (· + _) (a3.trans (congrArg (· + _) (a2.trans (congrArg (· + _)
    (a1.trans (congrArg (· + _) (acc_first c H e k d)))))))))))))).trans ?_
  rw [Fin.sum_univ_eight]
  generalize piece rk st x (4 * yOf c + e.val) k d = f
  have hy := y_lt c
  obtain hy | hy : yOf c = 0 ∨ yOf c = 1 := by omega
  · unfold ordG
    rw [hy]
    rfl
  · unfold ordG
    rw [hy]
    exact (by ac_rfl : f 4 + f 5 + f 6 + f 7 + f 0 + f 1 + f 2 + f 3 = f 0 + f 1 + f 2 + f 3 + f 4 + f 5 + f 6 + f 7)

end Cert.Values.Gather

end
-- ==== Proof.Moe.Value.lean ====
/-
The experts' results on each device, read at one entry.
-/
module

public import proofs.«01_k».proof.Proof.Moe.Data
public import proofs.«01_k».proof.Proof.Holds
public import Idealize.ShloMosaic.Lib.Pipeline.ValueKit

@[expose] public section

set_option maxRecDepth 16384

noncomputable section

namespace Cert.Values.Moe

open Idealize.ShloMosaic Idealize.ShloMosaic.TcCoe
open Idealize.SL.Sem
open Cert.KernelIdeal hiding ix1 ix3
open Cert.KernelIdeal.Talk
open Cert.KernelIdeal.Moe
open Cert.Values.Core
open Cert.KernelIdeal.Gen

variable (m : (ℓ : Loc nD τ sig) → Buf (Elt Ideal) ℓ) (xg : (c : Dev nD) → Buf (Elt Ideal) ((c : Thread nD τ).loc main_v36))

theorem in0_raw : ∀ t : Fin grid2.N, cc2_transform_0 (grid2.coords t) = ![t.val / 8, 0, 0] := by decide +kernel
theorem in1_raw : ∀ t : Fin grid2.N, cc2_transform_1 (grid2.coords t) = ![t.val / 8, 0, t.val % 8] := by decide +kernel
theorem in2_raw : ∀ t : Fin grid2.N, cc2_transform_2 (grid2.coords t) = ![t.val / 8, t.val % 8, 0] := by decide +kernel
theorem in3_raw : ∀ t : Fin grid2.N, cc2_transform_3 (grid2.coords t) = ![t.val / 8, 0, 0] := by decide +kernel
theorem in0 (c : Dev nD) (t : Fin grid2.N) : ((cfgAt m c).win 0).index t = ![t.val / 8, 0, 0] := in0_raw t
theorem in1 (c : Dev nD) (t : Fin grid2.N) : ((cfgAt m c).win 1).index t = ![t.val / 8, 0, t.val % 8] := in1_raw t
theorem in2 (c : Dev nD) (t : Fin grid2.N) : ((cfgAt m c).win 2).index t = ![t.val / 8, t.val % 8, 0] := in2_raw t
theorem in3 (c : Dev nD) (t : Fin grid2.N) : ((cfgAt m c).win 3).index t = ![t.val / 8, 0, 0] := in3_raw t

theorem pt_div (e : Fin 4) (f : Fin 8) : (pt (8 * e.val + f.val)).val / 8 = e.val ∧ (pt (8 * e.val + f.val)).val % 8 = f.val := by
  have := e.isLt; have := f.isLt
  unfold pt; dsimp only; omega

theorem xg_at (c : Dev nD) (e : Fin 4) (f : Fin 8) (k : Fin 1152) (d : Fin 2048) :
    xgAt m xg c (pt (8 * e.val + f.val)) (Idealize.ShloMosaic.ix3 0 k d) = (xg c : (⟨S4x1152x2048, .bf16⟩ : BufTy).Contents (Elt Ideal)) (Idealize.ShloMosaic.ix3 e k d) := by
  refine congrArg (xg c) (funext fun a => Fin.ext ((Pipeline.Window.rect_emb_val (w := (cfgAt m c).win 0) (pt (8 * e.val + f.val)) (Idealize.ShloMosaic.ix3 0 k d) a rfl).trans ?_))
  rw [in0 m c, (pt_div e f).1]
  match a with
  | ⟨0, _⟩ => exact Nat.mul_one _
  | ⟨1, _⟩ => exact (Nat.zero_mul 1152).symm ▸ Nat.zero_add _
  | ⟨2, _⟩ => exact (Nat.zero_mul 2048).symm ▸ Nat.zero_add _
theorem w1_at (c : Dev nD) (e : Fin 4) (f : Fin 8) (d : Fin 2048) (j : Fin 512) :
    w1At m c (pt (8 * e.val + f.val)) (Idealize.ShloMosaic.ix3 0 d j) = (In m c main_arg2 : (⟨S4x2048x4096, .bf16⟩ : BufTy).Contents (Elt Ideal)) (Idealize.ShloMosaic.ix3 e d ⟨f.val * 512 + j.val, by have := f.isLt; have := j.isLt; omega⟩) := by
  refine congrArg (In m c main_arg2) (funext fun a => Fin.ext ((Pipeline.Window.rect_emb_val (w := (cfgAt m c).win 1) (pt (8 * e.val + f.val)) (Idealize.ShloMosaic.ix3 0 d j) a rfl).trans ?_))
  rw [in1 m c, (pt_div e f).1, (pt_div e f).2]
  match a with
  | ⟨0, _⟩ => exact Nat.mul_one _
  | ⟨1, _⟩ => show 0 * 2048 + d.val = d.val; omega
  | ⟨2, _⟩ => show f.val * 512 + j.val = f.val * 512 + j.val; rfl
theorem w2_at (c : Dev nD) (e : Fin 4) (f : Fin 8) (j : Fin 512) (d : Fin 2048) :
    w2At m c (pt (8 * e.val + f.val)) (Idealize.ShloMosaic.ix3 0 j d) = (In m c main_arg3 : (⟨S4x4096x2048, .bf16⟩ : BufTy).Contents (Elt Ideal)) (Idealize.ShloMosaic.ix3 e ⟨f.val * 512 + j.val, by have := f.isLt; have := j.isLt; omega⟩ d) := by
  refine congrArg (In m c main_arg3) (funext fun a => Fin.ext ((Pipeline.Window.rect_emb_val (w := (cfgAt m c).win 2) (pt (8 * e.val + f.val)) (Idealize.ShloMosaic.ix3 0 j d) a rfl).trans ?_))
  rw [in2 m c, (pt_div e f).1, (pt_div e f).2]
  match a with
  | ⟨0, _⟩ => exact Nat.mul_one _
  | ⟨1, _⟩ => show f.val * 512 + j.val = f.val * 512 + j.val; rfl
  | ⟨2, _⟩ => show 0 * 2048 + d.val = d.val; omega

theorem accM_first (c : Dev nD) (e : ℕ) : accM m xg c (8 * e) = k2_pay1 (xgAt m xg c (pt (8 * e))) (w1At m c (pt (8 * e))) (w2At m c (pt (8 * e))) := by
  obtain _ | e := e
  · exact shapeCast_self (k2_pay1 _ _ _) shapeCasts_S1152x2048_S1152x2048
  · show stepV (8 * e + 7 + 1) _ _ _ _ = _
    unfold stepV
    rw [if_pos (by omega)]
    exact shapeCast_self _ _
theorem accM_later (c : Dev nD) (n : ℕ) (h : (n + 1) % 8 ≠ 0) (i : S1152x2048.Idx) : accM m xg c (n + 1) i
    = accM m xg c n i + k2_pay1 (xgAt m xg c (pt (n + 1))) (w1At m c (pt (n + 1))) (w2At m c (pt (n + 1))) i := by
  show stepV (n + 1) _ _ _ _ i = _
  unfold stepV
  rw [if_neg h]
  exact congrFun (shapeCast_self (addf (accM m xg c n) _) _) i

/-- An expert's eight tiles, added up. -/
theorem accM_last (c : Dev nD) (e : ℕ) (i : S1152x2048.Idx) : accM m xg c (8 * e + 7) i
    = ∑ f : Fin 8, k2_pay1 (xgAt m xg c (pt (8 * e + f.val))) (w1At m c (pt (8 * e + f.val))) (w2At m c (pt (8 * e + f.val))) i := by
  rw [accM_later m xg c (8 * e + 6) (by omega), accM_later m xg c (8 * e + 5) (by omega), accM_later m xg c (8 * e + 4) (by omega), accM_later m xg c (8 * e + 3) (by omega),
    accM_later m xg c (8 * e + 2) (by omega), accM_later m xg c (8 * e + 1) (by omega), accM_later m xg c (8 * e) (by omega), accM_first, Fin.sum_univ_eight]
  rfl

/-- The result of a device. -/
def whole (c : Dev nD) : Buf (Elt Ideal) ((c : Thread nD τ).loc main_v37) := fun (i : S4x1152x2048.Idx) =>
  accM m xg c (8 * (i 0).val + 7) (ix2 (i 1) (i 2))

theorem emb3 (c : Dev nD) (t : Fin grid2.N) (i : S4x1152x2048.Idx) (hi : (i 0).val = t.val / 8) :
    (((cfgAt m c).win 3).blk t).view.emb (Idealize.ShloMosaic.ix3 0 (i 1) (i 2)) = i := by
  funext a
  apply Fin.ext
  refine (Pipeline.Window.rect_emb_val (w := (cfgAt m c).win 3) t (Idealize.ShloMosaic.ix3 0 (i 1) (i 2)) a rfl).trans ?_
  rw [in3 m c t]
  match a with
  | ⟨0, _⟩ => exact (Nat.mul_one _).trans hi.symm
  | ⟨1, _⟩ => exact (Nat.zero_mul 1152).symm ▸ Nat.zero_add _
  | ⟨2, _⟩ => exact (Nat.zero_mul 2048).symm ▸ Nat.zero_add _

/-- Writing an accumulator out. -/
theorem pay4_at (V : FVec Ideal S1152x2048 .f32) (k : Fin 1152) (d : Fin 2048) : k2_pay4 (F := Ideal) V (Idealize.ShloMosaic.ix3 0 k d) = V (ix2 k d) := by
  unfold k2_pay4
  pointwise

theorem final_eq (c : Dev nD) : (dat m xg c).arrAt 3 grid2.N = whole m xg c := by
  refine (dat m xg c).arrAt_eq_of_cover 3 _ (fun t hf => ?_) fun (i : S4x1152x2048.Idx) => ?_
  · rw [flush_eq, decide_eq_true_eq] at hf
    have ht : t.val < 32 := lt_of_lt_of_eq t.isLt N_2
    funext y
    blk_simp
    revert y
    show ∀ y : S1x1152x2048.Idx, k2_pay4 (accM m xg c t.val) y = whole m xg c ((((cfgAt m c).win 3).blk t).view.emb y)
    intro y
    obtain ⟨k, d, rfl⟩ : ∃ (k : Fin 1152) (d : Fin 2048), y = Idealize.ShloMosaic.ix3 0 k d := ⟨y 1, y 2, funext fun a => by
      match a with
      | ⟨0, _⟩ => exact Fin.ext (by show (y 0).val = 0; have : (y 0).val < 1 := (y 0).isLt; omega)
      | ⟨1, _⟩ => rfl
      | ⟨2, _⟩ => rfl⟩
    refine Eq.trans ?_ (congrArg (whole m xg c) (emb3 m c t (Idealize.ShloMosaic.ix3 ⟨t.val / 8, by omega⟩ k d) rfl)).symm
    rw [pay4_at]
    show _ = accM m xg c (8 * (t.val / 8) + 7) (ix2 k d)
    rw [show 8 * (t.val / 8) + 7 = t.val by omega]
  · have hR : (i 0).val < 4 := (i 0).isLt
    have hn : 8 * (i 0).val + 7 < 32 := by omega
    refine ⟨⟨8 * (i 0).val + 7, lt_of_lt_of_eq hn N_2.symm⟩, ?_, ?_⟩
    · rw [flush_eq, decide_eq_true_eq]
      show (8 * (i 0).val + 7) % 8 = 7
      omega
    · have e := emb3 m c ⟨8 * (i 0).val + 7, lt_of_lt_of_eq hn N_2.symm⟩ i (by show (i 0).val = (8 * (i 0).val + 7) / 8; omega)
      have h := (((cfgAt m c).win 3).blk ⟨8 * (i 0).val + 7, lt_of_lt_of_eq hn N_2.symm⟩).view.emb_mem_set (Idealize.ShloMosaic.ix3 0 (i 1) (i 2))
      exact (congrArg (· ∈ (((cfgAt m c).win 3).blk ⟨8 * (i 0).val + 7, lt_of_lt_of_eq hn N_2.symm⟩).view.set) e).mp h

variable {m xg} {rk st : ℕ → BitVec 32} {x : ℕ → Fin 2048 → EReal} {w1 : ℕ → Fin 2048 → ℕ → EReal} {w2 : ℕ → ℕ → Fin 2048 → EReal}
variable {XG : ℕ → Fin 1152 → Fin 2048 → EReal}

/-- An expert's two layers. -/
def layers (XG : Fin 2048 → EReal) (w1 : Fin 2048 → ℕ → EReal) (w2 : ℕ → Fin 2048 → EReal) (d : Fin 2048) : EReal :=
  ∑ f : Fin 4096, max (∑ d' : Fin 2048, XG d' * w1 d' f.val) 0 * w2 f.val d

theorem whole_val (c : Dev nD) (H : Holds m rk st x w1 w2 c)
    (hxg : ∀ (e : Fin 4) (k : Fin 1152) (d : Fin 2048), (xg c : (⟨S4x1152x2048, .bf16⟩ : BufTy).Contents (Elt Ideal)) (Idealize.ShloMosaic.ix3 e k d) = XG (4 * yOf c + e.val) k d)
    (e : Fin 4) (k : Fin 1152) (d : Fin 2048) :
    (whole m xg c : (⟨S4x1152x2048, .bf16⟩ : BufTy).Contents (Elt Ideal)) (Idealize.ShloMosaic.ix3 e k d) = layers (XG (4 * yOf c + e.val) k) (w1 (4 * yOf c + e.val)) (w2 (4 * yOf c + e.val)) d := by
  show accM m xg c (8 * e.val + 7) (ix2 k d) = _
  rw [accM_last]
  unfold layers
  refine Eq.trans (Finset.sum_congr rfl fun f _ => ?_) (sum_blocks 8 512 fun f => max (∑ d' : Fin 2048, XG (4 * yOf c + e.val) k d' * w1 (4 * yOf c + e.val) d' f) 0 * w2 (4 * yOf c + e.val) f d).symm
  rw [moe_apply]
  refine Finset.sum_congr rfl fun j _ => ?_
  rw [w2_at, H.w2]
  refine congrArg (fun s => max s 0 * _) (Finset.sum_congr rfl fun d' _ => ?_)
  rw [xg_at, w1_at, H.w1, hxg]

end Cert.Values.Moe

end
-- ==== Proof.Collapse.lean ====
/-
A token's entry: of all experts' shares only its own expert's is not nothing, and that is the expert's two layers of the
token, provided no expert's segment is longer than its rows.
-/
module

public import proofs.«01_k».proof.Proof.Order
public import proofs.«01_k».proof.Proof.Ref
public import proofs.«01_k».proof.Proof.Gather.Value
public import proofs.«01_k».proof.Proof.Moe.Value
public import proofs.«01_k».proof.Proof.Scatter.Value

@[expose] public section

set_option maxRecDepth 16384

noncomputable section

namespace Cert.Values.Join

open Idealize.ShloMosaic Idealize.ShloMosaic.TcCoe
open Idealize.SL.Sem
open Cert.Values.Core

variable (a : Fin 8192 → BitVec 32)

/-- The tokens' ranks. -/
def rk (t : ℕ) : BitVec 32 := if h : t < 8192 then BitVec.ofNat 32 (Order.pos a ⟨t, h⟩).val else 0#32
/-- The starts of the experts' segments. -/
def st (j : ℕ) : BitVec 32 := BitVec.ofNat 32 (Order.cnt a j)

theorem rk_fin (t : Fin 8192) : rk a t.val = BitVec.ofNat 32 (Order.pos a t).val := dif_pos t.isLt

theorem ofNat_inj {p q : ℕ} (hp : p < 2 ^ 31) (hq : q < 2 ^ 31) : BitVec.ofNat 32 p = BitVec.ofNat 32 q ↔ p = q := by
  refine ⟨fun h => ?_, fun h => h ▸ rfl⟩
  have := congrArg BitVec.toInt h
  rw [Order.toInt_small _ hp, Order.toInt_small _ hq] at this
  omega
theorem toInt_eq (x : BitVec 32) {e : ℕ} (he : e < 2 ^ 31) : x.toInt = (e : Int) ↔ x = BitVec.ofNat 32 e :=
  ⟨fun h => BitVec.eq_of_toInt_eq (h.trans (Order.toInt_small e he).symm), fun h => h ▸ Order.toInt_small e he⟩
theorem eq_word (x y : BitVec 32) : IntOp.cmpi .eq x y = if x = y then 1#1 else 0#1 := by
  show BitVec.ofBool (x == y) = _
  by_cases h : x = y
  · rw [if_pos h, beq_iff_eq.mpr h]; rfl
  · rw [if_neg h, beq_eq_false_iff_ne.mpr h]; rfl
theorem slt_word (x y : BitVec 32) : IntOp.cmpi .slt x y = if x.toInt < y.toInt then 1#1 else 0#1 := by
  show BitVec.ofBool (x.slt y) = _
  rw [BitVec.slt_eq_decide]
  by_cases h : x.toInt < y.toInt <;> simp [h]

/-- The places as numbers. -/
theorem at_num {p lo k : ℕ} (hp : p < 8192) (hlo : lo ≤ 8192) (hk : k < 1152) :
    at_ (BitVec.ofNat 32 p) (BitVec.ofNat 32 lo) k = if k + lo = p then 1 else 0 := by
  unfold at_
  have e : IntOp.addi (BitVec.ofNat 32 k) (BitVec.ofNat 32 lo) = BitVec.ofNat 32 (k + lo) := (BitVec.ofNat_add _ _).symm
  rw [e, eq_word, if_congr (ofNat_inj (by omega) (by omega)) rfl rfl]
  by_cases h : k + lo = p <;> simp [h]
theorem hit_num {p lo hi k : ℕ} (hp : p < 8192) (hlo : lo ≤ 8192) (hhi : hi ≤ 8192) (hk : k < 1152) :
    hit (BitVec.ofNat 32 p) (BitVec.ofNat 32 lo) (BitVec.ofNat 32 hi) k = if k + lo = p ∧ p < hi then 1 else 0 := by
  unfold hit
  have e : IntOp.addi (BitVec.ofNat 32 k) (BitVec.ofNat 32 lo) = BitVec.ofNat 32 (k + lo) := (BitVec.ofNat_add _ _).symm
  rw [e, eq_word, slt_word, Order.toInt_small _ (by omega), Order.toInt_small _ (by omega), if_congr (ofNat_inj (by omega) (by omega)) rfl rfl,
    if_congr Int.ofNat_lt rfl rfl]
  by_cases h : k + lo = p <;> by_cases h' : p < hi <;> simp [h, h', IntOp.andi]

/-- The place of a token in its expert's segment. -/
theorem place_lt (t : Fin 8192) (e : ℕ) (ht : (a t).toInt = (e : Int)) (fit : (Finset.univ.filter fun t : Fin 8192 => (a t).toInt = (e : Int)).card ≤ 1152) :
    Order.cnt a e ≤ (Order.pos a t).val ∧ (Order.pos a t).val < Order.cnt a (e + 1) ∧ (Order.pos a t).val - Order.cnt a e < 1152 := by
  have h1 := Order.pos_lt a t e
  have h2 := Order.pos_lt a t (e + 1)
  have h3 := Order.cnt_succ a e
  have h4 : (Order.pos a t).val < Order.cnt a (e + 1) := h2.mpr (by omega)
  have h5 : ¬ (Order.pos a t).val < Order.cnt a e := fun h => by have := h1.mp h; omega
  omega

/-- An expert's share of a token's entry. -/
theorem of_eq (OG : ℕ → Fin 1152 → Fin 2048 → EReal) (t : Fin 8192) (d : Fin 2048) (e : ℕ) (v : EReal)
    (fit : (Finset.univ.filter fun t : Fin 8192 => (a t).toInt = (e : Int)).card ≤ 1152)
    (hv : ∀ k : Fin 1152, k.val + Order.cnt a e = (Order.pos a t).val → OG e k d = v) :
    Cert.Values.Scatter.of (rk a) (st a) OG t.val d e = if (a t).toInt = (e : Int) then v else 0 := by
  unfold Cert.Values.Scatter.of share st
  rw [rk_fin]
  have hn (k : Fin 1152) := hit_num (Order.pos a t).isLt (Order.cnt_le a e) (Order.cnt_le a (e + 1)) k.isLt
  by_cases ht : (a t).toInt = (e : Int)
  · obtain ⟨h1, h2, h3⟩ := place_lt a t e ht fit
    rw [if_pos ht, Finset.sum_eq_single ⟨(Order.pos a t).val - Order.cnt a e, h3⟩]
    · rw [hn, if_pos ⟨by show _ - _ + _ = _; omega, h2⟩, one_mul]
      exact hv _ (by show _ - _ + _ = _; omega)
    · intro k _ hk
      rw [hn, if_neg fun h => hk (Fin.ext (by show k.val = _ - _; omega)), zero_mul]
    · exact fun h => absurd (Finset.mem_univ _) h
  · rw [if_neg ht]
    refine Finset.sum_eq_zero fun k _ => ?_
    rw [hn, if_neg, zero_mul]
    rintro ⟨h1, h2⟩
    have h3 := (Order.pos_lt a t (e + 1)).mp h2
    have h4 := Order.pos_lt a t e
    have h5 : ¬ (a t).toInt < (e : Int) := fun h => by have := h4.mpr h; omega
    omega

/-- The row gathered at a token's place is the token. -/
theorem row_eq (x : ℕ → Fin 2048 → EReal) (t : Fin 8192) (e : ℕ) (k : Fin 1152) (hk : k.val + Order.cnt a e = (Order.pos a t).val) (d : Fin 2048) :
    Cert.Values.Gather.row (rk a) (st a) x e k d = x t.val d := by
  unfold Cert.Values.Gather.row st
  have hn (t' : Fin 8192) := at_num (Order.pos a t').isLt (Order.cnt_le a e) k.isLt
  rw [Finset.sum_eq_single t]
  · rw [rk_fin, hn, if_pos hk, one_mul]
  · intro t' _ ht
    rw [rk_fin, hn, if_neg fun h => ht (Order.pos_inj a (Fin.ext (by omega))), zero_mul]
  · exact fun h => absurd (Finset.mem_univ _) h

variable (x0 : FVec Ideal Cert.ReferenceIdeal.S8192x2048 .bf16) (x1 : IVec Cert.ReferenceIdeal.S8192 32)
  (x2 : FVec Ideal Cert.ReferenceIdeal.S8x2048x4096 .bf16) (x3 : FVec Ideal Cert.ReferenceIdeal.S8x4096x2048 .bf16)

/-- The whole arrays by number: the tokens -/
def xs (t : ℕ) (d : Fin 2048) : EReal := if h : t < 8192 then x0 (ix2 ⟨t, h⟩ d) else 0
/-- and the matrices. -/
def w1s (e : ℕ) (d : Fin 2048) (f : ℕ) : EReal := if h : e < 8 ∧ f < 4096 then x2 (Idealize.ShloMosaic.ix3 ⟨e, h.1⟩ d ⟨f, h.2⟩) else 0
def w2s (e f : ℕ) (d : Fin 2048) : EReal := if h : e < 8 ∧ f < 4096 then x3 (Idealize.ShloMosaic.ix3 ⟨e, h.1⟩ ⟨f, h.2⟩ d) else 0

/-- The experts' results, row by row. -/
def rows (e : ℕ) (k : Fin 1152) (d : Fin 2048) : EReal :=
  Cert.Values.Moe.layers (Cert.Values.Gather.row (rk a) (st a) (xs x0) e k) (w1s x2 e) (w2s x3 e) d

theorem rows_eq (t : Fin 8192) (e : Fin 8) (k : Fin 1152) (hk : k.val + Order.cnt a e.val = (Order.pos a t).val) (d : Fin 2048) :
    rows a x0 x2 x3 e.val k d = Cert.Values.Reference.ffn x0 x2 x3 e t d := by
  unfold rows Cert.Values.Moe.layers Cert.Values.Reference.ffn
  refine Finset.sum_congr rfl fun f _ => ?_
  have h2 : w2s x3 e.val f.val d = x3 (Idealize.ShloMosaic.ix3 e f d) := dif_pos ⟨e.isLt, f.isLt⟩
  rw [h2]
  refine congrArg (fun s : EReal => max s 0 * x3 (Idealize.ShloMosaic.ix3 e f d)) (Finset.sum_congr rfl fun d' _ => ?_)
  have h1 : w1s x2 e.val d' f.val = x2 (Idealize.ShloMosaic.ix3 e d' f) := dif_pos ⟨e.isLt, f.isLt⟩
  have h0 : xs x0 t.val d' = x0 (ix2 t d') := dif_pos t.isLt
  rw [row_eq a (xs x0) t e.val k hk, h1, h0]

/-- The reference's choice, one expert after the other, is a sum: at most one of them is the token's. -/
theorem nest_eq (t : Fin 8192) (d : Fin 2048) (n : ℕ) (h : n ≤ 8) :
    Cert.Values.Reference.nest x0 x1 x2 x3 t d n h
      = ∑ e : Fin n, if (x1 (Idealize.ShloMosaic.ix1 t)).toInt = (e.val : Int) then Cert.Values.Reference.ffn x0 x2 x3 ⟨e.val, lt_of_lt_of_le e.isLt h⟩ t d else 0 := by
  induction n with
  | zero => exact (Finset.sum_empty).symm
  | succ n ih =>
    have e : Cert.Values.Reference.nest x0 x1 x2 x3 t d (n + 1) h
        = Cert.Values.Reference.pick (x1 (Idealize.ShloMosaic.ix1 t)) n (Cert.Values.Reference.ffn x0 x2 x3 ⟨n, h⟩ t d) (Cert.Values.Reference.nest x0 x1 x2 x3 t d n (by omega)) := rfl
    rw [e, ih, Fin.sum_univ_castSucc]
    unfold Cert.Values.Reference.pick Scalar.select
    rw [eq_word]
    by_cases hn : (x1 (Idealize.ShloMosaic.ix1 t)).toInt = (n : Int)
    · rw [if_pos ((toInt_eq _ (by omega)).mp hn), if_pos (by decide), Finset.sum_eq_zero, zero_add]
      · exact (if_pos hn).symm
      · intro i _
        refine if_neg fun h' => ?_
        have := i.isLt
        have h'' : (x1 (Idealize.ShloMosaic.ix1 t)).toInt = (i.val : Int) := h'
        omega
    · rw [if_neg fun h' => hn ((toInt_eq _ (by omega)).mpr h'), if_neg (by decide)]
      have z : (if (x1 (Idealize.ShloMosaic.ix1 t)).toInt = ((Fin.last n).val : Int) then Cert.Values.Reference.ffn x0 x2 x3 ⟨(Fin.last n).val, lt_of_lt_of_le (Fin.last n).isLt h⟩ t d else 0) = 0 := if_neg hn
      rw [z, add_zero]
      rfl

/-- All experts' shares of a token's entry are the reference's. -/
theorem collapse (ha : ∀ t, a t = x1 (Idealize.ShloMosaic.ix1 t)) (fit : ∀ e : Fin 8, (Finset.univ.filter fun t : Fin 8192 => (a t).toInt = (e.val : Int)).card ≤ 1152)
    (t : Fin 8192) (d : Fin 2048) :
    ∑ e : Fin 8, Cert.Values.Scatter.of (rk a) (st a) (rows a x0 x2 x3) t.val d e.val = Cert.ReferenceIdeal.Read.val_main_v99 (F := Ideal) x0 x1 x2 x3 (ix2 t d) := by
  rw [Cert.Values.Reference.whole, nest_eq]
  refine Finset.sum_congr rfl fun e _ => ?_
  rw [of_eq a _ t d e.val (Cert.Values.Reference.ffn x0 x2 x3 e t d) (fit e) fun k hk => rows_eq a x0 x2 x3 t e k hk d, ha]

end Cert.Values.Join

end
-- ==== Proof.Fits.lean ====
/-
What the precondition says: of a device's own tokens no expert is given more than 576, so of all tokens none is given more than 1152.
-/
module

public import proofs.«01_k».proof.Proof.Collapse
public import proofs.«01_k».proof.Pre_fits_KernelIdeal
public import proofs.«01_k».proof.Pre_fits_ReferenceIdeal
public import Idealize.ShloMosaic.Lib.StableHlo.Predicate

@[expose] public section

set_option maxRecDepth 16384

noncomputable section

namespace Cert.Values.Join

open Idealize.ShloMosaic Idealize.ShloMosaic.TcCoe
open Idealize.SL.Sem

/-- The shapes the precondition takes, for the kernel's arrays -/
theorem facts_kernel : Cert.Pre_fits_KernelIdeal.Facts where
  bcast_S4096_S1x4096_1 := by decide
  bcast_S8_S8x1_0 := by decide
  bcast_S1x4096_S8x4096_0_1 := by decide
  bcast_S8x1_S8x4096_0_1 := by decide
  natLt_1_32 := by decide
  reducesTo_S8x4096_S8_d1 := by decide
  h_S_ := by decide
  bcast_S_S8 := by decide
/-- and for the reference's. -/
theorem facts_reference : Cert.Pre_fits_ReferenceIdeal.Facts where
  bcast_S8192_S1x8192_1 := by decide
  bcast_S8_S8x1_0 := by decide
  bcast_S1x8192_S8x8192_0_1 := by decide
  bcast_S8x1_S8x8192_0_1 := by decide
  natLt_1_32 := by decide
  reducesTo_S8x8192_S8_d1 := by decide
  h_S_ := by decide
  bcast_S_S8 := by decide

open Cert.Pre_fits_KernelIdeal Cert.Pre_fits_KernelIdeal.Facts

theorem ij_eq (j : Fin 8) (q : Fin 4096) : (StableHlo.Predicate.ij j q : S8x4096.Idx) = ix2 j q := funext fun b => by
  match b with
  | ⟨0, _⟩ => rfl
  | ⟨1, _⟩ => rfl

/-- The tokens of an expert, counted by the host. -/
theorem tokens_at [Cert.Pre_fits_KernelIdeal.Facts] (v : IVec S4096 32) (j : Fin 8) :
    (Host.reduce IntOp.addi (extui 32 (cmpi .eq (broadcastInDim S8x4096 ![0, 1] bcast_S1x4096_S8x4096_0_1 (broadcastInDim S1x4096 ![1] bcast_S4096_S1x4096_1 v))
        (broadcastInDim S8x4096 ![0, 1] bcast_S8x1_S8x4096_0_1 (broadcastInDim S8x1 ![0] bcast_S8_S8x1_0 (iotaInDim S8 32 0)))) natLt_1_32)
      (constantI S_ 32 0#32) reducesTo_S8x4096_S8_d1 h_S_ (Idealize.ShloMosaic.ix1 j)).toNat
      = (Finset.univ.filter fun i : Fin 4096 => (v (Idealize.ShloMosaic.ix1 i)).toInt = (j.val : Int)).card := by
  rw [StableHlo.Predicate.toNat_reduce_count_cols (by decide)]
  refine congrArg Finset.card (Finset.filter_congr fun q _ => ?_)
  have ij := ij_eq j q
  refine (iff_of_eq (congrArg (fun i => cmpi .eq (broadcastInDim S8x4096 ![0, 1] bcast_S1x4096_S8x4096_0_1 (broadcastInDim S1x4096 ![1] bcast_S4096_S1x4096_1 v))
      (broadcastInDim S8x4096 ![0, 1] bcast_S8x1_S8x4096_0_1 (broadcastInDim S8x1 ![0] bcast_S8_S8x1_0 (iotaInDim S8 32 0))) i = 1#1) ij)).trans ?_
  have e : cmpi .eq (broadcastInDim S8x4096 ![0, 1] bcast_S1x4096_S8x4096_0_1 (broadcastInDim S1x4096 ![1] bcast_S4096_S1x4096_1 v))
      (broadcastInDim S8x4096 ![0, 1] bcast_S8x1_S8x4096_0_1 (broadcastInDim S8x1 ![0] bcast_S8_S8x1_0 (iotaInDim S8 32 0))) (ix2 j q) = IntOp.cmpi .eq (v (Idealize.ShloMosaic.ix1 q)) (BitVec.ofNat 32 j.val) := by
    pointwise
  rw [e, eq_word, toInt_eq _ (by have := j.isLt; omega)]
  by_cases h : v (Idealize.ShloMosaic.ix1 q) = BitVec.ofNat 32 j.val
  · rw [if_pos h]; exact ⟨fun _ => h, fun _ => rfl⟩
  · rw [if_neg h]; exact ⟨fun h' => absurd h' (by decide), fun h' => absurd h' h⟩

theorem le_word (x : BitVec 32) (h : IntOp.cmpi .sle x 576#32 = 1#1) (hx : x.toNat < 2 ^ 31) : x.toNat ≤ 576 := by
  have h1 : BitVec.ofBool (x.sle 576#32) = 1#1 := h
  rw [BitVec.sle_eq_decide] at h1
  by_cases h2 : x.toInt ≤ (576#32 : BitVec 32).toInt
  · rw [BitVec.toInt_eq_toNat_of_lt (by omega)] at h2
    have h3 : (576#32 : BitVec 32).toInt = 576 := by decide
    omega
  · rw [decide_eq_false h2] at h1
    exact absurd h1 (by decide)

/-- The precondition, read. -/
theorem fits_of [Cert.Pre_fits_KernelIdeal.Facts] (x0 : FVec Ideal S4096x2048 .bf16) (v : IVec S4096 32) (x2 : FVec Ideal S4x2048x4096 .bf16) (x3 : FVec Ideal S4x4096x2048 .bf16)
    (h : fn (F := Ideal) x0 v x2 x3 = fun _ => 1#1) (e : Fin 8) : (Finset.univ.filter fun i : Fin 4096 => (v (Idealize.ShloMosaic.ix1 i)).toInt = (e.val : Int)).card ≤ 576 := by
  have h1 := congrFun h (Idealize.ShloMosaic.ix1 e)
  unfold fn at h1
  dsimp only at h1
  rw [← tokens_at v e]
  refine le_word _ h1 ?_
  rw [tokens_at]
  exact lt_of_le_of_lt (Finset.card_le_univ _) (by simp)

/-- Counted in two halves. -/
theorem two_halves (p : Fin 8192 → Prop) [DecidablePred p] (n : ℕ)
    (h₀ : (Finset.univ.filter fun i : Fin 4096 => p ⟨i.val, by omega⟩).card ≤ n) (h₁ : (Finset.univ.filter fun i : Fin 4096 => p ⟨4096 + i.val, by omega⟩).card ≤ n) :
    (Finset.univ.filter p).card ≤ n + n := by
  have hs : Finset.univ.filter p ⊆ ((Finset.univ.filter fun i : Fin 4096 => p ⟨i.val, by omega⟩).image fun i => (⟨i.val, by omega⟩ : Fin 8192))
      ∪ ((Finset.univ.filter fun i : Fin 4096 => p ⟨4096 + i.val, by omega⟩).image fun i => (⟨4096 + i.val, by omega⟩ : Fin 8192)) := by
    intro t ht
    have hp := (Finset.mem_filter.mp ht).2
    have h8 := t.isLt
    rw [Finset.mem_union, Finset.mem_image, Finset.mem_image]
    by_cases h : t.val < 4096
    · exact .inl ⟨⟨t.val, h⟩, Finset.mem_filter.mpr ⟨Finset.mem_univ _, hp⟩, rfl⟩
    · have e : (⟨4096 + (t.val - 4096), by omega⟩ : Fin 8192) = t := Fin.ext (by show 4096 + (t.val - 4096) = t.val; omega)
      exact .inr ⟨⟨t.val - 4096, by omega⟩, Finset.mem_filter.mpr ⟨Finset.mem_univ _, by show p ⟨4096 + (t.val - 4096), _⟩; rw [e]; exact hp⟩, e⟩
  refine (Finset.card_le_card hs).trans ((Finset.card_union_le _ _).trans (Nat.add_le_add ?_ ?_))
  · exact Finset.card_image_le.trans h₀
  · exact Finset.card_image_le.trans h₁

end Cert.Values.Join

end
-- ==== Proof.Reads.lean ====
/-
What the host works out of the tokens' experts on each device between the exchange of the assignments and the gather:
every token's place once they are sorted by expert, and where the segments of the device's experts start.
-/
module

public import proofs.«01_k».proof.Proof.Order
public import proofs.«01_k».proof.Proof.Owed
public import Idealize.ShloMosaic.Lib.StableHlo.Predicate
public import Idealize.ShloMosaic.Lib.Pointwise

@[expose] public section

set_option maxRecDepth 16384

noncomputable section

namespace Cert.Values.Host_

open Idealize.ShloMosaic Idealize.ShloMosaic.TcCoe
open Idealize.SL.Sem
open Cert.KernelIdeal hiding ix1 ix3
open Cert.KernelIdeal.Talk
open Cert.KernelIdeal.Gen

variable (m : (ℓ : Loc nD τ sig) → Buf (Elt Ideal) ℓ)

/-- The tokens' experts as a device holds them once they are exchanged. -/
def experts (c : Dev nD) : IVec S8192 32 := fun i =>
  (V2 m (oE m) c main_v6 : (⟨S64x128, .i32⟩ : BufTy).Contents (Elt Ideal)) (ix2 (⟨(i 0).val / 128, by have : (i 0).val < 8192 := (i 0).isLt; omega⟩ : Fin 64) (⟨(i 0).val % 128, Nat.mod_lt _ (by decide)⟩ : Fin 128))
/-- As a plain list. -/
def listed (c : Dev nD) : Fin 8192 → BitVec 32 := fun t => experts m c (Idealize.ShloMosaic.ix1 t)

theorem ofFin_ix1 {n : ℕ} (t : Fin n) : (Shape.Idx.ofFin t : (⟨1, ![n]⟩ : Shape).Idx) = Idealize.ShloMosaic.ix1 t := funext fun a => by
  match a with
  | ⟨0, _⟩ => rfl

/-- Sorting numbers and keeping what stood where. -/
theorem sorted_from' {n : ℕ} (v w : IVec ⟨1, ![n]⟩ 32) (hw : ∀ k : Fin n, w (Idealize.ShloMosaic.ix1 k) = BitVec.ofNat 32 k.val) (t : Fin n) :
    (Host.sort2 ⟨1, ![n]⟩ 0 comparator_i32_i32_d0 v w).2 (Idealize.ShloMosaic.ix1 t)
      = BitVec.ofNat 32 (sortedFrom (fun k k' => IntOp.cmpi .slt (v (Idealize.ShloMosaic.ix1 k)) (v (Idealize.ShloMosaic.ix1 k')) == 1#1) t).val := by
  have hd : 0 < (⟨1, ![n]⟩ : Shape).rank := Nat.zero_lt_one
  have al : ∀ (j : (⟨1, ![n]⟩ : Shape).Idx) (k : Fin n), j.along (⟨0, hd⟩ : Fin (⟨1, ![n]⟩ : Shape).rank) k = Idealize.ShloMosaic.ix1 k := fun j k => (Shape.Idx.along_rank1 j k).trans (ofFin_ix1 k)
  unfold Host.sort2
  rw [dif_pos hd]
  refine (congrArg w (al _ _)).trans ((hw _).trans ?_)
  refine congrArg (fun f => BitVec.ofNat 32 (sortedFrom f t).val) (funext fun k => funext fun k' => ?_)
  show (IntOp.cmpi .slt (v _) (v _) == 1#1) = _
  exact congrArg₂ (fun i i' => IntOp.cmpi .slt (v i) (v i') == 1#1) (al _ k) (al _ k')
theorem sorted_from (v : IVec S8192 32) (t : Fin 8192) :
    (Host.sort2 S8192 0 comparator_i32_i32_d0 v (iotaInDim S8192 32 0)).2 (Idealize.ShloMosaic.ix1 t)
      = BitVec.ofNat 32 (sortedFrom (fun k k' => IntOp.cmpi .slt (v (Idealize.ShloMosaic.ix1 k)) (v (Idealize.ShloMosaic.ix1 k')) == 1#1) t).val := sorted_from' v _ (fun _ => rfl) t

theorem v5_at (c : Dev nD) (t : Fin 8192) : (V4 m (oE m) c main_v8 : (⟨S8192, .i32⟩ : BufTy).Contents (Elt Ideal)) (Idealize.ShloMosaic.ix1 t) = BitVec.ofNat 32 (Order.src (listed m c) t).val := by
  have e : (V4 m (oE m) c main_v8 : (⟨S8192, .i32⟩ : BufTy).Contents (Elt Ideal)) = (Host.sort2 S8192 0 comparator_i32_i32_d0 (experts m c) (iotaInDim S8192 32 0)).2 := by
    unfold V4
    after_reads_at
    rfl
  rw [e, sorted_from]
  rfl
theorem v6_at (c : Dev nD) (t : Fin 8192) : (V5 m (oE m) c main_v9 : (⟨S8192, .i32⟩ : BufTy).Contents (Elt Ideal)) (Idealize.ShloMosaic.ix1 t) = BitVec.ofNat 32 (Order.pos (listed m c) t).val := by
  have e : (V5 m (oE m) c main_v9 : (⟨S8192, .i32⟩ : BufTy).Contents (Elt Ideal)) = (Host.sort2 S8192 0 comparator_i32_i32_d0 (V4 m (oE m) c main_v8 : (⟨S8192, .i32⟩ : BufTy).Contents (Elt Ideal)) (iotaInDim S8192 32 0)).2 := by
    unfold V5
    after_reads_at
  rw [e, sorted_from]
  unfold Order.pos
  exact congrArg (fun f => BitVec.ofNat 32 (sortedFrom f t).val) (funext fun k => funext fun k' => by rw [v5_at, v5_at])
/-- A token's rank is its place. -/
theorem rank_at (c : Dev nD) (t : Fin 8192) : (In m c main_v24 : (⟨S1x8192, .i32⟩ : BufTy).Contents (Elt Ideal)) (ix2 0 t) = BitVec.ofNat 32 (Order.pos (listed m c) t).val := by
  rw [In_eq, ← v6_at, ← V6_of m (oE m) c main_v9 (by decide)]
  unfold V7
  after_reads_at

theorem v7_at (c : Dev nD) (i : Fin 8192) : (V6 m (oE m) c main_v10 : (⟨S8192, .i32⟩ : BufTy).Contents (Elt Ideal)) (Idealize.ShloMosaic.ix1 i) = listed m c (Order.src (listed m c) i) := by
  have e : (V6 m (oE m) c main_v10 : (⟨S8192, .i32⟩ : BufTy).Contents (Elt Ideal)) = Host.sort S8192 0 comparator_i32_d0 (experts m c) := by
    unfold V6
    after_reads_at
    rfl
  rw [e, Host.sort_rank1]
  unfold listed Order.src
  rw [ofFin_ix1]
  refine congrArg (fun f => experts m c (Idealize.ShloMosaic.ix1 (sortedFrom f i))) (funext fun k => funext fun k' => ?_)
  rw [ofFin_ix1, ofFin_ix1]
  rfl

theorem ij_eq (j : Fin 9) (q : Fin 8192) : (StableHlo.Predicate.ij j q : S9x8192.Idx) = ix2 j q := funext fun a => by
  match a with
  | ⟨0, _⟩ => rfl
  | ⟨1, _⟩ => rfl

/-- How many of the sorted experts come before a number: the host's sum of comparisons. -/
theorem count_at (v : IVec S8192 32) (j : Fin 9) :
    Host.reduce IntOp.addi (extui 32 (cmpi .slt (broadcastInDim S9x8192 ![0, 1] bcast_S1x8192_S9x8192_0_1 (broadcastInDim S1x8192 ![1] bcast_S8192_S1x8192_1 v))
        (broadcastInDim S9x8192 ![0, 1] bcast_S9x1_S9x8192_0_1 (broadcastInDim S9x1 ![0] bcast_S9_S9x1_0 (iotaInDim S9 32 0)))) natLt_1_32)
      (constantI S_ 32 0#32) reducesTo_S9x8192_S9_d1 h_S_ (Idealize.ShloMosaic.ix1 j)
      = BitVec.ofNat 32 (Finset.univ.filter fun i : Fin 8192 => (v (Idealize.ShloMosaic.ix1 i)).toInt < (j.val : Int)).card := by
  apply BitVec.eq_of_toNat_eq
  rw [StableHlo.Predicate.toNat_reduce_count_cols (by decide), BitVec.toNat_ofNat,
    Nat.mod_eq_of_lt (lt_of_le_of_lt (Finset.card_le_univ _) (by simp))]
  refine congrArg Finset.card (Finset.filter_congr fun q _ => ?_)
  have ij := ij_eq j q
  refine (iff_of_eq (congrArg (fun i => cmpi .slt (broadcastInDim S9x8192 ![0, 1] bcast_S1x8192_S9x8192_0_1 (broadcastInDim S1x8192 ![1] bcast_S8192_S1x8192_1 v))
      (broadcastInDim S9x8192 ![0, 1] bcast_S9x1_S9x8192_0_1 (broadcastInDim S9x1 ![0] bcast_S9_S9x1_0 (iotaInDim S9 32 0))) i = 1#1) ij)).trans ?_
  have e : cmpi .slt (broadcastInDim S9x8192 ![0, 1] bcast_S1x8192_S9x8192_0_1 (broadcastInDim S1x8192 ![1] bcast_S8192_S1x8192_1 v))
      (broadcastInDim S9x8192 ![0, 1] bcast_S9x1_S9x8192_0_1 (broadcastInDim S9x1 ![0] bcast_S9_S9x1_0 (iotaInDim S9 32 0))) (ix2 j q) = IntOp.cmpi .slt (v (Idealize.ShloMosaic.ix1 q)) (BitVec.ofNat 32 j.val) := by
    pointwise
  rw [e, ← Order.toInt_small j.val (by have := j.isLt; omega), ← Order.slt_iff, beq_iff_eq]

/-- A start that fits is not moved by the clamp. -/
theorem clamp_start_word (k : ℕ) (h : k < 2 ^ 31) (hk : k ≤ 9 - 5) : (min (max (BitVec.ofNat 32 k).toInt 0) ((9 - 5 : ℕ) : Int)).toNat = k := by
  have := Order.toInt_small k h
  omega

theorem start_word : ∀ y : Fin 2, Scalar.select (IntOp.cmpi .slt (IntOp.muli (BitVec.ofNat 32 y.val) 4#32) 0#32) (IntOp.addi (IntOp.muli (BitVec.ofNat 32 y.val) 4#32) 9#32)
    (IntOp.muli (BitVec.ofNat 32 y.val) 4#32) = BitVec.ofNat 32 (4 * y.val) := by decide +kernel

theorem v15_at (c : Dev nD) (j : Fin 9) : (V7 m (oE m) c main_v18 : (⟨S9, .i32⟩ : BufTy).Contents (Elt Ideal)) (Idealize.ShloMosaic.ix1 j) = BitVec.ofNat 32 (Order.cnt (listed m c) j.val) := by
  have e : (V7 m (oE m) c main_v18 : (⟨S9, .i32⟩ : BufTy).Contents (Elt Ideal))
      = Host.reduce IntOp.addi (extui 32 (cmpi .slt (broadcastInDim S9x8192 ![0, 1] bcast_S1x8192_S9x8192_0_1 (broadcastInDim S1x8192 ![1] bcast_S8192_S1x8192_1 (V6 m (oE m) c main_v10 : (⟨S8192, .i32⟩ : BufTy).Contents (Elt Ideal))))
        (broadcastInDim S9x8192 ![0, 1] bcast_S9x1_S9x8192_0_1 (broadcastInDim S9x1 ![0] bcast_S9_S9x1_0 (iotaInDim S9 32 0)))) natLt_1_32)
      (constantI S_ 32 0#32) reducesTo_S9x8192_S9_d1 h_S_ := by
    unfold V7
    after_reads_at
  rw [e, count_at]
  unfold Order.cnt
  exact congrArg (fun n => BitVec.ofNat 32 n) (congrArg Finset.card (Finset.filter_congr fun i _ => by rw [v7_at]))
theorem start_sel (c : Dev nD) :
    Scalar.select (IntOp.cmpi .slt (IntOp.muli ((id (Host.remui (Host.divui (constantI S_ 32 c.word) (constantI S_ 32 2#32)) (constantI S_ 32 2#32)) : IVec S_ 32) (Shape.Idx.first h_S_)) 4#32) 0#32)
      (IntOp.addi (IntOp.muli ((id (Host.remui (Host.divui (constantI S_ 32 c.word) (constantI S_ 32 2#32)) (constantI S_ 32 2#32)) : IVec S_ 32) (Shape.Idx.first h_S_)) 4#32) 9#32)
      (IntOp.muli ((id (Host.remui (Host.divui (constantI S_ 32 c.word) (constantI S_ 32 2#32)) (constantI S_ 32 2#32)) : IVec S_ 32) (Shape.Idx.first h_S_)) 4#32) = BitVec.ofNat 32 (4 * yOf c) := by
  have w : (id (Host.remui (Host.divui (constantI S_ 32 c.word) (constantI S_ 32 2#32)) (constantI S_ 32 2#32)) : IVec S_ 32) (Shape.Idx.first h_S_) = BitVec.ofNat 32 (yOf c) :=
    (congrArg (Host.remui (Host.divui (constantI S_ 32 c.word) (constantI S_ 32 2#32)) (constantI S_ 32 2#32)) (funext fun a => a.elim0)).trans (word_y c)
  rw [w]
  exact start_word ⟨yOf c, y_lt c⟩
theorem v19_at (c : Dev nD) : (StableHlo.upto hostOps1_4 (V6 m (oE m) c) 16 (Proc.devRef .tc main_v22) : (⟨S_, .i32⟩ : BufTy).Contents (Elt Ideal)) (Shape.Idx.first h_S_) = BitVec.ofNat 32 (4 * yOf c) := by
  after_reads_at
  exact start_sel c
/-- The start of an expert's segment. -/
theorem seg_at (c : Dev nD) (j : Fin 5) : (In m c main_v23 : (⟨S5, .i32⟩ : BufTy).Contents (Elt Ideal)) (Idealize.ShloMosaic.ix1 j) = BitVec.ofNat 32 (Order.cnt (listed m c) (4 * yOf c + j.val)) := by
  have hy := y_lt c
  have hj := j.isLt
  have e : (V7 m (oE m) c main_v23 : (⟨S5, .i32⟩ : BufTy).Contents (Elt Ideal)) = Host.dynamicSlice S5 (V7 m (oE m) c main_v18 : (⟨S9, .i32⟩ : BufTy).Contents (Elt Ideal))
      (fun k => ((StableHlo.upto hostOps1_4 (V6 m (oE m) c) 16 (Proc.devRef .tc main_v22) : (⟨S_, .i32⟩ : BufTy).Contents (Elt Ideal)) (Shape.Idx.first h_S_)).toInt) sliceFits_S9_S5 := by
    unfold V7
    after_reads_at
    refine congrArg (fun f => Host.dynamicSlice S5 _ f sliceFits_S9_S5) (funext fun k => ?_)
    obtain rfl : k = 0 := Subsingleton.elim _ _
    exact congrArg BitVec.toInt ((v19_at m c).trans (start_sel c).symm)
  rw [In_eq, e, ← v15_at m c ⟨4 * yOf c + j.val, by omega⟩, v19_at]
  refine congrArg (V7 m (oE m) c main_v18 : (⟨S9, .i32⟩ : BufTy).Contents (Elt Ideal)) (funext fun a => Fin.ext ?_)
  match a with
  | ⟨0, _⟩ =>
  refine congrArg (· + j.val) ?_
  show (min (max (BitVec.ofNat 32 (4 * yOf c)).toInt 0) ((9 - 5 : ℕ) : Int)).toNat = 4 * yOf c
  exact clamp_start_word (4 * yOf c) (by omega) (by omega)

/-- The arguments are what they were. -/
theorem arg0_at (c : Dev nD) : In m c main_arg0 = m ((c : Thread nD τ).loc main_arg0) := by
  rw [In_eq, V7_of m (oE m) c main_arg0 (by decide), V6_of m (oE m) c main_arg0 (by decide), V5_of m (oE m) c main_arg0 (by decide), V4_of m (oE m) c main_arg0 (by decide), V3_of m (oE m) c main_arg0 (by decide), V2_of m (oE m) c main_arg0 (by decide), V1_of m c main_arg0 (by decide)]
theorem arg2_at (c : Dev nD) : In m c main_arg2 = m ((c : Thread nD τ).loc main_arg2) := by
  rw [In_eq, V7_of m (oE m) c main_arg2 (by decide), V6_of m (oE m) c main_arg2 (by decide), V5_of m (oE m) c main_arg2 (by decide), V4_of m (oE m) c main_arg2 (by decide), V3_of m (oE m) c main_arg2 (by decide), V2_of m (oE m) c main_arg2 (by decide), V1_of m c main_arg2 (by decide)]
theorem arg3_at (c : Dev nD) : In m c main_arg3 = m ((c : Thread nD τ).loc main_arg3) := by
  rw [In_eq, V7_of m (oE m) c main_arg3 (by decide), V6_of m (oE m) c main_arg3 (by decide), V5_of m (oE m) c main_arg3 (by decide), V4_of m (oE m) c main_arg3 (by decide), V3_of m (oE m) c main_arg3 (by decide), V2_of m (oE m) c main_arg3 (by decide), V1_of m c main_arg3 (by decide)]

end Cert.Values.Host_

end
-- ==== Proof.Exchange.Proto.lean ====
/-
  The protocol of the exchange of the assignments: a device puts its own part into its half of the result's buffer and
  sends it into the same half of its partner's.

  * barrier cell of a device: one unit, by the partner, which hands over the half of its buffer the device will write,
    and that its receive cell is in its first round;
  * send cell: one part's amount, by the device's own transfer, which gives back the half it read;
  * receive cell: one part's amount, by the partner's transfer: the other half, now at the partner's part.
-/
module

public import proofs.«01_k».proof.Proof.Steps
public import proofs.«01_k».proof.Proof.Tables

@[expose] public section

set_option maxRecDepth 16384

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Talk

variable {F : FTy → Type} [FloatOps F]

local notation "𝕄" => MT nD τ sig Unit (Elt F) ℕ UU ℕ

/-! ## Semaphores and halves -/

/-- The exchange's three semaphores: its barrier, its send's, its receive's. -/
noncomputable def semX : Fin 3 → SemLoc sig
  | 0 => .reg 0
  | 1 => .dma 2
  | 2 => .dma 3
noncomputable abbrev barX (c : Dev nD) : GSem nD τ sig := ((c : Thread nD τ), .reg 0)
noncomputable abbrev sendX (c : Dev nD) : GSem nD τ sig := ((c : Thread nD τ), .dma 2)
noncomputable abbrev recvX (c : Dev nD) : GSem nD τ sig := ((c : Thread nD τ), .dma 3)

theorem inbH (c : Dev nD) : ∀ a, (![32 * yOf c, 0] : Fin 2 → Nat) a + S32x128.size a ≤ S64x128.size a := by
  revert c; decide
/-- A device's half of the result's rows. -/
noncomputable abbrev boxH (c : Dev nD) : Rect S64x128 := Rect.unit (s := S64x128) ![32 * yOf c, 0] S32x128.size (inbH c)
/-- The result's buffer, -/
noncomputable abbrev stW : Memref sig .tc .vmem S64x128 .i32 := Memref.whole cc0_stg1_0
/-- and the half of it a device's part goes to. -/
noncomputable abbrev half (c : Dev nD) : Memref sig .tc .vmem S32x128 .i32 := stW.slice (boxH c) (fun _ => rfl)

/-- What a part's transfer counts. -/
noncomputable abbrev NX : ℕ := (half 0).view.dmaCredit
theorem NX_pos : 0 < NX := View.dmaCredit_pos _ (by decide)
theorem NX_at (c : Dev nD) : (half c).view.dmaCredit = NX := by revert c; decide

/-! ## The schedule -/

/-- What the barrier's unit hands a device: the half of the partner's buffer it writes. -/
def barPayX (c : Dev nD) : sProp 𝕄 := iprop(free (pr c) (half c) ∗ reached EX (recvX (pr c)) 0)
/-- What the device's own transfer hands back, -/
def sendPayX (x : Dev nD → Vec F S32x128 .i32) (c : Dev nD) : sProp 𝕄 := has c (half c) (x c)
/-- and what the partner's hands over. -/
def recvPayX (x : Dev nD → Vec F S32x128 .i32) (c : Dev nD) : sProp 𝕄 := has c (half (pr c)) (x (pr c))

instance barPayX_storable (c : Dev nD) : BI.Storable (upEmb : UEmb _ 𝕄) (barPayX c) := by unfold barPayX; infer_instance
instance sendPayX_storable (x : Dev nD → Vec F S32x128 .i32) (c : Dev nD) : BI.Storable (upEmb : UEmb _ 𝕄) (sendPayX (F := F) x c) := by unfold sendPayX; infer_instance
instance recvPayX_storable (x : Dev nD → Vec F S32x128 .i32) (c : Dev nD) : BI.Storable (upEmb : UEmb _ 𝕄) (recvPayX (F := F) x c) := by unfold recvPayX; infer_instance

/-- One raise of each of the three semaphores of every device, in its first round. -/
def rx (x : Dev nD → Vec F S32x128 .i32) : Rounds.Schedule (GSem nD τ sig) Unit 𝕄 where
  duties g r := if r = 0 ∧ g.1.2 = .tc ∧ (∃ k, g.2 = semX k) then {()} else ∅
  unitless _ := False
  amount g _ _ := match g.2 with
    | .reg _ => 1
    | .dma _ => NX
  payload g _ _ := match g.2 with
    | .reg _ => barPayX g.1.1
    | .dma s => if s.val = 3 then recvPayX x g.1.1 else sendPayX x g.1.1
  amount_pos g _ _ _ := by
    cases g.2 with
    | reg _ => exact Nat.one_pos
    | dma _ => exact NX_pos

instance payload_storable (x : Dev nD → Vec F S32x128 .i32) (g : GSem nD τ sig) (r : ℕ) (d : Unit) :
    BI.Storable (upEmb : UEmb _ 𝕄) ((rx (F := F) x).payload g r d) := by
  obtain ⟨⟨c, p⟩, s⟩ := g
  cases s with
  | reg s => show BI.Storable upEmb (barPayX c); infer_instance
  | dma s =>
    show BI.Storable upEmb (if s.val = 3 then recvPayX x c else sendPayX x c)
    split <;> infer_instance

section Tables

variable (x : Dev nD → Vec F S32x128 .i32) (c : Dev nD)

theorem duties_at (k : Fin 3) : (rx (F := F) x).duties ((c : Thread nD τ), semX k) 0 = {()} := by
  dsimp only [rx]; exact if_pos ⟨rfl, rfl, k, rfl⟩
theorem duties_bar : (rx (F := F) x).duties (barX c) 0 = {()} := duties_at x c 0
theorem duties_send : (rx (F := F) x).duties (sendX c) 0 = {()} := duties_at x c 1
theorem duties_recv : (rx (F := F) x).duties (recvX c) 0 = {()} := duties_at x c 2
theorem duties_later (g : GSem nD τ sig) : ∀ r, 1 ≤ r → (rx (F := F) x).duties g r = ∅ := fun r hr => by
  dsimp only [rx]; exact if_neg (fun h => by omega)

theorem payload_bar (u : Unit) : (rx (F := F) x).payload (barX c) 0 u = barPayX c := rfl
theorem payload_send (u : Unit) : (rx (F := F) x).payload (sendX c) 0 u = sendPayX x c := by
  show (if ((2 : DmaSem sig)).val = 3 then recvPayX x c else sendPayX x c) = _
  exact if_neg (by decide)
theorem payload_recv (u : Unit) : (rx (F := F) x).payload (recvX c) 0 u = recvPayX x c := by
  show (if ((3 : DmaSem sig)).val = 3 then recvPayX x c else sendPayX x c) = _
  exact if_pos rfl

theorem expect_bar : (rx (F := F) x).expect (barX c) 0 = 1 := by
  unfold Schedule.expect Schedule.amountOf; rw [duties_bar, Finset.sum_singleton]; rfl
theorem expect_send : (rx (F := F) x).expect (sendX c) 0 = NX := by
  unfold Schedule.expect Schedule.amountOf; rw [duties_send, Finset.sum_singleton]; rfl
theorem expect_recv : (rx (F := F) x).expect (recvX c) 0 = NX := by
  unfold Schedule.expect Schedule.amountOf; rw [duties_recv, Finset.sum_singleton]; rfl

theorem rest_bar : bigSep ((rx (F := F) x).duties (barX c) 0 \ ∅) (fun u => (rx x).payload (barX c) 0 u) = barPayX c := by
  rw [Finset.sdiff_empty, duties_bar, bigSep_singleton, payload_bar]
theorem rest_send : bigSep ((rx (F := F) x).duties (sendX c) 0 \ ∅) (fun u => (rx x).payload (sendX c) 0 u) = sendPayX x c := by
  rw [Finset.sdiff_empty, duties_send, bigSep_singleton, payload_send]
theorem rest_recv : bigSep ((rx (F := F) x).duties (recvX c) 0 \ ∅) (fun u => (rx x).payload (recvX c) 0 u) = recvPayX x c := by
  rw [Finset.sdiff_empty, duties_recv, bigSep_singleton, payload_recv]

/-- A cell whose one round is over gives its counter back, at zero. -/
theorem close (κ : ℕ) (g : GSem nD τ sig) :
    iprop(cellInv EX (rx x) κ g ∗ atPos EX g (0 + 1) ∅ 0) ⊢ (|={Set.univ}=> semVal g 0 : sProp 𝕄) :=
  Rounds.cell_close EX (rx x) (Set.mem_univ κ) id (duties_later x g)

end Tables

/-! ## Debts -/

/-- What the exchange owes for its transfer, on top of what the later calls will. -/
def oX (c : Dev nD) : CellTallies nD τ sig Unit := O₀ c + tallyAt (recvX (pr c)) () NX
/-- What a device owes at launch. -/
def OX (c : Dev nD) : CellTallies nD τ sig Unit := oX c + tallyAt (barX (pr c)) () 1

theorem lv_barX (c : Dev nD) : lv (barX c) () = 1 := rfl
theorem lv_recvX (c : Dev nD) : lv (recvX c) () = 2 := by revert c; decide
theorem lv_sendX (c : Dev nD) : lv (sendX c) () = 0 := by revert c; decide
theorem above_oX (c : Dev nD) : above 1 (oX c) :=
  above_add (above_mono (above_O₀ c) (by decide)) (above_at (pr c) (semX 2) NX (lt_of_lt_of_eq (by decide) (lv_recvX (pr c)).symm))
theorem above_OX (c : Dev nD) : above 0 (OX c) :=
  above_add (above_mono (above_oX c) (by decide)) (above_at (pr c) (semX 0) 1 (lt_of_lt_of_eq (by decide) (lv_barX (pr c)).symm))

/-! ## What a device holds of the exchange -/

/-- The cells a device touches. -/
def cellsX (x : Dev nD → Vec F S32x128 .i32) (K : GSem nD τ sig → ℕ) (c : Dev nD) : sProp 𝕄 :=
  iprop(cellInv EX (rx x) (K (barX c)) (barX c) ∗ cellInv EX (rx x) (K (barX (pr c))) (barX (pr c))
    ∗ cellInv EX (rx x) (K (sendX c)) (sendX c) ∗ cellInv EX (rx x) (K (recvX c)) (recvX c) ∗ cellInv EX (rx x) (K (recvX (pr c))) (recvX (pr c)))
instance cellsX_persistent (x : Dev nD → Vec F S32x128 .i32) (K : GSem nD τ sig → ℕ) (c : Dev nD) : BI.Persistent (cellsX (F := F) x K c) := by
  unfold cellsX; infer_instance

/-- The barrier's share. -/
def barrierX (c : Dev nD) : sProp 𝕄 :=
  iprop(atPos EX (barX c) 0 ∅ 0 ∗ cred (tallyAt (barX c) () 1) ∗ dutyTok EX (barX (pr c)) 0 () ∗ reached EX (barX (pr c)) 0)
/-- The transfers', their cells not yet opened, -/
def openingX (c : Dev nD) : sProp 𝕄 :=
  iprop(dutyTok EX (sendX c) 0 () ∗ dutyTok EX (recvX (pr c)) 0 () ∗ openTok EX (sendX c) ∗ openTok EX (recvX c) ∗ cred (tallyAt (recvX c) () NX))
/-- and opened. -/
def openedX (c : Dev nD) : sProp 𝕄 :=
  iprop(reached EX (recvX c) 0 ∗ (atPos EX (sendX c) 0 ∅ 0 ∗ reached EX (sendX c) 0 ∗ dutyTok EX (sendX c) 0 () ∗ dutyTok EX (recvX (pr c)) 0 ())
    ∗ cred (tallyAt (recvX c) () NX) ∗ atPos EX (recvX c) 0 ∅ 0)
/-- All of it before the call, -/
def gearX (x : Dev nD → Vec F S32x128 .i32) (c : Dev nD) : sProp 𝕄 := iprop(∃ K, cellsX x K c ∗ barrierX c ∗ openingX c)
/-- and in it. -/
def ajarX (x : Dev nD → Vec F S32x128 .i32) (c : Dev nD) : sProp 𝕄 := iprop(∃ K, (levAts L lv ∗ cellsX x K c) ∗ barrierX c ∗ openedX c)

/-- The call's own semaphores. -/
def osemX (k : Fin 2) : SemLoc sig := if k = 0 then semX 1 else semX 2

theorem ownSemsX_eq (c : Dev nD) : (Pipeline.ownSems0 osemX c : sProp 𝕄) = iprop(semVal (sendX c) 0 ∗ semVal (recvX c) 0) := by
  unfold Pipeline.ownSems0
  rw [BI.bigSep_fin_two]
  rfl

theorem open_allX (x : Dev nD → Vec F S32x128 .i32) (c : Dev nD) :
    iprop(gearX x c ∗ Pipeline.ownSems0 osemX c ∗ levAts L lv) ⊢ (|={Set.univ}=> ajarX x c : sProp 𝕄) := by
  rw [ownSemsX_eq]
  unfold gearX ajarX openingX
  iintro ⟨⟨%K, #HC, HB, Ht, Ht', Hos, Hor, Hc⟩, ⟨Hs0, Hr0⟩, #Hlev⟩
  unfold cellsX
  icases HC with ⟨#Ib, #Ib', #Is, #Ir, #Ir'⟩
  imod (Rounds.cell_open EX (rx x) (g := sendX c) (Set.mem_univ (K (sendX c)))) $$ [Hos Hs0] with ⟨Has, #Hrs⟩
  · isplitr; · iexact Is
    isplitl [Hos] <;> iassumption
  imod (Rounds.cell_open EX (rx x) (g := recvX c) (Set.mem_univ (K (recvX c)))) $$ [Hor Hr0] with ⟨Har, #Hrr⟩
  · isplitr; · iexact Ir
    isplitl [Hor] <;> iassumption
  imodintro
  iexists K
  isplitr
  · isplitr; · iexact Hlev
    isplitr; · iexact Ib
    isplitr; · iexact Ib'
    isplitr; · iexact Is
    isplitr; · iexact Ir
    iexact Ir'
  isplitl [HB]; · iexact HB
  unfold openedX
  isplitr; · iexact Hrr
  isplitl [Has Ht Ht']
  · isplitl [Has]; · iexact Has
    isplitr; · iexact Hrs
    isplitl [Ht] <;> iassumption
  isplitl [Hc] <;> iassumption

end Cert.KernelIdeal.Exch

end
-- ==== Proof.Exchange.Steps.lean ====
/-
  The exchange of the assignments, run on one device.
-/
module

public import proofs.«01_k».proof.Proof.Exchange.Proto

@[expose] public section

set_option maxRecDepth 16384

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Talk

variable {F : FTy → Type} [FloatOps F]

local notation "𝕄" => MT nD τ sig Unit (Elt F) ℕ UU ℕ

/-! ## The result's buffer and its halves -/

theorem y_pr (c : Dev nD) : yOf (pr c) = 1 - yOf c := by revert c; decide

theorem mem_boxH (c : Dev nD) (i : S64x128.Idx) : i ∈ (boxH c).set ↔ (i 0).val / 32 = yOf c := by
  have b0 : (i 0).val < 64 := (i 0).isLt
  have b1 : (i 1).val < 128 := (i 1).isLt
  rw [Rect.mem_set_unit]
  constructor
  · intro h
    have h0 := h 0
    have e : (![32 * yOf c, 0] : Fin 2 → ℕ) 0 = 32 * yOf c := rfl
    have e' : S32x128.size 0 = 32 := rfl
    rw [e, e'] at h0; omega
  · intro h a
    fin_cases a
    · show 32 * yOf c ≤ (i 0).val ∧ (i 0).val < 32 * yOf c + 32; omega
    · show 0 ≤ (i 1).val ∧ (i 1).val < 0 + 128; omega

/-- A device and its partner, by place in the pair. -/
def who (c : Dev nD) (k : Fin 2) : Dev nD := if k = 0 then c else pr c
theorem two (c : Dev nD) (G : Dev nD → sProp 𝕄) : bigSep Finset.univ (fun k => G (who c k)) = iprop(G c ∗ G (pr c)) := by
  rw [BI.bigSep_fin_two]; rfl
theorem boxes_disj (c : Dev nD) (k k' : Fin 2) (h : k ≠ k') : Disjoint (boxH (who c k)).set (boxH (who c k')).set := by
  rw [Finset.disjoint_left]
  intro i hi hi'
  have h1 := (mem_boxH _ i).mp hi
  have h2 := (mem_boxH _ i).mp hi'
  have hy := y_pr c
  have := y_lt c
  have key : yOf (who c k) ≠ yOf (who c k') := by
    unfold who
    fin_cases k <;> fin_cases k' <;> first | exact absurd rfl h | (simp; omega)
  exact key (h1.symm.trans h2)
theorem boxes_cover (c : Dev nD) : (Finset.univ : Finset (Fin 2)).biUnion (fun k => (boxH (who c k)).set) = Finset.univ := by
  ext i
  simp only [Finset.mem_biUnion, Finset.mem_univ, true_and, iff_true]
  have b0 : (i 0).val < 64 := (i 0).isLt
  have hy := y_pr c
  have := y_lt c
  by_cases h : (i 0).val / 32 = yOf c
  · exact ⟨0, (mem_boxH _ i).mpr h⟩
  · exact ⟨1, (mem_boxH _ i).mpr (by show _ = yOf (pr c); omega)⟩

/-- The buffer is its two halves, -/
theorem halves_split (c : Dev nD) (Y : Vec F S64x128 .i32) : (has c stW Y : sProp 𝕄) ⊢ iprop(free c (half c) ∗ free c (half (pr c))) := by
  unfold has owns
  iintro ⟨%g, -, H⟩
  ihave H := (Entails.of_eq ((pointsTo_rects (c : Thread nD τ) stW fullShare (fun k => boxH (who c k)) (fun _ _ => rfl) (boxes_disj c) (boxes_cover c) g).trans
    (two c fun d => owns (c : Thread nD τ) (half d) fullShare (fun j => stW.view.read (Elt F) g ((boxH d).emb j))))) $$ H
  icases H with ⟨H0, H1⟩
  unfold free
  isplitl [H0]
  · iexists _; iexact H0
  · iexists _; iexact H1

/-- and when its halves hold two parts it holds both, one below the other. -/
theorem halves_join (x : Dev nD → Vec F S32x128 .i32) (c : Dev nD) : iprop(sendPayX x c ∗ recvPayX x c) ⊢ (has c stW (stack x c) : sProp 𝕄) := by
  have join : (bigSep Finset.univ fun k => owns (c : Thread nD τ) (half (who c k)) fullShare (fun j => (stack x c : Vec F S64x128 .i32) ((boxH (who c k)).emb j)) : sProp 𝕄)
      ⊢ owns (c : Thread nD τ) stW fullShare (stack x c : Vec F S64x128 .i32) :=
    owns_of_rects (Val := Elt F) (c : Thread nD τ) stW fullShare (fun k => boxH (who c k)) (fun _ _ => rfl) (boxes_disj c) (boxes_cover c) (stack x c : Vec F S64x128 .i32)
  refine BIBase.Entails.trans ?_ join
  rw [two c fun d => owns (c : Thread nD τ) (half d) fullShare (fun j => (stack x c : Vec F S64x128 .i32) ((boxH d).emb j))]
  have key : ∀ k, (fun j => stack x c ((boxH (who c k)).emb j)) = x (who c k) := fun k => funext fun j => by
    have b0 : (j 0).val < 32 := (j 0).isLt
    have e0 : (((boxH (who c k)).emb j) 0).val = 32 * yOf (who c k) + (j 0).val := by
      show 32 * yOf (who c k) + 1 * (j 0).val = _; omega
    have e1 : (((boxH (who c k)).emb j) 1).val = (j 1).val := by
      show 0 + 1 * (j 1).val = _; omega
    have hd : devAt c ((((boxH (who c k)).emb j) 0).val / 32) = who c k := by
      rw [e0, show (32 * yOf (who c k) + (j 0).val) / 32 = yOf (who c k) by omega]
      have hy := y_pr c
      have := y_lt c
      unfold devAt who
      fin_cases k
      · exact if_pos rfl
      · exact if_neg (by show yOf (pr c) ≠ _; omega)
    unfold stack
    rw [hd]
    refine congrArg (x (who c k)) (funext fun a => Fin.ext ?_)
    match a with
    | ⟨0, _⟩ => show (((boxH (who c k)).emb j) 0).val % 32 = (j 0).val; rw [e0]; omega
    | ⟨1, _⟩ => exact e1
  unfold sendPayX recvPayX
  have e0 := key 0
  have e1 := key 1
  rw [show who c 0 = c from rfl] at e0
  rw [show who c 1 = pr c from rfl] at e1
  iintro ⟨H0, H1⟩
  isplitl [H0]
  · ihave H := (Entails.of_eq (congrArg (fun X : Vec F S32x128 .i32 => (owns (c : Thread nD τ) (half c) fullShare X : sProp 𝕄)) e0.symm)) $$ H0
    iexact H
  · ihave H := (Entails.of_eq (congrArg (fun X : Vec F S32x128 .i32 => (owns (c : Thread nD τ) (half (pr c)) fullShare X : sProp 𝕄)) e1.symm)) $$ H1
    iexact H

/-- Loading a half yields what it holds, -/
theorem load_half (c : Dev nD) {Q : PUnit → sProp 𝕄} (d : Dev nD) (X : Vec F S32x128 .i32) {hl : stW.view.LoadsAt (boxH d).toLoadRect}
    {k : Vec F S32x128 .i32 → Piece F} :
    (has c (half d) X : sProp 𝕄) ⊢ iprop((has c (half d) X -∗ WP c (k X) Q) -∗ WP c (.op (.load stW (boxH d).toLoadRect hl) k) Q) := by
  unfold has owns
  iintro ⟨%f, %hf, H⟩ Hk
  iapply (wp_load_rect 𝒱₀ (c : Thread nD τ) none Set.univ (m := stW) (r := boxH d) (S := (half d).view.set)
    (q := fullShare) (f := f) (hl := hl) (subset_of_eq rfl)) $$ H
  iintro H
  have e : X = (stW.access (boxH d)).read (Elt F) f := hf.symm
  rw [← e]
  iapply Hk
  iexists f
  isplitr; · ipureintro; exact hf
  iexact H

/-- and storing it leaves what was stored. -/
theorem store_half (c : Dev nD) {Q : PUnit → sProp 𝕄} (d : Dev nD) (X w : Vec F S32x128 .i32)
    {hx : (stW.access (boxH d)).Stores Finset.univ}
    {hm : (Finset.univ : Finset (boxH d).shape.Idx) = Finset.univ ∨ ∀ a, (boxH d).stride a = 1} {k : PUnit → Piece F} :
    (has c (half d) X : sProp 𝕄) ⊢ iprop((has c (half d) w -∗ WP c (k ⟨⟩) Q) -∗ WP c (.op (.store stW (boxH d) w Finset.univ hx hm) k) Q) := by
  unfold has owns
  iintro ⟨%f, %hf, H⟩ Hk
  iapply (wp_store 𝒱₀ (c : Thread nD τ) none Set.univ (m := stW) (r := boxH d) (S := (half d).view.set) (f := f) (w := w) (hx := hx) (hm := hm)
    (subset_of_eq rfl)) $$ H
  iintro H
  iapply Hk
  iexists _
  isplitr
  swap; · iexact H
  ipureintro
  exact View.read_write_univ ..

/-! ## The barrier, the transfer and its waits -/

variable (x : Dev nD → Vec F S32x128 .i32) (K : GSem nD τ sig → ℕ) (c : Dev nD)

theorem meetX (Q : PUnit → sProp 𝕄) {dv : Dev nD} (hd : dv = pr c) {s : Sem sig} (hs : s = 0) {rest : Piece F} :
    iprop((levAts L lv ∗ cellsX x K c) ∗ barrierX c ∗ (free c (half (pr c)) ∗ reached EX (recvX c) 0) ∗ ow c (OX c)
        ∗ ((barPayX c ∗ semVal (barX c) 0 ∗ ow c (oX c)) -∗ WP c rest Q))
      ⊢ WP c (meet dv s rest) Q := by
  subst hd
  subst hs
  unfold meet cellsX barrierX ow
  iintro ⟨⟨#Hlv, #HI, #HIp, -⟩, ⟨Hat, Hc, Ht, #Hr⟩, Hd, ⟨%W, HO⟩, Hk⟩
  iapply (Rounds.wp_signal 𝒱₀ EX (rx x) (c : Thread nD τ) none (dst := (pr c : Thread nD τ)) (sem := 0) (r := 0) (d := ()) (κ := K (barX (pr c)))
    (by rw [duties_bar]; exact Finset.mem_singleton_self _) rfl () (oX c) rfl) $$ [HO Ht Hd]
  · isplitr; · iexact HIp
    isplitl [HO]; · iexact HO
    isplitl [Ht]; · iexact Ht
    isplitl [Hd]
    · ihave Hd := (show iprop(free c (half (pr c)) ∗ reached EX (recvX c) 0) ⊢ ((rx x).payload (barX (pr c)) 0 () : sProp 𝕄) from by
        rw [payload_bar]; unfold barPayX; rw [pr_pr]) $$ Hd
      iexact Hd
    iexact Hr
  iintro HO
  ihave #Hmay := (may (above_oX c) c (.reg 0) (lv_barX c).le) $$ Hlv
  iapply (Rounds.wp_wait_rest_token 𝒱₀ EX (rx x) (c : Thread nD τ) none (κ := K (barX c))
    (wpE_semWait_eq 𝒱₀ (c : Thread nD τ) none Set.univ) (Set.mem_univ _) () (O := oX c) (W := W) (R := 0) (m := 0) (T := ∅)
    ((Nat.zero_add _).trans (expect_bar x c).symm)) $$ [Hc HO Hat]
  · isplitr; · iexact HI
    isplitl [Hc]; · iexact Hc
    isplitl [HO]; · iexact HO
    isplitr; · iexact Hmay
    iexact Hat
  iintro ⟨HO, Hat, -, Hpay⟩
  ihave Hp := (Entails.of_eq (rest_bar x c)) $$ Hpay
  iapply fupd_wp
  imod (close x (K (barX c)) (barX c)) $$ [Hat] with Hv
  · isplitr; · iexact HI
    iexact Hat
  imodintro
  iapply Hk
  isplitl [Hp]; · iexact Hp
  isplitl [Hv]; · iexact Hv
  iexists _; iexact HO

/-- The send issued, not yet waited for. -/
def flyingX (c : Dev nD) : sProp 𝕄 := iprop(cred (tallyAt (sendX c) () NX) ∗ atPos EX (sendX c) 0 ∅ 0)

theorem sendX_run (Q : PUnit → sProp 𝕄) {dv : Dev nD} (hd : dv = pr c) {sS rS : DmaSem sig} (hS : sS = 2) (hR : rS = 3)
    {hw1 : (half c).view.WordExact} {hw2 : (half c).view.WordExact} {hx} {rest : Piece F} :
    iprop(cellsX x K c ∗ (atPos EX (sendX c) 0 ∅ 0 ∗ reached EX (sendX c) 0 ∗ dutyTok EX (sendX c) 0 () ∗ dutyTok EX (recvX (pr c)) 0 ()) ∗ has c (half c) (x c)
        ∗ barPayX c ∗ ow c (oX c) ∗ ((flyingX c ∗ ow c (O₀ c)) -∗ WP c rest Q))
      ⊢ WP c (Prog.op (.enqueueDma (half c) (.remote (Dev.tc dv) (half c) (.dma sS)) (.dma rS) hw1 hw2 hx) fun _ => rest) Q := by
  subst hd
  subst hS
  subst hR
  unfold cellsX barPayX ow free
  iintro ⟨⟨-, -, #HIs, -, #HIr⟩, ⟨Hat, #Hrs, Hts, Htr⟩, Hsrc, ⟨⟨%Z, Hrv⟩, #Hrr⟩, ⟨%W, HO⟩, Hk⟩
  unfold has owns
  icases Hsrc with ⟨%fs, %hfs, Hst⟩
  icases Hrv with ⟨%fd, %hfd, Hrv⟩
  iapply (Rounds.wp_send_pointsTo 𝒱₀ EX (rx x) (c : Thread nD τ) none (c' := (pr c : Thread nD τ)) (src := half c) (dst := half c)
    (sS := .dma 2) (sem := .dma 3) (q := fullShare) (fs := fs) (fd := fd) (κ₁ := K (sendX c)) (κ₂ := K (recvX (pr c)))
    (r₁ := 0) (r₂ := 0) (d₁ := ()) (d₂ := ())
    (by rw [duties_send]; exact Finset.mem_singleton_self _)
    (by rw [duties_recv]; exact Finset.mem_singleton_self _)
    () () NX (NX_at c) rfl rfl (O₀ c) rfl (W := W)
    (by rw [payload_send]; unfold sendPayX has owns; iintro H; iexists fs; isplitr; · ipureintro; exact hfs
        iexact H)
    (by rw [payload_recv]; unfold recvPayX has owns; rw [pr_pr]; iintro H; iexists _; isplitr
        swap; · iexact H
        ipureintro; rw [View.read_write_univ, hfs])) $$ [Hst Hrv HO Hts Htr]
  · isplitr; · iexact HIs
    isplitr; · iexact HIr
    isplitl [Hst]; · iexact Hst
    isplitl [Hrv]; · iexact Hrv
    isplitl [HO]; · iexact HO
    isplitl [Hts]; · iexact Hts
    isplitr; · iexact Hrs
    isplitl [Htr]; · iexact Htr
    iexact Hrr
  iintro ⟨Hc, HO⟩
  iapply Hk
  isplitl [Hc Hat]
  · unfold flyingX; isplitl [Hc] <;> iassumption
  iexists W; iexact HO

theorem sentX_run (Q : PUnit → sProp 𝕄) {sS : DmaSem sig} (hS : sS = 2) {hw1 : (half c).view.WordExact} {hw2 : (half c).view.WordExact} {rest : Piece F} :
    iprop((levAts L lv ∗ cellsX x K c) ∗ flyingX c ∗ ow c (O₀ c) ∗ ((sendPayX x c ∗ semVal (sendX c) 0 ∗ ow c (O₀ c)) -∗ WP c rest Q))
      ⊢ WP c (Prog.op (.waitDma2 sS (half c) (half c) hw1 hw2) fun _ => rest) Q := by
  subst hS
  unfold cellsX flyingX ow
  iintro ⟨⟨#Hlv, -, -, #HIs, -⟩, ⟨Hc, Hat⟩, ⟨%W, HO⟩, Hk⟩
  ihave #Hmay := (may (above_O₀ c) c (.dma 2) ((lv_sendX c).le.trans (Nat.zero_le _))) $$ Hlv
  iapply (Rounds.wp_wait_rest_token 𝒱₀ EX (rx x) (c : Thread nD τ) none (κ := K (sendX c))
    (wpE_waitDma2_eq 𝒱₀ (c : Thread nD τ) none Set.univ) (Set.mem_univ _) () (O := O₀ c) (W := W) (R := 0) (m := 0) (T := ∅)
    ((Nat.zero_add _).trans ((NX_at c).trans (expect_send x c).symm))) $$ [Hc HO Hat]
  · isplitr; · iexact HIs
    isplitl [Hc]; · rw [NX_at]; iexact Hc
    isplitl [HO]; · iexact HO
    isplitr; · iexact Hmay
    iexact Hat
  iintro ⟨HO, Hat, -, Hpay⟩
  ihave Hst := (Entails.of_eq (rest_send x c)) $$ Hpay
  iapply fupd_wp
  imod (close x (K (sendX c)) (sendX c)) $$ [Hat] with Hv
  · isplitr; · iexact HIs
    iexact Hat
  imodintro
  iapply Hk
  isplitl [Hst]; · iexact Hst
  isplitl [Hv]; · iexact Hv
  iexists _; iexact HO

theorem recvX_run (Q : PUnit → sProp 𝕄) {rS : DmaSem sig} (hR : rS = 3) {hw1 : (half c).view.WordExact} {hw2 : (half c).view.WordExact} {rest : Piece F} :
    iprop((levAts L lv ∗ cellsX x K c) ∗ (cred (tallyAt (recvX c) () NX) ∗ atPos EX (recvX c) 0 ∅ 0) ∗ ow c (O₀ c)
        ∗ ((recvPayX x c ∗ semVal (recvX c) 0 ∗ ow c (O₀ c)) -∗ WP c rest Q))
      ⊢ WP c (Prog.op (.waitDma2 rS (half c) (half c) hw1 hw2) fun _ => rest) Q := by
  subst hR
  unfold cellsX ow
  iintro ⟨⟨#Hlv, -, -, -, #HIr, -⟩, ⟨Hc, Hat⟩, ⟨%W, HO⟩, Hk⟩
  ihave #Hmay := (may (above_O₀ c) c (.dma 3) (lv_recvX c).le) $$ Hlv
  iapply (Rounds.wp_wait_rest_token 𝒱₀ EX (rx x) (c : Thread nD τ) none (κ := K (recvX c))
    (wpE_waitDma2_eq 𝒱₀ (c : Thread nD τ) none Set.univ) (Set.mem_univ _) () (O := O₀ c) (W := W) (R := 0) (m := 0) (T := ∅)
    ((Nat.zero_add _).trans ((NX_at c).trans (expect_recv x c).symm))) $$ [Hc HO Hat]
  · isplitr; · iexact HIr
    isplitl [Hc]; · rw [NX_at]; iexact Hc
    isplitl [HO]; · iexact HO
    isplitr; · iexact Hmay
    iexact Hat
  iintro ⟨HO, Hat, -, Hpay⟩
  ihave Hrv := (Entails.of_eq (rest_recv x c)) $$ Hpay
  iapply fupd_wp
  imod (close x (K (recvX c)) (recvX c)) $$ [Hat] with Hv
  · isplitr; · iexact HIr
    iexact Hat
  imodintro
  iapply Hk
  isplitl [Hrv]; · iexact Hrv
  isplitl [Hv]; · iexact Hv
  iexists _; iexact HO

end Cert.KernelIdeal.Exch

end
-- ==== Proof.Exchange.Data.lean ====
/-
  The exchange's one point on each device: what its windows' buffers hold, and the body's obligation.
-/
module

public import proofs.«01_k».proof.Proof.Exchange.Steps
public import proofs.«01_k».proof.Proof.Owed
public import Idealize.ShloMosaic.Lib.Pipeline.TableIdle
public import proofs.«01_k».proof.Proof.Gen.KernelIdeal.Points
public import proofs.«01_k».proof.Proof.Gen.KernelIdeal.Skeleton

@[expose] public section

set_option maxRecDepth 16384

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen
open Talk

variable {F : FTy → Type} [FloatOps F]

local notation "𝕄" => MT nD τ sig Unit (Elt F) ℕ UU ℕ

/-! ## The body -/

/-- A box of 32 rows of the result, -/
noncomputable abbrev boxAt (off : Fin 2 → Nat) (h : ∀ a, off a + S32x128.size a ≤ S64x128.size a) : Rect S64x128 := Rect.unit (s := S64x128) off S32x128.size h
/-- as a buffer. -/
noncomputable abbrev partAt (off : Fin 2 → Nat) (h : ∀ a, off a + S32x128.size a ≤ S64x128.size a) : Memref sig .tc .vmem S32x128 .i32 :=
  stW.slice (boxAt off h) (fun _ => rfl)

/-- What follows the barrier: copy the device's part into place, send it, wait for the send and for the partner's. -/
def copyX (M0 : Memref sig .tc .vmem S32x128 .i32) (dv : Dev nD) (o1 : Fin 2 → Nat) (h1 : ∀ a, o1 a + S32x128.size a ≤ S64x128.size a)
    (o2 : Fin 2 → Nat) (h2 : ∀ a, o2 a + S32x128.size a ≤ S64x128.size a) : Piece F :=
  Prog.op (.load M0 (Rect.unit (s := S32x128) ![0, 0] S32x128.size inb_S32x128_S32x128_0_0).toLoadRect (View.loadsAt_vmem h_S32x128)) fun v =>
  Prog.op (.load stW (boxAt o1 h1).toLoadRect (View.loadsAt_vmem h_S32x128)) fun _ =>
  Prog.op (.store stW (boxAt o1 h1) (k0_pay1 v) Finset.univ (View.stores_vmem_bits_univ h_S32x128 rfl) (.inl rfl)) fun _ =>
  Prog.op (.enqueueDma (partAt o2 h2) (.remote (Dev.tc dv) (partAt o2 h2) (.dma cc0_scratch0.sem)) (.dma cc0_scratch1.sem) (View.wordExact_bits rfl) (View.wordExact_bits rfl) ⟨⟨rfl, Or.inl rfl⟩, trivial⟩) fun _ =>
  Prog.op (.waitDma2 cc0_scratch0.sem (partAt o2 h2) (partAt o2 h2) (View.wordExact_bits rfl) (View.wordExact_bits rfl)) fun _ =>
  Prog.op (.waitDma2 cc0_scratch1.sem (partAt o2 h2) (partAt o2 h2) (View.wordExact_bits rfl) (View.wordExact_bits rfl)) fun _ =>
  Prog.ret ⟨⟩

set_option maxRecDepth 65536 in
theorem body_eq (M0 : Memref sig .tc .vmem S32x128 .i32) (h0 : M0.IsWhole) (h1 : stW.IsWhole) :
    cc0__aexch_body (F := F) M0 h0 stW h1 cc0_scratch0 cc0_scratch1
      = Prog.op .deviceId fun d => meet ⟨k0_dev1 d, k0_dev1_lt d⟩ barrier0
          (copyX M0 ⟨k0_dev2 d, k0_dev2_lt d⟩ (k0_off1 d) (k0_off1_inb d) (k0_off2 d) (k0_off2_inb d)) := by
  rw [cc0__aexch_body_eq_skeleton]
  unfold cc0__aexch_body_skel
  rw [k0_part1_eq_skeleton]
  rfl

theorem dev1 (d : Dev nD) (h : k0_dev1 d < nD) : (⟨k0_dev1 d, h⟩ : Dev nD) = pr d := Fin.ext (by revert d; decide +kernel)
theorem dev2 (d : Dev nD) (h : k0_dev2 d < nD) : (⟨k0_dev2 d, h⟩ : Dev nD) = pr d := Fin.ext (by revert d; decide +kernel)
theorem off1 : ∀ d : Dev nD, k0_off1 d = ![32 * yOf d, 0] := by decide +kernel
theorem off2 : ∀ d : Dev nD, k0_off2 d = ![32 * yOf d, 0] := by decide +kernel
theorem sem_send : cc0_scratch0.sem = (2 : DmaSem sig) := by decide
theorem sem_recv : cc0_scratch1.sem = (3 : DmaSem sig) := by decide

theorem copyX_run (Q : PUnit → sProp 𝕄) (x : Dev nD → Vec F S32x128 .i32) (K : GSem nD τ sig → ℕ) (c : Dev nD) (M0 : Memref sig .tc .vmem S32x128 .i32)
    {dv : Dev nD} (hd : dv = pr c) {o1 o2 : Fin 2 → Nat} {h1 : ∀ a, o1 a + S32x128.size a ≤ S64x128.size a} {h2 : ∀ a, o2 a + S32x128.size a ≤ S64x128.size a}
    (e1 : o1 = ![32 * yOf c, 0]) (e2 : o2 = ![32 * yOf c, 0]) :
    iprop((levAts L lv ∗ cellsX x K c) ∗ has c M0 (x c) ∗ free c (half c) ∗ barPayX c
        ∗ (atPos EX (sendX c) 0 ∅ 0 ∗ reached EX (sendX c) 0 ∗ dutyTok EX (sendX c) 0 () ∗ dutyTok EX (recvX (pr c)) 0 ())
        ∗ (cred (tallyAt (recvX c) () NX) ∗ atPos EX (recvX c) 0 ∅ 0) ∗ ow c (oX c)
        ∗ ((has c M0 (x c) ∗ has c stW (stack x c) ∗ (semVal (sendX c) 0 ∗ semVal (recvX c) 0) ∗ ow c (O₀ c)) -∗ Q ⟨⟩))
      ⊢ WP c (copyX M0 dv o1 h1 o2 h2) Q := by
  subst e1 e2
  unfold copyX
  iintro ⟨⟨#Hlv, #HI⟩, H0, Hh, Hbp, Hs, Hr, HO, Hk⟩
  iapply (load_all c M0 (x c)) $$ H0
  iintro H0
  unfold free
  icases Hh with ⟨%Z, Hh⟩
  iapply (load_half c c Z) $$ Hh
  iintro Hh
  iapply (store_half c c Z (k0_pay1 (x c))) $$ Hh
  iintro Hh
  rw [show k0_pay1 (x c) = x c from shapeCast_self (x c) shapeCasts_S32x128_S32x128]
  iapply (sendX_run x K c Q hd sem_send sem_recv)
  isplitr; · iexact HI
  isplitl [Hs]; · iexact Hs
  isplitl [Hh]; · iexact Hh
  isplitl [Hbp]; · iexact Hbp
  isplitl [HO]; · iexact HO
  iintro ⟨Hf, HO⟩
  iapply (sentX_run x K c Q sem_send)
  isplitr
  · isplitr; · iexact Hlv
    iexact HI
  isplitl [Hf]; · iexact Hf
  isplitl [HO]; · iexact HO
  iintro ⟨Hsp, Hsv, HO⟩
  iapply (recvX_run x K c Q sem_recv)
  isplitr
  · isplitr; · iexact Hlv
    iexact HI
  isplitl [Hr]; · iexact Hr
  isplitl [HO]; · iexact HO
  iintro ⟨Hrp, Hrv, HO⟩
  unfold WP
  rw [wp_ret]
  imodintro
  iapply Hk
  isplitl [H0]; · iexact H0
  isplitl [Hsp Hrp]
  · iapply (halves_join x c)
    isplitl [Hsp] <;> iassumption
  isplitl [Hsv Hrv]
  · isplitl [Hsv] <;> iassumption
  iexact HO

/-- What the exchange's body does. -/
theorem exch_run (Q : PUnit → sProp 𝕄) (x : Dev nD → Vec F S32x128 .i32) (c : Dev nD) (M0 : Memref sig .tc .vmem S32x128 .i32) (h0 : M0.IsWhole) (h1 : stW.IsWhole)
    (Y : Vec F S64x128 .i32) :
    iprop(ajarX x c ∗ ow c (OX c) ∗ has c M0 (x c) ∗ has c stW Y
        ∗ ((has c M0 (x c) ∗ has c stW (stack x c) ∗ (semVal (barX c) 0 ∗ semVal (sendX c) 0 ∗ semVal (recvX c) 0) ∗ ow c (O₀ c)) -∗ Q ⟨⟩))
      ⊢ WP c (cc0__aexch_body M0 h0 stW h1 cc0_scratch0 cc0_scratch1) Q := by
  rw [body_eq]
  simp only [wp_deviceId]
  unfold ajarX openedX
  iintro ⟨⟨%K, #HI, HB, #Hrr, Hs, Hr⟩, HO, H0, H1, Hk⟩
  ihave H1 := (halves_split c Y) $$ H1
  icases H1 with ⟨Hm, Ht⟩
  iapply (meetX x K c Q (dev1 c _) rfl)
  isplitr; · iexact HI
  isplitl [HB]; · iexact HB
  isplitl [Ht]
  · isplitl [Ht]; · iexact Ht
    iexact Hrr
  isplitl [HO]; · iexact HO
  iintro ⟨Hbp, Hbv, HO⟩
  iapply (copyX_run Q x K c M0 (dev2 c _) (off1 c) (off2 c))
  isplitr; · iexact HI
  isplitl [H0]; · iexact H0
  isplitl [Hm]; · iexact Hm
  isplitl [Hbp]; · iexact Hbp
  isplitl [Hs]; · iexact Hs
  isplitl [Hr]; · iexact Hr
  isplitl [HO]; · iexact HO
  iintro ⟨H0, H1, ⟨Hsv, Hrv⟩, HO⟩
  iapply Hk
  isplitl [H0]; · iexact H0
  isplitl [H1]; · iexact H1
  isplitr [HO]
  · isplitl [Hbv]; · iexact Hbv
    isplitl [Hsv] <;> iassumption
  iexact HO

/-! ## The pipeline's data -/

variable (m : (ℓ : Loc nD τ sig) → Buf (Elt F) ℓ)

/-- The pipeline as device `c` runs it. -/
abbrev cfgAt (c : Dev nD) : Pipeline.Cfg sig Λ₀ := Pipeline.pinD (pcfgs (F := F)) (adm m) c 0

/-- A device's part as the call's first window holds it. -/
def xAt (c : Dev nD) (t : Fin grid0.N) : Vec F S32x128 .i32 := (((cfgAt m c).win 0).blk t).view.read (Elt F) (X m c)
theorem xAt_eq (c : Dev nD) (t : Fin grid0.N) : xAt m c t = X m c := by
  funext i
  refine congrArg (X m c) (funext fun a => Fin.ext ((Pipeline.Window.rect_emb_val (w := (cfgAt m c).win 0) t i a rfl).trans ?_))
  exact (congrArg (· + (i a).val) (Nat.zero_mul _)).trans (Nat.zero_add _)

/-- What the device holds before the point and after it. -/
def inv (c : Dev nD) (t : ℕ) : sProp 𝕄 := if t = 0 then ajarX (X m) c else iprop(semVal (barX c) 0 ∗ semVal (sendX c) 0 ∗ semVal (recvX c) 0)
/-- What it owes. -/
def owed (c : Dev nD) (t : ℕ) : CellTallies nD τ sig Unit := if t = 0 then OX c else O₀ c

def dat (c : Dev nD) : Dat τ (Elt F) Unit ℕ UU ℕ (cfgAt m c) c where
  A := fun
    | 0 => X m c
    | 1 => V1 m c main_v6
    | ⟨_ + 2, h⟩ => absurd h (Nat.not_lt.2 (Nat.le_add_left _ _))
  after := fun
    | 0 => fun t => xAt m c t
    | 1 => fun _ => outE m c
    | ⟨_ + 2, h⟩ => absurd h (Nat.not_lt.2 (Nat.le_add_left _ _))
  Φ t := iprop(inv m c t.val ∗ Pipeline.scopedRest spec0 c)
  q _ := fullShare
  owed t := owed c t.val

theorem before0 (c : Dev nD) (t : Fin grid0.N) (d) : (dat m c).before 0 t d = X m c :=
  (before_read (dat m c) 0 rfl (fun _ => rfl) (fun _ _ => rfl) (fun _ => rfl) t d).trans (xAt_eq m c t)

theorem point_zero : ∀ t : Fin grid0.N, t.val = 0 := by decide +kernel

set_option backward.isDefEq.respectTransparency.types false in
/-- The body meets its obligation. -/
theorem body (c : Dev nD) : Pipeline.BodyObligation (dat m c) defs₀ 𝒱₀ () Set.univ := by
  intro t
  have ht := point_zero t
  rw [bigSep_W0, bigSep_W0]
  dsimp only
  simp only [show ∀ i, (pcfgs (F := F) 0).idle (adm m c 0).1 0 i = false from fun _ => rfl, show ∀ i, (pcfgs (F := F) 0).idle (adm m c 0).1 1 i = false from fun _ => rfl]
  rw [show (dat m c).Φ t.castSucc = iprop(inv m c t.val ∗ Pipeline.scopedRest spec0 c) from rfl, show (dat m c).Φ t.succ = iprop(inv m c (t.val + 1) ∗ Pipeline.scopedRest spec0 c) from rfl,
    show inv m c t.val = ajarX (X m) c from if_pos ht, show inv m c (t.val + 1) = iprop(semVal (barX c) 0 ∗ semVal (sendX c) 0 ∗ semVal (recvX c) 0) from if_neg (Nat.succ_ne_zero _)]
  have hb : defs₀ (F := F) .tc (cfgAt m c).body ((cfgAt m c).bodyArgs t ((cfgAt m c).slots t)) = bodyAt0 t := rfl
  rw [hb]
  iintro ⟨⟨HA, Hside⟩, HO, ⟨%d0, H0⟩, ⟨%d1, H1⟩⟩
  ihave HO := (owesAt_elim (dat m c) t.castSucc (OX c) (if_pos ht)) $$ HO
  ihave H0 := (Entails.of_eq (congrArg (fun X => (owns (c : Thread nD τ) (st0_0 t) fullShare X : sProp 𝕄)) (before0 m c t d0))) $$ H0
  iapply (exch_run _ (X m) c (st0_0 t) (hstage0_0 0) (hstage0_1 0) ((dat m c).before 1 t d1))
  isplitl [HA]; · iexact HA
  isplitl [HO]; · iexact HO
  isplitl [H0]; · iexact H0
  isplitl [H1]; · iexact H1
  iintro ⟨H0, H1, HV, HO⟩
  isplitl [HV Hside]
  · isplitl [HV] <;> iassumption
  isplitl [HO]
  · iapply (owesAt_intro (dat m c) t.succ (O₀ c) (show owed c (t.val + 1) = O₀ c from if_neg (Nat.succ_ne_zero _)) rfl); iexact HO
  isplitl [H0]
  · ihave H0 := (Entails.of_eq (congrArg (fun X => (owns (c : Thread nD τ) (st0_0 t) fullShare X : sProp 𝕄)) (xAt_eq m c t).symm)) $$ H0
    iexact H0
  iexact H1

end Cert.KernelIdeal.Exch

end
-- ==== Proof.Split.lean ====
/-
A buffer cut into four boxes is its four boxes: the slots that travel, the gather's accumulators, a device's own tokens.
-/
module

public import proofs.«01_k».proof.Proof.Gather.Parts
public import proofs.«01_k».proof.Proof.Owed

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

section
variable (c : Dev nD) {sp : Space} {s : Shape} {e : EltTy} (M : Memref sig .tc sp s e) (q : PosShare TreeShare) (r : Fin 4 → Rect s)
  (hr : ∀ k a, (r k).stride a = 1) (part : s.Idx → Fin 4) (hp : ∀ k i, i ∈ (r k).set ↔ part i = k)

include hp in
theorem cut_disj (k k' : Fin 4) (h : k ≠ k') : Disjoint (r k).set (r k').set := by
  rw [Finset.disjoint_left]
  intro i hi hi'
  exact h (((hp k i).mp hi).symm.trans ((hp k' i).mp hi'))
include hp in
theorem cut_cover : (Finset.univ : Finset (Fin 4)).biUnion (fun k => (r k).set) = Finset.univ := by
  ext i
  simp only [Finset.mem_biUnion, Finset.mem_univ, true_and, iff_true]
  exact ⟨part i, (hp _ i).mpr rfl⟩

include hr hp in
/-- The whole is its parts, -/
theorem cut (g : M.view.ty.Contents (Elt F)) :
    (M.view.loc (c : Thread nD τ) ↦[M.view.set]{q} g : sProp 𝕄) = four fun k => M.view.loc (c : Thread nD τ) ↦[(M.view.slice (r k)).set]{q} g := by
  rw [pointsTo_rects (c : Thread nD τ) M q r hr (cut_disj r part hp) (cut_cover r part hp) g, ← four_eq]
  refine bigSep_congr fun k _ => ?_
  rw [owns_slice_read]

include hr hp in
/-- also when each part holds contents of its own. -/
theorem glue_at (g : Fin 4 → M.view.ty.Contents (Elt F)) : (four fun k => M.view.loc (c : Thread nD τ) ↦[(M.view.slice (r k)).set]{q} g k : sProp 𝕄)
    ⊢ iprop(∃ g' : M.view.ty.Contents (Elt F), M.view.loc (c : Thread nD τ) ↦[M.view.set]{q} g') := by
  refine BIBase.Entails.trans ?_ (show owns (c : Thread nD τ) M q (fun i => M.view.read (Elt F) (g (part i)) i) ⊢ _ from ?_)
  · rw [← four_eq]
    refine BIBase.Entails.trans ?_ (owns_of_rects (c : Thread nD τ) M q r hr (cut_disj r part hp) (cut_cover r part hp) _)
    refine bigSep_mono fun k _ => ?_
    rw [← owns_slice_read (c : Thread nD τ) M q (r k) (hr k) (g k)]
    have e : ∀ j, part ((r k).emb j) = k := fun j => (hp k _).mp (by rw [← Rect.map_emb_univ]; exact Finset.mem_map_of_mem _ (Finset.mem_univ _))
    exact Entails.of_eq (congrArg (fun X => (owns (c : Thread nD τ) (M.slice (r k) (hr k)) q X : sProp 𝕄)) (funext fun j => by rw [e j]))
  · unfold owns
    iintro ⟨%g', -, H⟩
    iexists g'; iexact H

include hr hp in
theorem glue : (four fun k => iprop(∃ g : M.view.ty.Contents (Elt F), M.view.loc (c : Thread nD τ) ↦[(M.view.slice (r k)).set]{q} g) : sProp 𝕄)
    ⊢ iprop(∃ g : M.view.ty.Contents (Elt F), M.view.loc (c : Thread nD τ) ↦[M.view.set]{q} g) := by
  unfold four
  iintro ⟨⟨%g0, H0⟩, ⟨%g1, H1⟩, ⟨%g2, H2⟩, ⟨%g3, H3⟩⟩
  ihave K := (glue_at c M q r hr part hp ![g0, g1, g2, g3]) $$ [H0 H1 H2 H3]
  · unfold four
    isplitl [H0]; · iexact H0
    isplitl [H1]; · iexact H1
    isplitl [H2]; · iexact H2
    iexact H3
  iexact K
end

/-! ## Slots -/

/-- The four slots' boxes. -/
abbrev boxK (k : Fin 4) : Rect S4x1024x2048 := box ![k.val, 0, 0] (inb k)
theorem mem_boxK (k : Fin 4) (i : S4x1024x2048.Idx) : i ∈ (boxK k).set ↔ i 0 = k := by
  rw [Rect.mem_set_unit]
  constructor
  · intro h
    have h0 := h 0
    have e : (![k.val, 0, 0] : Fin 3 → ℕ) 0 = k.val := rfl
    have e' : S1x1024x2048.size 0 = 1 := rfl
    rw [e, e'] at h0; exact Fin.ext (by omega)
  · rintro h a
    have h : (i 0).val = k.val := congrArg Fin.val h
    have b1 : (i 1).val < 1024 := (i 1).isLt
    have b2 : (i 2).val < 2048 := (i 2).isLt
    fin_cases a
    · show k.val ≤ (i 0).val ∧ (i 0).val < k.val + 1; omega
    · show 0 ≤ (i 1).val ∧ (i 1).val < 0 + 1024; omega
    · show 0 ≤ (i 2).val ∧ (i 2).val < 0 + 2048; omega

theorem slot_set (M : Memref sig .tc .vmem S4x1024x2048 .bf16) (k : Fin 4) :
    (slotOf M ![k.val, 0, 0] (inb k)).view.set = (M.view.slice (boxK k)).set := View.set_reshape _ _

/-- The whole buffer is four slots, -/
theorem slots_split (c : Dev nD) (M : Memref sig .tc .vmem S4x1024x2048 .bf16) (g : M.view.ty.Contents (Elt F)) :
    (M.view.loc (c : Thread nD τ) ↦[M.view.set]{fullShare} g : sProp 𝕄) ⊢ four fun k => free c (slotOf M ![k.val, 0, 0] (inb k)) := by
  rw [cut c M fullShare boxK (fun _ _ => rfl) (fun i => i 0) mem_boxK g]
  refine four_mono fun k => ?_
  unfold free has owns
  rw [slot_set]
  iintro H
  iexists _
  iexists g
  isplitr; · ipureintro; rfl
  iexact H

/-- and back. -/
theorem slots_join (c : Dev nD) (M : Memref sig .tc .vmem S4x1024x2048 .bf16) :
    (four fun k => free c (slotOf M ![k.val, 0, 0] (inb k)) : sProp 𝕄)
      ⊢ iprop(∃ g : M.view.ty.Contents (Elt F), M.view.loc (c : Thread nD τ) ↦[M.view.set]{fullShare} g) := by
  refine BIBase.Entails.trans (four_mono fun k => ?_) (glue c M fullShare boxK (fun _ _ => rfl) (fun i => i 0) mem_boxK)
  unfold free has owns
  rw [slot_set]
  iintro ⟨%X, %g, -, H⟩
  iexists g; iexact H

/-! ## The gather's accumulators -/

theorem mem_boxA (k : Fin 4) (i : S4x1152x2048.Idx) : i ∈ (Gather.boxA ![k.val, 0, 0] (Gather.inbA k)).set ↔ i 0 = k := by
  rw [Rect.mem_set_unit]
  constructor
  · intro h
    have h0 := h 0
    have e : (![k.val, 0, 0] : Fin 3 → ℕ) 0 = k.val := rfl
    have e' : S1x1152x2048.size 0 = 1 := rfl
    rw [e, e'] at h0; exact Fin.ext (by omega)
  · rintro h a
    have h : (i 0).val = k.val := congrArg Fin.val h
    have b1 : (i 1).val < 1152 := (i 1).isLt
    have b2 : (i 2).val < 2048 := (i 2).isLt
    fin_cases a
    · show k.val ≤ (i 0).val ∧ (i 0).val < k.val + 1; omega
    · show 0 ≤ (i 1).val ∧ (i 1).val < 0 + 1152; omega
    · show 0 ≤ (i 2).val ∧ (i 2).val < 0 + 2048; omega

theorem accs_split (c : Dev nD) (g : Gather.acW.view.ty.Contents (Elt F)) :
    (Gather.acW.view.loc (c : Thread nD τ) ↦[Gather.acW.view.set]{fullShare} g : sProp 𝕄) ⊢ four fun k => iprop(∃ V, has c (Gather.acM k) V) := by
  rw [cut c Gather.acW fullShare (fun k => Gather.boxA ![k.val, 0, 0] (Gather.inbA k)) (fun _ _ => rfl) (fun i => i 0) mem_boxA g]
  refine four_mono fun k => ?_
  unfold has owns
  iintro H
  iexists _
  iexists g
  isplitr; · ipureintro; rfl
  iexact H

theorem accs_join (c : Dev nD) : (four fun k => iprop(∃ V, has c (Gather.acM k) V) : sProp 𝕄)
    ⊢ iprop(∃ g : Gather.acW.view.ty.Contents (Elt F), Gather.acW.view.loc (c : Thread nD τ) ↦[Gather.acW.view.set]{fullShare} g) := by
  refine BIBase.Entails.trans (four_mono fun k => ?_) (glue c Gather.acW fullShare (fun k => Gather.boxA ![k.val, 0, 0] (Gather.inbA k)) (fun _ _ => rfl) (fun i => i 0) mem_boxA)
  unfold has owns
  iintro ⟨%X, %g, -, H⟩
  iexists g; iexact H

/-! ## A device's own tokens -/

theorem mem_rows (k : Fin 4) (i : S4096x2048.Idx) : i ∈ (Talk.Gather.rowBox k).set ↔ (⟨(i 0).val / 1024 % 4, Nat.mod_lt _ (by decide)⟩ : Fin 4) = k := by
  have b0 : (i 0).val < 4096 := (i 0).isLt
  have b1 : (i 1).val < 2048 := (i 1).isLt
  rw [Rect.mem_set_unit]
  constructor
  · intro h
    have h0 := h 0
    have e : (![1024 * k.val, 0] : Fin 2 → ℕ) 0 = 1024 * k.val := rfl
    have e' : S1024x2048.size 0 = 1024 := rfl
    rw [e, e'] at h0; exact Fin.ext (by show (i 0).val / 1024 % 4 = k.val; omega)
  · intro h a
    have h : (i 0).val / 1024 % 4 = k.val := congrArg Fin.val h
    fin_cases a
    · show 1024 * k.val ≤ (i 0).val ∧ (i 0).val < 1024 * k.val + 1024; omega
    · show 0 ≤ (i 1).val ∧ (i 1).val < 0 + 2048; omega

theorem rows_cut (c : Dev nD) (q : PosShare TreeShare) (g : Buf (Elt F) ((c : Thread nD τ).loc main_arg0)) :
    ((c : Thread nD τ).loc main_arg0 ↦{q} g : sProp 𝕄)
      = four fun k => owns (c : Thread nD τ) (Talk.Gather.srM k) q ((Talk.Gather.srM k).view.read (Elt F) g) := by
  have h := cut (F := F) c (Memref.whole main_arg0) q Talk.Gather.rowBox (fun _ _ => rfl) _ mem_rows g
  rw [(Memref.isWhole_whole main_arg0).set_eq_univ] at h
  refine h.trans (congrArg four (funext fun k => ?_))
  exact (owns_slice_read (c : Thread nD τ) (Memref.whole main_arg0) q (Talk.Gather.rowBox k) (fun _ => rfl) g).symm

end Cert.KernelIdeal.Talk

end
-- ==== Proof.State.lean ====
/-
The program's state between its calls, and the pipelines' data at it.
-/
module

public import proofs.«01_k».proof.Proof.Gather.Final
public import proofs.«01_k».proof.Proof.Scatter.Data
public import proofs.«01_k».proof.Proof.Moe.Data
public import proofs.«01_k».proof.Proof.Exchange.Data
public import proofs.«01_k».proof.Proof.Split
public import proofs.«01_k».proof.Proof.Gen.KernelIdeal.Regions

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F]

local notation "𝕄" => MT nD τ sig Unit (Elt F) ℕ UU ℕ

variable (m : (ℓ : Loc nD τ sig) → Buf (Elt F) ℓ)

/-- What the gather leaves in its result, -/
abbrev outG (c : Dev nD) : Buf (Elt F) ((c : Thread nD τ).loc main_v36) := Gather.fG m c
/-- the experts in theirs, -/
def outM (c : Dev nD) : Buf (Elt F) ((c : Thread nD τ).loc main_v37) := (Moe.dat m (outG m) c).arrAt 3 grid2.N
/-- the scatter in its. -/
def outS (c : Dev nD) : Buf (Elt F) ((c : Thread nD τ).loc main_v38) := (Scatter.dat m (outM m) c).arrAt 2 grid3.N
/-- What a device sends in the scatter. -/
abbrev sS : Dev nD → Fin 4 → FVec F S1024x2048 .bf16 := Scatter.sS m (outM m)
/-- All that travels. -/
abbrev sent : Sent F := Gather.sentW m (sS m)

/-- Every buffer after the gather, -/
@[irreducible] def W6 (c : Dev nD) : Valuation τ sig (Elt F) := Function.update (In m c) main_v36 (outG m c)
theorem W6_out (c : Dev nD) : W6 m c main_v36 = outG m c := by unfold W6; exact Function.update_self ..
theorem W6_of (c : Dev nD) (b : DevRef τ sig) (h : b ≠ Proc.devRef .tc main_v36) : W6 m c b = In m c b := by
  unfold W6; exact Function.update_of_ne h ..

/-- after the experts, -/
@[irreducible] def W7 (c : Dev nD) : Valuation τ sig (Elt F) := Function.update (W6 m c) main_v37 (outM m c)
theorem W7_out (c : Dev nD) : W7 m c main_v37 = outM m c := by unfold W7; exact Function.update_self ..
theorem W7_of (c : Dev nD) (b : DevRef τ sig) (h : b ≠ Proc.devRef .tc main_v37) : W7 m c b = W6 m c b := by
  unfold W7; exact Function.update_of_ne h ..

/-- after the scatter. -/
@[irreducible] def W8 (c : Dev nD) : Valuation τ sig (Elt F) := Function.update (W7 m c) main_v38 (outS m c)
theorem W8_out (c : Dev nD) : W8 m c main_v38 = outS m c := by unfold W8; exact Function.update_self ..
theorem W8_of (c : Dev nD) (b : DevRef τ sig) (h : b ≠ Proc.devRef .tc main_v38) : W8 m c b = W7 m c b := by
  unfold W8; exact Function.update_of_ne h ..

/-- The same as the unknowns of the program's state. -/
def outs : Outs (F := F) := fun _ r c => W8 m c (Proc.devRef .tc r)

/-- The gathered assignments are among them, as the exchange left them. -/
theorem outs_v6 (n : ℕ) (c : Dev nD) : outs m n main_v6 c = outE m c := by
  unfold outs
  rw [W8_of m c _ (by decide), W7_of m c _ (by decide), W6_of m c _ (by decide), In_eq, V7_of m (oE m) c main_v6 (by decide),
    V6_of m (oE m) c main_v6 (by decide), V5_of m (oE m) c main_v6 (by decide), V4_of m (oE m) c main_v6 (by decide), V3_of m (oE m) c main_v6 (by decide)]
  unfold V2
  exact (Function.update_self ..).trans (oE_at m 2 c)
theorem V2_outs (c : Dev nD) : V2 m (outs m) c = V2 m (oE m) c := by
  unfold V2; rw [outs_v6, oE_at]
/-- Until the gather, no other is looked at. -/
theorem V7_outs (c : Dev nD) : V7 m (outs m) c = In m c := by
  rw [In_eq]; unfold V7 V6 V5 V4 V3; rw [V2_outs]

theorem W6_eq (c : Dev nD) : W6 m c = V8 m (outs m) c := by
  unfold V8
  rw [V7_outs, show outs m 8 main_v36 c = outG m c from by unfold outs; rw [W8_of m c _ (by decide), W7_of m c _ (by decide), W6_out]]
  have h : outs m 8 main_v6 c = W6 m c main_v6 := by unfold outs; rw [W8_of m c _ (by decide), W7_of m c _ (by decide)]
  rw [h]
  unfold W6
  exact (Function.update_eq_self _ _).symm
theorem W7_eq (c : Dev nD) : W7 m c = V9 m (outs m) c := by
  have h : outs m 9 main_v37 c = outM m c := by unfold outs; rw [W8_of m c _ (by decide), W7_out]
  unfold V9
  rw [h, ← W6_eq]
  unfold W7
  rfl
theorem W8_eq (c : Dev nD) : W8 m c = V10 m (outs m) c := by
  have h : outs m 10 main_v38 c = outS m c := by unfold outs; exact W8_out m c
  unfold V10
  rw [h, ← W7_eq]
  unfold W8
  rfl

/-- The pipelines' data. -/
def rdats : (p : Fin 4) → (c : Dev nD) → Pipeline.RDat τ (Elt F) Unit ℕ UU ℕ (Pipeline.pinD (pcfgs (F := F)) (adm m) c p) c := fun
  | 0 => fun c => (Exch.dat m c).toR
  | 1 => fun c => Gather.rdat m (sS m) c
  | 2 => fun c => (Moe.dat m (outG m) c).toR
  | 3 => fun c => (Scatter.dat m (outM m) c).toR
  | ⟨_ + 4, h⟩ => absurd h (Nat.not_lt.2 (Nat.le_add_left _ _))

/-- What a device holds of the scatter while the gather runs, beside the first barrier's counter. -/
def kept (c : Dev nD) : sProp 𝕄 := iprop(gear (sent m) 1 c ∗ semVal (Exch.barX c) 0)

/-- What rides along before the exchange of the assignments, -/
def outset (c : Dev nD) : sProp 𝕄 := iprop(Exch.gearX (X m) c ∗ (gear (sent m) 0 c ∗ gear (sent m) 1 c) ∗ ow c (Exch.OX c))
/-- before the gather, -/
def before (c : Dev nD) : sProp 𝕄 := iprop(gear (sent m) 0 c ∗ kept m c ∗ ow c (O₀ c))
/-- between the gather and the scatter, -/
def between (c : Dev nD) : sProp 𝕄 := iprop(kept m c ∗ semVal (barCell 0 c) 0 ∗ ow c (O₁ c))
/-- and after them. -/
def behind (c : Dev nD) : sProp 𝕄 := iprop((semVal (Exch.barX c) 0 ∗ semVal (barCell 0 c) 0) ∗ semVal (barCell 1 c) 0 ∗ ow c 0)

/-- The staging semaphores are waited for whatever of the exchanges is owed. -/
theorem stage0 : ∀ (w : Fin 2) (s : Fin (spec0 w).nbuf) (c : Dev nD), lv ((c : Thread nD τ), .dma ((spec0 w).sem s)) () = 0 := by decide
theorem stage1 : ∀ (w : Fin 3) (s : Fin (spec1 w).nbuf) (c : Dev nD), lv ((c : Thread nD τ), .dma ((spec1 w).sem s)) () = 0 := by decide
theorem stage2 : ∀ (w : Fin 4) (s : Fin (spec2 w).nbuf) (c : Dev nD), lv ((c : Thread nD τ), .dma ((spec2 w).sem s)) () = 0 := by decide
theorem stage3 : ∀ (w : Fin 3) (s : Fin (spec3 w).nbuf) (c : Dev nD), lv ((c : Thread nD τ), .dma ((spec3 w).sem s)) () = 0 := by decide

/-- Every buffer, some apart. -/
theorem held_apart (c : Dev nD) (T : Finset (DevRef τ sig)) (h : T ⊆ Pipeline.ucRefs τ sig) (V : Valuation τ sig (Elt F)) :
    (StableHlo.held (c : Thread nD τ) (Pipeline.ucRefs τ sig) V : sProp 𝕄)
      = iprop(StableHlo.held (c : Thread nD τ) T V ∗ StableHlo.held (c : Thread nD τ) (Pipeline.ucRefs τ sig \ T) V) := by
  unfold StableHlo.held
  exact bigSep_sdiff_split h
theorem held_same (c : Dev nD) (T : Finset (DevRef τ sig)) (V V' : Valuation τ sig (Elt F)) (h : ∀ b ∉ T, V b = V' b) :
    (StableHlo.held (c : Thread nD τ) (Pipeline.ucRefs τ sig \ T) V : sProp 𝕄) = StableHlo.held (c : Thread nD τ) (Pipeline.ucRefs τ sig \ T) V' := by
  unfold StableHlo.held
  exact bigSep_congr fun b hb => by rw [h b (Finset.mem_sdiff.mp hb).2]

end Cert.KernelIdeal.Talk

end
-- ==== Proof.Exchange.Region.lean ====
/-
The exchange of the assignments as a segment of the program: what it takes from the program's state, what it gives back.
-/
module

public import proofs.«01_k».proof.Proof.State

@[expose] public section

set_option maxRecDepth 16384

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Talk
open Cert.KernelIdeal.Gen

variable {F : FTy → Type} [FloatOps F]

local notation "𝕄" => MT nD τ sig Unit (Elt F) ℕ UU ℕ

variable (m : (ℓ : Loc nD τ sig) → Buf (Elt F) ℓ)

theorem osem_facts : Pipeline.OwnSemFacts spec0 osemX := by decide

/-- Into the call's invariant, -/
theorem enter (c : Dev nD) : (iprop(ajarX (X m) c ∗ Pipeline.prefHeld (pcfgs (F := F) 0).pre c (fun _ => fullShare) (adm m c 0).1 ∗ Pipeline.scopedRest spec0 c) : sProp 𝕄)
    ⊢ iprop(inv m c 0 ∗ Pipeline.scopedRest spec0 c) := by
  rw [show inv m c 0 = ajarX (X m) c from if_pos rfl]
  iintro ⟨HX, -, HS⟩
  isplitl [HX] <;> iassumption

/-- and out of it. -/
theorem leave (c : Dev nD) : (iprop(inv m c 1 ∗ Pipeline.scopedRest spec0 c) : sProp 𝕄)
    ⊢ iprop(semVal (barX c) 0 ∗ Pipeline.ownSems0 osemX c ∗ Pipeline.scopedRest spec0 c) := by
  rw [show inv m c 1 = iprop(semVal (barX c) 0 ∗ semVal (sendX c) 0 ∗ semVal (recvX c) 0) from if_neg (by decide), ownSemsX_eq]
  iintro ⟨⟨Hb, Hs⟩, HS⟩
  isplitl [Hb]; · iexact Hb
  isplitl [Hs] <;> iassumption

/-! ## The program's buffers -/

/-- The buffers the call touches, -/
def touched : Finset (DevRef τ sig) := {Proc.devRef .tc main_v5, Proc.devRef .tc main_v6}
theorem touched_sub : touched ⊆ Pipeline.ucRefs τ sig := by decide
theorem touched_eq (c : Dev nD) (V : Valuation τ sig (Elt F)) : (StableHlo.held (c : Thread nD τ) touched V : sProp 𝕄)
    = iprop(((c : Thread nD τ).loc main_v5 ↦{fullShare} V main_v5) ∗ ((c : Thread nD τ).loc main_v6 ↦{fullShare} V main_v6)) := by
  unfold StableHlo.held touched
  rw [bigSep_insert (by decide), bigSep_singleton]
  rfl

theorem rest_same (c : Dev nD) : (StableHlo.held (c : Thread nD τ) (Pipeline.ucRefs τ sig \ touched) (V1 m c) : sProp 𝕄)
    = StableHlo.held (c : Thread nD τ) (Pipeline.ucRefs τ sig \ touched) (V2 m (oE m) c) :=
  held_same c touched _ _ fun b hb => by
    unfold V2
    exact (Function.update_of_ne (fun e => hb (by rw [e]; decide)) ..).symm

theorem V2_out (c : Dev nD) : V2 m (oE m) c main_v6 = outE m c := by
  unfold V2; exact (Function.update_self ..).trans (oE_at m 2 c)
theorem V2_in (c : Dev nD) : V2 m (oE m) c main_v5 = X m c := by
  unfold V2; exact Function.update_of_ne (by decide) ..

theorem arrays_eq (c : Dev nD) (G : (w : Fin 2) → Buf (Elt F) (((spec0 w).arr.view.loc (c : Thread nD τ)))) :
    ((dat m c).toR.arrays G : sProp 𝕄)
      = iprop(((c : Thread nD τ).loc main_v5 ↦{fullShare} G 0) ∗ ((c : Thread nD τ).loc main_v6 ↦{fullShare} G 1)) := by
  have e : ((dat m c).toR.arrays G : sProp 𝕄) = bigSep Finset.univ fun w : Fin 2 =>
      ((spec0 w).arr.view.loc (c : Thread nD τ) ↦[Finset.univ]{(dat m c).toR.share w} G w) := by
    unfold Pipeline.RDat.arrays
    refine bigSep_congr fun w _ => ?_
    exact congrArg (fun S => (_ ↦[S]{_} G w : sProp 𝕄)) (arr_whole0 w).set_eq_univ
  rw [e, bigSep_W0]
  rfl

/-- The call's one point. -/
def only : Fin grid0.N := ⟨0, by decide⟩
/-- The one block of the result is all of it. -/
theorem emb1 (c : Dev nD) (t : Fin grid0.N) (i : S64x128.Idx) : (((cfgAt m c).win 1).blk t).view.emb i = i := by
  funext a
  refine Fin.ext ((Pipeline.Window.rect_emb_val (w := (cfgAt m c).win 1) t i a rfl).trans ?_)
  exact (congrArg (· + (i a).val) (Nat.zero_mul _)).trans (Nat.zero_add _)
theorem last_out (c : Dev nD) : (dat m c).arrAt 1 grid0.N = outE m c := by
  refine (dat m c).arrAt_eq_of_cover 1 _ (fun t _ => ?_) fun (i : S64x128.Idx) => ?_
  · funext y
    blk_simp
    revert y
    show ∀ y : S64x128.Idx, outE m c y = outE m c ((((cfgAt m c).win 1).blk t).view.emb y)
    intro y
    exact (congrArg (outE m c) (emb1 m c t y)).symm
  · refine ⟨only, ?_, ?_⟩
    · rfl
    · have h := (((cfgAt m c).win 1).blk only).view.emb_mem_set i
      exact (congrArg (· ∈ (((cfgAt m c).win 1).blk only).view.set) (emb1 m c only i)).mp h

theorem last_arrays (c : Dev nD) : ((dat m c).toR.arraysAt grid0.N : sProp 𝕄)
    = iprop(((c : Thread nD τ).loc main_v5 ↦{fullShare} X m c) ∗ ((c : Thread nD τ).loc main_v6 ↦{fullShare} outE m c)) := by
  rw [Dat.toR_arraysAt_eq]
  refine (arrays_eq m c _).trans ?_
  rw [show (dat m c).arrAt 0 grid0.N = X m c from (dat m c).arrAt_in 0 rfl _, last_out]

theorem may_wait (c : Dev nD) (w : Fin (cfgAt m c).W) (s : Fin ((cfgAt m c).win w).nbuf) (t : Fin ((cfgAt m c).N + 1)) :
    (levAts L lv : sProp 𝕄) ⊢ MayWait (c : Thread nD τ) (.dma (((cfgAt m c).win w).sem s)) () ((dat m c).toR.owed t) := by
  show _ ⊢ MayWait _ _ _ (owed c t.val)
  unfold owed
  split
  · exact may (above_OX c) c _ (stage0 w s c).le
  · exact may (above_O₀ c) c _ ((stage0 w s c).le.trans (Nat.zero_le _))

set_option backward.isDefEq.respectTransparency.types false in
/-- The call. -/
def reg : Pipeline.PerCore.RDat.RegionSeg (pcfgs (F := F)) (adm m) (rdats m) () defs₀ 𝒱₀ L lv 0 where
  win := winFacts0.to₀
  block_pos := block_pos0
  stage_whole := stage_whole0
  K := Fin 2
  osem := osemX
  ho := osem_facts
  hbody c := (body m c).toR
  hwaits c := by
    refine Pipeline.PerCore.RDat.cellsWaits_intro _ (rdats m) () 0 c fun w s t => ?_
    exact may_wait m c w s t
  pre c := iprop(StableHlo.held (c : Thread nD τ) (Pipeline.ucRefs τ sig) (V1 m c) ∗ outset m c)
  post c := iprop(StableHlo.held (c : Thread nD τ) (Pipeline.ucRefs τ sig) (V2 m (oE m) c) ∗ before m c)
  X c := ajarX (X m) c
  Y c := semVal (barX c) 0
  Z c := iprop(StableHlo.held (c : Thread nD τ) (Pipeline.ucRefs τ sig \ touched) (V1 m c) ∗ gear (sent m) 0 c ∗ gear (sent m) 1 c)
  hentry c := by
    rw [held_apart c touched touched_sub, touched_eq]
    unfold outset
    iintro ⟨⟨⟨⟨H5, H6⟩, HZ⟩, HG, HG', HO⟩, Hos, #Hlev⟩
    imod (open_allX (X m) c) $$ [HG Hos] with HX
    · isplitl [HG]; · iexact HG
      isplitl [Hos]; · iexact Hos
      iexact Hlev
    imodintro
    isplitl [H5 H6]
    · ihave H := (Entails.of_eq (arrays_eq m c (dat m c).toR.A).symm) $$ [H5 H6]
      · isplitl [H5]; · iexact H5
        iexact H6
      iexact H
    isplitr
    · unfold Pipeline.prefHeld
      iapply (show (BI.emp : sProp 𝕄) ⊢ _ from Entails.of_eq (BI.bigSep_empty (I := Fin 0)).symm)
      iempintro
    isplitl [HO]; · iapply (owesAt_intro (dat m c) 0 (OX c) (show owed c 0 = OX c from if_pos rfl) rfl); iexact HO
    isplitl [HX]; · iexact HX
    isplitl [HZ]; · iexact HZ
    iexact HG'
  hin c := enter m c
  hout c := leave m c
  hexit c := by
    rw [held_apart c touched touched_sub, touched_eq, V2_out, V2_in, ← rest_same]
    unfold before kept
    iintro ⟨HA, HO, Hb, HZ, HG0, HG1⟩
    ihave HA := (show (rdats m 0 c).arraysAt (Pipeline.pinD (pcfgs (F := F)) (adm m) c 0).N ⊢ _ from Entails.of_eq (last_arrays m c)) $$ HA
    icases HA with ⟨H5, H6⟩
    ihave HO := (show (rdats m 0 c).owesAt () (Fin.last (Pipeline.pinD (pcfgs (F := F)) (adm m) c 0).N) ⊢ (ow c (O₀ c) : sProp 𝕄) from
      owesAt_elim (dat m c) (Fin.last grid0.N) (O₀ c) (show owed c 1 = O₀ c from if_neg (by decide))) $$ HO
    imodintro
    isplitl [H5 H6 HZ]
    · isplitl [H5 H6]
      · isplitl [H5] <;> iassumption
      iexact HZ
    isplitl [HG0]; · iexact HG0
    isplitl [HG1 Hb]
    · isplitl [HG1] <;> iassumption
    iexact HO

end Cert.KernelIdeal.Exch

end
-- ==== Proof.Result.lean ====
/-
The program's result over the extended reals: on every device, its tokens' rows of the reference's result.
-/
module

public import proofs.«01_k».proof.Proof.Collapse
public import proofs.«01_k».proof.Proof.Reads
public import proofs.«01_k».proof.Proof.Exchange.Region
public import Idealize.ShloMosaic.Lib.Layout

@[expose] public section

set_option maxRecDepth 16384

noncomputable section

namespace Cert.Values.Join

open Idealize.ShloMosaic Idealize.ShloMosaic.TcCoe
open Idealize.SL.Sem
open Cert.KernelIdeal hiding ix1 ix3
open Cert.KernelIdeal.Talk
open Cert.KernelIdeal.Gen
open Cert.Values.Core

variable (m : (ℓ : Loc nD τ sig) → Buf (Elt Ideal) ℓ)

/-- The last host operation changes a format only. -/
theorem last_at (V : Valuation τ sig (Elt Ideal)) : (StableHlo.after hostOps4 V main_v39 : (⟨S4096x2048, .f32⟩ : BufTy).Contents (Elt Ideal))
    = extf (F := Ideal) .f32 (V main_v38 : (⟨S4096x2048, .bf16⟩ : BufTy).Contents (Elt Ideal)) bitsLt_bf16_f32 := by
  after_reads_at
theorem out_at (c : Dev nD) (i : S4096x2048.Idx) :
    (V11 m (outs m) c main_v39 : (⟨S4096x2048, .f32⟩ : BufTy).Contents (Elt Ideal)) i = (outS m c : (⟨S4096x2048, .bf16⟩ : BufTy).Contents (Elt Ideal)) i := by
  have e : W8 m c main_v38 = outS m c := W8_out m c
  unfold V11
  rw [last_at, ← W8_eq, e]
  generalize outS m c = o
  rfl

variable (x0 : FVec Ideal Cert.ReferenceIdeal.S8192x2048 .bf16) (x1 : IVec Cert.ReferenceIdeal.S8192 32)
  (x2 : FVec Ideal Cert.ReferenceIdeal.S8x2048x4096 .bf16) (x3 : FVec Ideal Cert.ReferenceIdeal.S8x4096x2048 .bf16)

/-- The devices' arrays are parts of the whole arrays. -/
structure Given (c : Dev nD) : Prop where
  x : m ((c : Thread nD τ).loc main_arg0) = Layout.blockN ⟨2, ![4096, 2048]⟩ ⟨2, ![8192, 2048]⟩ (Layout.meshBlock [2, 2, 2] ![[1], []] c) x0
  a : m ((c : Thread nD τ).loc main_arg1) = Layout.blockN ⟨1, ![4096]⟩ ⟨1, ![8192]⟩ (Layout.meshBlock [2, 2, 2] ![[1]] c) x1
  w1 : m ((c : Thread nD τ).loc main_arg2) = Layout.blockN ⟨3, ![4, 2048, 4096]⟩ ⟨3, ![8, 2048, 4096]⟩ (Layout.meshBlock [2, 2, 2] ![[1], [], []] c) x2
  w2 : m ((c : Thread nD τ).loc main_arg3) = Layout.blockN ⟨3, ![4, 4096, 2048]⟩ ⟨3, ![8, 4096, 2048]⟩ (Layout.meshBlock [2, 2, 2] ![[1], [], []] c) x3

theorem row0 : ∀ c : Dev nD, ((Layout.meshBlock [2, 2, 2] ![[1], []] c : (b : Fin 2) → Fin _) 0).val * 4096 = yOf c * 4096 := by decide +kernel
theorem tok0 : ∀ c : Dev nD, ((Layout.meshBlock [2, 2, 2] ![[1]] c : (b : Fin 1) → Fin _) 0).val * 4096 = yOf c * 4096 := by decide +kernel
theorem row1 : ∀ c : Dev nD, ((Layout.meshBlock [2, 2, 2] ![[1], []] c : (b : Fin 2) → Fin _) 1).val * 2048 = 0 := by decide +kernel
theorem mat0 : ∀ c : Dev nD, ((Layout.meshBlock [2, 2, 2] ![[1], [], []] c : (b : Fin 3) → Fin _) 0).val * 4 = 4 * yOf c := by decide +kernel
theorem mat1 : ∀ c : Dev nD, ((Layout.meshBlock [2, 2, 2] ![[1], [], []] c : (b : Fin 3) → Fin _) 1).val = 0 := by decide +kernel
theorem mat2 : ∀ c : Dev nD, ((Layout.meshBlock [2, 2, 2] ![[1], [], []] c : (b : Fin 3) → Fin _) 2).val = 0 := by decide +kernel

theorem xs_fin (t : Fin 8192) (d : Fin 2048) : xs x0 t.val d = x0 (ix2 t d) := dif_pos t.isLt
theorem w1s_fin (e : Fin 8) (d : Fin 2048) (f : Fin 4096) : w1s x2 e.val d f.val = x2 (Idealize.ShloMosaic.ix3 e d f) := dif_pos ⟨e.isLt, f.isLt⟩
theorem w2s_fin (e : Fin 8) (f : Fin 4096) (d : Fin 2048) : w2s x3 e.val f.val d = x3 (Idealize.ShloMosaic.ix3 e f d) := dif_pos ⟨e.isLt, f.isLt⟩

/-- A row of a device among all rows. -/
def rowOf (c : Dev nD) (R : Fin 4096) : Fin 8192 := ⟨yOf c * 4096 + R.val, by have := y_lt c; have := R.isLt; omega⟩
theorem row_at (c : Dev nD) (R : Fin 4096) (d : Fin 2048) {t : FTy} (v : FVec Ideal Cert.ReferenceIdeal.S8192x2048 t) :
    (Layout.blockN ⟨2, ![4096, 2048]⟩ ⟨2, ![8192, 2048]⟩ (Layout.meshBlock [2, 2, 2] ![[1], []] c) v) (ix2 R d) = v (ix2 (rowOf c R) d) := by
  rw [Layout.blockN_apply]
  refine congrArg v (funext fun b => Fin.ext ?_)
  rw [Layout.TilesN.idx_val]
  match b with
  | ⟨0, _⟩ => exact congrArg (· + R.val) (row0 c)
  | ⟨1, _⟩ => exact (congrArg (· + d.val) (row1 c)).trans (Nat.zero_add _)
/-- An expert of a device among all experts. -/
def expOf (c : Dev nD) (e : Fin 4) : Fin 8 := ⟨4 * yOf c + e.val, by have := y_lt c; have := e.isLt; omega⟩
theorem mat1_at (c : Dev nD) (e : Fin 4) (i : Fin 2048) (j : Fin 4096) (v : FVec Ideal ⟨3, ![8, 2048, 4096]⟩ .bf16) :
    (Layout.blockN ⟨3, ![4, 2048, 4096]⟩ ⟨3, ![8, 2048, 4096]⟩ (Layout.meshBlock [2, 2, 2] ![[1], [], []] c) v) (Idealize.ShloMosaic.ix3 e i j) = v (Idealize.ShloMosaic.ix3 (expOf c e) i j) := by
  rw [Layout.blockN_apply]
  refine congrArg v (funext fun b => Fin.ext ?_)
  rw [Layout.TilesN.idx_val]
  match b with
  | ⟨0, _⟩ => exact congrArg (· + e.val) (mat0 c)
  | ⟨1, _⟩ => exact (congrArg (· * 2048 + i.val) (mat1 c)).trans (by show 0 * 2048 + i.val = i.val; omega)
  | ⟨2, _⟩ => exact (congrArg (· * 4096 + j.val) (mat2 c)).trans (by show 0 * 4096 + j.val = j.val; omega)
theorem mat2_at (c : Dev nD) (e : Fin 4) (i : Fin 4096) (j : Fin 2048) (v : FVec Ideal ⟨3, ![8, 4096, 2048]⟩ .bf16) :
    (Layout.blockN ⟨3, ![4, 4096, 2048]⟩ ⟨3, ![8, 4096, 2048]⟩ (Layout.meshBlock [2, 2, 2] ![[1], [], []] c) v) (Idealize.ShloMosaic.ix3 e i j) = v (Idealize.ShloMosaic.ix3 (expOf c e) i j) := by
  rw [Layout.blockN_apply]
  refine congrArg v (funext fun b => Fin.ext ?_)
  rw [Layout.TilesN.idx_val]
  match b with
  | ⟨0, _⟩ => exact congrArg (· + e.val) (mat0 c)
  | ⟨1, _⟩ => exact (congrArg (· * 4096 + i.val) (mat1 c)).trans (by show 0 * 4096 + i.val = i.val; omega)
  | ⟨2, _⟩ => exact (congrArg (· * 2048 + j.val) (mat2 c)).trans (by show 0 * 2048 + j.val = j.val; omega)

variable {m x0 x1 x2 x3}

/-- The tokens' experts as a list. -/
def list (x1 : IVec Cert.ReferenceIdeal.S8192 32) (t : Fin 8192) : BitVec 32 := x1 (Idealize.ShloMosaic.ix1 t)

/-- A device's own tokens' experts among all. -/
theorem tok_at (c : Dev nD) (R : Fin 4096) (v : IVec Cert.ReferenceIdeal.S8192 32) :
    (Layout.blockN ⟨1, ![4096]⟩ ⟨1, ![8192]⟩ (Layout.meshBlock [2, 2, 2] ![[1]] c) v) (Idealize.ShloMosaic.ix1 R) = v (Idealize.ShloMosaic.ix1 (rowOf c R)) := by
  rw [Layout.blockN_apply]
  refine congrArg v (funext fun b => Fin.ext ?_)
  rw [Layout.TilesN.idx_val]
  match b with
  | ⟨0, _⟩ => exact congrArg (· + R.val) (tok0 c)

/-- What a device sends of them, row by row. -/
theorem part_at (d : Dev nD) (r : Fin 32) (q : Fin 128) :
    X m d (ix2 r q) = (m ((d : Thread nD τ).loc main_arg1) : (⟨S4096, .i32⟩ : BufTy).Contents (Elt Ideal)) (Idealize.ShloMosaic.ix1 ⟨r.val * 128 + q.val, by have := r.isLt; have := q.isLt; omega⟩) := by
  unfold X V1
  after_reads_at

theorem dev_y : ∀ (c : Dev nD) (h : Fin 2), yOf (devAt c h.val) = h.val := by decide

/-- After the exchange every device has all of them. -/
theorem listed_eq (c : Dev nD) (H : ∀ c, Given m x0 x1 x2 x3 c) : Host_.listed m c = list x1 := by
  funext t
  have h8 := t.isLt
  have e : Host_.listed m c t = X m (devAt c (t.val / 128 / 32)) (ix2 (⟨t.val / 128 % 32, Nat.mod_lt _ (by decide)⟩ : Fin 32) (⟨t.val % 128, Nat.mod_lt _ (by decide)⟩ : Fin 128)) := by
    have h : ∀ i : S64x128.Idx, (V2 m (oE m) c main_v6 : (⟨S64x128, .i32⟩ : BufTy).Contents (Elt Ideal)) i = stack (X m) c i :=
      fun i => congrFun (Exch.V2_out m c) i
    exact h _
  rw [e, part_at, (H _).a, tok_at]
  unfold list
  refine congrArg (fun i : Fin 8192 => x1 (Idealize.ShloMosaic.ix1 i)) (Fin.ext ?_)
  show yOf (devAt c (t.val / 128 / 32)) * 4096 + (t.val / 128 % 32 * 128 + t.val % 128) = t.val
  rw [show yOf (devAt c (t.val / 128 / 32)) = t.val / 128 / 32 from dev_y c ⟨t.val / 128 / 32, by omega⟩]
  omega

theorem holds (c : Dev nD) (H : ∀ c, Given m x0 x1 x2 x3 c) : Holds m (rk (list x1)) (st (list x1)) (xs x0) (w1s x2) (w2s x3) c where
  rk t := by rw [Host_.rank_at, listed_eq c H, rk_fin]
  st j := by rw [Host_.seg_at, listed_eq c H]; rfl
  x r d := by
    rw [Host_.arg0_at, (H c).x, row_at]
    exact (xs_fin x0 (rowOf c r) d).symm
  w1 e d f := by
    rw [Host_.arg2_at, (H c).w1, mat1_at]
    exact (w1s_fin x2 (expOf c e) d f).symm
  w2 e f d := by
    rw [Host_.arg3_at, (H c).w2, mat2_at]
    exact (w2s_fin x3 (expOf c e) f d).symm

/-- The experts' rows on each device. -/
theorem mid_at (H : ∀ c, Given m x0 x1 x2 x3 c) (c : Dev nD) (e : Fin 4) (k : Fin 1152) (d : Fin 2048) :
    (outM m c : (⟨S4x1152x2048, .bf16⟩ : BufTy).Contents (Elt Ideal)) (Idealize.ShloMosaic.ix3 e k d) = rows (list x1) x0 x2 x3 (4 * yOf c + e.val) k d := by
  unfold outM
  rw [Cert.Values.Moe.final_eq]
  exact Cert.Values.Moe.whole_val c (holds c H) (Cert.Values.Gather.whole_val (fun c => holds c H) c) e k d

/-- The result. -/
theorem result_at (H : ∀ c, Given m x0 x1 x2 x3 c) (fit : ∀ e : Fin 8, (Finset.univ.filter fun t : Fin 8192 => (list x1 t).toInt = (e.val : Int)).card ≤ 1152)
    (c : Dev nD) : (V11 m (outs m) c main_v39 : (⟨S4096x2048, .f32⟩ : BufTy).Contents (Elt Ideal))
      = Layout.blockN ⟨2, ![4096, 2048]⟩ ⟨2, ![8192, 2048]⟩ (Layout.meshBlock [2, 2, 2] ![[1], []] c) (Cert.ReferenceIdeal.Read.val_main_v99 (F := Ideal) x0 x1 x2 x3) := by
  funext i
  obtain ⟨R, d, rfl⟩ : ∃ (R : Fin 4096) (d : Fin 2048), i = ix2 R d := ⟨i 0, i 1, funext fun b => by
    match b with
    | ⟨0, _⟩ => rfl
    | ⟨1, _⟩ => rfl⟩
  refine (out_at m c _).trans (Eq.trans ?_ (row_at c R d (t := .f32) _).symm)
  unfold outS
  rw [Cert.Values.Scatter.final_eq]
  refine (Cert.Values.Scatter.whole_val (fun c => holds c H) (mid_at H) c R d).trans ?_
  exact collapse (list x1) x0 x1 x2 x3 (fun _ => rfl) fit (rowOf c R) d

end Cert.Values.Join

end
-- ==== Proof.Exchange.Launch.lean ====
/-
The cells and tokens of the exchange of the assignments at launch: dealt out to the devices.
-/
module

public import proofs.«01_k».proof.Proof.Exchange.Proto

@[expose] public section

set_option maxRecDepth 16384

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Talk
open Cert.KernelIdeal.Gen

variable {F : FTy → Type} [FloatOps F]

local notation "𝕄" => MT nD τ sig Unit (Elt F) ℕ UU ℕ

theorem osemX_ne_bar : ∀ k : Fin 2, osemX k ≠ semX 0 := by decide
theorem osemX_inj : ∀ j k : Fin 2, osemX j = osemX k → j = k := by decide

def barAt : Dev nD ↪ GSem nD τ sig := ⟨barX, fun _ _ h => congrArg (fun g : GSem nD τ sig => g.1.1) h⟩
def ownAt : Dev nD × Fin 2 ↪ GSem nD τ sig :=
  ⟨fun x => ((x.1 : Thread nD τ), osemX x.2), fun _ _ h =>
    Prod.ext (congrArg (fun g : GSem nD τ sig => g.1.1) h) (osemX_inj _ _ (congrArg Prod.snd h))⟩

/-- The barriers' cells, and the transfers'. -/
abbrev barCells : Finset (GSem nD τ sig) := Finset.univ.map barAt
abbrev ownCells : Finset (GSem nD τ sig) := Finset.univ.map ownAt

theorem cells_apart : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact osemX_ne_bar x.2 (congrArg Prod.snd h)

/-- One token for every cell. -/
def tokens : Finset (GSem nD τ sig × ℕ × Unit) :=
  (barCells ∪ ownCells).map ⟨fun g => (g, 0, ()), fun _ _ h => congrArg Prod.fst h⟩

theorem bar_in (c : Dev nD) : barX c ∈ (barCells ∪ ownCells : Finset (GSem nD τ sig)) :=
  Finset.mem_union_left _ (Finset.mem_map_of_mem barAt (Finset.mem_univ c))
theorem send_in (c : Dev nD) : sendX c ∈ (barCells ∪ ownCells : Finset (GSem nD τ sig)) :=
  Finset.mem_union_right _ (Finset.mem_map_of_mem ownAt (Finset.mem_univ (c, (0 : Fin 2))))
theorem recv_in (c : Dev nD) : recvX c ∈ (barCells ∪ ownCells : Finset (GSem nD τ sig)) :=
  Finset.mem_union_right _ (Finset.mem_map_of_mem ownAt (Finset.mem_univ (c, (1 : Fin 2))))

/-- A resource of every device. -/
abbrev each (P : Dev nD → sProp 𝕄) : sProp 𝕄 := bigSep Finset.univ P
theorem each_sep (P Q : Dev nD → sProp 𝕄) : each (fun a => iprop(P a ∗ Q a)) = iprop(each P ∗ each Q) := bigSep_sep' _ _ _

theorem own_split (P : GSem nD τ sig → sProp 𝕄) : bigSep ownCells P = each fun c => iprop(P (sendX c) ∗ P (recvX c)) := by
  rw [bigSep_map, bigSep_univ_prod]
  refine bigSep_congr fun c _ => ?_
  rw [BI.bigSep_fin_two]
  rfl
theorem bar_split (P : GSem nD τ sig → sProp 𝕄) : bigSep barCells P = each fun c => P (barX c) := bigSep_map ..

/-- The tokens a device pays with: its partner's barrier and receive tokens, its own send token. -/
def pays (c : Dev nD) : sProp 𝕄 :=
  iprop(dutyTok EX (barX (pr c)) 0 () ∗ dutyTok EX (sendX c) 0 () ∗ dutyTok EX (recvX (pr c)) 0 ())

theorem tokens_dealt : bigSep tokens (fun x => (dutyTok EX x.1 x.2.1 x.2.2 : sProp 𝕄)) ⊢ each fun c => (pays c : sProp 𝕄) := by
  have e : bigSep tokens (fun x => (dutyTok EX x.1 x.2.1 x.2.2 : sProp 𝕄))
      = iprop((each fun c => (dutyTok EX (barX c) 0 () : sProp 𝕄)) ∗ each fun c => iprop(dutyTok EX (sendX c) 0 () ∗ dutyTok EX (recvX c) 0 ())) := by
    unfold tokens
    rw [bigSep_map, bigSep_union cells_apart]
    exact congr (congrArg _ (bar_split fun g => (dutyTok EX g 0 () : sProp 𝕄))) (own_split fun g => (dutyTok EX g 0 () : sProp 𝕄))
  unfold pays
  rw [e, each_sep, each_sep, each_sep]
  unfold each
  rw [bigSep_univ_equiv swap (fun c : Dev nD => (dutyTok EX (barX c) 0 () : sProp 𝕄)),
    bigSep_univ_equiv swap (fun c : Dev nD => (dutyTok EX (recvX c) 0 () : sProp 𝕄))]
  exact BI.Entails.refl _

/-- What a device is owed. -/
def dues (c : Dev nD) : sProp 𝕄 := iprop(cred (tallyAt (barX c) () 1) ∗ cred (tallyAt (recvX c) () NX))
/-- What of the set-up a device keeps to itself. -/
def keeps (c : Dev nD) : sProp 𝕄 :=
  iprop(atPos EX (barX c) 0 ∅ 0 ∗ (openTok EX (sendX c) ∗ openTok EX (recvX c)) ∗ pays c)

variable (x : Dev nD → Vec F S32x128 .i32)

/-- The invariants of all cells, and that the barriers are in their first round. -/
def records (κ : GSem nD τ sig → ℕ) : sProp 𝕄 :=
  iprop((bigSep (barCells ∪ ownCells) fun g => cellInv EX (rx x) (κ g) g) ∗ bigSep barCells fun g => reached EX g 0)
instance records_persistent (κ : GSem nD τ sig → ℕ) : BI.Persistent (records x κ) := by unfold records; infer_instance

theorem record_at (κ : GSem nD τ sig → ℕ) {g : GSem nD τ sig} (hg : g ∈ (barCells ∪ ownCells : Finset (GSem nD τ sig))) :
    (bigSep (barCells ∪ ownCells) fun g => (cellInv EX (rx x) (κ g) g : sProp 𝕄)) ⊢ cellInv EX (rx x) (κ g) g := bigSep_elim hg

theorem gear_intro (κ : GSem nD τ sig → ℕ) (c : Dev nD) : iprop(records x κ ∗ keeps c ∗ dues c) ⊢ (gearX x c : sProp 𝕄) := by
  unfold records keeps gearX barrierX pays openingX dues cellsX
  iintro ⟨⟨#HI, #HR⟩, ⟨Ha, ⟨Hs, Hr⟩, Hb, Ht, Ht'⟩, Hc, Hc'⟩
  iexists κ
  isplitr
  · isplitr; · iapply (record_at x κ (bar_in c)); iexact HI
    isplitr; · iapply (record_at x κ (bar_in (pr c))); iexact HI
    isplitr; · iapply (record_at x κ (send_in c)); iexact HI
    isplitr; · iapply (record_at x κ (recv_in c)); iexact HI
    iapply (record_at x κ (recv_in (pr c))); iexact HI
  isplitl [Ha Hc Hb]
  · isplitl [Ha]; · iexact Ha
    isplitl [Hc]; · iexact Hc
    isplitl [Hb]; · iexact Hb
    iapply (show (bigSep barCells fun g => (reached EX g 0 : sProp 𝕄)) ⊢ reached EX (barX (pr c)) 0 from
      bigSep_elim (Finset.mem_map_of_mem barAt (Finset.mem_univ (pr c))))
    iexact HR
  isplitl [Ht]; · iexact Ht
  isplitl [Ht']; · iexact Ht'
  isplitl [Hs]; · iexact Hs
  isplitl [Hr]; · iexact Hr
  iexact Hc'

/-- Setting up. -/
theorem fund : iprop((each fun c => semVal (barX c) 0) ∗ BI.own (EX (launchOf barCells ownCells tokens)))
    ⊢ (|={Set.univ}=> ∃ κ : GSem nD τ sig → ℕ, records x κ ∗ each keeps : sProp 𝕄) := by
  iintro ⟨Hv, Hu⟩
  imod (Rounds.fund_launch EX (rx x) cells_apart (fun g _ h => h) tokens) $$ [Hv Hu] with ⟨%κ, -, #Hinv, #Hr, Hat, Hopen, Htok⟩
  · isplitl [Hv]
    · iapply (Entails.of_eq (bar_split (fun g => (semVal g 0 : sProp 𝕄))).symm) $$ Hv
    · iexact Hu
  imodintro
  iexists κ
  isplitr
  · unfold records
    isplitr; · iexact Hinv
    iexact Hr
  ihave K := (show iprop((each fun c => atPos EX (barX c) 0 ∅ 0) ∗ (each fun c => iprop(openTok EX (sendX c) ∗ openTok EX (recvX c))) ∗ each pays)
      ⊢ (each keeps : sProp 𝕄) from by
    rw [← each_sep, ← each_sep]
    exact BI.Entails.refl _) $$ [Hat Hopen Htok]
  · isplitl [Hat]; · iapply (Entails.of_eq (bar_split (fun g => (atPos EX g 0 ∅ 0 : sProp 𝕄)))) $$ Hat
    isplitl [Hopen]; · iapply (Entails.of_eq (own_split (fun g => (openTok EX g : sProp 𝕄)))) $$ Hopen
    iapply tokens_dealt $$ Htok
  iexact K

end Cert.KernelIdeal.Exch

end
-- ==== Proof.Launch.lean ====
/-
The exchanges' cells, tokens and debts at launch: dealt out to the devices.
-/
module

public import proofs.«01_k».proof.Proof.State
public import proofs.«01_k».proof.Proof.Exchange.Launch

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

theorem osem_ne_bar (a b : Fin 2) (x : Fin 2 × Fin 4) : osem a x ≠ .reg (barS b) := by revert a b x; decide
theorem osem_inj : ∀ a b x y, osem a x = osem b y → a = b ∧ x = y := by decide
theorem barS_inj : ∀ a b, barS a = barS b → a = b := by decide

def barAt : Dev nD × Fin 2 ↪ GSem nD τ sig := ⟨fun x => barCell x.2 x.1, fun _ _ h =>
  Prod.ext (congrArg (fun g : GSem nD τ sig => g.1.1) h) (barS_inj _ _ (SemLoc.reg.inj (congrArg Prod.snd h)))⟩
def ownAt : Dev nD × Fin 2 × Fin 2 × Fin 4 ↪ GSem nD τ sig :=
  ⟨fun x => ((x.1 : Thread nD τ), osem x.2.1 x.2.2), fun _ _ h =>
    Prod.ext (congrArg (fun g : GSem nD τ sig => g.1.1) h) (Prod.ext (osem_inj _ _ _ _ (congrArg Prod.snd h)).1 (osem_inj _ _ _ _ (congrArg Prod.snd h)).2)⟩

/-- The barriers' cells, and the transfers'. -/
abbrev barCells : Finset (GSem nD τ sig) := Finset.univ.map barAt
abbrev ownCells : Finset (GSem nD τ sig) := Finset.univ.map ownAt

theorem cells_apart : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact osem_ne_bar _ _ x.2.2 (congrArg Prod.snd h)

/-- One token for every cell. -/
def tokens : Finset (GSem nD τ sig × ℕ × Unit) :=
  (barCells ∪ ownCells).map ⟨fun g => (g, 0, ()), fun _ _ h => congrArg Prod.fst h⟩

theorem bar_in (a : Fin 2) (c : Dev nD) : barCell a c ∈ (barCells ∪ ownCells : Finset (GSem nD τ sig)) :=
  Finset.mem_union_left _ (Finset.mem_map_of_mem barAt (Finset.mem_univ (c, a)))
theorem send_in (a : Fin 2) (c : Dev nD) (k : Fin 4) : sendCell a c k ∈ (barCells ∪ ownCells : Finset (GSem nD τ sig)) :=
  Finset.mem_union_right _ (Finset.mem_map_of_mem ownAt (Finset.mem_univ (c, a, (0 : Fin 2), k)))
theorem recv_in (a : Fin 2) (c : Dev nD) (k : Fin 4) : recvCell a c k ∈ (barCells ∪ ownCells : Finset (GSem nD τ sig)) :=
  Finset.mem_union_right _ (Finset.mem_map_of_mem ownAt (Finset.mem_univ (c, a, (1 : Fin 2), k)))

/-- A resource of both exchanges of tokens. -/
abbrev both (P : Fin 2 → sProp 𝕄) : sProp 𝕄 := bigSep Finset.univ P
/-- A resource of every device. -/
abbrev all (P : Dev nD → sProp 𝕄) : sProp 𝕄 := bigSep Finset.univ P

/-- A resource of every transfer's cell, device by device. -/
theorem own_split (P : GSem nD τ sig → sProp 𝕄) :
    bigSep ownCells P = all fun c => both fun a => iprop(four (fun k => P (sendCell a c k)) ∗ four (fun k => P (recvCell a c k))) := by
  rw [bigSep_map, bigSep_univ_prod]
  refine bigSep_congr fun c _ => ?_
  rw [bigSep_univ_prod]
  refine bigSep_congr fun a _ => ?_
  rw [bigSep_univ_prod, BI.bigSep_fin_two, ← four_eq, ← four_eq]
  rfl
/-- The same of the barriers'. -/
theorem bar_split (P : GSem nD τ sig → sProp 𝕄) : bigSep barCells P = all fun c => both fun a => P (barCell a c) := by
  rw [bigSep_map, bigSep_univ_prod]
  rfl

/-- The tokens a device pays with: its partner's barrier token and receive tokens, its own send tokens. -/
def pays (a : Fin 2) (c : Dev nD) : sProp 𝕄 :=
  iprop(dutyTok ER (barCell a (pr c)) 0 () ∗ four (fun k => dutyTok ER (sendCell a c k) 0 ()) ∗ four (fun k => dutyTok ER (recvCell a (pr c) k) 0 ()))

theorem both_eq (P : Fin 2 → sProp 𝕄) : both P = iprop(P 0 ∗ P 1) := BI.bigSep_fin_two P
theorem both_sep (P Q : Fin 2 → sProp 𝕄) : both (fun a => iprop(P a ∗ Q a)) = iprop(both P ∗ both Q) := bigSep_sep' _ _ _
theorem all_sep (P Q : Dev nD → sProp 𝕄) : all (fun a => iprop(P a ∗ Q a)) = iprop(all P ∗ all Q) := bigSep_sep' _ _ _

theorem tokens_dealt : bigSep tokens (fun x => (dutyTok ER x.1 x.2.1 x.2.2 : sProp 𝕄)) ⊢ all fun c => both fun a => (pays a c : sProp 𝕄) := by
  have e : bigSep tokens (fun x => (dutyTok ER x.1 x.2.1 x.2.2 : sProp 𝕄))
      = iprop((all fun c => both fun a => (dutyTok ER (barCell a c) 0 () : sProp 𝕄))
        ∗ all fun c => both fun a => iprop(four (fun k => dutyTok ER (sendCell a c k) 0 ()) ∗ four (fun k => dutyTok ER (recvCell a c k) 0 ()))) := by
    unfold tokens
    rw [bigSep_map, bigSep_union cells_apart]
    exact congr (congrArg _ (bar_split fun g => (dutyTok ER g 0 () : sProp 𝕄))) (own_split fun g => (dutyTok ER g 0 () : sProp 𝕄))
  have p : (all fun c => both fun a => (pays a c : sProp 𝕄))
      = iprop((all fun c => both fun a => (dutyTok ER (barCell a (pr c)) 0 () : sProp 𝕄))
        ∗ (all fun c => both fun a => four (fun k => (dutyTok ER (sendCell a c k) 0 () : sProp 𝕄)))
        ∗ all fun c => both fun a => four (fun k => (dutyTok ER (recvCell a (pr c) k) 0 () : sProp 𝕄))) := by
    unfold pays
    rw [← all_sep, ← all_sep]
    refine bigSep_congr fun c _ => ?_
    rw [both_sep, both_sep]
  have q : (all fun c => both fun a => iprop(four (fun k => dutyTok ER (sendCell a c k) 0 ()) ∗ four (fun k => (dutyTok ER (recvCell a c k) 0 () : sProp 𝕄))))
      = iprop((all fun c => both fun a => four (fun k => (dutyTok ER (sendCell a c k) 0 () : sProp 𝕄)))
        ∗ all fun c => both fun a => four (fun k => (dutyTok ER (recvCell a c k) 0 () : sProp 𝕄))) := by
    rw [← all_sep]
    exact bigSep_congr fun c _ => both_sep _ _
  rw [e, p, q]
  unfold all
  rw [bigSep_univ_equiv swap (fun c : Dev nD => (both fun a => (dutyTok ER (barCell a c) 0 () : sProp 𝕄))),
    bigSep_univ_equiv swap (fun c : Dev nD => (both fun a => four (fun k => (dutyTok ER (recvCell a c k) 0 () : sProp 𝕄))))]
  exact BI.Entails.refl _

/-! ## What is owed at launch is what is expected -/

/-- What one of a partner's cells is owed, as a number at a semaphore. -/
def one (s : SemLoc sig) (n : ℕ) (sm : SemLoc sig) : ℕ := if s = sm then n else 0
/-- What the gather's and the scatter's are, -/
def due₀ (sm : SemLoc sig) : ℕ :=
  one (.dma (recvS 1 0)) N sm + one (.dma (recvS 1 1)) N sm + one (.dma (recvS 1 2)) N sm + one (.dma (recvS 1 3)) N sm + one (.reg (barS 1)) 1 sm
    + one (.dma (recvS 0 3)) N sm + one (.dma (recvS 0 2)) N sm + one (.dma (recvS 0 1)) N sm + one (.dma (recvS 0 0)) N sm + one (.reg (barS 0)) 1 sm

/-- and all. -/
def due (sm : SemLoc sig) : ℕ := due₀ sm + one (.dma 3) Exch.NX sm + one (.reg 0) 1 sm

theorem tally_one (d c : Dev nD) (s sm : SemLoc sig) (n : ℕ) :
    (tallyAt ((pr d : Thread nD τ), s) () n : CellTallies nD τ sig Unit) ((c : Thread nD τ), sm) () = if d = pr c then one s n sm else 0 := by
  rw [tallyAt_apply]
  unfold one
  by_cases h : d = pr c
  · subst h
    rw [pr_pr, if_pos rfl]
    by_cases h' : s = sm
    · rw [h', if_pos ⟨rfl, rfl⟩, if_pos rfl]
    · rw [if_neg (fun hh => h' (congrArg Prod.snd hh.1).symm), if_neg h']
  · rw [if_neg (fun hh => h (by rw [← pr_pr d]; exact congrArg pr (congrArg (fun g : GSem nD τ sig => g.1.1) hh.1).symm)), if_neg h]

theorem owed₀_at (d c : Dev nD) (sm : SemLoc sig) : O₀ d ((c : Thread nD τ), sm) () = if d = pr c then due₀ sm else 0 := by
  have e : O₀ d ((c : Thread nD τ), sm) () = o d 0 0 ((c : Thread nD τ), sm) () + o d 0 1 ((c : Thread nD τ), sm) () + o d 0 2 ((c : Thread nD τ), sm) ()
      + o d 0 3 ((c : Thread nD τ), sm) () + (tallyAt (barCell 1 (pr d)) () 1 : CellTallies nD τ sig Unit) ((c : Thread nD τ), sm) ()
      + (tallyAt (recvCell 0 (pr d) 3) () N : CellTallies nD τ sig Unit) ((c : Thread nD τ), sm) ()
      + (tallyAt (recvCell 0 (pr d) 2) () N : CellTallies nD τ sig Unit) ((c : Thread nD τ), sm) ()
      + (tallyAt (recvCell 0 (pr d) 1) () N : CellTallies nD τ sig Unit) ((c : Thread nD τ), sm) ()
      + (tallyAt (recvCell 0 (pr d) 0) () N : CellTallies nD τ sig Unit) ((c : Thread nD τ), sm) ()
      + (tallyAt (barCell 0 (pr d)) () 1 : CellTallies nD τ sig Unit) ((c : Thread nD τ), sm) () := rfl
  have ho : ∀ k, o d 0 k = tallyAt (recvCell 1 (pr d) k) () N := fun k => if_pos (Nat.zero_le _)
  rw [e, ho, ho, ho, ho]
  simp only [tally_one]
  unfold due₀
  by_cases h : d = pr c
  · simp only [if_pos h]
  · simp only [if_neg h]

theorem owed_at (d c : Dev nD) (sm : SemLoc sig) : Exch.OX d ((c : Thread nD τ), sm) () = if d = pr c then due sm else 0 := by
  have e : Exch.OX d ((c : Thread nD τ), sm) () = O₀ d ((c : Thread nD τ), sm) ()
      + (tallyAt ((pr d : Thread nD τ), .dma 3) () Exch.NX : CellTallies nD τ sig Unit) ((c : Thread nD τ), sm) ()
      + (tallyAt ((pr d : Thread nD τ), .reg 0) () 1 : CellTallies nD τ sig Unit) ((c : Thread nD τ), sm) () := rfl
  rw [e, owed₀_at, tally_one, tally_one]
  unfold due
  by_cases h : d = pr c
  · simp only [if_pos h]
  · simp only [if_neg h]

theorem due₀_bar (a : Fin 2) : due₀ (.reg (barS a)) = 1 := by
  unfold due₀ one
  have d1 : ∀ (a b : Fin 2) (k : Fin 4), (SemLoc.dma (recvS a k) : SemLoc sig) ≠ .reg (barS b) := by decide
  have d2 : ∀ a b : Fin 2, ((SemLoc.reg (barS a) : SemLoc sig) = .reg (barS b)) ↔ a = b := by decide
  simp only [if_neg (d1 _ _ _), d2]
  match a with
  | 0 => simp
  | 1 => simp
theorem due₀_recv (a : Fin 2) (k : Fin 4) : due₀ (.dma (recvS a k)) = N := by
  unfold due₀ one
  generalize N = n
  have d1 : ∀ (a b : Fin 2) (k : Fin 4), (SemLoc.reg (barS b) : SemLoc sig) ≠ .dma (recvS a k) := by decide
  have d2 : ∀ (a b : Fin 2) (k j : Fin 4), ((SemLoc.dma (recvS a k) : SemLoc sig) = .dma (recvS b j)) ↔ a = b ∧ k = j := by decide
  simp only [if_neg (d1 _ _ _), d2]
  fin_cases a <;> fin_cases k <;> simp

theorem due_bar (a : Fin 2) : due (.reg (barS a)) = 1 := by
  have d1 : ∀ a : Fin 2, (SemLoc.dma 3 : SemLoc sig) ≠ .reg (barS a) := by decide
  have d2 : ∀ a : Fin 2, (SemLoc.reg 0 : SemLoc sig) ≠ .reg (barS a) := by decide
  unfold due one
  rw [due₀_bar, if_neg (d1 a), if_neg (d2 a)]
theorem due_recv (a : Fin 2) (k : Fin 4) : due (.dma (recvS a k)) = N := by
  have d1 : ∀ (a : Fin 2) (k : Fin 4), (SemLoc.dma 3 : SemLoc sig) ≠ .dma (recvS a k) := by decide
  have d2 : ∀ (a : Fin 2) (k : Fin 4), (SemLoc.reg 0 : SemLoc sig) ≠ .dma (recvS a k) := by decide
  unfold due one
  rw [due₀_recv, if_neg (d1 a k), if_neg (d2 a k)]; rfl
theorem due_barX : due (.reg 0) = 1 := by
  have d1 : ∀ a : Fin 2, (SemLoc.reg (barS a) : SemLoc sig) ≠ .reg 0 := by decide
  have d2 : ∀ (a : Fin 2) (k : Fin 4), (SemLoc.dma (recvS a k) : SemLoc sig) ≠ .reg 0 := by decide
  have d3 : (SemLoc.dma 3 : SemLoc sig) ≠ .reg 0 := by decide
  unfold due due₀ one
  simp only [if_neg (d1 _), if_neg (d2 _ _), if_neg d3, if_true]
theorem due_recvX : due (.dma 3) = Exch.NX := by
  have d1 : ∀ a : Fin 2, (SemLoc.reg (barS a) : SemLoc sig) ≠ .dma 3 := by decide
  have d2 : ∀ (a : Fin 2) (k : Fin 4), (SemLoc.dma (recvS a k) : SemLoc sig) ≠ .dma 3 := by decide
  have d3 : (SemLoc.reg 0 : SemLoc sig) ≠ .dma 3 := by decide
  unfold due due₀ one
  generalize Exch.NX = n
  simp only [if_neg (d1 _), if_neg (d2 _ _), if_neg d3, if_true, Nat.zero_add, Nat.add_zero]

theorem launch_at (c : Dev nD) (sm : SemLoc sig) (n : ℕ) (h : due sm = n) :
    tallyOn ((c : Thread nD τ), sm) (launchCredit (Pipeline.owing Exch.OX) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => owed_at d c sm, Finset.sum_ite_eq' Finset.univ (pr c) fun _ => due sm,
    if_pos (Finset.mem_univ _), h]

def recvAt : Fin 2 × Fin 4 ↪ SemLoc sig := ⟨fun x => .dma (recvS x.1 x.2), by decide⟩
def exchAt : Fin 2 ↪ SemLoc sig := ⟨fun k => if k = 0 then .reg 0 else .dma 3, by decide⟩
def barLoc : Fin 2 ↪ SemLoc sig := ⟨fun a => .reg (barS a), by decide⟩

/-- What a device is owed. -/
def dues (a : Fin 2) (c : Dev nD) : sProp 𝕄 := iprop(cred (tallyAt (barCell a c) () 1) ∗ four (fun k => cred (tallyAt (recvCell a c k) () N)))

theorem creds (c : Dev nD) : (Pipeline.launchCred Exch.OX c : sProp 𝕄) ⊢ iprop((both fun a => dues a c) ∗ Exch.dues c) := by
  have hd : Disjoint (Finset.univ.map barLoc) (Finset.univ.map recvAt) := by
    rw [Finset.disjoint_left]
    rintro s h₁ h₂
    obtain ⟨b, -, rfl⟩ := Finset.mem_map.mp h₁
    obtain ⟨x, -, h⟩ := Finset.mem_map.mp h₂
    cases h
  have hx : Disjoint (Finset.univ.map barLoc ∪ Finset.univ.map recvAt) (Finset.univ.map exchAt) := by decide
  unfold Pipeline.launchCred
  refine (bigSep_subset (Finset.subset_univ ((Finset.univ.map barLoc ∪ Finset.univ.map recvAt) ∪ Finset.univ.map exchAt))).trans ?_
  rw [bigSep_union hx]
  refine BI.sep_mono ?_ ?_
  · unfold both dues
    rw [bigSep_union hd, bigSep_map, bigSep_map, bigSep_univ_prod, bigSep_sep']
    refine BI.sep_mono (bigSep_mono fun a _ => ?_) (bigSep_mono fun a _ => ?_)
    · exact Entails.of_eq (congrArg (fun T => (cred T : sProp 𝕄)) (launch_at c _ 1 (due_bar a)))
    · rw [← four_eq]
      refine bigSep_mono fun k _ => ?_
      exact Entails.of_eq (congrArg (fun T => (cred T : sProp 𝕄)) (launch_at c _ N (due_recv a k)))
  · unfold Exch.dues
    rw [bigSep_map, BI.bigSep_fin_two]
    refine BI.sep_mono ?_ ?_
    · exact Entails.of_eq (congrArg (fun T => (cred T : sProp 𝕄)) (launch_at c _ 1 due_barX))
    · exact Entails.of_eq (congrArg (fun T => (cred T : sProp 𝕄)) (launch_at c _ Exch.NX due_recvX))

/-! ## Setting up -/

theorem unscoped_sems (c : Dev nD) : (unscopedSems0 c : sProp 𝕄) = iprop(semVal (Exch.barX c) 0 ∗ both fun a => semVal (barCell a c) 0) := by
  unfold unscopedSems0
  rw [show (Finset.univ.filter fun sm : SemLoc sig => ¬ sm.isScoped .tc) = insert (SemLoc.reg 0) (Finset.univ.map barLoc) from by decide,
    bigSep_insert (by decide), bigSep_map]
  rfl

theorem staging_inj : Function.Injective (Pipeline.PerCore.cellOf (nD := nD) (τ := τ) (Pipeline.pinD (pcfgs (F := F)) (adm m))) :=
  Pipeline.PerCore.cellOf_injective _ (fun _ p => Pipeline.specSemsDistinct_of_nodup _ (by
      match p with
      | 0 => exact semsDistinct 0
      | 1 => exact semsDistinct 1
      | 2 => exact semsDistinct 2
      | 3 => exact semsDistinct 3))
    (fun _ p p' h => Pipeline.specSemsDisjoint_of_disjoint _ _ fun a ha ha' =>
      List.forall_iff_forall_mem.1 (semsDisjoint p p' h) a
        (by
          match p, ha with
          | 0, ha => exact ha
          | 1, ha => exact ha
          | 2, ha => exact ha
          | 3, ha => exact ha)
        (by
          match p', ha' with
          | 0, ha => exact ha
          | 1, ha => exact ha
          | 2, ha => exact ha
          | 3, ha => exact ha))

/-- What the exchanges' protocols start from, -/
abbrev w₀ : UR sig nD τ × UR sig nD τ := (launchOf barCells ownCells tokens, launchOf Exch.barCells Exch.ownCells Exch.tokens)
/-- and the pipelines' with them. -/
def u₀ : UU :=
  (initOf (Pipeline.PerCore.cells (Pipeline.pinD (pcfgs (F := F)) (adm m)) (staging_inj m)) (Pipeline.PerCore.launchToks (Pipeline.pinD (pcfgs (F := F)) (adm m)) (staging_inj m)),
    w₀)

/-- The exchanges', kept on device 0 until all devices share it out. -/
def purse (c : Dev nD) : sProp 𝕄 := if c = 0 then BI.own (embR w₀) else iprop(emp)

theorem purse_all : bigSep Finset.univ (purse (F := F)) = BI.own (embR w₀) := by
  rw [bigSep_univ_at _ (0 : Dev nD), bigSep_congr (s := Finset.univ.erase (0 : Dev nD)) (Ψ := fun _ => (BI.emp : sProp 𝕄))
      fun c hc => by unfold purse; rw [if_neg (Finset.ne_of_mem_erase hc)]; rfl, BI.bigSep_emp_const]
  unfold purse; rw [if_pos rfl]
  exact BI.equiv_iff.mp sep_emp
theorem purse_open : bigSep Finset.univ (purse (F := F))
    ⊢ (iprop(BI.own (ER (launchOf barCells ownCells tokens)) ∗ BI.own (EX (launchOf Exch.barCells Exch.ownCells Exch.tokens))) : sProp 𝕄) := by
  rw [purse_all]; exact own_pair_emb _ _ _

/-- The invariants of all cells, and that the barriers are in their first round. -/
def records (sent : Sent F) (κ : GSem nD τ sig → ℕ) : sProp 𝕄 :=
  iprop((bigSep (barCells ∪ ownCells) fun g => cellInv ER (rd sent) (κ g) g) ∗ bigSep barCells fun g => reached ER g 0)
instance records_persistent (sent : Sent F) (κ : GSem nD τ sig → ℕ) : BI.Persistent (records sent κ) := by unfold records; infer_instance

theorem record_at (sent : Sent F) (κ : GSem nD τ sig → ℕ) {g : GSem nD τ sig} (hg : g ∈ (barCells ∪ ownCells : Finset (GSem nD τ sig))) :
    (bigSep (barCells ∪ ownCells) fun g => (cellInv ER (rd sent) (κ g) g : sProp 𝕄)) ⊢ cellInv ER (rd sent) (κ g) g := bigSep_elim hg

theorem cells_of (sent : Sent F) (κ : GSem nD τ sig → ℕ) (a : Fin 2) (c : Dev nD) :
    (bigSep (barCells ∪ ownCells) fun g => (cellInv ER (rd sent) (κ g) g : sProp 𝕄)) ⊢ cells sent κ a c := by
  have hk : ∀ k, (bigSep (barCells ∪ ownCells) fun g => (cellInv ER (rd sent) (κ g) g : sProp 𝕄)) ⊢ kinv sent κ a c k := fun k => by
    unfold kinv
    iintro #H
    isplitr; · iapply (record_at sent κ (send_in a c k)); iexact H
    isplitr; · iapply (record_at sent κ (recv_in a c k)); iexact H
    iapply (record_at sent κ (recv_in a (pr c) k)); iexact H
  unfold cells binv
  iintro #H
  isplitr
  · isplitr; · iapply (record_at sent κ (bar_in a c)); iexact H
    iapply (record_at sent κ (bar_in a (pr c))); iexact H
  isplitr; · iapply (hk 0); iexact H
  isplitr; · iapply (hk 1); iexact H
  isplitr; · iapply (hk 2); iexact H
  iapply (hk 3); iexact H

/-- What of the set-up a device keeps to itself. -/
def keeps (a : Fin 2) (c : Dev nD) : sProp 𝕄 :=
  iprop(atPos ER (barCell a c) 0 ∅ 0 ∗ (four (fun k => openTok ER (sendCell a c k)) ∗ four (fun k => openTok ER (recvCell a c k))) ∗ pays a c)

theorem gear_intro (sent : Sent F) (κ : GSem nD τ sig → ℕ) (a : Fin 2) (c : Dev nD) :
    iprop(records sent κ ∗ keeps a c ∗ dues a c) ⊢ (gear sent a c : sProp 𝕄) := by
  unfold records keeps gear barrier pays opening dues
  rw [four_sep, four_sep, four_sep, four_sep]
  iintro ⟨⟨#HI, #HR⟩, ⟨Ha, ⟨Hs, Hr⟩, Hb, Ht, Ht'⟩, Hc, Hc'⟩
  iexists κ
  isplitr; · iapply (cells_of sent κ a c); iexact HI
  isplitl [Ha Hc Hb]
  · isplitl [Ha]; · iexact Ha
    isplitl [Hc]; · iexact Hc
    isplitl [Hb]; · iexact Hb
    iapply (show (bigSep barCells fun g => (reached ER g 0 : sProp 𝕄)) ⊢ reached ER (barCell a (pr c)) 0 from
      bigSep_elim (Finset.mem_map_of_mem barAt (Finset.mem_univ (pr c, a))))
    iexact HR
  isplitl [Ht]; · iexact Ht
  isplitl [Ht']; · iexact Ht'
  isplitl [Hs]; · iexact Hs
  isplitl [Hr]; · iexact Hr
  iexact Hc'

/-- A device's state at the start, -/
abbrev atStart (c : Dev nD) : sProp 𝕄 := iprop(StableHlo.held (c : Thread nD τ) (Pipeline.ucRefs τ sig) (V0 m c) ∗ outset m c)
/-- and what of it comes with the launch. -/
def given (c : Dev nD) : sProp 𝕄 :=
  iprop(StableHlo.held (c : Thread nD τ) (Pipeline.ucRefs τ sig) (V0 m c) ∗ ((both fun a => dues a c) ∗ Exch.dues c) ∗ owes (c : Thread nD τ) (Exch.OX c) ∅)

theorem atStart_intro (κ κ' : GSem nD τ sig → ℕ) (c : Dev nD) :
    iprop((records (sent m) κ ∗ Exch.records (X m) κ') ∗ (((both fun a => keeps a c) ∗ Exch.keeps c) ∗ given m c)) ⊢ atStart m c := by
  unfold given atStart outset
  rw [both_eq, both_eq]
  iintro ⟨⟨#HI, #HJ⟩, ⟨⟨K0, K1⟩, KX⟩, Hh, ⟨⟨D0, D1⟩, DX⟩, HO⟩
  isplitl [Hh]; · iexact Hh
  isplitl [KX DX]
  · iapply (Exch.gear_intro (X m) κ' c)
    isplitr; · iexact HJ
    isplitl [KX] <;> iassumption
  isplitl [K0 D0 K1 D1]
  · isplitl [K0 D0]
    · iapply (gear_intro (sent m) κ 0 c)
      isplitr; · iexact HI
      isplitl [K0] <;> iassumption
    · iapply (gear_intro (sent m) κ 1 c)
      isplitr; · iexact HI
      isplitl [K1] <;> iassumption
  unfold ow; iexists ∅; iexact HO

/-- What the launch gives a device, sorted. -/
theorem given_of (c : Dev nD) : iprop(unscopedBufs c (fun b => m ((c : Thread nD τ).loc b)) ∗ unscopedSems0 c
        ∗ owes (c : Thread nD τ) (Exch.OX c) ∅ ∗ Pipeline.launchCred Exch.OX c ∗ prngReg c (ρ c) ∗ purse c)
      ⊢ (iprop(given m c ∗ semVal (Exch.barX c) 0 ∗ (both fun a => semVal (barCell a c) 0) ∗ purse c) : sProp 𝕄) := by
  rw [show unscopedBufs c (fun b => m ((c : Thread nD τ).loc b)) = StableHlo.held (c : Thread nD τ) (Pipeline.ucRefs τ sig) (V0 m c) from
    Pipeline.unscopedBufs_held c (V0 m c), unscoped_sems]
  unfold given
  iintro ⟨Hh, ⟨Hx, Hus⟩, HO, Hcr, -, HG⟩
  ihave Hc := (creds (F := F) c) $$ Hcr
  isplitl [Hh Hc HO]
  · isplitl [Hh]; · iexact Hh
    isplitl [Hc] <;> iassumption
  isplitl [Hx]; · iexact Hx
  isplitl [Hus] <;> iassumption

/-- What a device keeps of the gather's and the scatter's set-up, from all of it. -/
theorem kept_of : iprop((bigSep barCells fun g => atPos ER g 0 ∅ 0) ∗ (bigSep ownCells fun g => openTok ER g) ∗ bigSep tokens (fun x => dutyTok ER x.1 x.2.1 x.2.2))
    ⊢ (all fun c => both fun a => keeps a c : sProp 𝕄) := by
  iintro ⟨Hat, Hopen, Htok⟩
  ihave K := (show iprop((all fun c => both fun a => atPos ER (barCell a c) 0 ∅ 0)
        ∗ (all fun c => both fun a => iprop(four (fun k => openTok ER (sendCell a c k)) ∗ four (fun k => openTok ER (recvCell a c k))))
        ∗ all fun c => both fun a => pays a c) ⊢ (all fun c => both fun a => keeps a c : sProp 𝕄) from by
      rw [← all_sep, ← all_sep]
      refine bigSep_mono fun c _ => ?_
      rw [← both_sep, ← both_sep]
      exact BI.Entails.refl _) $$ [Hat Hopen Htok]
  · isplitl [Hat]; · iapply (Entails.of_eq (bar_split (fun g => (atPos ER g 0 ∅ 0 : sProp 𝕄)))) $$ Hat
    isplitl [Hopen]; · iapply (Entails.of_eq (own_split (fun g => (openTok ER g : sProp 𝕄)))) $$ Hopen
    iapply tokens_dealt $$ Htok
  iexact K

theorem setup :
    iprop((bigSep Finset.univ fun c : Dev nD => iprop(unscopedBufs c (fun b => m ((c : Thread nD τ).loc b)) ∗ unscopedSems0 c
          ∗ owes (c : Thread nD τ) (Exch.OX c) ∅ ∗ Pipeline.launchCred Exch.OX c ∗ prngReg c (ρ c) ∗ purse c)) ∗ levAts L lv)
      ⊢ (|={Set.univ}=> bigSep Finset.univ (atStart m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (Exch.OX c) ∅ ∗ Pipeline.launchCred Exch.OX c ∗ prngReg c (ρ c) ∗ purse c))
      ⊢ (all fun c => iprop(given m c ∗ semVal (Exch.barX c) 0 ∗ (both fun a => semVal (barCell a c) 0) ∗ purse c) : sProp 𝕄) from bigSep_mono fun c _ => given_of m ρ c) $$ H
  ihave H2 := (Entails.of_eq (all_sep _ _)) $$ H'; icases H2 with ⟨HB, H3⟩
  ihave H4 := (Entails.of_eq (all_sep _ _)) $$ H3; icases H4 with ⟨Hx, H5⟩
  ihave H6 := (Entails.of_eq (all_sep _ _)) $$ H5; icases H6 with ⟨Hv, HG⟩
  ihave Hu := (purse_open (F := F)) $$ HG
  icases Hu with ⟨Hu, Hux⟩
  imod (Exch.fund (X m)) $$ [Hx Hux] with ⟨%κ', #HJ, HK⟩
  · isplitl [Hx] <;> iassumption
  imod (Rounds.fund_launch ER (rd (sent m)) cells_apart (fun g _ h => h) tokens) $$ [Hv Hu] with ⟨%κ, -, #Hinv, #Hr, Hat, Hopen, Htok⟩
  · isplitl [Hv]
    · iapply (Entails.of_eq (bar_split (fun g => (semVal g 0 : sProp 𝕄))).symm) $$ Hv
    · iexact Hu
  imodintro
  iapply (bigSep_with_persistent (R := iprop(records (sent m) κ ∗ Exch.records (X m) κ')) (Φ := fun c => iprop(((both fun a => keeps a c) ∗ Exch.keeps c) ∗ given m c)) fun c _ => atStart_intro m κ κ' c)
  isplitr
  · isplitr
    · unfold records
      isplitr; · iexact Hinv
      iexact Hr
    iexact HJ
  ihave HA := (kept_of (F := F)) $$ [Hat Hopen Htok]
  · isplitl [Hat]; · iexact Hat
    isplitl [Hopen] <;> iassumption
  ihave H := (show iprop(((all fun c => both fun a => keeps a c) ∗ Exch.each Exch.keeps) ∗ all (given m))
      ⊢ (bigSep Finset.univ fun c => iprop(((both fun a => keeps a c) ∗ Exch.keeps c) ∗ given m c) : sProp 𝕄) from by
    rw [show (Exch.each Exch.keeps : sProp 𝕄) = all Exch.keeps from rfl, ← all_sep, ← all_sep]) $$ [HA HK HB]
  · isplitr [HB]
    · isplitl [HA] <;> iassumption
    · iexact HB
  iexact H

end Cert.KernelIdeal.Talk

end
-- ==== Proof.Gather.Region.lean ====
/-
The gather as a segment of the program: what it takes from the program's state, what it gives back.
-/
module

public import proofs.«01_k».proof.Proof.State

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Talk
open Cert.KernelIdeal.Talk.Gather
open Cert.KernelIdeal.Gen

variable {F : FTy → Type} [FloatOps F]

local notation "𝕄" => MT nD τ sig Unit (Elt F) ℕ UU ℕ

variable (m : (ℓ : Loc nD τ sig) → Buf (Elt F) ℓ)

theorem osem_facts : Pipeline.OwnSemFacts spec1 (osem 0) := by decide

/-- The call's scratch apart from the other scoped buffers. -/
theorem rest_split (c : Dev nD) : (Pipeline.scopedRest spec1 c : sProp 𝕄)
    = iprop(((∃ f : Buf (Elt F) ((c : Thread nD τ).loc cc1_scratch0), ((c : Thread nD τ).loc cc1_scratch0) ↦{fullShare} f)
        ∗ ∃ f : Buf (Elt F) ((c : Thread nD τ).loc cc1_scratch1), ((c : Thread nD τ).loc cc1_scratch1) ↦{fullShare} f) ∗ side c) :=
  Pipeline.scopedRest_split_of_list spec1 c [cc1_scratch0, cc1_scratch1] (by decide) (by decide)

theorem scratch_split (c : Dev nD) : (Pipeline.scopedRest spec1 c : sProp 𝕄)
    ⊢ iprop((four (fun k => iprop(∃ V, has c (acM k) V)) ∗ four (fun k => free c (rvM k))) ∗ side c) := by
  rw [rest_split]
  iintro ⟨⟨⟨%f0, H0⟩, ⟨%f1, H1⟩⟩, HS⟩
  isplitr [HS]
  · isplitl [H0]
    · ihave H := (accs_split c f0) $$ [H0]
      · rw [(Memref.isWhole_whole cc1_scratch0).set_eq_univ]; iexact H0
      iexact H
    · ihave H := (slots_split c (Memref.whole cc1_scratch1) f1) $$ [H1]
      · rw [(Memref.isWhole_whole cc1_scratch1).set_eq_univ]; iexact H1
      iexact H
  iexact HS

theorem scratch_join (c : Dev nD) :
    iprop((four (fun k => iprop(∃ V, has c (acM k) V)) ∗ four (fun k => free c (rvM k))) ∗ side c) ⊢ (Pipeline.scopedRest spec1 c : sProp 𝕄) := by
  rw [rest_split]
  iintro ⟨⟨H0, H1⟩, HS⟩
  isplitr [HS]
  · isplitl [H0]
    · ihave H := (accs_join c) $$ H0
      icases H with ⟨%g, H⟩
      iexists g
      rw [(Memref.isWhole_whole cc1_scratch0).set_eq_univ]; iexact H
    · ihave H := (slots_join c (Memref.whole cc1_scratch1)) $$ H1
      icases H with ⟨%g, H⟩
      iexists g
      rw [(Memref.isWhole_whole cc1_scratch1).set_eq_univ]; iexact H
  iexact HS

/-- With the slots in hand, an opened transfer is one ready to be issued, one expected, and a receive slot to lend. -/
theorem ready_all (c : Dev nD) : iprop(four (opened 0 c) ∗ four (fun k => free c (rvM k)))
    ⊢ (iprop((bigSep Finset.univ fun k => door 0 c k) ∗ four (unsent 0 c) ∗ four (wanting 0 c)) : sProp 𝕄) := by
  rw [four_eq, ← four_sep, ← four_sep (F := F) (unsent 0 c), ← four_sep]
  refine four_mono fun k => ?_
  unfold opened door
  iintro ⟨⟨Hr, Hu, Hw⟩, Hrv⟩
  isplitl [Hrv Hr]
  · isplitl [Hrv]
    · ihave H := (show free c (rvM k) ⊢ (land 0 c k : sProp 𝕄) from .rfl) $$ Hrv
      iexact H
    iexact Hr
  isplitl [Hu] <;> iassumption

theorem inc_first (c : Dev nD) : (four (inc (sent m) c 0) : sProp 𝕄) = four (wanting 0 c) := by
  refine congrArg four (funext fun k => ?_)
  unfold inc; rw [if_pos (Nat.zero_le _)]
theorem out_first (c : Dev nD) : (four (out (sent m) c 0) : sProp 𝕄) = iprop(four (unsent 0 c) ∗ four (sendPay (sent m) 0 c)) := by
  rw [← four_sep]; refine congrArg four (funext fun k => ?_)
  unfold out; rw [if_pos rfl]
theorem out_last (c : Dev nD) : (four (out (sent m) c 32) : sProp 𝕄) = iprop(four (sendPay (sent m) 0 c) ∗ four (fun k => semVal (sendCell 0 c k) 0)) := by
  rw [← four_sep]; refine congrArg four (funext fun k => ?_)
  unfold out; rw [if_neg (by decide), if_neg (by decide)]
theorem inc_last (c : Dev nD) : (four (inc (sent m) c 32) : sProp 𝕄) = iprop(four (recvPay (sent m) 0 c) ∗ four (fun k => semVal (recvCell 0 c k) 0)) := by
  rw [← four_sep]; refine congrArg four (funext fun k => ?_)
  have := k.isLt
  unfold inc; rw [if_neg (by omega)]

/-- Into the call's invariant, -/
theorem enter (c : Dev nD) :
    iprop((ajar (sent m) 0 c ∗ four (sendPay (sent m) 0 c)) ∗ Pipeline.prefHeld pre1 c (fun _ => fullShare) (tblG m c) ∗ Pipeline.scopedRest spec1 c)
      ⊢ (iprop(inv m (sS m) c 0 ∗ side c) : sProp 𝕄) := by
  unfold inv ajar held
  iintro ⟨⟨⟨%K, #HI, HB, Ho⟩, Hsp⟩, Hp, Hs⟩
  ihave Hs := (scratch_split c) $$ Hs
  icases Hs with ⟨⟨Ha, Hrv⟩, HS⟩
  ihave H := (ready_all c) $$ [Ho Hrv]
  · isplitl [Ho] <;> iassumption
  icases H with ⟨Hd, Hr, Hw⟩
  isplitr [HS]
  · iexists K
    isplitr; · iexact HI
    isplitl [Hp]; · iexact Hp
    isplitl [Ha]
    · iapply (show four (fun k => iprop(∃ V, has c (acM k) V)) ⊢ (four (accSt (stp (sent m) c (fun n => loAt m c (pt n)) (fun n => rkAt m c (pt n)) (fun n => xbAt m c (pt n))) c 0) : sProp 𝕄) from
        four_mono fun k => by
          unfold accSt
          iintro ⟨%V, H⟩
          iexists V
          isplitl [H]; · iexact H
          ipureintro; intro i h _; omega)
      iexact Ha
    isplitl [HB Hd]
    · unfold gate start; rw [if_pos rfl]
      isplitl [HB] <;> iassumption
    isplitl [Hr Hsp]
    · rw [out_first]
      isplitl [Hr] <;> iassumption
    rw [inc_first]; iexact Hw
  iexact HS

/-- and out of it. -/
theorem leave (c : Dev nD) :
    (iprop(inv m (sS m) c 32 ∗ side c) : sProp 𝕄)
      ⊢ iprop((semVal (barCell 0 c) 0 ∗ Pipeline.prefHeld pre1 c (fun _ => fullShare) (tblG m c) ∗ four (sendPay (sent m) 0 c))
        ∗ Pipeline.ownSems0 (osem 0) c ∗ Pipeline.scopedRest spec1 c) := by
  rw [ownSems_eq]
  unfold inv held gate
  rw [if_neg (by decide), out_last, inc_last]
  iintro ⟨⟨%K, -, Hp, Ha, Hb, ⟨Hsp, Hs0⟩, ⟨Hrp, Hr0⟩⟩, HS⟩
  isplitl [Hb Hp Hsp]
  · isplitl [Hb]; · iexact Hb
    isplitl [Hp] <;> iassumption
  isplitl [Hs0 Hr0]; · isplitl [Hs0] <;> iassumption
  iapply (scratch_join c)
  isplitr [HS]
  · isplitl [Ha]
    · iapply (show (four (accSt (stp (sent m) c (fun n => loAt m c (pt n)) (fun n => rkAt m c (pt n)) (fun n => xbAt m c (pt n))) c 32) : sProp 𝕄) ⊢ four (fun k => iprop(∃ V, has c (acM k) V)) from
        four_mono fun k => by
          unfold accSt
          iintro ⟨%V, H, -⟩
          iexists V; iexact H)
      iexact Ha
    · iapply (show (four (recvPay (sent m) 0 c) : sProp 𝕄) ⊢ four (fun k => free c (rvM k)) from
        four_mono fun k => by
          unfold recvPay free
          dsimp only
          iintro H
          iexists _; iexact H)
      iexact Hrp
  iexact HS

/-! ## The program's buffers -/

/-- The buffers the call touches, -/
def touched : Finset (DevRef τ sig) :=
  {Proc.devRef .tc main_v24, Proc.devRef .tc main_arg0, Proc.devRef .tc main_v36, Proc.devRef .tc main_v23, Proc.devRef .tc main_v34}
theorem touched_sub : touched ⊆ Pipeline.ucRefs τ sig := by decide
theorem touched_eq (c : Dev nD) (V : Valuation τ sig (Elt F)) : (StableHlo.held (c : Thread nD τ) touched V : sProp 𝕄)
    = iprop(((c : Thread nD τ).loc main_v24 ↦{fullShare} V main_v24) ∗ ((c : Thread nD τ).loc main_arg0 ↦{fullShare} V main_arg0)
        ∗ ((c : Thread nD τ).loc main_v36 ↦{fullShare} V main_v36)
        ∗ ((c : Thread nD τ).loc main_v23 ↦{fullShare} V main_v23) ∗ ((c : Thread nD τ).loc main_v34 ↦{fullShare} V main_v34)) := by
  unfold StableHlo.held touched
  rw [bigSep_insert (by decide), bigSep_insert (by decide), bigSep_insert (by decide), bigSep_insert (by decide), bigSep_singleton]
  rfl

theorem rest_same (c : Dev nD) : (StableHlo.held (c : Thread nD τ) (Pipeline.ucRefs τ sig \ touched) (In m c) : sProp 𝕄)
    = StableHlo.held (c : Thread nD τ) (Pipeline.ucRefs τ sig \ touched) (W6 m c) :=
  held_same c touched _ _ fun b hb => (W6_of m c b fun e => hb (by rw [e]; decide)).symm

/-- A device's own tokens: half a share for the windows, the other half, in blocks, for the sends. -/
theorem tokens_split (c : Dev nD) : (((c : Thread nD τ).loc main_arg0 ↦{fullShare} In m c main_arg0 : sProp 𝕄))
    = iprop(((c : Thread nD τ).loc main_arg0 ↦{halfL} In m c main_arg0) ∗ four (sendPay (sent m) 0 c)) := by
  rw [BI.Entails.antisymm (pointsTo_share (PosShare.mem_left_op_right fullShare)).1 (pointsTo_share (PosShare.mem_left_op_right fullShare)).2]
  exact congrArg (fun X => iprop(_ ∗ X)) (rows_cut c halfR (In m c main_arg0))

theorem arrays_eq (c : Dev nD) (G : (w : Fin 3) → Buf (Elt F) (((spec1 w).arr.view.loc (c : Thread nD τ)))) :
    ((rdat m (sS m) c).arrays G : sProp 𝕄)
      = iprop(((c : Thread nD τ).loc main_v24 ↦{fullShare} G 0) ∗ ((c : Thread nD τ).loc main_arg0 ↦{halfL} G 1) ∗ ((c : Thread nD τ).loc main_v36 ↦{fullShare} G 2)) := by
  have e : ((rdat m (sS m) c).arrays G : sProp 𝕄) = bigSep Finset.univ fun w : Fin 3 =>
      ((spec1 w).arr.view.loc (c : Thread nD τ) ↦[Finset.univ]{(rdat m (sS m) c).share w} G w) := by
    unfold Pipeline.RDat.arrays
    refine bigSep_congr fun w _ => ?_
    exact congrArg (fun S => (_ ↦[S]{_} G w : sProp 𝕄)) (arr_whole1 w).set_eq_univ
  rw [e, bigSep_W1]
  rfl

theorem last_arrays (c : Dev nD) : ((rdat m (sS m) c).arraysAt grid1.N : sProp 𝕄)
    ⊢ iprop(((c : Thread nD τ).loc main_v24 ↦{fullShare} In m c main_v24) ∗ ((c : Thread nD τ).loc main_arg0 ↦{halfL} In m c main_arg0)
        ∗ ((c : Thread nD τ).loc main_v36 ↦{fullShare} Talk.outG m c)) := by
  have e : ((rdat m (sS m) c).arraysAt grid1.N : sProp 𝕄) = bigSep Finset.univ fun w : Fin 3 =>
      iprop(∃ G, ⌜(rdat m (sS m) c).ArrAt w grid1.N G⌝ ∗ (spec1 w).arr.view.loc (c : Thread nD τ) ↦[Finset.univ]{(rdat m (sS m) c).share w} G) := by
    unfold Pipeline.RDat.arraysAt
    refine bigSep_congr fun w _ => ?_
    exact congrArg (fun S => (iprop(∃ G, ⌜(rdat m (sS m) c).ArrAt w grid1.N G⌝ ∗ _ ↦[S]{_} G) : sProp 𝕄)) (arr_whole1 w).set_eq_univ
  rw [e, bigSep_W1]
  iintro ⟨⟨%G0, %h0, H0⟩, ⟨%G1, %h1, H1⟩, ⟨%G2, %h2, H2⟩⟩
  have e0 : G0 = In m c main_v24 := (congrFun ((rdat m (sS m) c).ArrAt_in 0 rfl grid1.N) G0).mp h0
  have e1 : G1 = In m c main_arg0 := (congrFun ((rdat m (sS m) c).ArrAt_in 1 rfl grid1.N) G1).mp h1
  have e2 : G2 = Talk.outG m c := final m (sS m) c G2 h2
  subst e0 e1 e2
  isplitl [H0]; · iexact H0
  isplitl [H1]; · iexact H1
  iexact H2

theorem pref_in (c : Dev nD) : (Pipeline.prefHeld pre1 c (fun _ => fullShare) (tblG m c) : sProp 𝕄)
    = iprop(((c : Thread nD τ).loc main_v23 ↦{fullShare} In m c main_v23) ∗ ((c : Thread nD τ).loc main_v34 ↦{fullShare} In m c main_v34)) := by
  rw [pref_eq, In_eq]
  rfl

theorem may_wait (c : Dev nD) (w : Fin (cfgAt m c).W) (s : Fin ((cfgAt m c).win w).nbuf) (t : Fin ((cfgAt m c).N + 1)) :
    (levAts L lv : sProp 𝕄) ⊢ MayWait (c : Thread nD τ) (.dma (((cfgAt m c).win w).sem s)) () ((rdat m (sS m) c).owed t) := by
  show _ ⊢ MayWait _ _ () (owed c t.val)
  unfold owed
  split
  · exact may (above_O₀ c) c _ ((stage1 w s c).le.trans (Nat.zero_le _))
  · exact may (above_O₁ c) c _ ((stage1 w s c).le.trans (Nat.zero_le _))

set_option backward.isDefEq.respectTransparency.types false in
/-- The call. -/
def reg : Pipeline.PerCore.RDat.RegionSeg (pcfgs (F := F)) (adm m) (rdats m) () defs₀ 𝒱₀ L lv 1 where
  win := winFacts1.to₀
  block_pos := block_pos1
  stage_whole := stage_whole1
  K := Fin 2 × Fin 4
  osem := osem 0
  ho := osem_facts
  hbody c := (body m (sS m) c).toRRel
  hwaits c := by
    refine Pipeline.PerCore.RDat.cellsWaits_intro _ (rdats m) () 1 c fun w s t => ?_
    exact may_wait m c w s t
  pre c := iprop(StableHlo.held (c : Thread nD τ) (Pipeline.ucRefs τ sig) (In m c) ∗ before m c)
  post c := iprop(StableHlo.held (c : Thread nD τ) (Pipeline.ucRefs τ sig) (W6 m c) ∗ between m c)
  X c := iprop(ajar (sent m) 0 c ∗ four (sendPay (sent m) 0 c))
  Y c := iprop(semVal (barCell 0 c) 0 ∗ Pipeline.prefHeld pre1 c (fun _ => fullShare) (tblG m c) ∗ four (sendPay (sent m) 0 c))
  Z c := iprop(StableHlo.held (c : Thread nD τ) (Pipeline.ucRefs τ sig \ touched) (In m c) ∗ kept m c)
  hentry c := by
    rw [held_apart c touched touched_sub, touched_eq, tokens_split]
    unfold before
    iintro ⟨⟨⟨⟨H21, ⟨H0, Hsp⟩, H33, H20, H31⟩, HZ⟩, HG, HG1, HO⟩, Hos, #Hlev⟩
    imod (open_all (sent m) 0 c) $$ [HG Hos] with HX
    · isplitl [HG]; · iexact HG
      isplitl [Hos]; · iexact Hos
      iexact Hlev
    imodintro
    isplitl [H21 H0 H33]
    · ihave H := (Entails.of_eq (arrays_eq m c (rdat m (sS m) c).A).symm) $$ [H21 H0 H33]
      · isplitl [H21]; · iexact H21
        isplitl [H0]; · iexact H0
        iexact H33
      iexact H
    isplitl [H20 H31]
    · ihave H := (Entails.of_eq (pref_in m c).symm) $$ [H20 H31]
      · isplitl [H20] <;> iassumption
      iexact H
    isplitl [HO]; · iapply (owesAt_intro (dat m (sS m) c) 0 (O₀ c) rfl rfl); iexact HO
    isplitl [HX Hsp]
    · isplitl [HX]; · iexact HX
      iexact Hsp
    isplitl [HZ]; · iexact HZ
    iexact HG1
  hin c := enter m c
  hout c := leave m c
  hexit c := by
    rw [held_apart c touched touched_sub, touched_eq, W6_out, W6_of m c main_v24 (by decide), W6_of m c main_arg0 (by decide), W6_of m c main_v23 (by decide),
      W6_of m c main_v34 (by decide), tokens_split, ← rest_same]
    unfold between
    iintro ⟨HA, HO, ⟨Hb, Hp, Hsp⟩, HZ, HG1⟩
    ihave HA := (show (rdats m 1 c).arraysAt (Pipeline.pinD (pcfgs (F := F)) (adm m) c 1).N ⊢ _ from last_arrays m c) $$ HA
    icases HA with ⟨H21, H0, H33⟩
    ihave Hp := (Entails.of_eq (pref_in m c)) $$ Hp
    icases Hp with ⟨H20, H31⟩
    ihave HO := (show (rdats m 1 c).owesAt () (Fin.last (Pipeline.pinD (pcfgs (F := F)) (adm m) c 1).N) ⊢ (ow c (O₁ c) : sProp 𝕄) from
      owesAt_elim (dat m (sS m) c) (Fin.last grid1.N) (O₁ c) rfl) $$ HO
    imodintro
    isplitl [H21 H0 H33 H20 H31 Hsp HZ]
    · isplitl [H21 H0 H33 H20 H31 Hsp]
      · isplitl [H21]; · iexact H21
        isplitl [H0 Hsp]; · isplitl [H0] <;> iassumption
        isplitl [H33]; · iexact H33
        isplitl [H20] <;> iassumption
      iexact HZ
    isplitl [HG1]; · iexact HG1
    isplitl [Hb] <;> iassumption

end Cert.KernelIdeal.Gather

end
-- ==== Proof.Moe.Region.lean ====
/-
The experts' pipeline as a segment of the program: what it takes from the program's state, what it gives back.
-/
module

public import proofs.«01_k».proof.Proof.State

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Talk
open Cert.KernelIdeal.Gen

variable {F : FTy → Type} [FloatOps F]

local notation "𝕄" => MT nD τ sig Unit (Elt F) ℕ UU ℕ

variable (m : (ℓ : Loc nD τ sig) → Buf (Elt F) ℓ)

/-- The call's scratch apart from the other scoped buffers. -/
theorem rest_split (c : Dev nD) : (Pipeline.scopedRest spec2 c : sProp 𝕄)
    = iprop((∃ f : Buf (Elt F) ((c : Thread nD τ).loc cc2_scratch0), ((c : Thread nD τ).loc cc2_scratch0) ↦{fullShare} f) ∗ side c) :=
  Pipeline.scopedRest_split_of_list spec2 c [cc2_scratch0] (by decide) (by decide)

/-- Into the call's invariant, -/
theorem enter (c : Dev nD) : (iprop(emp ∗ Pipeline.prefHeld (pcfgs (F := F) 2).pre c (fun _ => fullShare) (adm m c 2).1 ∗ Pipeline.scopedRest spec2 c) : sProp 𝕄) ⊢ iprop(accSt m (Talk.outG m) c 0 ∗ side c) := by
  rw [rest_split]
  unfold accSt
  iintro ⟨-, -, ⟨%f, H⟩, HS⟩
  isplitl [H]
  · iexists f
    isplitl [H]
    · rw [show (has c scM f : sProp 𝕄) = owns (c : Thread nD τ) (Memref.whole cc2_scratch0) fullShare f from rfl, owns_whole]
      iexact H
    ipureintro; intro h; exact absurd rfl h
  iexact HS

/-- and out of it. -/
theorem leave (c : Dev nD) : (iprop(accSt m (Talk.outG m) c 32 ∗ side c) : sProp 𝕄) ⊢ iprop(emp ∗ Pipeline.ownSems0 (fun k : PEmpty => k.elim) c ∗ Pipeline.scopedRest spec2 c) := by
  rw [rest_split, Pipeline.ownSems0_none]
  unfold accSt
  iintro ⟨⟨%V, H, -⟩, HS⟩
  isplitr; · iempintro
  isplitr; · iempintro
  isplitl [H]
  · iexists V
    ihave H := (show has c scM V ⊢ (((c : Thread nD τ).loc cc2_scratch0) ↦{fullShare} V : sProp 𝕄) by
      rw [show (has c scM V : sProp 𝕄) = owns (c : Thread nD τ) (Memref.whole cc2_scratch0) fullShare V from rfl, owns_whole]) $$ H
    iexact H
  iexact HS

/-! ## The program's buffers -/

/-- The buffers the call touches, -/
def touched : Finset (DevRef τ sig) :=
  {Proc.devRef .tc main_v36, Proc.devRef .tc main_arg2, Proc.devRef .tc main_arg3, Proc.devRef .tc main_v37}
theorem touched_sub : touched ⊆ Pipeline.ucRefs τ sig := by decide
theorem touched_eq (c : Dev nD) (V : Valuation τ sig (Elt F)) : (StableHlo.held (c : Thread nD τ) touched V : sProp 𝕄)
    = iprop(((c : Thread nD τ).loc main_v36 ↦{fullShare} V main_v36) ∗ ((c : Thread nD τ).loc main_arg2 ↦{fullShare} V main_arg2)
        ∗ ((c : Thread nD τ).loc main_arg3 ↦{fullShare} V main_arg3) ∗ ((c : Thread nD τ).loc main_v37 ↦{fullShare} V main_v37)) := by
  unfold StableHlo.held touched
  rw [bigSep_insert (by decide), bigSep_insert (by decide), bigSep_insert (by decide), bigSep_singleton]
  rfl

theorem rest_same (c : Dev nD) : (StableHlo.held (c : Thread nD τ) (Pipeline.ucRefs τ sig \ touched) (W6 m c) : sProp 𝕄)
    = StableHlo.held (c : Thread nD τ) (Pipeline.ucRefs τ sig \ touched) (W7 m c) :=
  held_same c touched _ _ fun b hb => (W7_of m c b fun e => hb (by rw [e]; decide)).symm

theorem arrays_eq (c : Dev nD) (G : (w : Fin 4) → Buf (Elt F) (((spec2 w).arr.view.loc (c : Thread nD τ)))) :
    ((dat m (Talk.outG m) c).toR.arrays G : sProp 𝕄)
      = iprop(((c : Thread nD τ).loc main_v36 ↦{fullShare} G 0) ∗ ((c : Thread nD τ).loc main_arg2 ↦{fullShare} G 1)
        ∗ ((c : Thread nD τ).loc main_arg3 ↦{fullShare} G 2) ∗ ((c : Thread nD τ).loc main_v37 ↦{fullShare} G 3)) := by
  have e : ((dat m (Talk.outG m) c).toR.arrays G : sProp 𝕄) = bigSep Finset.univ fun w : Fin 4 =>
      ((spec2 w).arr.view.loc (c : Thread nD τ) ↦[Finset.univ]{(dat m (Talk.outG m) c).toR.share w} G w) := by
    unfold Pipeline.RDat.arrays
    refine bigSep_congr fun w _ => ?_
    exact congrArg (fun S => (_ ↦[S]{_} G w : sProp 𝕄)) (arr_whole2 w).set_eq_univ
  rw [e, bigSep_W2]
  rfl

theorem last_arrays (c : Dev nD) : ((dat m (Talk.outG m) c).toR.arraysAt grid2.N : sProp 𝕄)
    = iprop(((c : Thread nD τ).loc main_v36 ↦{fullShare} Talk.outG m c) ∗ ((c : Thread nD τ).loc main_arg2 ↦{fullShare} In m c main_arg2)
        ∗ ((c : Thread nD τ).loc main_arg3 ↦{fullShare} In m c main_arg3) ∗ ((c : Thread nD τ).loc main_v37 ↦{fullShare} outM m c)) := by
  rw [Dat.toR_arraysAt_eq]
  refine (arrays_eq m c _).trans ?_
  rw [show (dat m (Talk.outG m) c).arrAt 0 grid2.N = Talk.outG m c from (dat m (Talk.outG m) c).arrAt_in 0 rfl _,
    show (dat m (Talk.outG m) c).arrAt 1 grid2.N = In m c main_arg2 from (dat m (Talk.outG m) c).arrAt_in 1 rfl _,
    show (dat m (Talk.outG m) c).arrAt 2 grid2.N = In m c main_arg3 from (dat m (Talk.outG m) c).arrAt_in 2 rfl _]
  rfl

theorem may_wait (c : Dev nD) (w : Fin (cfgAt m c).W) (s : Fin ((cfgAt m c).win w).nbuf) (t : Fin ((cfgAt m c).N + 1)) :
    (levAts L lv : sProp 𝕄) ⊢ MayWait (c : Thread nD τ) (.dma (((cfgAt m c).win w).sem s)) () ((dat m (Talk.outG m) c).toR.owed t) :=
  may (above_O₁ c) c _ ((stage2 w s c).le.trans (Nat.zero_le _))

set_option backward.isDefEq.respectTransparency.types false in
/-- The call. -/
def reg : Pipeline.PerCore.RDat.RegionSeg (pcfgs (F := F)) (adm m) (rdats m) () defs₀ 𝒱₀ L lv 2 where
  win := winFacts2.to₀
  block_pos := block_pos2
  stage_whole := stage_whole2
  K := PEmpty
  osem := fun k => k.elim
  ho := Pipeline.OwnSemFacts.none spec2
  hbody c := (body m (Talk.outG m) c).toR
  hwaits c := by
    refine Pipeline.PerCore.RDat.cellsWaits_intro _ (rdats m) () 2 c fun w s t => ?_
    exact may_wait m c w s t
  pre c := iprop(StableHlo.held (c : Thread nD τ) (Pipeline.ucRefs τ sig) (W6 m c) ∗ between m c)
  post c := iprop(StableHlo.held (c : Thread nD τ) (Pipeline.ucRefs τ sig) (W7 m c) ∗ between m c)
  X c := iprop(emp)
  Y c := iprop(emp)
  Z c := iprop(StableHlo.held (c : Thread nD τ) (Pipeline.ucRefs τ sig \ touched) (W6 m c) ∗ kept m c ∗ semVal (barCell 0 c) 0)
  hentry c := by
    rw [held_apart c touched touched_sub, touched_eq, W6_out, W6_of m c main_arg2 (by decide), W6_of m c main_arg3 (by decide), W6_of m c main_v37 (by decide)]
    unfold between
    iintro ⟨⟨⟨⟨H33, H2, H3, H34⟩, HZ⟩, HG, Hb, HO⟩, -, -⟩
    imodintro
    isplitl [H33 H2 H3 H34]
    · ihave H := (Entails.of_eq (arrays_eq m c (dat m (Talk.outG m) c).toR.A).symm) $$ [H33 H2 H3 H34]
      · isplitl [H33]; · iexact H33
        isplitl [H2]; · iexact H2
        isplitl [H3]; · iexact H3
        iexact H34
      iexact H
    isplitr
    · unfold Pipeline.prefHeld
      iapply (show (BI.emp : sProp 𝕄) ⊢ _ from Entails.of_eq (BI.bigSep_empty (I := Fin 0)).symm)
      iempintro
    isplitl [HO]; · iapply (owesAt_intro (dat m (Talk.outG m) c) 0 (O₁ c) rfl rfl); iexact HO
    isplitr; · iempintro
    isplitl [HZ]; · iexact HZ
    isplitl [HG] <;> iassumption
  hin c := enter m c
  hout c := leave m c
  hexit c := by
    rw [held_apart c touched touched_sub, touched_eq, W7_out, W7_of m c main_v36 (by decide), W7_of m c main_arg2 (by decide), W7_of m c main_arg3 (by decide),
      W6_out, W6_of m c main_arg2 (by decide), W6_of m c main_arg3 (by decide), ← rest_same]
    unfold between
    iintro ⟨HA, HO, -, HZ, HG, Hb⟩
    ihave HA := (show (rdats m 2 c).arraysAt (Pipeline.pinD (pcfgs (F := F)) (adm m) c 2).N ⊢ _ from Entails.of_eq (last_arrays m c)) $$ HA
    icases HA with ⟨H33, H2, H3, H34⟩
    ihave HO := (show (rdats m 2 c).owesAt () (Fin.last (Pipeline.pinD (pcfgs (F := F)) (adm m) c 2).N) ⊢ (ow c (O₁ c) : sProp 𝕄) from
      owesAt_elim (dat m (Talk.outG m) c) (Fin.last grid2.N) (O₁ c) rfl) $$ HO
    imodintro
    isplitl [H33 H2 H3 H34 HZ]
    · isplitl [H33 H2 H3 H34]
      · isplitl [H33]; · iexact H33
        isplitl [H2]; · iexact H2
        isplitl [H3]; · iexact H3
        iexact H34
      iexact HZ
    isplitl [HG]; · iexact HG
    isplitl [Hb] <;> iassumption

end Cert.KernelIdeal.Moe

end
-- ==== Proof.Scatter.Region.lean ====
/-
The scatter as a segment of the program: what it takes from the program's state, what it gives back.
-/
module

public import proofs.«01_k».proof.Proof.State

@[expose] public section

set_option maxRecDepth 16384

noncomputable section

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Talk
open Cert.KernelIdeal.Talk.Scatter
open Cert.KernelIdeal.Gen

variable {F : FTy → Type} [FloatOps F]

local notation "𝕄" => MT nD τ sig Unit (Elt F) ℕ UU ℕ

variable (m : (ℓ : Loc nD τ sig) → Buf (Elt F) ℓ)

theorem osem_facts : Pipeline.OwnSemFacts spec3 (osem 1) := by decide

/-- The call's scratch apart from the other scoped buffers. -/
theorem rest_split (c : Dev nD) : (Pipeline.scopedRest spec3 c : sProp 𝕄)
    = iprop(((∃ f : Buf (Elt F) ((c : Thread nD τ).loc cc3_scratch0), ((c : Thread nD τ).loc cc3_scratch0) ↦{fullShare} f)
        ∗ (∃ f : Buf (Elt F) ((c : Thread nD τ).loc cc3_scratch1), ((c : Thread nD τ).loc cc3_scratch1) ↦{fullShare} f)
        ∗ ∃ f : Buf (Elt F) ((c : Thread nD τ).loc cc3_scratch2), ((c : Thread nD τ).loc cc3_scratch2) ↦{fullShare} f) ∗ side c) :=
  Pipeline.scopedRest_split_of_list spec3 c [cc3_scratch0, cc3_scratch1, cc3_scratch2] (by decide) (by decide)

theorem scratch_split (c : Dev nD) : (Pipeline.scopedRest spec3 c : sProp 𝕄)
    ⊢ iprop(((∃ V, has c acM V) ∗ four (fun k => free c (stM k)) ∗ four (fun k => free c (rvM k))) ∗ side c) := by
  rw [rest_split]
  iintro ⟨⟨⟨%f0, H0⟩, ⟨%f1, H1⟩, ⟨%f2, H2⟩⟩, HS⟩
  isplitr [HS]
  · isplitl [H0]
    · iexists f0
      rw [show (has c acM f0 : sProp 𝕄) = owns (c : Thread nD τ) (Memref.whole cc3_scratch0) fullShare f0 from rfl, owns_whole]
      iexact H0
    isplitl [H1]
    · ihave H := (slots_split c (Memref.whole cc3_scratch1) f1) $$ [H1]
      · rw [(Memref.isWhole_whole cc3_scratch1).set_eq_univ]; iexact H1
      iexact H
    · ihave H := (slots_split c (Memref.whole cc3_scratch2) f2) $$ [H2]
      · rw [(Memref.isWhole_whole cc3_scratch2).set_eq_univ]; iexact H2
      iexact H
  iexact HS

theorem scratch_join (c : Dev nD) :
    iprop(((∃ V, has c acM V) ∗ four (fun k => free c (stM k)) ∗ four (fun k => free c (rvM k))) ∗ side c) ⊢ (Pipeline.scopedRest spec3 c : sProp 𝕄) := by
  rw [rest_split]
  iintro ⟨⟨⟨%V, H0⟩, H1, H2⟩, HS⟩
  isplitr [HS]
  · isplitl [H0]
    · iexists V
      ihave H := (show has c acM V ⊢ (((c : Thread nD τ).loc cc3_scratch0) ↦{fullShare} V : sProp 𝕄) by
        rw [show (has c acM V : sProp 𝕄) = owns (c : Thread nD τ) (Memref.whole cc3_scratch0) fullShare V from rfl, owns_whole]) $$ H0
      iexact H
    isplitl [H1]
    · ihave H := (slots_join c (Memref.whole cc3_scratch1)) $$ H1
      icases H with ⟨%g, H⟩
      iexists g
      rw [(Memref.isWhole_whole cc3_scratch1).set_eq_univ]; iexact H
    · ihave H := (slots_join c (Memref.whole cc3_scratch2)) $$ H2
      icases H with ⟨%g, H⟩
      iexists g
      rw [(Memref.isWhole_whole cc3_scratch2).set_eq_univ]; iexact H
  iexact HS

/-- With the slots in hand, an opened transfer is one ready to be issued, one expected, and a receive slot to lend. -/
theorem ready_all (c : Dev nD) : iprop(four (opened 1 c) ∗ four (fun k => free c (stM k)) ∗ four (fun k => free c (rvM k)))
    ⊢ (iprop((bigSep Finset.univ fun k => door 1 c k) ∗ four (ready c) ∗ four (wanting 1 c)) : sProp 𝕄) := by
  rw [four_eq, ← four_sep (F := F) (fun k => free c (stM k)), ← four_sep, ← four_sep (F := F) (ready c), ← four_sep]
  refine four_mono fun k => ?_
  unfold opened door ready
  iintro ⟨⟨Hr, Hu, Hw⟩, Hst, Hrv⟩
  isplitl [Hrv Hr]
  · isplitl [Hrv]
    · ihave H := (show free c (rvM k) ⊢ (land 1 c k : sProp 𝕄) from .rfl) $$ Hrv
      iexact H
    iexact Hr
  isplitl [Hst Hu]; · isplitl [Hst] <;> iassumption
  iexact Hw

theorem inc_first (c : Dev nD) : (four (inc c 0) : sProp 𝕄) = four (wanting 1 c) := by
  refine congrArg four (funext fun k => ?_)
  unfold inc; rw [if_pos (Nat.zero_le _)]
theorem out_last (c : Dev nD) : (four (out c 32) : sProp 𝕄) = four (drained c) := by
  refine congrArg four (funext fun k => ?_)
  have := k.isLt
  unfold out; rw [if_neg (by omega), if_neg (by omega)]
theorem inc_last (c : Dev nD) : (four (inc c 32) : sProp 𝕄) = four (got c) := by
  refine congrArg four (funext fun k => ?_)
  have := k.isLt
  unfold inc; rw [if_neg (by omega)]
theorem os_last (c : Dev nD) : os c 32 = 0 := by
  unfold os o
  rw [if_neg (by decide), if_neg (by decide), if_neg (by decide), if_neg (by decide), add_zero, add_zero, add_zero]

/-- Into the call's invariant, -/
theorem enter (c : Dev nD) :
    iprop(ajar (Talk.sent m) 1 c ∗ Pipeline.prefHeld pre3 c (fun _ => fullShare) (tblS m c) ∗ Pipeline.scopedRest spec3 c)
      ⊢ (iprop(inv m (outM m) c 0 ∗ side c) : sProp 𝕄) := by
  unfold inv ajar
  iintro ⟨⟨%K, #HI, HB, Ho⟩, Hp, Hs⟩
  ihave Hs := (scratch_split c) $$ Hs
  icases Hs with ⟨⟨⟨%V, Ha⟩, Hst, Hrv⟩, HS⟩
  ihave H := (ready_all c) $$ [Ho Hst Hrv]
  · isplitl [Ho]; · iexact Ho
    isplitl [Hst] <;> iassumption
  icases H with ⟨Hd, Hr, Hw⟩
  isplitr [HS]
  · iexists K
    isplitr; · iexact HI
    isplitl [Hp]; · iexact Hp
    isplitl [Ha]
    · unfold accSt; iexists V
      isplitl [Ha]; · iexact Ha
      ipureintro; intro h; exact absurd rfl h
    unfold st; rw [if_pos rfl, inc_first]
    unfold begin start
    isplitl [HB Hd Hr]
    · isplitl [HB Hd]
      · isplitl [HB] <;> iassumption
      iexact Hr
    iexact Hw
  iexact HS

/-- and out of it. -/
theorem leave (c : Dev nD) :
    (iprop(inv m (outM m) c 32 ∗ side c) : sProp 𝕄)
      ⊢ iprop((semVal (barCell 1 c) 0 ∗ Pipeline.prefHeld pre3 c (fun _ => fullShare) (tblS m c))
        ∗ Pipeline.ownSems0 (osem 1) c ∗ Pipeline.scopedRest spec3 c) := by
  rw [ownSems_eq]
  unfold inv st
  rw [if_neg (by decide)]
  unfold run
  rw [out_last, inc_last]
  unfold drained got
  rw [four_sep, four_sep]
  unfold accSt
  iintro ⟨⟨%K, -, Hp, ⟨%V, Ha, -⟩, ⟨Hst, Hs0⟩, ⟨Hrv, Hr0⟩, Hb⟩, HS⟩
  isplitl [Hb Hp]; · isplitl [Hb] <;> iassumption
  isplitl [Hs0 Hr0]; · isplitl [Hs0] <;> iassumption
  iapply (scratch_join c)
  isplitr [HS]
  · isplitl [Ha]; · iexists V; iexact Ha
    isplitl [Hst] <;> iassumption
  iexact HS

/-! ## The program's buffers -/

/-- The buffers the call touches, -/
def touched : Finset (DevRef τ sig) :=
  {Proc.devRef .tc main_v24, Proc.devRef .tc main_v37, Proc.devRef .tc main_v38, Proc.devRef .tc main_v23, Proc.devRef .tc main_v35}
theorem touched_sub : touched ⊆ Pipeline.ucRefs τ sig := by decide
theorem touched_eq (c : Dev nD) (V : Valuation τ sig (Elt F)) : (StableHlo.held (c : Thread nD τ) touched V : sProp 𝕄)
    = iprop(((c : Thread nD τ).loc main_v24 ↦{fullShare} V main_v24) ∗ ((c : Thread nD τ).loc main_v37 ↦{fullShare} V main_v37)
        ∗ ((c : Thread nD τ).loc main_v38 ↦{fullShare} V main_v38)
        ∗ ((c : Thread nD τ).loc main_v23 ↦{fullShare} V main_v23) ∗ ((c : Thread nD τ).loc main_v35 ↦{fullShare} V main_v35)) := by
  unfold StableHlo.held touched
  rw [bigSep_insert (by decide), bigSep_insert (by decide), bigSep_insert (by decide), bigSep_insert (by decide), bigSep_singleton]
  rfl

theorem rest_same (c : Dev nD) : (StableHlo.held (c : Thread nD τ) (Pipeline.ucRefs τ sig \ touched) (W7 m c) : sProp 𝕄)
    = StableHlo.held (c : Thread nD τ) (Pipeline.ucRefs τ sig \ touched) (W8 m c) :=
  held_same c touched _ _ fun b hb => (W8_of m c b fun e => hb (by rw [e]; decide)).symm

/-- What the call finds in a buffer the earlier calls didn't write. -/
theorem found (c : Dev nD) (b : DevRef τ sig) (h : b ≠ Proc.devRef .tc main_v36) (h' : b ≠ Proc.devRef .tc main_v37) : W7 m c b = In m c b := by
  rw [W7_of m c b h', W6_of m c b h]

section
variable (og : (c : Dev nD) → Buf (Elt F) ((c : Thread nD τ).loc main_v37))
theorem arrays_eq (c : Dev nD) (G : (w : Fin 3) → Buf (Elt F) (((spec3 w).arr.view.loc (c : Thread nD τ)))) :
    ((dat m og c).toR.arrays G : sProp 𝕄)
      = iprop(((c : Thread nD τ).loc main_v24 ↦{fullShare} G 0) ∗ ((c : Thread nD τ).loc main_v37 ↦{fullShare} G 1) ∗ ((c : Thread nD τ).loc main_v38 ↦{fullShare} G 2)) := by
  have e : ((dat m og c).toR.arrays G : sProp 𝕄) = bigSep Finset.univ fun w : Fin 3 =>
      ((spec3 w).arr.view.loc (c : Thread nD τ) ↦[Finset.univ]{(dat m og c).toR.share w} G w) := by
    unfold Pipeline.RDat.arrays
    refine bigSep_congr fun w _ => ?_
    exact congrArg (fun S => (_ ↦[S]{_} G w : sProp 𝕄)) (arr_whole3 w).set_eq_univ
  rw [e, bigSep_W3]
  rfl
theorem first_arrays (c : Dev nD) : ((dat m og c).toR.arrays (dat m og c).toR.A : sProp 𝕄)
    = iprop(((c : Thread nD τ).loc main_v24 ↦{fullShare} In m c main_v24) ∗ ((c : Thread nD τ).loc main_v37 ↦{fullShare} og c)
        ∗ ((c : Thread nD τ).loc main_v38 ↦{fullShare} In m c main_v38)) := arrays_eq m og c _
theorem last_arrays (c : Dev nD) : ((dat m og c).toR.arraysAt grid3.N : sProp 𝕄)
    = iprop(((c : Thread nD τ).loc main_v24 ↦{fullShare} In m c main_v24) ∗ ((c : Thread nD τ).loc main_v37 ↦{fullShare} og c)
        ∗ ((c : Thread nD τ).loc main_v38 ↦{fullShare} (dat m og c).arrAt 2 grid3.N)) := by
  rw [Dat.toR_arraysAt_eq]
  refine (arrays_eq m og c _).trans ?_
  rw [show (dat m og c).arrAt 0 grid3.N = In m c main_v24 from (dat m og c).arrAt_in 0 rfl _,
    show (dat m og c).arrAt 1 grid3.N = og c from (dat m og c).arrAt_in 1 rfl _]
end

theorem finish (c : Dev nD) : ((dat m (outM m) c).toR.arraysAt grid3.N : sProp 𝕄)
    = iprop(((c : Thread nD τ).loc main_v24 ↦{fullShare} In m c main_v24) ∗ ((c : Thread nD τ).loc main_v37 ↦{fullShare} outM m c)
        ∗ ((c : Thread nD τ).loc main_v38 ↦{fullShare} outS m c)) := last_arrays m (outM m) c

theorem pref_in (c : Dev nD) : (Pipeline.prefHeld pre3 c (fun _ => fullShare) (tblS m c) : sProp 𝕄)
    = iprop(((c : Thread nD τ).loc main_v23 ↦{fullShare} In m c main_v23) ∗ ((c : Thread nD τ).loc main_v35 ↦{fullShare} In m c main_v35)) := by
  rw [pref_eq, In_eq]
  rfl

theorem may_wait (c : Dev nD) (w : Fin (cfgAt m c).W) (s : Fin ((cfgAt m c).win w).nbuf) (t : Fin ((cfgAt m c).N + 1)) :
    (levAts L lv : sProp 𝕄) ⊢ MayWait (c : Thread nD τ) (.dma (((cfgAt m c).win w).sem s)) () ((dat m (outM m) c).toR.owed t) := by
  show _ ⊢ MayWait _ _ () (owed c t.val)
  unfold owed
  split
  · exact may (above_O₁ c) c _ ((stage3 w s c).le.trans (Nat.zero_le _))
  · exact may (above_os c t.val) c _ ((stage3 w s c).le.trans (Nat.zero_le _))

set_option backward.isDefEq.respectTransparency.types false in
/-- The call. -/
def reg : Pipeline.PerCore.RDat.RegionSeg (pcfgs (F := F)) (adm m) (rdats m) () defs₀ 𝒱₀ L lv 3 where
  win := winFacts3.to₀
  block_pos := block_pos3
  stage_whole := stage_whole3
  K := Fin 2 × Fin 4
  osem := osem 1
  ho := osem_facts
  hbody c := (body m (outM m) c).toR
  hwaits c := by
    refine Pipeline.PerCore.RDat.cellsWaits_intro _ (rdats m) () 3 c fun w s t => ?_
    exact may_wait m c w s t
  pre c := iprop(StableHlo.held (c : Thread nD τ) (Pipeline.ucRefs τ sig) (W7 m c) ∗ between m c)
  post c := iprop(StableHlo.held (c : Thread nD τ) (Pipeline.ucRefs τ sig) (W8 m c) ∗ behind c)
  X c := ajar (Talk.sent m) 1 c
  Y c := iprop(semVal (barCell 1 c) 0 ∗ Pipeline.prefHeld pre3 c (fun _ => fullShare) (tblS m c))
  Z c := iprop(StableHlo.held (c : Thread nD τ) (Pipeline.ucRefs τ sig \ touched) (W7 m c) ∗ semVal (Exch.barX c) 0 ∗ semVal (barCell 0 c) 0)
  hentry c := by
    rw [held_apart c touched touched_sub, touched_eq, W7_out, found m c main_v24 (by decide) (by decide), found m c main_v23 (by decide) (by decide),
      found m c main_v35 (by decide) (by decide), W7_of m c main_v38 (by decide), W6_of m c main_v38 (by decide)]
    unfold between kept
    iintro ⟨⟨⟨⟨H21, H34, H35, H20, H32⟩, HZ⟩, ⟨HG, HbX⟩, Hb, HO⟩, Hos, #Hlev⟩
    imod (open_all (Talk.sent m) 1 c) $$ [HG Hos] with HX
    · isplitl [HG]; · iexact HG
      isplitl [Hos]; · iexact Hos
      iexact Hlev
    imodintro
    isplitl [H21 H34 H35]
    · ihave H := (Entails.of_eq (first_arrays m (outM m) c).symm) $$ [H21 H34 H35]
      · isplitl [H21]; · iexact H21
        isplitl [H34]; · iexact H34
        iexact H35
      iexact H
    isplitl [H20 H32]
    · ihave H := (Entails.of_eq (pref_in m c).symm) $$ [H20 H32]
      · isplitl [H20] <;> iassumption
      iexact H
    isplitl [HO]; · iapply (owesAt_intro (dat m (outM m) c) 0 (O₁ c) rfl rfl); iexact HO
    isplitl [HX]; · iexact HX
    isplitl [HZ]; · iexact HZ
    isplitl [HbX] <;> iassumption
  hin c := enter m c
  hout c := leave m c
  hexit c := by
    rw [held_apart c touched touched_sub, touched_eq, W8_out, W8_of m c main_v24 (by decide), W8_of m c main_v37 (by decide), W8_of m c main_v23 (by decide),
      W8_of m c main_v35 (by decide), W7_out, found m c main_v24 (by decide) (by decide), found m c main_v23 (by decide) (by decide),
      found m c main_v35 (by decide) (by decide), ← rest_same]
    unfold behind
    iintro ⟨HA, HO, ⟨Hb, Hp⟩, HZ, Hb0⟩
    ihave HA := (show (rdats m 3 c).arraysAt (Pipeline.pinD (pcfgs (F := F)) (adm m) c 3).N ⊢ _ from Entails.of_eq (finish m c)) $$ HA
    icases HA with ⟨H21, H34, H35⟩
    ihave Hp := (Entails.of_eq (pref_in m c)) $$ Hp
    icases Hp with ⟨H20, H32⟩
    ihave HO := (show (rdats m 3 c).owesAt () (Fin.last (Pipeline.pinD (pcfgs (F := F)) (adm m) c 3).N) ⊢ (ow c 0 : sProp 𝕄) from
      owesAt_elim (dat m (outM m) c) (Fin.last grid3.N) 0 ((show owed c 32 = os c 32 from if_neg (by decide)).trans (os_last c))) $$ HO
    imodintro
    isplitl [H21 H34 H35 H20 H32 HZ]
    · isplitl [H21 H34 H35 H20 H32]
      · isplitl [H21]; · iexact H21
        isplitl [H34]; · iexact H34
        isplitl [H35]; · iexact H35
        isplitl [H20] <;> iassumption
      iexact HZ
    isplitl [Hb0]; · iexact Hb0
    isplitl [Hb] <;> iassumption

end Cert.KernelIdeal.Scatter

end
-- ==== Proof.Run.lean ====
/-
The whole program from launch: the exchanges' cells are set up, every device runs its host operations and the four calls, and at the end the arguments are as they were and every semaphore reads zero.
-/
module

public import proofs.«01_k».proof.Proof.Launch
public import proofs.«01_k».proof.Proof.Exchange.Region
public import proofs.«01_k».proof.Proof.Gather.Region
public import proofs.«01_k».proof.Proof.Moe.Region
public import proofs.«01_k».proof.Proof.Scatter.Region

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

theorem unscoped_only : ∀ sm : SemLoc sig, sm.isScoped .tc = false → sm = .reg 0 ∨ sm = .reg (barS 0) ∨ sm = .reg (barS 1) := by decide

/-- What rides along, at each stretch of host operations. -/
def rides : Fin 5 → Dev nD → sProp 𝕄
  | 0 => outset m
  | 1 => before m
  | 2 => between m
  | 3 => between m
  | 4 => behind

/-- The program's segments on a device. -/
def parts (c : Dev nD) : List (Pipeline.PerCore.RDat.Seg (pcfgs (F := F)) (adm m) (rdats m) () defs₀ 𝒱₀ L lv) :=
  [.host (seg0 m 𝒱₀ L lv (rides m) c), .region (Exch.reg m), .host (seg2 m (oE m) 𝒱₀ L lv (rides m)), .host (seg3 m (oE m) 𝒱₀ L lv (rides m)), .host (seg4 m (oE m) 𝒱₀ L lv (rides m)),
    .host (seg5 m (oE m) 𝒱₀ L lv (rides m)), .host (seg6 m (oE m) 𝒱₀ L lv (rides m)), .region (Gather.reg m), .region (Moe.reg m), .region (Scatter.reg m),
    .host (seg10 m (outs m) 𝒱₀ L lv (rides m))]

/-- A device's state at the end. -/
abbrev atEnd (c : Dev nD) : sProp 𝕄 :=
  iprop(StableHlo.held (c : Thread nD τ) (Pipeline.ucRefs τ sig) (V11 m (outs m) c) ∗ semVal (Exch.barX c) 0 ∗ semVal (barCell 0 c) 0 ∗ semVal (barCell 1 c) 0)

set_option backward.isDefEq.respectTransparency.types false in
/-- From any memory and with all semaphores at zero, every run of the program on the eight devices ends; then each argument is as it was, the
    result is what the host operation after the calls makes of the last call's, and every semaphore reads zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v39) = V11 m (outs m) c main_v39) ∧ r.2.sem = fun _ => 0) :=
  Pipeline.PerCore.RDat.θ_run_regions_kit_sems (pcfgs (F := F)) (adm m) (rdats m) () (staging_inj m) EP defs₀ 𝒱₀ L lv m ρ main (parts m)
    (fun c Q => by
      unfold parts
      rewrite [main_chain c, Pipeline.PerCore.RDat.Seg.run_eq_chain,
        show ([.host (seg0 m 𝒱₀ L lv (rides m) c), .region (Exch.reg m), .host (seg2 m (oE m) 𝒱₀ L lv (rides m)), .host (seg3 m (oE m) 𝒱₀ L lv (rides m)), .host (seg4 m (oE m) 𝒱₀ L lv (rides m)),
    .host (seg5 m (oE m) 𝒱₀ L lv (rides m)), .host (seg6 m (oE m) 𝒱₀ L lv (rides m)), .region (Gather.reg m), .region (Moe.reg m), .region (Scatter.reg m),
    .host (seg10 m (outs m) 𝒱₀ L lv (rides m))] :
          List (Pipeline.PerCore.RDat.Seg (pcfgs (F := F)) (adm m) (rdats m) () defs₀ 𝒱₀ L lv)).map Pipeline.PerCore.RDat.Seg.prog = [
          StableHlo.seq (hostOps0 c),
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          Prog.lift (.customCall (Pipeline.entry 2) ()),
          Prog.lift (.customCall (Pipeline.entry 3) ()),
          StableHlo.seq hostOps4 ] from rfl]
      dsimp (config := { failIfUnchanged := false }) only
      exact .rfl)
    (fun c => by unfold parts; simp only [Pipeline.PerCore.RDat.Seg.pipes_host, Pipeline.PerCore.RDat.Seg.pipes_region, Pipeline.PerCore.RDat.Seg.pipes_nil]; decide)
    (O₀ := Exch.OX) (hL := L_of_ne) (G := purse) (u₀ := u₀ m)
    (hu₀ := by
      unfold u₀
      iintro Hu
      ihave H := (ownU_pair _ _) $$ Hu
      icases H with ⟨HP, HX⟩
      imodintro
      isplitl [HP]; · iexact HP
      rw [purse_all]; iexact HX)
    (T₀ := atStart m) (Tₙ := atEnd m)
    (hch := fun c => by
      refine ⟨.rfl, .rfl, .rfl, .rfl, .rfl, .rfl, .rfl, ?_, .rfl, .rfl, ?_, ?_⟩
      · show iprop(StableHlo.held (c : Thread nD τ) (Pipeline.ucRefs τ sig) (V7 m (oE m) c) ∗ before m c)
          ⊢ iprop(StableHlo.held (c : Thread nD τ) (Pipeline.ucRefs τ sig) (In m c) ∗ before m c)
        rw [In_eq]
      · show iprop(StableHlo.held (c : Thread nD τ) (Pipeline.ucRefs τ sig) (W8 m c) ∗ behind c)
          ⊢ iprop(StableHlo.held (c : Thread nD τ) (Pipeline.ucRefs τ sig) (V10 m (outs m) c) ∗ behind c)
        rw [W8_eq]
      show iprop(StableHlo.held (c : Thread nD τ) (Pipeline.ucRefs τ sig) (V11 m (outs m) c) ∗ behind c)
        ⊢ iprop(atEnd m c ∗ ∃ W, owes (c : Thread nD τ) (0 : CellTallies nD τ sig Unit) W)
      unfold behind ow
      iintro ⟨Hh, ⟨Hx, Hb0⟩, Hb1, HO⟩
      isplitr [HO]
      · isplitl [Hh]; · iexact Hh
        isplitl [Hx]; · iexact Hx
        isplitl [Hb0] <;> iassumption
      · iexact HO)
    (hinit := setup m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_arg3) = m ((c : Thread nD τ).loc main_arg3)
        ∧ s.mem ((c : Thread nD τ).loc main_v39) = V11 m (outs m) c main_v39) ∧ s.sem (Exch.barX c) = 0 ∧ s.sem (barCell 0 c) = 0 ∧ s.sem (barCell 1 c) = 0)
    (hfin := fun c s' => by
      unfold atEnd StableHlo.held
      iintro ⟨⟨Hh, Hx, Hb0, Hb1⟩, HSI⟩
      icombine HSI Hx gives %hx
      icombine HSI Hb0 gives %hb
      icombine HSI Hb1 gives %hb'
      ihave Hr := (pointsTo_read_all (Pipeline.ucRefs τ sig) (fun b => ((c : Thread nD τ).1, b)) (V11 m (outs m) c) s') $$ [Hh HSI]
      · isplitl [Hh] <;> iassumption
      icases Hr with ⟨%h, HSI⟩
      imodintro
      isplitr
      · ipureintro
        exact ⟨⟨(h (Proc.devRef .tc main_arg0) (Finset.mem_filter.mpr ⟨StableHlo.devRef_mem_tcRefs main_arg0, by decide⟩)).trans (V11_main_arg0 m (outs m) c),
          (h (Proc.devRef .tc main_arg1) (Finset.mem_filter.mpr ⟨StableHlo.devRef_mem_tcRefs main_arg1, by decide⟩)).trans (V11_main_arg1 m (outs m) c),
          (h (Proc.devRef .tc main_arg2) (Finset.mem_filter.mpr ⟨StableHlo.devRef_mem_tcRefs main_arg2, by decide⟩)).trans (V11_main_arg2 m (outs m) c),
          (h (Proc.devRef .tc main_arg3) (Finset.mem_filter.mpr ⟨StableHlo.devRef_mem_tcRefs main_arg3, by decide⟩)).trans (V11_main_arg3 m (outs m) c),
          (h (Proc.devRef .tc main_v39) (Finset.mem_filter.mpr ⟨StableHlo.devRef_mem_tcRefs main_v39, by decide⟩))⟩,
          by simpa using hx, by simpa using hb, by simpa using hb'⟩
      iexact HSI)
    (hQ := fun s h hs => ⟨fun c => (h c).1, sem_eq_zero hs fun c sm hsm => by
        rcases unscoped_only sm hsm with rfl | rfl | rfl
        · exact (h c).2.1
        · exact (h c).2.2.1
        · exact (h c).2.2.2⟩)

end Cert.KernelIdeal.Talk

end
-- ==== Proof.Same.lean ====
/-
The program as printed and its ideal reading have one text, so what is shown of the one's runs holds of the other's.
-/
module

public import proofs.«01_k».proof.Proof.Gen.Kernel
public import proofs.«01_k».proof.Proof.Gen.Kernel.Launch
public import proofs.«01_k».proof.Proof.Gen.KernelIdeal
public import proofs.«01_k».proof.Proof.Gen.KernelIdeal.Launch
public import Idealize.ShloMosaic.PureOps.BitExact

@[expose] public section

set_option maxRecDepth 16384

noncomputable section

namespace Cert.Proof

open Idealize.ShloMosaic Idealize.ShloMosaic.TcCoe Idealize.SL.Sem

/-- The runs of a program of four calls between host operations, in terms of its parts. -/
def runs {nD : ℕ} {τ : Topo} {sig : RefSig} {Λ₀ : Labels} (pcs : Fin 4 → Pipeline.PCfg sig Λ₀ (Elt Bits)) (d : Defs nD τ sig (Elt Bits) Λ₀)
    (o0 : Dev nD → List (HloOp τ sig (Elt Bits))) (o1 o2 o3 o4 o5 o6 : List (HloOp τ sig (Elt Bits))) (s : MemSt nD τ sig (Elt Bits))
    (Q : PUnit × MemSt nD τ sig (Elt Bits) → Prop) : Prop :=
  θ_run (Pipeline.defs pcs d) (onTc (τ := τ) fun c => (Pipeline.chain
    [StableHlo.seq (o0 c), Prog.lift (.customCall (Pipeline.entry 0) ()), StableHlo.seq o1, StableHlo.seq o2, StableHlo.seq o3, StableHlo.seq o4, StableHlo.seq o5,
      Prog.lift (.customCall (Pipeline.entry 1) ()), Prog.lift (.customCall (Pipeline.entry 2) ()), Prog.lift (.customCall (Pipeline.entry 3) ()), StableHlo.seq o6] :
    Prog (TpuEff nD τ sig (Elt Bits) (Pipeline.Sig Λ₀ (Fin 4) fun p => (pcs p).Adm) .tc) PUnit)) s Q

theorem runs_kernel (s : MemSt Cert.Kernel.nD Cert.Kernel.τ Cert.Kernel.sig (Elt Bits)) (Q : PUnit × MemSt Cert.Kernel.nD Cert.Kernel.τ Cert.Kernel.sig (Elt Bits) → Prop)
    (h : runs (Cert.Kernel.pcfgs (F := Bits)) (Cert.Kernel.defs₀ (F := Bits)) (Cert.Kernel.Gen.hostOps0 (F := Bits)) (Cert.Kernel.Gen.hostOps1 (F := Bits)) (Cert.Kernel.Gen.hostOps1_1 (F := Bits)) (Cert.Kernel.Gen.hostOps1_2 (F := Bits)) (Cert.Kernel.Gen.hostOps1_3 (F := Bits)) (Cert.Kernel.Gen.hostOps1_4 (F := Bits)) (Cert.Kernel.Gen.hostOps4 (F := Bits)) s Q) :
    θ_run (Cert.Kernel.defs (F := Bits)) (onTc (τ := Cert.Kernel.τ) (Cert.Kernel.main (F := Bits))) s Q := by
  rw [funext (Cert.Kernel.Gen.main_chain (F := Bits))]
  exact h
theorem runs_ideal (s : MemSt Cert.KernelIdeal.nD Cert.KernelIdeal.τ Cert.KernelIdeal.sig (Elt Bits)) (Q : PUnit × MemSt Cert.KernelIdeal.nD Cert.KernelIdeal.τ Cert.KernelIdeal.sig (Elt Bits) → Prop)
    (h : θ_run (Cert.KernelIdeal.defs (F := Bits)) (onTc (τ := Cert.KernelIdeal.τ) (Cert.KernelIdeal.main (F := Bits))) s Q) :
    runs (Cert.KernelIdeal.pcfgs (F := Bits)) (Cert.KernelIdeal.defs₀ (F := Bits)) (Cert.KernelIdeal.Gen.hostOps0 (F := Bits)) (Cert.KernelIdeal.Gen.hostOps1 (F := Bits)) (Cert.KernelIdeal.Gen.hostOps1_1 (F := Bits)) (Cert.KernelIdeal.Gen.hostOps1_2 (F := Bits)) (Cert.KernelIdeal.Gen.hostOps1_3 (F := Bits)) (Cert.KernelIdeal.Gen.hostOps1_4 (F := Bits)) (Cert.KernelIdeal.Gen.hostOps4 (F := Bits)) s Q := by
  rw [funext (Cert.KernelIdeal.Gen.main_chain (F := Bits))] at h
  exact h

set_option maxHeartbeats 4000000 in
/-- The parts agree: the calls' windows, -/
theorem calls_same : (Cert.Kernel.pcfgs (F := Bits) : Fin 4 → Pipeline.PCfg Cert.KernelIdeal.sig Cert.KernelIdeal.Λ₀ (Elt Bits)) = Cert.KernelIdeal.pcfgs (F := Bits) := rfl
set_option maxHeartbeats 4000000 in
/-- their bodies, -/
theorem bodies_same : (Cert.Kernel.defs₀ (F := Bits) : Defs Cert.KernelIdeal.nD Cert.KernelIdeal.τ Cert.KernelIdeal.sig (Elt Bits) Cert.KernelIdeal.Λ₀) = Cert.KernelIdeal.defs₀ (F := Bits) := by
  unfold Cert.Kernel.defs₀ Cert.KernelIdeal.defs₀
  refine congrArg Defs.onTc (funext fun ℓ => funext fun x => ?_)
  obtain ⟨_ | _ | _ | _ | n, h⟩ := ℓ
  · rfl
  · rfl
  · rfl
  · rfl
  · exact absurd h (by omega)
/-- and the host's operations. -/
theorem ops0_same : (Cert.Kernel.Gen.hostOps0 (F := Bits) : Dev Cert.KernelIdeal.nD → List (HloOp Cert.KernelIdeal.τ Cert.KernelIdeal.sig (Elt Bits))) = Cert.KernelIdeal.Gen.hostOps0 (F := Bits) := rfl
theorem ops1_same : (Cert.Kernel.Gen.hostOps1 (F := Bits) : List (HloOp Cert.KernelIdeal.τ Cert.KernelIdeal.sig (Elt Bits))) = Cert.KernelIdeal.Gen.hostOps1 (F := Bits) := rfl
theorem ops2_same : (Cert.Kernel.Gen.hostOps1_1 (F := Bits) : List (HloOp Cert.KernelIdeal.τ Cert.KernelIdeal.sig (Elt Bits))) = Cert.KernelIdeal.Gen.hostOps1_1 (F := Bits) := rfl
theorem ops3_same : (Cert.Kernel.Gen.hostOps1_2 (F := Bits) : List (HloOp Cert.KernelIdeal.τ Cert.KernelIdeal.sig (Elt Bits))) = Cert.KernelIdeal.Gen.hostOps1_2 (F := Bits) := rfl
theorem ops4_same : (Cert.Kernel.Gen.hostOps1_3 (F := Bits) : List (HloOp Cert.KernelIdeal.τ Cert.KernelIdeal.sig (Elt Bits))) = Cert.KernelIdeal.Gen.hostOps1_3 (F := Bits) := rfl
theorem ops5_same : (Cert.Kernel.Gen.hostOps1_4 (F := Bits) : List (HloOp Cert.KernelIdeal.τ Cert.KernelIdeal.sig (Elt Bits))) = Cert.KernelIdeal.Gen.hostOps1_4 (F := Bits) := rfl
theorem ops6_same : (Cert.Kernel.Gen.hostOps4 (F := Bits) : List (HloOp Cert.KernelIdeal.τ Cert.KernelIdeal.sig (Elt Bits))) = Cert.KernelIdeal.Gen.hostOps4 (F := Bits) := rfl

theorem carry (s : MemSt Cert.KernelIdeal.nD Cert.KernelIdeal.τ Cert.KernelIdeal.sig (Elt Bits)) (Q : PUnit × MemSt Cert.KernelIdeal.nD Cert.KernelIdeal.τ Cert.KernelIdeal.sig (Elt Bits) → Prop)
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q := by
  apply runs_kernel
  have h' := runs_ideal s Q h
  rw [← calls_same, ← bodies_same, ← ops0_same, ← ops1_same, ← ops2_same, ← ops3_same, ← ops4_same, ← ops5_same, ← ops6_same] at h'
  exact h'

end Cert.Proof

end
-- ==== Proof.Join.lean ====
/-
The claims, from the run of the program and the reading of its result.
-/
module

public import proofs.«01_k».proof.Proof.Fits
public import proofs.«01_k».proof.Proof.Result
public import proofs.«01_k».proof.Proof.Run
public import proofs.«01_k».proof.Proof.Same
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.ShloMosaic.TcCoe Idealize.SL.Sem
open Cert.KernelIdeal.Talk

/-- What the frames say of the program, at either instance. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3))
      ∧ r.2.sem = fun _ => 0) :=
  (θ_run Cert.KernelIdeal.defs _ _).mono (fun _ h => ⟨fun c => ⟨(h.1 c).1, (h.1 c).2.1, (h.1 c).2.2.1, (h.1 c).2.2.2.1⟩, h.2⟩) (run_main m ρ)
theorem frame_ideal : Cert.quiescent_KernelIdeal := fun m ρ _ => frame_any m ρ
theorem frame_ideal_pre [Cert.Pre_fits_KernelIdeal.Facts] : Cert.quiescent_KernelIdeal_pre_fits_KernelIdeal := fun m ρ _ => frame_any m ρ

theorem frame_kernel : Cert.quiescent_Kernel := fun m ρ _ => carry _ _ (frame_any (F := Bits) m ρ)

/-- The reference runs. -/
theorem frame_one (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD, r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
        ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2)
        ∧ r.2.mem ((c : Thread Cert.ReferenceIdeal.nD Cert.ReferenceIdeal.τ).loc Cert.ReferenceIdeal.main_arg3) = m ((c : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)
theorem frame_reference : Cert.quiescent_ReferenceIdeal := fun m ρ _ => frame_one m ρ
theorem frame_reference_pre [Cert.Pre_fits_ReferenceIdeal.Facts] : Cert.quiescent_ReferenceIdeal_pre_fits_ReferenceIdeal := fun m ρ _ => frame_one m ρ

/-- Every device's result is its rows of the reference's. -/
theorem algebraic [Cert.Pre_fits_KernelIdeal.Facts] : Cert.algebraic_KernelIdeal_ReferenceIdeal_pre_fits_KernelIdeal := by
  intro m g m' g' hp hm
  have H : ∀ c, Cert.Values.Join.Given m (m' ((0 : Dev Cert.ReferenceIdeal.nD).tc.loc Cert.ReferenceIdeal.main_arg0)) (m' ((0 : Dev Cert.ReferenceIdeal.nD).tc.loc Cert.ReferenceIdeal.main_arg1))
      (m' ((0 : Dev Cert.ReferenceIdeal.nD).tc.loc Cert.ReferenceIdeal.main_arg2)) (m' ((0 : Dev Cert.ReferenceIdeal.nD).tc.loc Cert.ReferenceIdeal.main_arg3)) c :=
    fun c => ⟨(hm c).1, (hm c).2.1, (hm c).2.2.1, (hm c).2.2.2⟩
  have own : ∀ (c : Dev Cert.KernelIdeal.nD) (e : Fin 8), (Finset.univ.filter fun t : Fin 4096 =>
      (Cert.Values.Join.list (m' ((0 : Dev Cert.ReferenceIdeal.nD).tc.loc Cert.ReferenceIdeal.main_arg1)) (Cert.Values.Join.rowOf c t)).toInt = (e.val : Int)).card ≤ 576 := by
    intro c e
    have h := Cert.Values.Join.fits_of _ _ _ _ (hp c) e
    rw [(hm c).2.1] at h
    exact le_of_eq_of_le (congrArg Finset.card (Finset.filter_congr fun t _ =>
      iff_of_eq (congrArg (fun w : BitVec 32 => w.toInt = (e.val : Int)) (Cert.Values.Join.tok_at c t _).symm))) h
  have fit : ∀ e : Fin 8, (Finset.univ.filter fun t : Fin 8192 =>
      (Cert.Values.Join.list (m' ((0 : Dev Cert.ReferenceIdeal.nD).tc.loc Cert.ReferenceIdeal.main_arg1)) t).toInt = (e.val : Int)).card ≤ 1152 := fun e => by
    refine Cert.Values.Join.two_halves _ 576 (le_of_eq_of_le ?_ (own 0 e)) (le_of_eq_of_le ?_ (own 2 e))
    · exact congrArg Finset.card (Finset.filter_congr fun t _ => by rw [show Cert.Values.Join.rowOf 0 t = ⟨t.val, by omega⟩ from Fin.ext (by show yOf 0 * 4096 + t.val = t.val; rw [show yOf 0 = 0 from by decide]; omega)])
    · exact congrArg Finset.card (Finset.filter_congr fun t _ => by rw [show Cert.Values.Join.rowOf 2 t = ⟨4096 + t.val, by omega⟩ from Fin.ext (by show yOf 2 * 4096 + t.val = 4096 + t.val; rw [show yOf 2 = 1 from by decide])])
  refine ⟨Cert.ReferenceIdeal.Read.val_main_v99 (m' ((0 : Dev Cert.ReferenceIdeal.nD).tc.loc Cert.ReferenceIdeal.main_arg0)) (m' ((0 : Dev Cert.ReferenceIdeal.nD).tc.loc Cert.ReferenceIdeal.main_arg1))
      (m' ((0 : Dev Cert.ReferenceIdeal.nD).tc.loc Cert.ReferenceIdeal.main_arg2)) (m' ((0 : Dev Cert.ReferenceIdeal.nD).tc.loc Cert.ReferenceIdeal.main_arg3)), ?_, ?_⟩
  · exact (θ_run Cert.KernelIdeal.defs _ _).mono (fun _ h c => ⟨(h.1 c).2.2.2.2.trans (Cert.Values.Join.result_at H fit c), (h.1 c).1, (h.1 c).2.1, (h.1 c).2.2.1, (h.1 c).2.2.2.1⟩) (run_main (F := Ideal) m g)
  · refine (θ_run Cert.ReferenceIdeal.defs _ _).mono (fun _ h => ?_) (Cert.ReferenceIdeal.Value.run (F := Ideal) m' g')
    obtain ⟨h, h0, h1, h2, h3⟩ := h 0
    exact ⟨h.trans (Cert.ReferenceIdeal.Read.val_main_v99_eq _ _), h0, h1, h2, h3⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Join
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Values.Join.facts_kernel, Cert.Values.Join.facts_reference,
    frame_kernel, frame_ideal, @frame_ideal_pre Cert.Values.Join.facts_kernel, frame_reference, @frame_reference_pre Cert.Values.Join.facts_reference, trivial,
    @algebraic Cert.Values.Join.facts_kernel⟩

end Cert.Proof

end
